-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v65_0)) (v1 : (c : Dev Cert.Kernel2Ideal.nD) → Buf (Elt Ideal) ((c.tc : Thread Cert.Kernel2Ideal.nD Cert.Kernel2Ideal.τ).loc Cert.Kernel2Ideal.main_v65_2)) (v2 : (c : Dev Cert.Kernel2Ideal.nD) → Buf (Elt Ideal) ((c.tc : Thread Cert.Kernel2Ideal.nD Cert.Kernel2Ideal.τ).loc Cert.Kernel2Ideal.main_v65_4)) (v3 : (c : Dev Cert.Kernel2Ideal.nD) → Buf (Elt Ideal) ((c.tc : Thread Cert.Kernel2Ideal.nD Cert.Kernel2Ideal.τ).loc Cert.Kernel2Ideal.main_v65_6)) (v4 : (c : Dev Cert.Kernel2Ideal.nD) → Buf (Elt Ideal) ((c.tc : Thread Cert.Kernel2Ideal.nD Cert.Kernel2Ideal.τ).loc Cert.Kernel2Ideal.main_v65_8)) (v5 : (c : Dev Cert.Kernel2Ideal.nD) → Buf (Elt Ideal) ((c.tc : Thread Cert.Kernel2Ideal.nD Cert.Kernel2Ideal.τ).loc Cert.Kernel2Ideal.main_v65_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v65_0) = v0 c
          ∧ r.2.mem ((c.tc : Thread Cert.Kernel2Ideal.nD Cert.Kernel2Ideal.τ).loc Cert.Kernel2Ideal.main_v65_2) = v1 c
          ∧ r.2.mem ((c.tc : Thread Cert.Kernel2Ideal.nD Cert.Kernel2Ideal.τ).loc Cert.Kernel2Ideal.main_v65_4) = v2 c
          ∧ r.2.mem ((c.tc : Thread Cert.Kernel2Ideal.nD Cert.Kernel2Ideal.τ).loc Cert.Kernel2Ideal.main_v65_6) = v3 c
          ∧ r.2.mem ((c.tc : Thread Cert.Kernel2Ideal.nD Cert.Kernel2Ideal.τ).loc Cert.Kernel2Ideal.main_v65_8) = v4 c
          ∧ r.2.mem ((c.tc : Thread Cert.Kernel2Ideal.nD Cert.Kernel2Ideal.τ).loc Cert.Kernel2Ideal.main_v65_9) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_v112) = v3 c
          ∧ r.2.mem ((c.tc : Thread Cert.Reference2Ideal.nD Cert.Reference2Ideal.τ).loc Cert.Reference2Ideal.main_v113) = v4 c
          ∧ r.2.mem ((c.tc : Thread Cert.Reference2Ideal.nD Cert.Reference2Ideal.τ).loc Cert.Reference2Ideal.main_v114) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v67) = v2 c
          ∧ r.2.mem ((c.tc : Thread Cert.Reference3Ideal.nD Cert.Reference3Ideal.τ).loc Cert.Reference3Ideal.main_v70) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v44) = v2 c
          ∧ r.2.mem ((c.tc : Thread Cert.Reference5Ideal.nD Cert.Reference5Ideal.τ).loc Cert.Reference5Ideal.main_v59) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8192x2048 : Shape := ⟨2, ![8192, 2048]⟩
abbrev S32x2048 : Shape := ⟨2, ![32, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S544x2048 : Shape := ⟨2, ![544, 2048]⟩
abbrev S544x512 : Shape := ⟨2, ![544, 512]⟩
abbrev S512x512 : Shape := ⟨2, ![512, 512]⟩
abbrev S512 : Shape := ⟨1, ![512]⟩
abbrev S512x1 : Shape := ⟨2, ![512, 1]⟩
abbrev S32 : Shape := ⟨1, ![32]⟩
abbrev S32x1 : Shape := ⟨2, ![32, 1]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S32x2048, .bf16⟩
  | .hbm, ⟨3, _⟩ => ⟨S32x2048, .f32⟩
  | .hbm, ⟨4, _⟩ => ⟨S2048x11264, .bf16⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S32x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S32x2048, .bf16⟩
  | .local _ .vmem, ⟨5, _⟩ => ⟨S32x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S32x2048, .f32⟩
  | .local _ .vmem, ⟨16, _⟩ => ⟨S512x2048, .f32⟩
  | .local _ .vmem, ⟨17, _⟩ => ⟨S32x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![16, 11], ![false, false]⟩

def k0_cond4 (i : grid0.Coords) : BitVec 1 :=
  let arg1 : BitVec 32 := BitVec.ofNat 32 (i 1).val
  let c10_i32 : BitVec 32 := 10#32
  let v9 : BitVec 1 := Scalar.cmpi .eq arg1 c10_i32
  let v10 : BitVec 32 := Scalar.extui v9
  let c0_i32_5 : BitVec 32 := 0#32
  let v11 : BitVec 1 := Scalar.cmpi .ne v10 c0_i32_5
  v11

def k0_cond5 (i : grid0.Coords) : BitVec 1 :=
  let arg1 : BitVec 32 := BitVec.ofNat 32 (i 1).val
  let c10_i32_6 : BitVec 32 := 10#32
  let v12 : BitVec 1 := Scalar.cmpi .eq arg1 c10_i32_6
  let arg0 : BitVec 32 := BitVec.ofNat 32 (i 0).val
  let c0_i32_7 : BitVec 32 := 0#32
  let v13 : BitVec 1 := Scalar.cmpi .eq arg0 c0_i32_7
  let v14 : BitVec 1 := Scalar.andi v12 v13
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S8192x2048 : Shape := ⟨2, ![8192, 2048]⟩
abbrev S32x2048 : Shape := ⟨2, ![32, 2048]⟩
abbrev S2048x11264 : Shape := ⟨2, ![2048, 11264]⟩
abbrev S5632x2048 : Shape := ⟨2, ![5632, 2048]⟩
abbrev S2048 : Shape := ⟨1, ![2048]⟩
abbrev S8192x11264 : Shape := ⟨2, ![8192, 11264]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S32x11264 : Shape := ⟨2, ![32, 11264]⟩
abbrev S32x5632 : Shape := ⟨2, ![32, 5632]⟩
abbrev S32 : Shape := ⟨1, ![32]⟩
abbrev S32x1 : Shape := ⟨2, ![32, 1]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S32x2048, .bf16⟩
  | .hbm, ⟨3, _⟩ => ⟨S32x2048, .f32⟩
  | .hbm, ⟨4, _⟩ => ⟨S2048x11264, .bf16⟩
  | .hbm, ⟨5, _⟩ => ⟨S5632x2048, .bf16⟩
  | .hbm, ⟨6, _⟩ => ⟨S2048, .f32⟩
  | .hbm, ⟨7, _⟩ => ⟨S8192x2048, .f32⟩
  | .hbm, ⟨8, _⟩ => ⟨S2048x11264, .f32⟩
  | .hbm, ⟨9, _⟩ => ⟨S8192x11264, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S5632x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S32x2048, .f32⟩
  | .hbm, ⟨42, _⟩ => ⟨S2048x11264, .f32⟩
  | .hbm, ⟨43, _⟩ => ⟨S32x11264, .f32⟩
  | .hbm, ⟨44, _⟩ => ⟨S32x5632, .f32⟩
  | .hbm, ⟨45, _⟩ => ⟨S32x5632, .f32⟩
  | .hbm, ⟨46, _⟩ => ⟨S32x5632, .f32⟩
  | .hbm, ⟨47, _⟩ => ⟨S32x5632, .f32⟩
  | .hbm, ⟨48, _⟩ => ⟨S_, .f32⟩
  | .hbm, ⟨49, _⟩ => ⟨S32x5632, .f32⟩
  | .hbm, ⟨50, _⟩ => ⟨S32x5632, .f32⟩
  | .hbm, ⟨51, _⟩ => ⟨S_, .f32⟩
  | .hbm, ⟨52, _⟩ => ⟨S32x5632, .f32⟩
  | .hbm, ⟨53, _⟩ => ⟨S32x5632, .f32⟩
  | .hbm, ⟨54, _⟩ => ⟨S32x5632, .f32⟩
  | .hbm, ⟨55, _⟩ => ⟨S32x5632, .f32⟩
  | .hbm, ⟨56, _⟩ => ⟨S5632x2048, .f32⟩
  | .hbm, ⟨57, _⟩ => ⟨S32x2048, .f32⟩
  | .hbm, ⟨58, _⟩ => ⟨S32x2048, .f32⟩
  | .hbm, ⟨59, _⟩ => ⟨S32x2048, .f32⟩
  | .hbm, ⟨60, _⟩ => ⟨S_, .f32⟩
  | .hbm, ⟨61, _⟩ => ⟨S32, .f32⟩
  | .hbm, ⟨62, _⟩ => ⟨S32x1, .f32⟩
  | .hbm, ⟨63, _⟩ => ⟨S_, .f32⟩
  | .hbm, ⟨64, _⟩ => ⟨S32x1, .f32⟩
  | .hbm, ⟨65, _⟩ => ⟨S32x1, .f32⟩
  | .hbm, ⟨66, _⟩ => ⟨S_, .f32⟩
  | .hbm, ⟨67, _⟩ => ⟨S32x1, .f32⟩
  | .hbm, ⟨68, _⟩ => ⟨S32x1, .f32⟩
  | .hbm, ⟨69, _⟩ => ⟨S32x1, .f32⟩
  | .hbm, ⟨70, _⟩ => ⟨S32x2048, .f32⟩
  | .hbm, ⟨71, _⟩ => ⟨S32x2048, .f32⟩
  | .hbm, ⟨72, _⟩ => ⟨S1x2048, .f32⟩
  | .hbm, ⟨73, _⟩ => ⟨S32x2048, .f32⟩
  | .hbm, ⟨74, _⟩ => ⟨S32x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_2 : Ref sig .tc := ⟨.hbm, 60, rfl⟩
abbrev main_v34 : Ref sig .tc := ⟨.hbm, 61, rfl⟩
abbrev main_v35 : Ref sig .tc := ⟨.hbm, 62, rfl⟩
abbrev main_cst_3 : Ref sig .tc := ⟨.hbm, 63, rfl⟩
abbrev main_v36 : Ref sig .tc := ⟨.hbm, 64, rfl⟩
abbrev main_v37 : Ref sig .tc := ⟨.hbm, 65, rfl⟩
abbrev main_cst_4 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩

abbrev nD : Nat := 1
abbrev τ : Topo := Topo.v7x

variable {F : FTy → Type} [FloatOps F]
-- ==== Kernel2.lean ====
abbrev S2x4096x2048 : Shape := ⟨3, ![2, 4096, 2048]⟩
abbrev S32x1x2048 : Shape := ⟨3, ![32, 1, 2048]⟩
abbrev S1x2048x10240 : Shape := ⟨3, ![1, 2048, 10240]⟩
abbrev S1x2048 : Shape := ⟨2, ![1, 2048]⟩
abbrev S2048x10240 : Shape := ⟨2, ![2048, 10240]⟩
abbrev S2048x3072 : Shape := ⟨2, ![2048, 3072]⟩
abbrev S2048 : Shape := ⟨1, ![2048]⟩
abbrev S8192x2048 : Shape := ⟨2, ![8192, 2048]⟩
abbrev S32x2048 : Shape := ⟨2, ![32, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S128 : Shape := ⟨1, ![128]⟩
abbrev S1x128 : Shape := ⟨2, ![1, 128]⟩
abbrev S32x1 : Shape := ⟨2, ![32, 1]⟩
abbrev S32x32 : Shape := ⟨2, ![32, 32]⟩
abbrev S1x32x1x32 : Shape := ⟨4, ![1, 32, 1, 32]⟩
abbrev S1x32x4x32 : Shape := ⟨4, ![1, 32, 4, 32]⟩
abbrev S32x128 : Shape := ⟨2, ![32, 128]⟩
abbrev S2x8192x1024 : Shape := ⟨3, ![2, 8192, 1024]⟩
abbrev S8192x1024 : Shape := ⟨2, ![8192, 1024]⟩
abbrev S2x32x1024 : Shape := ⟨3, ![2, 32, 1024]⟩
abbrev S32x1024 : Shape := ⟨2, ![32, 1024]⟩
abbrev S512x2048 : Shape := ⟨2, ![512, 2048]⟩
abbrev S512x128 : Shape := ⟨2, ![512, 128]⟩
abbrev S128x3072 : Shape := ⟨2, ![128, 3072]⟩
abbrev S2x512x1024 : Shape := ⟨3, ![2, 512, 1024]⟩
abbrev S512x1024 : Shape := ⟨2, ![512, 1024]⟩
abbrev S544x2048 : Shape := ⟨2, ![544, 2048]⟩
abbrev S544 : Shape := ⟨1, ![544]⟩
abbrev S544x1 : Shape := ⟨2, ![544, 1]⟩
abbrev S544x3072 : Shape := ⟨2, ![544, 3072]⟩
abbrev S544x128 : Shape := ⟨2, ![544, 128]⟩
abbrev S1x512x128 : Shape := ⟨3, ![1, 512, 128]⟩
abbrev S1x32x128 : Shape := ⟨3, ![1, 32, 128]⟩
abbrev S544x1024 : Shape := ⟨2, ![544, 1024]⟩
abbrev S512 : Shape := ⟨1, ![512]⟩
abbrev S512x1 : Shape := ⟨2, ![512, 1]⟩
abbrev S512x3072 : Shape := ⟨2, ![512, 3072]⟩

abbrev nBuf : Space → Nat
  | .hbm => 91
  | .vmem => 31
  | .smem => 0
  | _ => 0

abbrev bufTy : (tb : Table) → Fin (tcTables nBuf tb) → BufTy
  | .hbm, ⟨0, _⟩ => ⟨S2x4096x2048, .f32⟩
  | .hbm, ⟨1, _⟩ => ⟨S32x1x2048, .f32⟩
  | .hbm, ⟨2, _⟩ => ⟨S1x2048x10240, .f32⟩
  | .hbm, ⟨3, _⟩ => ⟨S1x2048, .f32⟩
  | .hbm, ⟨4, _⟩ => ⟨S2048x10240, .f32⟩
  | .hbm, ⟨5, _⟩ => ⟨S2048x3072, .f32⟩
  | .hbm, ⟨6, _⟩ => ⟨S2048x3072, .bf16⟩
  | .hbm, ⟨7, _⟩ => ⟨S2048, .f32⟩
  | .hbm, ⟨8, _⟩ => ⟨S1x2048, .f32⟩
  | .hbm, ⟨9, _⟩ => ⟨S8192x2048, .f32⟩
  | .hbm, ⟨10, _⟩ => ⟨S32x2048, .f32⟩
  | .hbm, ⟨11, _⟩ => ⟨S4096, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S1x4096x1x32, .f32⟩
  | .hbm, ⟨28, _⟩ => ⟨S1x4096x4x32, .f32⟩
  | .hbm, ⟨29, _⟩ => ⟨S4096x128, .f32⟩
  | .hbm, ⟨30, _⟩ => ⟨S4096x32, .f32⟩
  | .hbm, ⟨31, _⟩ => ⟨S1x4096x1x32, .f32⟩
  | .hbm, ⟨32, _⟩ => ⟨S1x4096x4x32, .f32⟩
  | .hbm, ⟨33, _⟩ => ⟨S4096x128, .f32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S1x128, .i1⟩
  | .hbm, ⟨42, _⟩ => ⟨S4096x128, .f32⟩
  | .hbm, ⟨43, _⟩ => ⟨S4096x128, .i1⟩
  | .hbm, ⟨44, _⟩ => ⟨S4096x128, .f32⟩
  | .hbm, ⟨45, _⟩ => ⟨S_, .i32⟩
  | .hbm, ⟨46, _⟩ => ⟨S32, .i32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S32, .f32⟩
  | .hbm, ⟨56, _⟩ => ⟨S32x1, .f32⟩
  | .hbm, ⟨57, _⟩ => ⟨S1x32, .f32⟩
  | .hbm, ⟨58, _⟩ => ⟨S32x32, .f32⟩
  | .hbm, ⟨59, _⟩ => ⟨S32x32, .f32⟩
  | .hbm, ⟨60, _⟩ => ⟨S32x32, .f32⟩
  | .hbm, ⟨61, _⟩ => ⟨S32x32, .f32⟩
  | .hbm, ⟨62, _⟩ => ⟨S1x32x1x32, .f32⟩
  | .hbm, ⟨63, _⟩ => ⟨S1x32x4x32, .f32⟩
  | .hbm, ⟨64, _⟩ => ⟨S32x128, .f32⟩
  | .hbm, ⟨65, _⟩ => ⟨S32x32, .f32⟩
  | .hbm, ⟨66, _⟩ => ⟨S1x32x1x32, .f32⟩
  | .hbm, ⟨67, _⟩ => ⟨S1x32x4x32, .f32⟩
  | .hbm, ⟨68, _⟩ => ⟨S32x128, .f32⟩
  | .hbm, ⟨69, _⟩ => ⟨S128, .i32⟩
  | .hbm, ⟨70, _⟩ => ⟨S_, .i32⟩
  | .hbm, ⟨71, _⟩ => ⟨S128, .i32⟩
  | .hbm, ⟨72, _⟩ => ⟨S128, .i32⟩
  | .hbm, ⟨73, _⟩ => ⟨S_, .i32⟩
  | .hbm, ⟨74, _⟩ => ⟨S128, .i32⟩
  | .hbm, ⟨75, _⟩ => ⟨S128, .i1⟩
  | .hbm, ⟨76, _⟩ => ⟨S1x128, .i1⟩
  | .hbm, ⟨77, _⟩ => ⟨S32x128, .f32⟩
  | .hbm, ⟨78, _⟩ => ⟨S32x128, .i1⟩
  | .hbm, ⟨79, _⟩ => ⟨S32x128, .f32⟩
  | .hbm, ⟨80, _⟩ => ⟨S8192x2048, .bf16⟩
  | .hbm, ⟨81, _⟩ => ⟨S2x8192x1024, .bf16⟩
  | .hbm, ⟨82, _⟩ => ⟨S8192x1024, .f32⟩
  | .hbm, ⟨83, _⟩ => ⟨S8192x1024, .bf16⟩
  | .hbm, ⟨84, _⟩ => ⟨S8192x1024, .f32⟩
  | .hbm, ⟨85, _⟩ => ⟨S8192x1024, .bf16⟩
  | .hbm, ⟨86, _⟩ => ⟨S32x2048, .bf16⟩
  | .hbm, ⟨87, _⟩ => ⟨S2x32x1024, .bf16⟩
  | .hbm, ⟨88, _⟩ => ⟨S32x1024, .f32⟩
  | .hbm, ⟨89, _⟩ => ⟨S32x1024, .f32⟩
  | .hbm, ⟨90, _⟩ => ⟨S2048x3072, .bf16⟩
  | .local _ .vmem, ⟨0, _⟩ => ⟨S512x2048, .f32⟩
  | .local _ .vmem, ⟨1, _⟩ => ⟨S512x2048, .f32⟩
  | .local _ .vmem, ⟨2, _⟩ => ⟨S32x2048, .f32⟩
  | .local _ .vmem, ⟨3, _⟩ => ⟨S1x2048, .f32⟩
  | .local _ .vmem, ⟨4, _⟩ => ⟨S2048x3072, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S32x128, .f32⟩
  | .local _ .vmem, ⟨10, _⟩ => ⟨S32x128, .f32⟩
  | .local _ .vmem, ⟨11, _⟩ => ⟨S128x3072, .f32⟩
  | .local _ .vmem, ⟨12, _⟩ => ⟨S128x3072, .f32⟩
  | .local _ .vmem, ⟨13, _⟩ => ⟨S512x2048, .bf16⟩
  | .local _ .vmem, ⟨14, _⟩ => ⟨S512x2048, .bf16⟩
  | .local _ .vmem, ⟨15, _⟩ => ⟨S2x512x1024, .bf16⟩
  | .local _ .vmem, ⟨16, _⟩ => ⟨S2x512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S32x2048, .bf16⟩
  | .local _ .vmem, ⟨26, _⟩ => ⟨S2x32x1024, .bf16⟩
  | .local _ .vmem, ⟨27, _⟩ => ⟨S32x1024, .f32⟩
  | .local _ .vmem, ⟨28, _⟩ => ⟨S32x1024, .f32⟩
  | .local _ .vmem, ⟨29, _⟩ => ⟨S128x3072, .bf16⟩
  | .local _ .vmem, ⟨30, _⟩ => ⟨S128x3072, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_v29 : Ref sig .tc := ⟨.hbm, 36, rfl⟩
abbrev main_v30 : Ref sig .tc := ⟨.hbm, 37, rfl⟩
abbrev main_c_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_5 : Ref sig .tc := ⟨.hbm, 70, rfl⟩
abbrev main_v58 : Ref sig .tc := ⟨.hbm, 71, rfl⟩
abbrev main_v59 : Ref sig .tc := ⟨.hbm, 72, rfl⟩
abbrev main_c_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call1_v0 : Ref sig .tc := ⟨.hbm, 78, rfl⟩
abbrev main_v64 : Ref sig .tc := ⟨.hbm, 79, rfl⟩
abbrev main_v65_0 : Ref sig .tc := ⟨.hbm, 80, rfl⟩
abbrev main_v65_1 : Ref sig .tc := ⟨.hbm, 81, rfl⟩
abbrev main_v65_2 : Ref sig .tc := ⟨.hbm, 82, rfl⟩
abbrev main_v65_3 : Ref sig .tc := ⟨.hbm, 83, rfl⟩
abbrev main_v65_4 : Ref sig .tc := ⟨.hbm, 84, rfl⟩
abbrev main_v65_5 : Ref sig .tc := ⟨.hbm, 85, rfl⟩
abbrev main_v65_6 : Ref sig .tc := ⟨.hbm, 86, rfl⟩
abbrev main_v65_7 : Ref sig .tc := ⟨.hbm, 87, rfl⟩
abbrev main_v65_8 : Ref sig .tc := ⟨.hbm, 88, rfl⟩
abbrev main_v65_9 : Ref sig .tc := ⟨.hbm, 89, rfl⟩
abbrev main_v65_10 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32_4 : BitVec 32 := 0#32
  let v7 : BitVec 1 := Scalar.cmpi .ne arg0 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x32x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S2x4096x2048 : Shape := ⟨3, ![2, 4096, 2048]⟩
abbrev S32x1x2048 : Shape := ⟨3, ![32, 1, 2048]⟩
abbrev S1x2048x10240 : Shape := ⟨3, ![1, 2048, 10240]⟩
abbrev S1x2048 : Shape := ⟨2, ![1, 2048]⟩
abbrev S4096 : Shape := ⟨1, ![4096]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x10240 : Shape := ⟨2, ![2048, 10240]⟩
abbrev S2x4096x10240 : Shape := ⟨3, ![2, 4096, 10240]⟩
abbrev S2x4096x1024 : Shape := ⟨3, ![2, 4096, 1024]⟩
abbrev S2x4096x8x2x64 : Shape := ⟨5, ![2, 4096, 8, 2, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x1x32 : Shape := ⟨4, ![4096, 1, 1, 32]⟩
abbrev S2x4096x8x2x32 : Shape := ⟨5, ![2, 4096, 8, 2, 32]⟩
abbrev S1x4096x1x1x32 : Shape := ⟨5, ![1, 4096, 1, 1, 32]⟩
abbrev S8192x2048 : Shape := ⟨2, ![8192, 2048]⟩
abbrev S8192x1024 : Shape := ⟨2, ![8192, 1024]⟩
abbrev S1 : Shape := ⟨1, ![1]⟩
abbrev S32x1 : Shape := ⟨2, ![32, 1]⟩
abbrev S32x1x1 : Shape := ⟨3, ![32, 1, 1]⟩
abbrev S32x1x10240 : Shape := ⟨3, ![32, 1, 10240]⟩
abbrev S32x1x1024 : Shape := ⟨3, ![32, 1, 1024]⟩
abbrev S32x1x8x2x64 : Shape := ⟨5, ![32, 1, 8, 2, 64]⟩
abbrev S1x1 : Shape := ⟨2, ![1, 1]⟩
abbrev S1x1x1x32 : Shape := ⟨4, ![1, 1, 1, 32]⟩
abbrev S32x1x8x2x32 : Shape := ⟨5, ![32, 1, 8, 2, 32]⟩
abbrev S1x1x1x1x32 : Shape := ⟨5, ![1, 1, 1, 1, 32]⟩
abbrev S32x2048 : Shape := ⟨2, ![32, 2048]⟩
abbrev S32x1024 : Shape := ⟨2, ![32, 1024]⟩

abbrev nBuf : Space → Nat
  | .hbm => 130
  | .vmem => 0
  | .smem => 0
  | _ => 0

abbrev hbmTy0_0 (i : Nat) : BufTy := match i % 128 with
  | 0 => ⟨S2x4096x2048, .f32⟩
  | 1 => ⟨S32x1x2048, .f32⟩
  | 2 => ⟨S1x2048x10240, .f32⟩
  | 3 => ⟨S1x2048, .f32⟩
  | 4 => ⟨S4096, .i32⟩
  | 5 => ⟨S2048, .f32⟩
  | 6 => ⟨S2x4096x2048, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x2048, .f32⟩
  | 18 => ⟨S2x4096x2048, .f32⟩
  | 19 => ⟨S1x1x2048, .f32⟩
  | 20 => ⟨S2x4096x2048, .f32⟩
  | 21 => ⟨S2x4096x2048, .f32⟩
  | 22 => ⟨S2048x10240, .f32⟩
  | 23 => ⟨S2x4096x10240, .f32⟩
  | 24 => ⟨S2x4096x1024, .f32⟩
  | 25 => ⟨S2x4096x1024, .f32⟩
  | 26 => ⟨S2x4096x8x2x64, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S4096, .f32⟩
  | 36 => ⟨S4096x1, .f32⟩
  | 37 => ⟨S1x32, .f32⟩
  | 38 => ⟨S4096x32, .f32⟩
  | 39 => ⟨S4096x32, .f32⟩
  | 40 => ⟨S4096x32, .f32⟩
  | 41 => ⟨S4096x32, .f32⟩
  | 42 => ⟨S4096x1x1x32, .f32⟩
  | 43 => ⟨S4096x32, .f32⟩
  | 44 => ⟨S4096x1x1x32, .f32⟩
  | 45 => ⟨S2x4096x8x2x32, .f32⟩
  | 46 => ⟨S2x4096x8x2x32, .f32⟩
  | 47 => ⟨S1x4096x1x1x32, .f32⟩
  | 48 => ⟨S2x4096x8x2x32, .f32⟩
  | 49 => ⟨S2x4096x8x2x32, .f32⟩
  | 50 => ⟨S1x4096x1x1x32, .f32⟩
  | 51 => ⟨S2x4096x8x2x32, .f32⟩
  | 52 => ⟨S2x4096x8x2x32, .f32⟩
  | 53 => ⟨S2x4096x8x2x32, .f32⟩
  | 54 => ⟨S1x4096x1x1x32, .f32⟩
  | 55 => ⟨S2x4096x8x2x32, .f32⟩
  | 56 => ⟨S2x4096x8x2x32, .f32⟩
  | 57 => ⟨S1x4096x1x1x32, .f32⟩
  | 58 => ⟨S2x4096x8x2x32, .f32⟩
  | 59 => ⟨S2x4096x8x2x32, .f32⟩
  | 60 => ⟨S2x4096x8x2x32, .f32⟩
  | 61 => ⟨S2x4096x8x2x64, .f32⟩
  | 62 => ⟨S8192x2048, .f32⟩
  | 63 => ⟨S8192x2048, .bf16⟩
  | 64 => ⟨S8192x1024, .f32⟩
  | 65 => ⟨S8192x1024, .f32⟩
  | 66 => ⟨S1, .i32⟩
  | 67 => ⟨S_, .i32⟩
  | 68 => ⟨S1, .i32⟩
  | 69 => ⟨S1, .i32⟩
  | 70 => ⟨S2048, .f32⟩
  | 71 => ⟨S32x1x2048, .f32⟩
  | 72 => ⟨S_, .f32⟩
  | 73 => ⟨S32x1, .f32⟩
  | 74 => ⟨S32x1x1, .f32⟩
  | 75 => ⟨S_, .f32⟩
  | 76 => ⟨S32x1x1, .f32⟩
  | 77 => ⟨S32x1x1, .f32⟩
  | 78 => ⟨S_, .f32⟩
  | 79 => ⟨S32x1x1, .f32⟩
  | 80 => ⟨S32x1x1, .f32⟩
  | 81 => ⟨S32x1x1, .f32⟩
  | 82 => ⟨S32x1x2048, .f32⟩
  | 83 => ⟨S32x1x2048, .f32⟩
  | 84 => ⟨S1x1x2048, .f32⟩
  | 85 => ⟨S32x1x2048, .f32⟩
  | 86 => ⟨S32x1x2048, .f32⟩
  | 87 => ⟨S2048x10240, .f32⟩
  | 88 => ⟨S32x1x10240, .f32⟩
  | 89 => ⟨S32x1x1024, .f32⟩
  | 90 => ⟨S32x1x1024, .f32⟩
  | 91 => ⟨S32x1x8x2x64, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S1, .f32⟩
  | 101 => ⟨S1x1, .f32⟩
  | 102 => ⟨S1x32, .f32⟩
  | 103 => ⟨S1x32, .f32⟩
  | 104 => ⟨S1x32, .f32⟩
  | 105 => ⟨S1x32, .f32⟩
  | 106 => ⟨S1x1x1x32, .f32⟩
  | 107 => ⟨S1x32, .f32⟩
  | 108 => ⟨S1x1x1x32, .f32⟩
  | 109 => ⟨S32x1x8x2x32, .f32⟩
  | 110 => ⟨S32x1x8x2x32, .f32⟩
  | 111 => ⟨S1x1x1x1x32, .f32⟩
  | 112 => ⟨S32x1x8x2x32, .f32⟩
  | 113 => ⟨S32x1x8x2x32, .f32⟩
  | 114 => ⟨S1x1x1x1x32, .f32⟩
  | 115 => ⟨S32x1x8x2x32, .f32⟩
  | 116 => ⟨S32x1x8x2x32, .f32⟩
  | 117 => ⟨S32x1x8x2x32, .f32⟩
  | 118 => ⟨S1x1x1x1x32, .f32⟩
  | 119 => ⟨S32x1x8x2x32, .f32⟩
  | 120 => ⟨S32x1x8x2x32, .f32⟩
  | 121 => ⟨S1x1x1x1x32, .f32⟩
  | 122 => ⟨S32x1x8x2x32, .f32⟩
  | 123 => ⟨S32x1x8x2x32, .f32⟩
  | 124 => ⟨S32x1x8x2x32, .f32⟩
  | 125 => ⟨S32x1x8x2x64, .f32⟩
  | 126 => ⟨S32x2048, .f32⟩
  | 127 => ⟨S32x2048, .bf16⟩
  | _ => ⟨S2x4096x2048, .f32⟩

abbrev hbmTy0_1 (i : Nat) : BufTy := match i % 128 with
  | 0 => ⟨S32x1024, .f32⟩
  | 1 => ⟨S32x1024, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_c : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_4 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_v64 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_7 : Ref sig .tc := ⟨.hbm, 94, rfl⟩
abbrev main_v81 : Ref sig .tc := ⟨.hbm, 95, rfl⟩
abbrev main_v82 : Ref sig .tc := ⟨.hbm, 96, rfl⟩
abbrev main_cst_8 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩

abbrev nD : Nat := 1
abbrev τ : Topo := Topo.v7x

variable {F : FTy → Type} [FloatOps F]
-- ==== Kernel3.lean ====
abbrev S8192x2048 : Shape := ⟨2, ![8192, 2048]⟩
abbrev S32x2048 : Shape := ⟨2, ![32, 2048]⟩
abbrev S1x32x2x1024 : Shape := ⟨4, ![1, 32, 2, 1024]⟩
abbrev S2048x3072 : Shape := ⟨2, ![2048, 3072]⟩
abbrev S1x3x1024 : Shape := ⟨3, ![1, 3, 1024]⟩
abbrev S1x2048x10240 : Shape := ⟨3, ![1, 2048, 10240]⟩
abbrev S1x2048x11264 : Shape := ⟨3, ![1, 2048, 11264]⟩
abbrev S32x2x1024 : Shape := ⟨3, ![32, 2, 1024]⟩
abbrev S3x1024 : Shape := ⟨2, ![3, 1024]⟩
abbrev S2048x10240 : Shape := ⟨2, ![2048, 10240]⟩
abbrev S2048x11264 : Shape := ⟨2, ![2048, 11264]⟩
abbrev S8192x1024 : Shape := ⟨2, ![8192, 1024]⟩
abbrev S2x8x1024 : Shape := ⟨3, ![2, 8, 1024]⟩
abbrev S32x1024 : Shape := ⟨2, ![32, 1024]⟩
abbrev S2048x2048 : Shape := ⟨2, ![2048, 2048]⟩
abbrev S512x2048 : Shape := ⟨2, ![512, 2048]⟩
abbrev S128x2048 : Shape := ⟨2, ![128, 2048]⟩
abbrev S128x11264 : Shape := ⟨2, ![128, 11264]⟩
abbrev S512x1024 : Shape := ⟨2, ![512, 1024]⟩
abbrev S1x8x1024 : Shape := ⟨3, ![1, 8, 1024]⟩
abbrev S520x1024 : Shape := ⟨2, ![520, 1024]⟩
abbrev S8x1024 : Shape := ⟨2, ![8, 1024]⟩
abbrev S544x2048 : Shape := ⟨2, ![544, 2048]⟩
abbrev S2048x256 : Shape := ⟨2, ![2048, 256]⟩
abbrev S544x256 : Shape := ⟨2, ![544, 256]⟩
abbrev S512x256 : Shape := ⟨2, ![512, 256]⟩
abbrev S1x256 : Shape := ⟨2, ![1, 256]⟩
abbrev S8x256 : Shape := ⟨2, ![8, 256]⟩
abbrev S1x8x256 : Shape := ⟨3, ![1, 8, 256]⟩
abbrev S32x256 : Shape := ⟨2, ![32, 256]⟩

abbrev nBuf : Space → Nat
  | .hbm => 20
  | .vmem => 25
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x32x2x1024, .f32⟩
  | .hbm, ⟨3, _⟩ => ⟨S2048x3072, .bf16⟩
  | .hbm, ⟨4, _⟩ => ⟨S1x3x1024, .f32⟩
  | .hbm, ⟨5, _⟩ => ⟨S1x2048x10240, .f32⟩
  | .hbm, ⟨6, _⟩ => ⟨S1x2048x11264, .f32⟩
  | .hbm, ⟨7, _⟩ => ⟨S32x2x1024, .f32⟩
  | .hbm, ⟨8, _⟩ => ⟨S32x2048, .f32⟩
  | .hbm, ⟨9, _⟩ => ⟨S3x1024, .f32⟩
  | .hbm, ⟨10, _⟩ => ⟨S2048x10240, .f32⟩
  | .hbm, ⟨11, _⟩ => ⟨S2048x10240, .f32⟩
  | .hbm, ⟨12, _⟩ => ⟨S2048x11264, .f32⟩
  | .hbm, ⟨13, _⟩ => ⟨S8192x1024, .bf16⟩
  | .hbm, ⟨14, _⟩ => ⟨S2x8x1024, .f32⟩
  | .hbm, ⟨15, _⟩ => ⟨S32x1024, .bf16⟩
  | .hbm, ⟨16, _⟩ => ⟨S32x2048, .f32⟩
  | .hbm, ⟨17, _⟩ => ⟨S2048x2048, .bf16⟩
  | .hbm, ⟨18, _⟩ => ⟨S2048x2048, .bf16⟩
  | .hbm, ⟨19, _⟩ => ⟨S2048x11264, .bf16⟩
  | .local _ .vmem, ⟨0, _⟩ => ⟨S512x2048, .bf16⟩
  | .local _ .vmem, ⟨1, _⟩ => ⟨S512x2048, .bf16⟩
  | .local _ .vmem, ⟨2, _⟩ => ⟨S32x2048, .bf16⟩
  | .local _ .vmem, ⟨3, _⟩ => ⟨S32x2048, .f32⟩
  | .local _ .vmem, ⟨4, _⟩ => ⟨S2048x3072, .bf16⟩
  | .local _ .vmem, ⟨5, _⟩ => ⟨S3x1024, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x11264, .f32⟩
  | .local _ .vmem, ⟨11, _⟩ => ⟨S128x11264, .f32⟩
  | .local _ .vmem, ⟨12, _⟩ => ⟨S512x1024, .bf16⟩
  | .local _ .vmem, ⟨13, _⟩ => ⟨S512x1024, .bf16⟩
  | .local _ .vmem, ⟨14, _⟩ => ⟨S1x8x1024, .f32⟩
  | .local _ .vmem, ⟨15, _⟩ => ⟨S1x8x1024, .f32⟩
  | .local _ .vmem, ⟨16, _⟩ => ⟨S32x1024, .bf16⟩
  | .local _ .vmem, ⟨17, _⟩ => ⟨S32x2048, .f32⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x11264, .bf16⟩
  | .local _ .vmem, ⟨23, _⟩ => ⟨S128x11264, .bf16⟩
  | .local _ .vmem, ⟨24, _⟩ => ⟨S520x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c0_i32_24 : BitVec 32 := 0#32
  let v38 : BitVec 1 := Scalar.cmpi .eq arg0 c0_i32_24
  let v39 : BitVec 32 := Scalar.extui v38
  let c0_i32_25 : BitVec 32 := 0#32
  let v40 : BitVec 1 := Scalar.cmpi .ne v39 c0_i32_25
  v40

def k0_cond4 (i : grid0.Coords) : BitVec 1 :=
  let arg0 : BitVec 32 := BitVec.ofNat 32 (i 0).val
  let c0_i32_26 : BitVec 32 := 0#32
  let v41 : BitVec 1 := Scalar.cmpi .ne arg0 c0_i32_26
  let v42 : BitVec 32 := Scalar.extui v41
  let c0_i32_27 : BitVec 32 := 0#32
  let v43 : BitVec 1 := Scalar.cmpi .ne v42 c0_i32_27
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x11264 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x11264 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8192x2048 : Shape := ⟨2, ![8192, 2048]⟩
abbrev S32x2048 : Shape := ⟨2, ![32, 2048]⟩
abbrev S1x32x2x1024 : Shape := ⟨4, ![1, 32, 2, 1024]⟩
abbrev S2048x3072 : Shape := ⟨2, ![2048, 3072]⟩
abbrev S1x3x1024 : Shape := ⟨3, ![1, 3, 1024]⟩
abbrev S1x2048x10240 : Shape := ⟨3, ![1, 2048, 10240]⟩
abbrev S1x2048x11264 : Shape := ⟨3, ![1, 2048, 11264]⟩
abbrev S_ : Shape := ⟨0, ![]⟩
abbrev S2x2x1024 : Shape := ⟨3, ![2, 2, 1024]⟩
abbrev S8192x3072 : Shape := ⟨2, ![8192, 3072]⟩
abbrev S2x4096x3072 : Shape := ⟨3, ![2, 4096, 3072]⟩
abbrev S2x4096x1024 : Shape := ⟨3, ![2, 4096, 1024]⟩
abbrev S2x4098x1024 : Shape := ⟨3, ![2, 4098, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩
abbrev S32x2x1024 : Shape := ⟨3, ![32, 2, 1024]⟩
abbrev S32x3072 : Shape := ⟨2, ![32, 3072]⟩
abbrev S32x1x3072 : Shape := ⟨3, ![32, 1, 3072]⟩
abbrev S32x1x1024 : Shape := ⟨3, ![32, 1, 1024]⟩
abbrev S32x3x1024 : Shape := ⟨3, ![32, 3, 1024]⟩
abbrev S32x1024 : Shape := ⟨2, ![32, 1024]⟩
abbrev S2x8x1024 : Shape := ⟨3, ![2, 8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S1x32x2x1024, .f32⟩
  | .hbm, ⟨3, _⟩ => ⟨S2048x3072, .bf16⟩
  | .hbm, ⟨4, _⟩ => ⟨S1x3x1024, .f32⟩
  | .hbm, ⟨5, _⟩ => ⟨S1x2048x10240, .f32⟩
  | .hbm, ⟨6, _⟩ => ⟨S1x2048x11264, .f32⟩
  | .hbm, ⟨7, _⟩ => ⟨S_, .f32⟩
  | .hbm, ⟨8, _⟩ => ⟨S2x2x1024, .f32⟩
  | .hbm, ⟨9, _⟩ => ⟨S8192x2048, .f32⟩
  | .hbm, ⟨10, _⟩ => ⟨S2048x3072, .f32⟩
  | .hbm, ⟨11, _⟩ => ⟨S8192x3072, .f32⟩
  | .hbm, ⟨12, _⟩ => ⟨S2x4096x3072, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4098x1024, .f32⟩
  | .hbm, ⟨18, _⟩ => ⟨S3x1024, .f32⟩
  | .hbm, ⟨19, _⟩ => ⟨S1x1024, .f32⟩
  | .hbm, ⟨20, _⟩ => ⟨S1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S1x1024, .f32⟩
  | .hbm, ⟨26, _⟩ => ⟨S1024, .f32⟩
  | .hbm, ⟨27, _⟩ => ⟨S2x4096x1024, .f32⟩
  | .hbm, ⟨28, _⟩ => ⟨S1x1x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S1x1024, .f32⟩
  | .hbm, ⟨33, _⟩ => ⟨S1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S8192x1024, .f32⟩
  | .hbm, ⟨41, _⟩ => ⟨S8192x1024, .bf16⟩
  | .hbm, ⟨42, _⟩ => ⟨S32x2x1024, .f32⟩
  | .hbm, ⟨43, _⟩ => ⟨S32x2048, .f32⟩
  | .hbm, ⟨44, _⟩ => ⟨S2048x3072, .f32⟩
  | .hbm, ⟨45, _⟩ => ⟨S32x3072, .f32⟩
  | .hbm, ⟨46, _⟩ => ⟨S32x1x3072, .f32⟩
  | .hbm, ⟨47, _⟩ => ⟨S32x1x1024, .f32⟩
  | .hbm, ⟨48, _⟩ => ⟨S32x1x1024, .f32⟩
  | .hbm, ⟨49, _⟩ => ⟨S32x1x1024, .f32⟩
  | .hbm, ⟨50, _⟩ => ⟨S32x1x1024, .f32⟩
  | .hbm, ⟨51, _⟩ => ⟨S32x3x1024, .f32⟩
  | .hbm, ⟨52, _⟩ => ⟨S3x1024, .f32⟩
  | .hbm, ⟨53, _⟩ => ⟨S1x1024, .f32⟩
  | .hbm, ⟨54, _⟩ => ⟨S1024, .f32⟩
  | .hbm, ⟨55, _⟩ => ⟨S32x1x1024, .f32⟩
  | .hbm, ⟨56, _⟩ => ⟨S1x1x1024, .f32⟩
  | .hbm, ⟨57, _⟩ => ⟨S32x1x1024, .f32⟩
  | .hbm, ⟨58, _⟩ => ⟨S32x1x1024, .f32⟩
  | .hbm, ⟨59, _⟩ => ⟨S1x1024, .f32⟩
  | .hbm, ⟨60, _⟩ => ⟨S1024, .f32⟩
  | .hbm, ⟨61, _⟩ => ⟨S32x1x1024, .f32⟩
  | .hbm, ⟨62, _⟩ => ⟨S1x1x1024, .f32⟩
  | .hbm, ⟨63, _⟩ => ⟨S32x1x1024, .f32⟩
  | .hbm, ⟨64, _⟩ => ⟨S32x1x1024, .f32⟩
  | .hbm, ⟨65, _⟩ => ⟨S32x1x1024, .f32⟩
  | .hbm, ⟨66, _⟩ => ⟨S1x1024, .f32⟩
  | .hbm, ⟨67, _⟩ => ⟨S1024, .f32⟩
  | .hbm, ⟨68, _⟩ => ⟨S32x1x1024, .f32⟩
  | .hbm, ⟨69, _⟩ => ⟨S1x1x1024, .f32⟩
  | .hbm, ⟨70, _⟩ => ⟨S32x1x1024, .f32⟩
  | .hbm, ⟨71, _⟩ => ⟨S32x1x1024, .f32⟩
  | .hbm, ⟨72, _⟩ => ⟨S32x1x1024, .f32⟩
  | .hbm, ⟨73, _⟩ => ⟨S32x1x1024, .f32⟩
  | .hbm, ⟨74, _⟩ => ⟨S32x1024, .f32⟩
  | .hbm, ⟨75, _⟩ => ⟨S32x1024, .bf16⟩
  | .hbm, ⟨76, _⟩ => ⟨S2x8x1024, .f32⟩
  | .hbm, ⟨77, _⟩ => ⟨S32x2x1024, .f32⟩
  | .hbm, ⟨78, _⟩ => ⟨S32x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩

abbrev nD : Nat := 1
abbrev τ : Topo := Topo.v7x

variable {F : FTy → Type} [FloatOps F]
-- ==== Kernel4.lean ====
abbrev S8192x2048 : Shape := ⟨2, ![8192, 2048]⟩
abbrev S32x2048 : Shape := ⟨2, ![32, 2048]⟩
abbrev S2048x2048 : Shape := ⟨2, ![2048, 2048]⟩
abbrev S1x5632x2048 : Shape := ⟨3, ![1, 5632, 2048]⟩
abbrev S1x2048x2048 : Shape := ⟨3, ![1, 2048, 2048]⟩
abbrev S1x1024x2048 : Shape := ⟨3, ![1, 1024, 2048]⟩
abbrev S5632x2048 : Shape := ⟨2, ![5632, 2048]⟩
abbrev S1024x2048 : Shape := ⟨2, ![1024, 2048]⟩
abbrev S512x2048 : Shape := ⟨2, ![512, 2048]⟩
abbrev S352x2048 : Shape := ⟨2, ![352, 2048]⟩
abbrev S128x2048 : Shape := ⟨2, ![128, 2048]⟩
abbrev S64x2048 : Shape := ⟨2, ![64, 2048]⟩
abbrev S544x2048 : Shape := ⟨2, ![544, 2048]⟩

abbrev nBuf : Space → Nat
  | .hbm => 20
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S2048x2048, .bf16⟩
  | .hbm, ⟨3, _⟩ => ⟨S2048x2048, .bf16⟩
  | .hbm, ⟨4, _⟩ => ⟨S1x5632x2048, .f32⟩
  | .hbm, ⟨5, _⟩ => ⟨S1x2048x2048, .f32⟩
  | .hbm, ⟨6, _⟩ => ⟨S1x1024x2048, .f32⟩
  | .hbm, ⟨7, _⟩ => ⟨S1x1024x2048, .f32⟩
  | .hbm, ⟨8, _⟩ => ⟨S5632x2048, .f32⟩
  | .hbm, ⟨9, _⟩ => ⟨S2048x2048, .f32⟩
  | .hbm, ⟨10, _⟩ => ⟨S1024x2048, .f32⟩
  | .hbm, ⟨11, _⟩ => ⟨S1024x2048, .f32⟩
  | .hbm, ⟨12, _⟩ => ⟨S8192x2048, .bf16⟩
  | .hbm, ⟨13, _⟩ => ⟨S8192x2048, .bf16⟩
  | .hbm, ⟨14, _⟩ => ⟨S32x2048, .bf16⟩
  | .hbm, ⟨15, _⟩ => ⟨S32x2048, .bf16⟩
  | .hbm, ⟨16, _⟩ => ⟨S5632x2048, .bf16⟩
  | .hbm, ⟨17, _⟩ => ⟨S2048x2048, .bf16⟩
  | .hbm, ⟨18, _⟩ => ⟨S1024x2048, .bf16⟩
  | .hbm, ⟨19, _⟩ => ⟨S1024x2048, .bf16⟩
  | .local _ .vmem, ⟨0, _⟩ => ⟨S512x2048, .bf16⟩
  | .local _ .vmem, ⟨1, _⟩ => ⟨S512x2048, .bf16⟩
  | .local _ .vmem, ⟨2, _⟩ => ⟨S32x2048, .bf16⟩
  | .local _ .vmem, ⟨3, _⟩ => ⟨S2048x2048, .bf16⟩
  | .local _ .vmem, ⟨4, _⟩ => ⟨S2048x2048, .bf16⟩
  | .local _ .vmem, ⟨5, _⟩ => ⟨S352x2048, .f32⟩
  | .local _ .vmem, ⟨6, _⟩ => ⟨S352x2048, .f32⟩
  | .local _ .vmem, ⟨7, _⟩ => ⟨S128x2048, .f32⟩
  | .local _ .vmem, ⟨8, _⟩ => ⟨S128x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S32x2048, .bf16⟩
  | .local _ .vmem, ⟨18, _⟩ => ⟨S32x2048, .bf16⟩
  | .local _ .vmem, ⟨19, _⟩ => ⟨S352x2048, .bf16⟩
  | .local _ .vmem, ⟨20, _⟩ => ⟨S352x2048, .bf16⟩
  | .local _ .vmem, ⟨21, _⟩ => ⟨S128x2048, .bf16⟩
  | .local _ .vmem, ⟨22, _⟩ => ⟨S128x2048, .bf16⟩
  | .local _ .vmem, ⟨23, _⟩ => ⟨S64x2048, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_15 : BitVec 32 := 0#32
  let v18 : BitVec 1 := Scalar.cmpi .ne v17 c0_i32_15
  v18

def k0_cond2 (i : grid0.Coords) : BitVec 1 :=
  let arg0 : BitVec 32 := BitVec.ofNat 32 (i 0).val
  let c0_i32_16 : BitVec 32 := 0#32
  let v19 : BitVec 1 := Scalar.cmpi .ne arg0 c0_i32_16
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S352x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8192x2048 : Shape := ⟨2, ![8192, 2048]⟩
abbrev S32x2048 : Shape := ⟨2, ![32, 2048]⟩
abbrev S2048x2048 : Shape := ⟨2, ![2048, 2048]⟩
abbrev S1x5632x2048 : Shape := ⟨3, ![1, 5632, 2048]⟩
abbrev S1x2048x2048 : Shape := ⟨3, ![1, 2048, 2048]⟩
abbrev S1x1024x2048 : Shape := ⟨3, ![1, 1024, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S32x2048, .bf16⟩
  | .hbm, ⟨2, _⟩ => ⟨S2048x2048, .bf16⟩
  | .hbm, ⟨3, _⟩ => ⟨S2048x2048, .bf16⟩
  | .hbm, ⟨4, _⟩ => ⟨S1x5632x2048, .f32⟩
  | .hbm, ⟨5, _⟩ => ⟨S1x2048x2048, .f32⟩
  | .hbm, ⟨6, _⟩ => ⟨S1x1024x2048, .f32⟩
  | .hbm, ⟨7, _⟩ => ⟨S1x1024x2048, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x2048, .f32⟩
  | .hbm, ⟨21, _⟩ => ⟨S2048x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .bf16⟩
  | .hbm, ⟨32, _⟩ => ⟨S32x2048, .f32⟩
  | .hbm, ⟨33, _⟩ => ⟨S2048x2048, .f32⟩
  | .hbm, ⟨34, _⟩ => ⟨S32x2048, .f32⟩
  | .hbm, ⟨35, _⟩ => ⟨S32x2048, .f32⟩
  | .hbm, ⟨36, _⟩ => ⟨S32x2048, .f32⟩
  | .hbm, ⟨37, _⟩ => ⟨S_, .f32⟩
  | .hbm, ⟨38, _⟩ => ⟨S32x2048, .f32⟩
  | .hbm, ⟨39, _⟩ => ⟨S32x2048, .f32⟩
  | .hbm, ⟨40, _⟩ => ⟨S_, .f32⟩
  | .hbm, ⟨41, _⟩ => ⟨S32x2048, .f32⟩
  | .hbm, ⟨42, _⟩ => ⟨S32x2048, .f32⟩
  | .hbm, ⟨43, _⟩ => ⟨S32x2048, .bf16⟩
  | .hbm, ⟨44, _⟩ => ⟨S32x2048, .f32⟩
  | .hbm, ⟨45, _⟩ => ⟨S2048x2048, .f32⟩
  | .hbm, ⟨46, _⟩ => ⟨S32x2048, .f32⟩
  | .hbm, ⟨47, _⟩ => ⟨S32x2048, .f32⟩
  | .hbm, ⟨48, _⟩ => ⟨S32x2048, .f32⟩
  | .hbm, ⟨49, _⟩ => ⟨S_, .f32⟩
  | .hbm, ⟨50, _⟩ => ⟨S32x2048, .f32⟩
  | .hbm, ⟨51, _⟩ => ⟨S32x2048, .f32⟩
  | .hbm, ⟨52, _⟩ => ⟨S_, .f32⟩
  | .hbm, ⟨53, _⟩ => ⟨S32x2048, .f32⟩
  | .hbm, ⟨54, _⟩ => ⟨S32x2048, .f32⟩
  | .hbm, ⟨55, _⟩ => ⟨S32x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S2x4096x2048 : Shape := ⟨3, ![2, 4096, 2048]⟩
abbrev S32x1024 : Shape := ⟨2, ![32, 1024]⟩
abbrev S32x2048 : Shape := ⟨2, ![32, 2048]⟩
abbrev S32x1x2048 : Shape := ⟨3, ![32, 1, 2048]⟩
abbrev S1024x2048 : Shape := ⟨2, ![1024, 2048]⟩
abbrev S2048x2048 : Shape := ⟨2, ![2048, 2048]⟩
abbrev S1x2048 : Shape := ⟨2, ![1, 2048]⟩
abbrev S2048 : Shape := ⟨1, ![2048]⟩
abbrev S256x1024 : Shape := ⟨2, ![256, 1024]⟩
abbrev S256x2048 : Shape := ⟨2, ![256, 2048]⟩
abbrev S288x1024 : Shape := ⟨2, ![288, 1024]⟩
abbrev S288x2048 : Shape := ⟨2, ![288, 2048]⟩
abbrev S288 : Shape := ⟨1, ![288]⟩
abbrev S288x1 : Shape := ⟨2, ![288, 1]⟩
abbrev S256 : Shape := ⟨1, ![256]⟩
abbrev S256x1 : Shape := ⟨2, ![256, 1]⟩

abbrev nBuf : Space → Nat
  | .hbm => 22
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S2x4096x2048, .f32⟩
  | .hbm, ⟨5, _⟩ => ⟨S32x1024, .bf16⟩
  | .hbm, ⟨6, _⟩ => ⟨S32x1024, .bf16⟩
  | .hbm, ⟨7, _⟩ => ⟨S32x2048, .bf16⟩
  | .hbm, ⟨8, _⟩ => ⟨S32x2048, .bf16⟩
  | .hbm, ⟨9, _⟩ => ⟨S32x1x2048, .f32⟩
  | .hbm, ⟨10, _⟩ => ⟨S1024x2048, .bf16⟩
  | .hbm, ⟨11, _⟩ => ⟨S1024x2048, .bf16⟩
  | .hbm, ⟨12, _⟩ => ⟨S2048x2048, .bf16⟩
  | .hbm, ⟨13, _⟩ => ⟨S1x2048, .f32⟩
  | .hbm, ⟨14, _⟩ => ⟨S8192x2048, .f32⟩
  | .hbm, ⟨15, _⟩ => ⟨S32x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .bf16⟩
  | .hbm, ⟨20, _⟩ => ⟨S32x2048, .f32⟩
  | .hbm, ⟨21, _⟩ => ⟨S32x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S32x1024, .bf16⟩
  | .local _ .vmem, ⟨11, _⟩ => ⟨S32x1024, .bf16⟩
  | .local _ .vmem, ⟨12, _⟩ => ⟨S32x2048, .bf16⟩
  | .local _ .vmem, ⟨13, _⟩ => ⟨S32x2048, .bf16⟩
  | .local _ .vmem, ⟨14, _⟩ => ⟨S32x2048, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | .local _ .vmem, ⟨23, _⟩ => ⟨S32x2048, .f32⟩
  | .local _ .vmem, ⟨24, _⟩ => ⟨S32x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference5Ideal.lean ====
abbrev S8192x1024 : Shape := ⟨2, ![8192, 1024]⟩
abbrev S8192x2048 : Shape := ⟨2, ![8192, 2048]⟩
abbrev S2x4096x2048 : Shape := ⟨3, ![2, 4096, 2048]⟩
abbrev S32x1024 : Shape := ⟨2, ![32, 1024]⟩
abbrev S32x2048 : Shape := ⟨2, ![32, 2048]⟩
abbrev S32x1x2048 : Shape := ⟨3, ![32, 1, 2048]⟩
abbrev S1024x2048 : Shape := ⟨2, ![1024, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S32 : Shape := ⟨1, ![32]⟩
abbrev S32x1 : Shape := ⟨2, ![32, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x2048, .bf16⟩
  | .hbm, ⟨4, _⟩ => ⟨S2x4096x2048, .f32⟩
  | .hbm, ⟨5, _⟩ => ⟨S32x1024, .bf16⟩
  | .hbm, ⟨6, _⟩ => ⟨S32x1024, .bf16⟩
  | .hbm, ⟨7, _⟩ => ⟨S32x2048, .bf16⟩
  | .hbm, ⟨8, _⟩ => ⟨S32x2048, .bf16⟩
  | .hbm, ⟨9, _⟩ => ⟨S32x1x2048, .f32⟩
  | .hbm, ⟨10, _⟩ => ⟨S1024x2048, .bf16⟩
  | .hbm, ⟨11, _⟩ => ⟨S1024x2048, .bf16⟩
  | .hbm, ⟨12, _⟩ => ⟨S2048x2048, .bf16⟩
  | .hbm, ⟨13, _⟩ => ⟨S1x2048, .f32⟩
  | .hbm, ⟨14, _⟩ => ⟨S8192x2048, .f32⟩
  | .hbm, ⟨15, _⟩ => ⟨S8192x1024, .f32⟩
  | .hbm, ⟨16, _⟩ => ⟨S1024x2048, .f32⟩
  | .hbm, ⟨17, _⟩ => ⟨S8192x2048, .f32⟩
  | .hbm, ⟨18, _⟩ => ⟨S8192x1024, .f32⟩
  | .hbm, ⟨19, _⟩ => ⟨S1024x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S2048x2048, .f32⟩
  | .hbm, ⟨27, _⟩ => ⟨S8192x2048, .f32⟩
  | .hbm, ⟨28, _⟩ => ⟨S8192x2048, .f32⟩
  | .hbm, ⟨29, _⟩ => ⟨S2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | .hbm, ⟨47, _⟩ => ⟨S32x2048, .f32⟩
  | .hbm, ⟨48, _⟩ => ⟨S32x1024, .f32⟩
  | .hbm, ⟨49, _⟩ => ⟨S1024x2048, .f32⟩
  | .hbm, ⟨50, _⟩ => ⟨S32x2048, .f32⟩
  | .hbm, ⟨51, _⟩ => ⟨S32x1024, .f32⟩
  | .hbm, ⟨52, _⟩ => ⟨S1024x2048, .f32⟩
  | .hbm, ⟨53, _⟩ => ⟨S32x2048, .f32⟩
  | .hbm, ⟨54, _⟩ => ⟨S32x2048, .f32⟩
  | .hbm, ⟨55, _⟩ => ⟨S32x2048, .f32⟩
  | .hbm, ⟨56, _⟩ => ⟨S32x2048, .f32⟩
  | .hbm, ⟨57, _⟩ => ⟨S32x2048, .f32⟩
  | .hbm, ⟨58, _⟩ => ⟨S32x2048, .f32⟩
  | .hbm, ⟨59, _⟩ => ⟨S2048x2048, .f32⟩
  | .hbm, ⟨60, _⟩ => ⟨S32x2048, .f32⟩
  | .hbm, ⟨61, _⟩ => ⟨S32x2048, .f32⟩
  | .hbm, ⟨62, _⟩ => ⟨S2048, .f32⟩
  | .hbm, ⟨63, _⟩ => ⟨S32x2048, .f32⟩
  | .hbm, ⟨64, _⟩ => ⟨S_, .f32⟩
  | .hbm, ⟨65, _⟩ => ⟨S32, .f32⟩
  | .hbm, ⟨66, _⟩ => ⟨S32x1, .f32⟩
  | .hbm, ⟨67, _⟩ => ⟨S_, .f32⟩
  | .hbm, ⟨68, _⟩ => ⟨S32x1, .f32⟩
  | .hbm, ⟨69, _⟩ => ⟨S32x1, .f32⟩
  | .hbm, ⟨70, _⟩ => ⟨S_, .f32⟩
  | .hbm, ⟨71, _⟩ => ⟨S32x1, .f32⟩
  | .hbm, ⟨72, _⟩ => ⟨S32x1, .f32⟩
  | .hbm, ⟨73, _⟩ => ⟨S32x1, .f32⟩
  | .hbm, ⟨74, _⟩ => ⟨S32x2048, .f32⟩
  | .hbm, ⟨75, _⟩ => ⟨S32x2048, .f32⟩
  | .hbm, ⟨76, _⟩ => ⟨S1x2048, .f32⟩
  | .hbm, ⟨77, _⟩ => ⟨S32x2048, .f32⟩
  | .hbm, ⟨78, _⟩ => ⟨S32x2048, .f32⟩
  | .hbm, ⟨79, _⟩ => ⟨S32x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_2 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.Whole.lean ====
/- Reading back a buffer whose last store covers it. -/
module

public import Idealize.ShloMosaic.Lib.Pipeline.Value
public import Idealize.ShloMosaic.Lib.Tactic

@[expose] public section

namespace Cert.Whole

open Idealize.ShloMosaic

theorem hz : (![0, 0] : Fin 2 → Nat) = fun _ => 0 := funext fun a => by fin_cases a <;> rfl
theorem hz1 : (![0] : Fin 1 → Nat) = fun _ => 0 := funext fun a => by fin_cases a; rfl
theorem hz3 : (![0, 0, 0] : Fin 3 → Nat) = fun _ => 0 := funext fun a => by fin_cases a <;> rfl

/-- After stores the last of which covers the buffer, the buffer reads as that store's value. -/
theorem whole_writes {Val : EltTy → Type} [∀ e, Nonempty (Val e)] {sig : RefSig} {κ : Kind} {sp : Space} {S : Shape} {e : EltTy}
    {v : View sig κ sp S e} {f : v.ty.Contents Val} {off : Fin S.rank → Nat} (h : off = fun _ => 0)
    {inb : ∀ a, off a + S.size a ≤ S.size a} {w : S.Idx → Val e} {L : List (View.Piece Val S e)} :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Cert.Whole
-- ==== Proof.FfnBody.lean ====
/- What one grid point of the feed-forward kernel does to its buffers, one statement per case of its conditions. -/
module

public import proofs.«01_k».proof.Proof.Gen.KernelIdeal.Skeleton
public import proofs.«01_k».proof.Proof.Gen.KernelIdeal.Frame
public import proofs.«01_k».proof.Proof.Whole
public import Idealize.ShloMosaic.Lib.Pipeline.Value

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Whole

/-- The conditions of the body, in the grid coordinates. -/
abbrev cond0 (i : grid0.Coords) : Prop := (Scalar.cmpi .ne (Scalar.extui (Scalar.cmpi .eq (BitVec.ofNat 32 (i 1).val) 0#32)) 0#32) = 1#1
abbrev cond1 (i : grid0.Coords) : Prop := (Scalar.cmpi .ne (Scalar.extui (Scalar.cmpi .eq (BitVec.ofNat 32 (i 0).val) 0#32)) 0#32) = 1#1
abbrev cond2 (i : grid0.Coords) : Prop := (Scalar.cmpi .ne (Scalar.extui (Scalar.cmpi .ne (BitVec.ofNat 32 (i 0).val) 0#32)) 0#32) = 1#1
abbrev cond3 (i : grid0.Coords) : Prop := k0_cond4 i = 1#1
abbrev cond4 (i : grid0.Coords) : Prop := k0_cond5 i = 1#1

set_option maxHeartbeats 4000000 in
/-- The first block of the first tile: both sums start from zero. -/
theorem body_A (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S32x2048 .bf16) (harg4 : arg4.IsWhole) (arg5 : Memref sig .tc .vmem S32x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S32x2048 .f32) (harg11 : arg11.IsWhole) (arg12 : Memref sig .tc .vmem S512x2048 .f32) (harg12 : arg12.IsWhole) (arg13 : Memref sig .tc .vmem S32x2048 .f32) (harg13 : arg13.IsWhole) (hc0 : cond0 i) (hc1 : cond1 i) (hc2 : ¬cond2 i) (hc3 : ¬cond3 i) (hc4 : ¬cond4 i)
    (x0 : Vec F S512x2048 .bf16) (x1 : Vec F S512x2048 .f32) (x2 : Vec F S32x2048 .bf16) (x3 : Vec F S32x2048 .f32) (x4 : Vec F S2048x512 .bf16) (x5 : Vec F S2048x512 .bf16) (x6 : Vec F S512x2048 .bf16) (x7 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare (k0_pay4 x0 x2 x4 x5 x6 k0_pay1) ∗ owns (c : Thread nD τ) arg13 fullShare (k0_pay5 x0 x2 x4 x5 x6 k0_pay2)) -∗ K ⟨⟩))
    ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [whole_writes hz]
    try simp only [View.readAt_eq_ld, harg2.read_unread, harg3.read_unread, harg4.read_unread, harg5.read_unread, harg6.read_unread, harg7.read_unread, harg8.read_unread, harg9.read_unread, View.ld_unit_zero (S := S512x2048) hz, View.ld_unit_zero (S := S32x2048) hz, View.ld_unit_zero (S := S2048x512) hz, View.ld_unit_zero (S := S1x2048) hz, View.readCov_unit_zero (S := S512x2048) _ hz]
  iexists _; isplitr; swap; · iexact H9
  ipureintro
  sl_unfold_words
  rw [whole_writes hz]
  try simp only [View.readAt_eq_ld, harg2.read_unread, harg3.read_unread, harg4.read_unread, harg5.read_unread, harg6.read_unread, harg7.read_unread, harg8.read_unread, harg9.read_unread, View.ld_unit_zero (S := S512x2048) hz, View.ld_unit_zero (S := S32x2048) hz, View.ld_unit_zero (S := S2048x512) hz, View.ld_unit_zero (S := S1x2048) hz, View.readCov_unit_zero (S := S32x2048) _ hz]

set_option maxHeartbeats 4000000 in
/-- A middle block of the first tile: both sums grow. -/
theorem body_B (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S32x2048 .bf16) (harg4 : arg4.IsWhole) (arg5 : Memref sig .tc .vmem S32x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S32x2048 .f32) (harg11 : arg11.IsWhole) (arg12 : Memref sig .tc .vmem S512x2048 .f32) (harg12 : arg12.IsWhole) (arg13 : Memref sig .tc .vmem S32x2048 .f32) (harg13 : arg13.IsWhole) (hc0 : ¬cond0 i) (hc1 : cond1 i) (hc2 : ¬cond2 i) (hc3 : ¬cond3 i) (hc4 : ¬cond4 i)
    (x0 : Vec F S512x2048 .bf16) (x1 : Vec F S512x2048 .f32) (x2 : Vec F S32x2048 .bf16) (x3 : Vec F S32x2048 .f32) (x4 : Vec F S2048x512 .bf16) (x5 : Vec F S2048x512 .bf16) (x6 : Vec F S512x2048 .bf16) (x7 : Vec F S1x2048 .f32) (a0 : Vec F S512x2048 .f32) (a1 : Vec F S32x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare a0 ∗ owns (c : Thread nD τ) arg13 fullShare a1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare (k0_pay4 x0 x2 x4 x5 x6 a0) ∗ owns (c : Thread nD τ) arg13 fullShare (k0_pay5 x0 x2 x4 x5 x6 a1)) -∗ K ⟨⟩))
    ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf8; obtain rfl := harg13.eq_unread hf9
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [whole_writes hz]
    try simp only [View.readAt_eq_ld, harg2.read_unread, harg3.read_unread, harg4.read_unread, harg5.read_unread, harg6.read_unread, harg7.read_unread, harg8.read_unread, harg9.read_unread, harg12.read_unread, harg13.read_unread, View.ld_unit_zero (S := S512x2048) hz, View.ld_unit_zero (S := S32x2048) hz, View.ld_unit_zero (S := S2048x512) hz, View.ld_unit_zero (S := S1x2048) hz, View.readCov_unit_zero (S := S512x2048) _ hz]
  iexists _; isplitr; swap; · iexact H9
  ipureintro
  sl_unfold_words
  rw [whole_writes hz]
  try simp only [View.readAt_eq_ld, harg2.read_unread, harg3.read_unread, harg4.read_unread, harg5.read_unread, harg6.read_unread, harg7.read_unread, harg8.read_unread, harg9.read_unread, harg12.read_unread, harg13.read_unread, View.ld_unit_zero (S := S512x2048) hz, View.ld_unit_zero (S := S32x2048) hz, View.ld_unit_zero (S := S2048x512) hz, View.ld_unit_zero (S := S1x2048) hz, View.readCov_unit_zero (S := S32x2048) _ hz]

set_option maxHeartbeats 4000000 in
/-- The last block of the first tile: both sums grow and both results are stored. -/
theorem body_C (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S32x2048 .bf16) (harg4 : arg4.IsWhole) (arg5 : Memref sig .tc .vmem S32x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S32x2048 .f32) (harg11 : arg11.IsWhole) (arg12 : Memref sig .tc .vmem S512x2048 .f32) (harg12 : arg12.IsWhole) (arg13 : Memref sig .tc .vmem S32x2048 .f32) (harg13 : arg13.IsWhole) (hc0 : ¬cond0 i) (hc1 : cond1 i) (hc2 : ¬cond2 i) (hc3 : cond3 i) (hc4 : cond4 i)
    (x0 : Vec F S512x2048 .bf16) (x1 : Vec F S512x2048 .f32) (x2 : Vec F S32x2048 .bf16) (x3 : Vec F S32x2048 .f32) (x4 : Vec F S2048x512 .bf16) (x5 : Vec F S2048x512 .bf16) (x6 : Vec F S512x2048 .bf16) (x7 : Vec F S1x2048 .f32) (a0 : Vec F S512x2048 .f32) (a1 : Vec F S32x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare a0 ∗ owns (c : Thread nD τ) arg13 fullShare a1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay7 x1 (k0_pay4 x0 x2 x4 x5 x6 a0) x7) ∗ owns (c : Thread nD τ) arg11 fullShare (k0_pay8 x3 (k0_pay5 x0 x2 x4 x5 x6 a1) x7) ∗ owns (c : Thread nD τ) arg12 fullShare (k0_pay4 x0 x2 x4 x5 x6 a0) ∗ owns (c : Thread nD τ) arg13 fullShare (k0_pay5 x0 x2 x4 x5 x6 a1)) -∗ K ⟨⟩))
    ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hf11
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [whole_writes hz]
    try simp only [View.readAt_eq_ld, harg2.read_unread, harg3.read_unread, harg4.read_unread, harg5.read_unread, harg6.read_unread, harg7.read_unread, harg8.read_unread, harg9.read_unread, harg12.read_unread, harg13.read_unread, View.ld_unit_zero (S := S512x2048) hz, View.ld_unit_zero (S := S32x2048) hz, View.ld_unit_zero (S := S2048x512) hz, View.ld_unit_zero (S := S1x2048) hz, View.readCov_unit_zero (S := S512x2048) _ hz]
  isplitl [H9]
  · iexists _; isplitr; swap; · iexact H9
    ipureintro
    sl_unfold_words
    rw [whole_writes hz]
    try simp only [View.readAt_eq_ld, harg2.read_unread, harg3.read_unread, harg4.read_unread, harg5.read_unread, harg6.read_unread, harg7.read_unread, harg8.read_unread, harg9.read_unread, harg12.read_unread, harg13.read_unread, View.ld_unit_zero (S := S512x2048) hz, View.ld_unit_zero (S := S32x2048) hz, View.ld_unit_zero (S := S2048x512) hz, View.ld_unit_zero (S := S1x2048) hz, View.readCov_unit_zero (S := S32x2048) _ hz]
  isplitl [H10]
  · iexists _; isplitr; swap; · iexact H10
    ipureintro
    sl_unfold_words
    rw [whole_writes hz]
    try simp only [View.readAt_eq_ld, harg2.read_unread, harg3.read_unread, harg4.read_unread, harg5.read_unread, harg6.read_unread, harg7.read_unread, harg8.read_unread, harg9.read_unread, harg12.read_unread, harg13.read_unread, View.ld_unit_zero (S := S512x2048) hz, View.ld_unit_zero (S := S32x2048) hz, View.ld_unit_zero (S := S2048x512) hz, View.ld_unit_zero (S := S1x2048) hz, View.readCov_unit_zero (S := S512x2048) _ hz]
  iexists _; isplitr; swap; · iexact H11
  ipureintro
  sl_unfold_words
  rw [whole_writes hz]
  try simp only [View.readAt_eq_ld, harg2.read_unread, harg3.read_unread, harg4.read_unread, harg5.read_unread, harg6.read_unread, harg7.read_unread, harg8.read_unread, harg9.read_unread, harg12.read_unread, harg13.read_unread, View.ld_unit_zero (S := S512x2048) hz, View.ld_unit_zero (S := S32x2048) hz, View.ld_unit_zero (S := S2048x512) hz, View.ld_unit_zero (S := S1x2048) hz, View.readCov_unit_zero (S := S32x2048) _ hz]

set_option maxHeartbeats 4000000 in
/-- The first block of a later tile: the sums start from zero, the sample rows are left alone. -/
theorem body_D (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S32x2048 .bf16) (harg4 : arg4.IsWhole) (arg5 : Memref sig .tc .vmem S32x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S32x2048 .f32) (harg11 : arg11.IsWhole) (arg12 : Memref sig .tc .vmem S512x2048 .f32) (harg12 : arg12.IsWhole) (arg13 : Memref sig .tc .vmem S32x2048 .f32) (harg13 : arg13.IsWhole) (hc0 : cond0 i) (hc1 : ¬cond1 i) (hc2 : cond2 i) (hc3 : ¬cond3 i) (hc4 : ¬cond4 i)
    (x0 : Vec F S512x2048 .bf16) (x1 : Vec F S512x2048 .f32) (x2 : Vec F S32x2048 .bf16) (x3 : Vec F S32x2048 .f32) (x4 : Vec F S2048x512 .bf16) (x5 : Vec F S2048x512 .bf16) (x6 : Vec F S512x2048 .bf16) (x7 : Vec F S1x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg12 fullShare d) ∗ (∃ d, owns (c : Thread nD τ) arg13 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare (k0_pay6 x0 x4 x5 x6 k0_pay1) ∗ owns (c : Thread nD τ) arg13 fullShare (k0_pay2)) -∗ K ⟨⟩))
    ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [whole_writes hz]
    try simp only [View.readAt_eq_ld, harg2.read_unread, harg3.read_unread, harg4.read_unread, harg5.read_unread, harg6.read_unread, harg7.read_unread, harg8.read_unread, harg9.read_unread, View.ld_unit_zero (S := S512x2048) hz, View.ld_unit_zero (S := S32x2048) hz, View.ld_unit_zero (S := S2048x512) hz, View.ld_unit_zero (S := S1x2048) hz, View.readCov_unit_zero (S := S512x2048) _ hz]
  iexists _; isplitr; swap; · iexact H9
  ipureintro
  sl_unfold_words
  rw [whole_writes hz]
  try simp only [View.readAt_eq_ld, harg2.read_unread, harg3.read_unread, harg4.read_unread, harg5.read_unread, harg6.read_unread, harg7.read_unread, harg8.read_unread, harg9.read_unread, View.ld_unit_zero (S := S512x2048) hz, View.ld_unit_zero (S := S32x2048) hz, View.ld_unit_zero (S := S2048x512) hz, View.ld_unit_zero (S := S1x2048) hz, View.readCov_unit_zero (S := S32x2048) _ hz]

set_option maxHeartbeats 4000000 in
/-- A middle block of a later tile. -/
theorem body_E (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S32x2048 .bf16) (harg4 : arg4.IsWhole) (arg5 : Memref sig .tc .vmem S32x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S32x2048 .f32) (harg11 : arg11.IsWhole) (arg12 : Memref sig .tc .vmem S512x2048 .f32) (harg12 : arg12.IsWhole) (arg13 : Memref sig .tc .vmem S32x2048 .f32) (harg13 : arg13.IsWhole) (hc0 : ¬cond0 i) (hc1 : ¬cond1 i) (hc2 : cond2 i) (hc3 : ¬cond3 i) (hc4 : ¬cond4 i)
    (x0 : Vec F S512x2048 .bf16) (x1 : Vec F S512x2048 .f32) (x2 : Vec F S32x2048 .bf16) (x3 : Vec F S32x2048 .f32) (x4 : Vec F S2048x512 .bf16) (x5 : Vec F S2048x512 .bf16) (x6 : Vec F S512x2048 .bf16) (x7 : Vec F S1x2048 .f32) (a0 : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare a0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg12 fullShare (k0_pay6 x0 x4 x5 x6 a0)) -∗ K ⟨⟩))
    ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf8
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; swap; · iexact H8
  ipureintro
  sl_unfold_words
  rw [whole_writes hz]
  try simp only [View.readAt_eq_ld, harg2.read_unread, harg3.read_unread, harg4.read_unread, harg5.read_unread, harg6.read_unread, harg7.read_unread, harg8.read_unread, harg9.read_unread, harg12.read_unread, View.ld_unit_zero (S := S512x2048) hz, View.ld_unit_zero (S := S32x2048) hz, View.ld_unit_zero (S := S2048x512) hz, View.ld_unit_zero (S := S1x2048) hz, View.readCov_unit_zero (S := S512x2048) _ hz]

set_option maxHeartbeats 4000000 in
/-- The last block of a later tile: the prompt rows are stored. -/
theorem body_F (c : Dev nD) (i : grid0.Coords) (arg2 : Memref sig .tc .vmem S512x2048 .bf16) (harg2 : arg2.IsWhole) (arg3 : Memref sig .tc .vmem S512x2048 .f32) (harg3 : arg3.IsWhole) (arg4 : Memref sig .tc .vmem S32x2048 .bf16) (harg4 : arg4.IsWhole) (arg5 : Memref sig .tc .vmem S32x2048 .f32) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S32x2048 .f32) (harg11 : arg11.IsWhole) (arg12 : Memref sig .tc .vmem S512x2048 .f32) (harg12 : arg12.IsWhole) (arg13 : Memref sig .tc .vmem S32x2048 .f32) (harg13 : arg13.IsWhole) (hc0 : ¬cond0 i) (hc1 : ¬cond1 i) (hc2 : cond2 i) (hc3 : cond3 i) (hc4 : ¬cond4 i)
    (x0 : Vec F S512x2048 .bf16) (x1 : Vec F S512x2048 .f32) (x2 : Vec F S32x2048 .bf16) (x3 : Vec F S32x2048 .f32) (x4 : Vec F S2048x512 .bf16) (x5 : Vec F S2048x512 .bf16) (x6 : Vec F S512x2048 .bf16) (x7 : Vec F S1x2048 .f32) (a0 : Vec F S512x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg12 fullShare a0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay7 x1 (k0_pay6 x0 x4 x5 x6 a0) x7) ∗ owns (c : Thread nD τ) arg12 fullShare (k0_pay6 x0 x4 x5 x6 a0)) -∗ K ⟨⟩))
    ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf9
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    sl_unfold_words
    rw [whole_writes hz]
    try simp only [View.readAt_eq_ld, harg2.read_unread, harg3.read_unread, harg4.read_unread, harg5.read_unread, harg6.read_unread, harg7.read_unread, harg8.read_unread, harg9.read_unread, harg12.read_unread, View.ld_unit_zero (S := S512x2048) hz, View.ld_unit_zero (S := S32x2048) hz, View.ld_unit_zero (S := S2048x512) hz, View.ld_unit_zero (S := S1x2048) hz, View.readCov_unit_zero (S := S512x2048) _ hz]
  iexists _; isplitr; swap; · iexact H9
  ipureintro
  sl_unfold_words
  rw [whole_writes hz]
  try simp only [View.readAt_eq_ld, harg2.read_unread, harg3.read_unread, harg4.read_unread, harg5.read_unread, harg6.read_unread, harg7.read_unread, harg8.read_unread, harg9.read_unread, harg12.read_unread, View.ld_unit_zero (S := S512x2048) hz, View.ld_unit_zero (S := S32x2048) hz, View.ld_unit_zero (S := S2048x512) hz, View.ld_unit_zero (S := S1x2048) hz, View.readCov_unit_zero (S := S512x2048) _ hz]

end Cert.KernelIdeal.Ffn

end
-- ==== Proof.FfnRun.lean ====
/- The feed-forward kernel's run: what its two running sums hold after each grid point, what each output's buffer
   holds there, and the run of the whole program from these. -/
module

public import proofs.«01_k».proof.Proof.FfnBody
public import Idealize.ShloMosaic.Lib.Pipeline.TableIdle

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, over the points -/

theorem hcond0 : ∀ t : Fin cfg0.N, cond0 (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0, e0, e1]
    word_cmp
   : ∀ t : Fin grid0.N, cond0 (grid0.coords t) ↔ t.val % 11 = 0)

theorem hcond1 : ∀ t : Fin cfg0.N, cond1 (grid0.coords t) ↔ t.val < 11 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond1, e0, e1]
    word_cmp
   : ∀ t : Fin grid0.N, cond1 (grid0.coords t) ↔ t.val < 11)

theorem hcond2 : ∀ t : Fin cfg0.N, cond2 (grid0.coords t) ↔ 11 ≤ t.val :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond2, e0, e1]
    word_cmp
   : ∀ t : Fin grid0.N, cond2 (grid0.coords t) ↔ 11 ≤ t.val)

theorem hcond3 : ∀ t : Fin cfg0.N, cond3 (grid0.coords t) ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond3, k0_cond4, e0, e1]
    word_cmp
   : ∀ t : Fin grid0.N, cond3 (grid0.coords t) ↔ t.val % 11 = 10)

theorem hcond4 : ∀ t : Fin cfg0.N, cond4 (grid0.coords t) ↔ t.val % 176 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond4, k0_cond5, e0, e1]
    word_cmp
   : ∀ t : Fin grid0.N, cond4 (grid0.coords t) ↔ t.val % 176 = 10)

/-- The prompt output is stored at the last block of a tile only; -/
theorem idle8 (t : Fin cfg0.N) (h : ¬t.val % 11 = 10) : cfg0.idle 8 (grid0.coords t) = true := by
  have := fun h' => h ((hcond3 t).mp h')
  show (!decide _ : Bool) = true
  simpa using this
theorem live8 (t : Fin cfg0.N) (h : t.val % 11 = 10) : cfg0.idle 8 (grid0.coords t) = false := by
  have := (hcond3 t).mpr h
  show (!decide _ : Bool) = false
  simpa using this
/-- the sample output at the last block of the first tile only. -/
theorem idle9 (t : Fin cfg0.N) (h : ¬t.val % 176 = 10) : cfg0.idle 9 (grid0.coords t) = true := by
  have := fun h' => h ((hcond4 t).mp h')
  show (!decide _ : Bool) = true
  simpa using this
theorem live9 (t : Fin cfg0.N) (h : t.val % 176 = 10) : cfg0.idle 9 (grid0.coords t) = false := by
  have := (hcond4 t).mpr h
  show (!decide _ : Bool) = false
  simpa using this

/-- At the last point the sample output's buffer has been stored into. -/
theorem fresh9 : cfg0.fresh 9 175 = false := by decide +kernel

/-! ## The running sums -/

/-- The two running sums after point `n`: the prompt tile's, zero at each tile's first block; the sample rows',
    over the first tile's blocks, at zero at each later tile's start. -/
def st (c : Dev nD) : (n : ℕ) → n < cfg0.N → Vec F S512x2048 .f32 × Vec F S32x2048 .f32
  | 0, hn => (k0_pay4 (iblk m c 0 ⟨0, hn⟩) (iblk m c 2 ⟨0, hn⟩) (iblk m c 4 ⟨0, hn⟩) (iblk m c 5 ⟨0, hn⟩) (iblk m c 6 ⟨0, hn⟩) k0_pay1,
      k0_pay5 (iblk m c 0 ⟨0, hn⟩) (iblk m c 2 ⟨0, hn⟩) (iblk m c 4 ⟨0, hn⟩) (iblk m c 5 ⟨0, hn⟩) (iblk m c 6 ⟨0, hn⟩) k0_pay2)
  | n + 1, hn =>
    if (n + 1) % 11 = 0 then (k0_pay6 (iblk m c 0 ⟨n + 1, hn⟩) (iblk m c 4 ⟨n + 1, hn⟩) (iblk m c 5 ⟨n + 1, hn⟩) (iblk m c 6 ⟨n + 1, hn⟩) k0_pay1, k0_pay2)
    else if n + 1 < 11 then
      (k0_pay4 (iblk m c 0 ⟨n + 1, hn⟩) (iblk m c 2 ⟨n + 1, hn⟩) (iblk m c 4 ⟨n + 1, hn⟩) (iblk m c 5 ⟨n + 1, hn⟩) (iblk m c 6 ⟨n + 1, hn⟩) (st c n (Nat.lt_of_succ_lt hn)).1,
       k0_pay5 (iblk m c 0 ⟨n + 1, hn⟩) (iblk m c 2 ⟨n + 1, hn⟩) (iblk m c 4 ⟨n + 1, hn⟩) (iblk m c 5 ⟨n + 1, hn⟩) (iblk m c 6 ⟨n + 1, hn⟩) (st c n (Nat.lt_of_succ_lt hn)).2)
    else (k0_pay6 (iblk m c 0 ⟨n + 1, hn⟩) (iblk m c 4 ⟨n + 1, hn⟩) (iblk m c 5 ⟨n + 1, hn⟩) (iblk m c 6 ⟨n + 1, hn⟩) (st c n (Nat.lt_of_succ_lt hn)).1, (st c n (Nat.lt_of_succ_lt hn)).2)

theorem st_A (c : Dev nD) (t : Fin cfg0.N) (hz : t.val = 0) :
    st m c t.val t.isLt = (k0_pay4 (iblk m c 0 t) (iblk m c 2 t) (iblk m c 4 t) (iblk m c 5 t) (iblk m c 6 t) k0_pay1,
      k0_pay5 (iblk m c 0 t) (iblk m c 2 t) (iblk m c 4 t) (iblk m c 5 t) (iblk m c 6 t) k0_pay2) := by
  obtain ⟨n, hn⟩ := t; dsimp only at hz; subst hz; rfl
theorem st_B (c : Dev nD) (t : Fin cfg0.N) (h0 : ¬t.val % 11 = 0) (h1 : t.val < 11) :
    st m c t.val t.isLt = (k0_pay4 (iblk m c 0 t) (iblk m c 2 t) (iblk m c 4 t) (iblk m c 5 t) (iblk m c 6 t) (st m c (t.val - 1) (by omega)).1,
      k0_pay5 (iblk m c 0 t) (iblk m c 2 t) (iblk m c 4 t) (iblk m c 5 t) (iblk m c 6 t) (st m c (t.val - 1) (by omega)).2) := by
  obtain ⟨n, hn⟩ := t
  cases n with
  | zero => exact absurd (Nat.zero_mod _) h0
  | succ n => exact (if_neg h0).trans (if_pos h1)
theorem st_D (c : Dev nD) (t : Fin cfg0.N) (h0 : t.val % 11 = 0) (h1 : ¬t.val < 11) :
    st m c t.val t.isLt = (k0_pay6 (iblk m c 0 t) (iblk m c 4 t) (iblk m c 5 t) (iblk m c 6 t) k0_pay1, k0_pay2) := by
  obtain ⟨n, hn⟩ := t
  cases n with
  | zero => exact absurd (show (0 : ℕ) < 11 by decide) h1
  | succ n => exact if_pos h0
theorem st_E (c : Dev nD) (t : Fin cfg0.N) (h0 : ¬t.val % 11 = 0) (h1 : ¬t.val < 11) :
    st m c t.val t.isLt = (k0_pay6 (iblk m c 0 t) (iblk m c 4 t) (iblk m c 5 t) (iblk m c 6 t) (st m c (t.val - 1) (by omega)).1,
      (st m c (t.val - 1) (by omega)).2) := by
  obtain ⟨n, hn⟩ := t
  cases n with
  | zero => exact absurd (Nat.zero_mod _) h0
  | succ n => exact (if_neg h0).trans (if_neg h1)

/-- The point that stores the sample output. -/
abbrev t10 : Fin cfg0.N := ⟨10, lt_of_lt_of_eq (by decide : 10 < 176) N_0.symm⟩

/-- What a tile's prompt output is: at its last block, the normalised sum. -/
def yv (c : Dev nD) (t : Fin cfg0.N) : Vec F S512x2048 .f32 := k0_pay7 (iblk m c 1 t) (st m c t.val t.isLt).1 (iblk m c 7 t)
/-- What the sample output is. -/
def ysv (c : Dev nD) : Vec F S32x2048 .f32 := k0_pay8 (iblk m c 3 t10) (st m c t10.val t10.isLt).2 (iblk m c 7 t10)

theorem ysv_eq (c : Dev nD) (t : Fin cfg0.N) (h : t.val = 10) : ysv m c = k0_pay8 (iblk m c 3 t) (st m c t.val t.isLt).2 (iblk m c 7 t) := by
  obtain rfl : t = t10 := Fin.ext h
  rfl

abbrev scM0 : Memref sig .tc .vmem S512x2048 .f32 := Memref.whole cc0_scratch0
abbrev scM1 : Memref sig .tc .vmem S32x2048 .f32 := Memref.whole cc0_scratch1

/-- The invariant before point `n`: at first the scratch at anything, afterwards at what the point before left. -/
def PhiS (c : Dev nD) : (n : ℕ) → n ≤ cfg0.N → sProp 𝕄
  | 0, _ => Pipeline.ΦA spec0 c
  | n + 1, hn => iprop(iprop(owns (c : Thread nD τ) scM0 fullShare (st m c n hn).1 ∗ owns (c : Thread nD τ) scM1 fullShare (st m c n hn).2) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare (st m c n hn).1 ∗ owns (c : Thread nD τ) scM1 fullShare (st m c n hn).2) ∗ (∃ r, prngReg c r)) := rfl
theorem PhiS_pos (c : Dev nD) (n : ℕ) (h : n ≤ cfg0.N) (hz : n ≠ 0) :
    PhiS m c n h = iprop(iprop(owns (c : Thread nD τ) scM0 fullShare (st m c (n - 1) (by omega)).1 ∗ owns (c : Thread nD τ) scM1 fullShare (st m c (n - 1) (by omega)).2) ∗ (∃ r, prngReg c r)) := by
  cases n with
  | zero => exact absurd rfl hz
  | succ n => rfl
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The proof data: inputs at their blocks, the outputs at `yv` and `ysv`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yv m c t
    | ⟨9, _⟩ => ysv m c
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = yv m c t := by dsimp only [dats]
theorem after_9 (c : Dev nD) (t : Fin cfg0.N) : (dats m 0 c).after 9 t = ysv m c := by dsimp only [dats]

theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) :
    (dats m 0 c).leavesExact 0 t = owns (c : Thread nD τ) (win0_0.stage (cfg0.slots t 0)) fullShare (iblk m c 0 t) := by
  rw [← after_0 m c t]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) :
    (dats m 0 c).leavesExact 1 t = owns (c : Thread nD τ) (win0_1.stage (cfg0.slots t 1)) fullShare (iblk m c 1 t) := by
  rw [← after_1 m c t]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) :
    (dats m 0 c).leavesExact 2 t = owns (c : Thread nD τ) (win0_2.stage (cfg0.slots t 2)) fullShare (iblk m c 2 t) := by
  rw [← after_2 m c t]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) :
    (dats m 0 c).leavesExact 3 t = owns (c : Thread nD τ) (win0_3.stage (cfg0.slots t 3)) fullShare (iblk m c 3 t) := by
  rw [← after_3 m c t]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) :
    (dats m 0 c).leavesExact 4 t = owns (c : Thread nD τ) (win0_4.stage (cfg0.slots t 4)) fullShare (iblk m c 4 t) := by
  rw [← after_4 m c t]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) :
    (dats m 0 c).leavesExact 5 t = owns (c : Thread nD τ) (win0_5.stage (cfg0.slots t 5)) fullShare (iblk m c 5 t) := by
  rw [← after_5 m c t]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) :
    (dats m 0 c).leavesExact 6 t = owns (c : Thread nD τ) (win0_6.stage (cfg0.slots t 6)) fullShare (iblk m c 6 t) := by
  rw [← after_6 m c t]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) :
    (dats m 0 c).leavesExact 7 t = owns (c : Thread nD τ) (win0_7.stage (cfg0.slots t 7)) fullShare (iblk m c 7 t) := by
  rw [← after_7 m c t]
theorem leaves_8 (c : Dev nD) (t : Fin cfg0.N) (h : t.val % 11 = 10) :
    (dats m 0 c).leavesExact 8 t = owns (c : Thread nD τ) (win0_8.stage (cfg0.slots t 8)) fullShare (yv m c t) := by
  rw [← after_8 m c t]; unfold Dat.leavesExact; rw [show cfg0.idle 8 (cfg0.grid.coords t) = false from live8 t h]
theorem leaves_8_idle (c : Dev nD) (t : Fin cfg0.N) (h : ¬t.val % 11 = 10) :
    (dats m 0 c).leavesExact 8 t = iprop(∃ d, owns (c : Thread nD τ) (win0_8.stage (cfg0.slots t 8)) fullShare ((dats m 0 c).before 8 t d)) :=
  Dat.leavesExact_idle (dats m 0 c) 8 t (idle8 t h) (Bool.eq_false_iff.mpr fun hf => h ((flush0_8 t).mp hf))
theorem leaves_9 (c : Dev nD) (t : Fin cfg0.N) (h : t.val % 176 = 10) :
    (dats m 0 c).leavesExact 9 t = owns (c : Thread nD τ) (win0_9.stage (cfg0.slots t 9)) fullShare (ysv m c) := by
  rw [← after_9 m c t]; unfold Dat.leavesExact; rw [show cfg0.idle 9 (cfg0.grid.coords t) = false from live9 t h]
theorem before_9_last (c : Dev nD) (t : Fin cfg0.N) (h : t.val = 175) (d) : (dats m 0 c).before 9 t d = ysv m c := by
  refine (Dat.before_out_traj (dats m 0 c) 9 rfl (fun _ _ => rfl) (fun t _ _ _ => by rw [after_9, after_9]) t.val t rfl d).trans ?_
  rw [if_neg (by rw [h, fresh9]; exact Bool.false_ne_true)]; exact after_9 m c _
/-- What the body hands back of the sample output where it stores nothing into it: what it found. -/
theorem leaves_9_idle (c : Dev nD) (t : Fin cfg0.N) (h : ¬t.val % 176 = 10) :
    iprop(∃ d, owns (c : Thread nD τ) (win0_9.stage (cfg0.slots t 9)) fullShare ((dats m 0 c).before 9 t d)) ⊢ (dats m 0 c).leavesExact 9 t := by
  have hN : t.val < 176 := lt_of_lt_of_eq t.isLt (show cfg0.N = 176 from N_0)
  by_cases hl : t.val = 175
  · iintro ⟨%d, H⟩
    rw [before_9_last m c t hl d, ← after_9 m c t]
    unfold Dat.leavesExact
    rw [show cfg0.idle 9 (cfg0.grid.coords t) = true from idle9 t h, (flush0_9 t).mpr (by omega)]
    iexact H
  · rw [Dat.leavesExact_idle (dats m 0 c) 9 t (idle9 t h) (Bool.eq_false_iff.mpr fun hf => hl (by have := (flush0_9 t).mp hf; omega))]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  simp only [leaves_0, leaves_1, leaves_2, leaves_3, leaves_4, leaves_5, leaves_6, leaves_7]
  have hN : t.val < 176 := lt_of_lt_of_eq t.isLt (show cfg0.N = 176 from N_0)
  by_cases h0 : t.val % 11 = 0
  · have h3 : ¬t.val % 11 = 10 := by omega
    by_cases h1 : t.val < 11
    · rw [PhiS_zero m c _ _ (by omega), PhiA0_eq]
      rw [leaves_8_idle m c t h3]
      rw [st_A m c t (by omega)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (body_A c (grid0.coords t) _ _ _ _ _ _ _ _ _ _ _ _ _ _ _ _ _ _ _ _ _ _ _ _ ((hcond0 t).mpr (by omega)) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply (leaves_9_idle m c t (by omega)); iexact H9
    · rw [PhiS_pos m c _ _ (by omega)]
      rw [leaves_8_idle m c t h3]
      rw [st_D m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
      iapply (body_D c (grid0.coords t) _ _ _ _ _ _ _ _ _ _ _ _ _ _ _ _ _ _ _ _ _ _ _ _ ((hcond0 t).mpr (by omega)) (fun h => absurd ((hcond1 t).mp h) (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply (leaves_9_idle m c t (by omega)); iexact H9
  · by_cases h1 : t.val < 11
    · by_cases h3 : t.val % 11 = 10
      · rw [PhiS_pos m c _ _ (by omega)]
        rw [leaves_8 m c t h3]
        rw [leaves_9 m c t (by omega)]
        rw [ysv_eq m c t (by omega)]
        rw [show yv m c t = k0_pay7 (iblk m c 1 t) (st m c t.val t.isLt).1 (iblk m c 7 t) from rfl]
        rw [st_B m c t h0 h1]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
        iapply (body_C c (grid0.coords t) _ _ _ _ _ _ _ _ _ _ _ _ _ _ _ _ _ _ _ _ _ _ _ _ (fun h => absurd ((hcond0 t).mp h) (by omega)) ((hcond1 t).mpr (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) (st m c (t.val - 1) (by omega)).1 (st m c (t.val - 1) (by omega)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · icases H8 with ⟨%d8, H8⟩; iexists _; iexact H8
        isplitl [H9]; · icases H9 with ⟨%d9, H9⟩; iexists _; iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · rw [PhiS_pos m c _ _ (by omega)]
        rw [leaves_8_idle m c t h3]
        rw [st_B m c t h0 h1]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
        iapply (body_B c (grid0.coords t) _ _ _ _ _ _ _ _ _ _ _ _ _ _ _ _ _ _ _ _ _ _ _ _ (fun h => absurd ((hcond0 t).mp h) (by omega)) ((hcond1 t).mpr (by omega)) (fun h => absurd ((hcond2 t).mp h) (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (st m c (t.val - 1) (by omega)).1 (st m c (t.val - 1) (by omega)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iapply (leaves_9_idle m c t (by omega)); iexact H9
    · by_cases h3 : t.val % 11 = 10
      · rw [PhiS_pos m c _ _ (by omega)]
        rw [leaves_8 m c t h3]
        rw [show yv m c t = k0_pay7 (iblk m c 1 t) (st m c t.val t.isLt).1 (iblk m c 7 t) from rfl]
        rw [st_E m c t h0 h1]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
        iapply (body_F c (grid0.coords t) _ _ _ _ _ _ _ _ _ _ _ _ _ _ _ _ _ _ _ _ _ _ _ _ (fun h => absurd ((hcond0 t).mp h) (by omega)) (fun h => absurd ((hcond1 t).mp h) (by omega)) ((hcond2 t).mpr (by omega)) ((hcond3 t).mpr (by omega)) (fun h => absurd ((hcond4 t).mp h) (by omega)) (iblk m c 0 t) (iblk m c 1 t) (iblk m c 2 t) (iblk m c 3 t) (iblk m c 4 t) (iblk m c 5 t) (iblk m c 6 t) (iblk m c 7 t) (st m c (t.val - 1) (by omega)).1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · icases H8 with ⟨%d8, H8⟩; iexists _; iexact H8
        isplitl [HS0]; · iexact HS0
        iintro ⟨H0, H1, H2, H3, H4, H5, H6, H7, H8, HS0⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iapply (leaves_9_idle m c t (by omega)); iexact H9
      · rw [PhiS_pos m c _ _ (by omega)]
        rw [leaves_8_idle m c t h3]
        rw [st_E m c t h0 h1]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
        iapply (body_E c (grid0.coords t) _ _ _ _ _ _ _ _ _ _ _ _ _ _ _ _ _ _ _ _ _ _ _ _ (fun h => absurd ((hcond0 t).mp h) (by omega)) (fun h => absurd ((hcond1 t).mp h) (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (st m c (t.val - 1) (by omega)).1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, HS0⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iapply (leaves_9_idle m c t (by omega)); iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hz : (Fin.last cfg0.N).val ≠ 0 := by rw [Fin.val_last]; have : cfg0.N = 176 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- The whole program's run: every array of the kernel ends as the proof data says, the counters at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelIdeal.Ffn

end
-- ==== Proof.Spec.lean ====
/- The layer's parts in closed form over the extended reals, row by row: what both programs of a pair are compared with. -/
module

public import Idealize.ShloMosaic.Lib.Pipeline.ValueKit
public import Idealize.ShloMosaic.Lib.Pointwise

@[expose] public section

noncomputable section

namespace Cert.Spec

open Idealize.ShloMosaic

/-- A hidden unit of the feed-forward part: the gate's product through the swish function, times the other product. -/
def act {K : ℕ} (x wg wu : Fin K → EReal) : EReal :=
  (∑ k, x k * wg k) * Ideal.logistic (∑ k, x k * wg k) * ∑ k, x k * wu k

/-- A row divided by the root of its mean square (`n` its length as the programs write it, `e` the small number
    added), times a scale. -/
def rmsn {K : ℕ} (n e : EReal) (r g : Fin K → EReal) (d : Fin K) : EReal :=
  r d * Ideal.rsqrt (Ideal.div (∑ k, r k * r k) n + e) * g d

/-- The feed-forward part's result at row `r`, column `d`. -/
def ffn {R : ℕ} (h x : Fin R → Fin 2048 → EReal) (w : Fin 2048 → Fin 11264 → EReal) (wd : Fin 5632 → Fin 2048 → EReal)
    (g : Fin 2048 → EReal) (r : Fin R) (d : Fin 2048) : EReal :=
  rmsn (Ideal.ofBits .f32 0x45000000#32) (Ideal.ofBits .f32 0x3727C5AC#32)
    (fun k => x r k + ∑ j : Fin 5632, act (h r) (fun k => w k ⟨j.val, by omega⟩) (fun k => w k ⟨5632 + j.val, by omega⟩) * wd j k) g d

end Cert.Spec

end
-- ==== Proof.FfnPure.lean ====
/- The feed-forward kernel's stored values, read at an index over the extended reals. -/
module

public import proofs.«01_k».proof.Proof.Spec
public import proofs.«01_k».proof.Proof.Gen.KernelIdeal.Skeleton

@[expose] public section

set_option maxRecDepth 16384

noncomputable section

namespace Cert.KernelIdeal.Ffn

open Idealize.ShloMosaic Idealize.ShloMosaic.TcCoe Idealize.SL.Sem
open Cert.KernelIdeal Cert.KernelIdeal.Gen Cert.Spec

variable (h : FVec Ideal S512x2048 .bf16) (hs : FVec Ideal S32x2048 .bf16) (wg wu : FVec Ideal S2048x512 .bf16)
  (wd : FVec Ideal S512x2048 .bf16)

theorem pay1_apply (j : S512x2048.Idx) : k0_pay1 (F := Ideal) j = 0 := by pointwise [k0_pay1]
theorem pay2_apply (j : S32x2048.Idx) : k0_pay2 (F := Ideal) j = 0 := by pointwise [k0_pay2]

theorem pay3_apply_lo (r : Fin 544) (d : Fin 2048) (hr : r.val < 512) :
    k0_pay3 (F := Ideal) h hs wg wu wd (ix2 r d)
      = ∑ j : Fin 512, act (fun k => h (ix2 (⟨r.val, hr⟩ : Fin 512) k)) (fun k => wg (ix2 k j)) (fun k => wu (ix2 k j)) * wd (ix2 j d) := by
  pointwise [k0_pay3, act, hr]
theorem pay4_apply (acc : FVec Ideal S512x2048 .f32) (r : Fin 512) (d : Fin 2048) :
    k0_pay4 (F := Ideal) h hs wg wu wd acc (ix2 r d)
      = acc (ix2 r d) + ∑ j : Fin 512, act (fun k => h (ix2 r k)) (fun k => wg (ix2 k j)) (fun k => wu (ix2 k j)) * wd (ix2 j d) := by
  pointwise [k0_pay4, k0_pay3, act]
theorem pay5_apply (acc : FVec Ideal S32x2048 .f32) (r : Fin 32) (d : Fin 2048) :
    k0_pay5 (F := Ideal) h hs wg wu wd acc (ix2 r d)
      = acc (ix2 r d) + ∑ j : Fin 512, act (fun k => hs (ix2 r k)) (fun k => wg (ix2 k j)) (fun k => wu (ix2 k j)) * wd (ix2 j d) := by
  pointwise [k0_pay5, k0_pay3, act]
theorem pay6_apply (acc : FVec Ideal S512x2048 .f32) (r : Fin 512) (d : Fin 2048) :
    k0_pay6 (F := Ideal) h wg wu wd acc (ix2 r d)
      = acc (ix2 r d) + ∑ j : Fin 512, act (fun k => h (ix2 r k)) (fun k => wg (ix2 k j)) (fun k => wu (ix2 k j)) * wd (ix2 j d) := by
  pointwise [k0_pay6, act]
theorem pay7_apply (x acc : FVec Ideal S512x2048 .f32) (g : FVec Ideal S1x2048 .f32) (r : Fin 512) (d : Fin 2048) :
    k0_pay7 (F := Ideal) x acc g (ix2 r d)
      = rmsn (Ideal.ofBits .f32 0x45000000#32) (Ideal.ofBits .f32 0x3727C5AC#32) (fun k => x (ix2 r k) + acc (ix2 r k)) (fun k => g (ix2 0 k)) d := by
  pointwise [k0_pay7, rmsn]
theorem pay8_apply (x acc : FVec Ideal S32x2048 .f32) (g : FVec Ideal S1x2048 .f32) (r : Fin 32) (d : Fin 2048) :
    k0_pay8 (F := Ideal) x acc g (ix2 r d)
      = rmsn (Ideal.ofBits .f32 0x45000000#32) (Ideal.ofBits .f32 0x3727C5AC#32) (fun k => x (ix2 r k) + acc (ix2 r k)) (fun k => g (ix2 0 k)) d := by
  pointwise [k0_pay8, rmsn]

end Cert.KernelIdeal.Ffn

end
-- ==== Proof.FfnValue.lean ====
/- The feed-forward kernel's two result arrays over the extended reals. -/
module

public import proofs.«01_k».proof.Proof.FfnRun
public import proofs.«01_k».proof.Proof.FfnPure

@[expose] public section

set_option maxRecDepth 16384

noncomputable section

namespace Cert.KernelIdeal.Ffn

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ)

theorem idx : ∀ t : Fin cfg0.N, win0_0.index t = ![t.val / 11, 0] ∧ win0_1.index t = ![t.val / 11, 0] ∧ win0_2.index t = ![0, 0]
    ∧ win0_3.index t = ![0, 0] ∧ win0_4.index t = ![0, t.val % 11] ∧ win0_5.index t = ![0, 11 + t.val % 11] ∧ win0_6.index t = ![t.val % 11, 0]
    ∧ win0_7.index t = ![0, 0] ∧ win0_8.index t = ![t.val / 11, 0] ∧ win0_9.index t = ![0, 0] :=
  (by decide +kernel : ∀ t : Fin grid0.N, _)

/-- What point `t` adds to the prompt tile's sum, -/
def term0 (c : Dev nD) (t : Fin cfg0.N) (i : S512x2048.Idx) : EReal :=
  ∑ j : Fin 512, act (fun k => (show FVec Ideal S512x2048 .bf16 from iblk m c 0 t) (ix2 (i 0) k))
    (fun k => (show FVec Ideal S2048x512 .bf16 from iblk m c 4 t) (ix2 k j)) (fun k => (show FVec Ideal S2048x512 .bf16 from iblk m c 5 t) (ix2 k j))
    * (show FVec Ideal S512x2048 .bf16 from iblk m c 6 t) (ix2 j (i 1))
/-- and to the sample rows'. -/
def term1 (c : Dev nD) (t : Fin cfg0.N) (i : S32x2048.Idx) : EReal :=
  ∑ j : Fin 512, act (fun k => (show FVec Ideal S32x2048 .bf16 from iblk m c 2 t) (ix2 (i 0) k))
    (fun k => (show FVec Ideal S2048x512 .bf16 from iblk m c 4 t) (ix2 k j)) (fun k => (show FVec Ideal S2048x512 .bf16 from iblk m c 5 t) (ix2 k j))
    * (show FVec Ideal S512x2048 .bf16 from iblk m c 6 t) (ix2 j (i 1))

theorem st_reset (c : Dev nD) (t : Fin cfg0.N) (h : t.val % 11 = 0) (i : S512x2048.Idx) :
    (st m c t.val t.isLt).1 i = (fun _ => (0 : EReal)) i + term0 m c t i := by
  rw [eq_ix2 i]
  by_cases h1 : t.val < 11
  · rw [st_A m c t (by omega)]
    exact (pay4_apply _ _ _ _ _ _ _ _).trans (congrArg (· + _) (pay1_apply _))
  · rw [st_D m c t h h1]
    exact (pay6_apply _ _ _ _ _ _ _).trans (congrArg (· + _) (pay1_apply _))
theorem st_step (c : Dev nD) (t : Fin cfg0.N) (h : ¬t.val % 11 = 0) (i : S512x2048.Idx) :
    (st m c t.val t.isLt).1 i = (st m c (t.val - 1) (Nat.lt_of_le_of_lt (Nat.sub_le _ _) t.isLt)).1 i + term0 m c t i := by
  rw [eq_ix2 i]
  by_cases h1 : t.val < 11
  · rw [st_B m c t h h1]
    exact pay4_apply _ _ _ _ _ _ _ _
  · rw [st_E m c t h h1]
    exact pay6_apply _ _ _ _ _ _ _

theorem st_flush (c : Dev nD) (t : Fin cfg0.N) (h : t.val % 11 = 10) (i : S512x2048.Idx) :
    (st m c t.val t.isLt).1 i = 0 + ∑ s : Fin 11, term0 m c ⟨11 * (t.val / 11) + s.val, Pipeline.run_point_lt_of_flush t h s⟩ i :=
  Pipeline.eq_sum_fin_of_reset_step_apply_of_flush (fun n h => (st m c n h).1) 11 (fun _ => (0 : EReal)) (term0 m c)
    (st_reset m c) (st_step m c) t h i

/-- The sample rows' sum over the first tile's points. -/
theorem st1_sum (c : Dev nD) (i : S32x2048.Idx) : ∀ (n : ℕ) (hn : n < cfg0.N) (h : n < 11),
    (st m c n hn).2 i = ∑ s : Fin (n + 1), term1 m c ⟨s.val, by omega⟩ i
  | 0, hn, h => by
    rw [eq_ix2 i, st_A m c ⟨0, hn⟩ rfl, Fin.sum_univ_one]
    exact (pay5_apply _ _ _ _ _ _ _ _).trans ((congrArg (· + _) (pay2_apply _)).trans (zero_add _))
  | n + 1, hn, h => by
    rw [Fin.sum_univ_castSucc]
    refine Eq.trans ?_ (congrArg₂ (· + ·) (st1_sum c i n (by omega) (by omega)) rfl)
    rw [eq_ix2 i, st_B m c ⟨n + 1, hn⟩ (by show ¬ (n + 1) % 11 = 0; omega) h]
    exact pay5_apply _ _ _ _ _ _ _ _

abbrev REF {R : ℕ} (h : FVec Ideal ⟨2, ![R, 2048]⟩ .bf16) (x : FVec Ideal ⟨2, ![R, 2048]⟩ .f32) (w : FVec Ideal S2048x11264 .bf16) (wd : FVec Ideal S5632x2048 .bf16)
    (g : FVec Ideal S2048 .f32) : FVec Ideal ⟨2, ![R, 2048]⟩ .f32 := fun i =>
  ffn (fun r k => h (ix2 r k)) (fun r k => x (ix2 r k)) (fun k j => w (ix2 k j)) (fun j k => wd (ix2 j k)) (fun k => g (ix1 k)) (i 0) (i 1)

/-! ## The blocks, in the arrays' own coordinates -/

theorem nlt (t : Fin cfg0.N) : t.val < 176 := lt_of_lt_of_eq t.isLt (show cfg0.N = 176 from N_0)

theorem iblk0 (c : Dev nD) (t : Fin cfg0.N) (r : Fin 512) (k : Fin 2048) (R : Fin 8192) (hR : R.val = 512 * (t.val / 11) + r.val) :
    (show FVec Ideal S512x2048 .bf16 from iblk m c 0 t) (ix2 r k)
      = m ((c : Thread nD τ).loc main_arg0) (ix2 R k) := by
  blk_ext [iblk, V, idx t]
theorem iblk1 (c : Dev nD) (t : Fin cfg0.N) (r : Fin 512) (k : Fin 2048) (R : Fin 8192) (hR : R.val = 512 * (t.val / 11) + r.val) :
    (show FVec Ideal S512x2048 .f32 from iblk m c 1 t) (ix2 r k)
      = m ((c : Thread nD τ).loc main_arg1) (ix2 R k) := by
  blk_ext [iblk, V, idx t]
theorem iblk2 (c : Dev nD) (t : Fin cfg0.N) (r : Fin 32) (k : Fin 2048) :
    (show FVec Ideal S32x2048 .bf16 from iblk m c 2 t) (ix2 r k) = m ((c : Thread nD τ).loc main_arg2) (ix2 r k) := by
  blk_ext [iblk, V, idx t]
theorem iblk3 (c : Dev nD) (t : Fin cfg0.N) (r : Fin 32) (k : Fin 2048) :
    (show FVec Ideal S32x2048 .f32 from iblk m c 3 t) (ix2 r k) = m ((c : Thread nD τ).loc main_arg3) (ix2 r k) := by
  blk_ext [iblk, V, idx t]
theorem iblk4 (c : Dev nD) (t : Fin cfg0.N) (k : Fin 2048) (j : Fin 512) (l : ℕ) (hl : l < 5632) (e : l = t.val % 11 * 512 + j.val) :
    (show FVec Ideal S2048x512 .bf16 from iblk m c 4 t) (ix2 k j)
      = m ((c : Thread nD τ).loc main_arg4) (ix2 k (⟨l, by omega⟩ : Fin 11264)) := by
  subst e; blk_ext [iblk, V, idx t]
theorem iblk5 (c : Dev nD) (t : Fin cfg0.N) (k : Fin 2048) (j : Fin 512) (l : ℕ) (hl : l < 5632) (e : l = t.val % 11 * 512 + j.val) :
    (show FVec Ideal S2048x512 .bf16 from iblk m c 5 t) (ix2 k j)
      = m ((c : Thread nD τ).loc main_arg4) (ix2 k (⟨5632 + l, by omega⟩ : Fin 11264)) := by
  subst e; blk_ext [iblk, V, idx t]
theorem iblk6 (c : Dev nD) (t : Fin cfg0.N) (j : Fin 512) (d : Fin 2048) (l : ℕ) (hl : l < 5632) (e : l = t.val % 11 * 512 + j.val) :
    (show FVec Ideal S512x2048 .bf16 from iblk m c 6 t) (ix2 j d)
      = m ((c : Thread nD τ).loc main_arg5) (ix2 (⟨l, hl⟩ : Fin 5632) d) := by
  subst e; blk_ext [iblk, V, idx t]
theorem iblk7 (c : Dev nD) (t : Fin cfg0.N) (k : Fin 2048) :
    (show FVec Ideal S1x2048 .f32 from iblk m c 7 t) (ix2 0 k) = m ((c : Thread nD τ).loc main_arg6) (ix1 k) := by
  have e : V m c main_v0 = shapeCast S1x2048 (m ((c : Thread nD τ).loc main_arg6)) shapeCasts_S2048_S1x2048 := by entry_read; rfl
  have e2 : (show FVec Ideal S1x2048 .f32 from iblk m c 7 t) (ix2 0 k) = (show FVec Ideal S1x2048 .f32 from V m c main_v0) (ix2 0 k) := by
    blk_ext [iblk, idx t]
  rw [e2, e]
  pointwise

theorem term0_at (c : Dev nD) (t : Fin cfg0.N) (r : Fin 512) (d : Fin 2048) (j : Fin 512) (l : ℕ) (hl : l < 5632) (e : l = t.val % 11 * 512 + j.val)
    (R : Fin 8192) (hR : R.val = 512 * (t.val / 11) + r.val) :
    act (fun k => (show FVec Ideal S512x2048 .bf16 from iblk m c 0 t) (ix2 r k))
      (fun k => (show FVec Ideal S2048x512 .bf16 from iblk m c 4 t) (ix2 k j)) (fun k => (show FVec Ideal S2048x512 .bf16 from iblk m c 5 t) (ix2 k j))
      * (show FVec Ideal S512x2048 .bf16 from iblk m c 6 t) (ix2 j d)
    = act (fun k => m ((c : Thread nD τ).loc main_arg0) (ix2 R k)) (fun k => m ((c : Thread nD τ).loc main_arg4) (ix2 k (⟨l, by omega⟩ : Fin 11264)))
      (fun k => m ((c : Thread nD τ).loc main_arg4) (ix2 k (⟨5632 + l, by omega⟩ : Fin 11264))) * (show EReal from m ((c : Thread nD τ).loc main_arg5) (ix2 (⟨l, hl⟩ : Fin 5632) d)) := by
  refine Ideal.mul_congr ?_ (iblk6 m c t j d l hl e)
  rw [show (fun k => (show FVec Ideal S512x2048 .bf16 from iblk m c 0 t) (ix2 r k)) = _ from funext fun k => iblk0 m c t r k R hR,
    show (fun k => (show FVec Ideal S2048x512 .bf16 from iblk m c 4 t) (ix2 k j)) = _ from funext fun k => iblk4 m c t k j l hl e,
    show (fun k => (show FVec Ideal S2048x512 .bf16 from iblk m c 5 t) (ix2 k j)) = _ from funext fun k => iblk5 m c t k j l hl e]
theorem term1_at (c : Dev nD) (t : Fin cfg0.N) (r : Fin 32) (d : Fin 2048) (j : Fin 512) (l : ℕ) (hl : l < 5632) (e : l = t.val % 11 * 512 + j.val) :
    act (fun k => (show FVec Ideal S32x2048 .bf16 from iblk m c 2 t) (ix2 r k))
      (fun k => (show FVec Ideal S2048x512 .bf16 from iblk m c 4 t) (ix2 k j)) (fun k => (show FVec Ideal S2048x512 .bf16 from iblk m c 5 t) (ix2 k j))
      * (show FVec Ideal S512x2048 .bf16 from iblk m c 6 t) (ix2 j d)
    = act (fun k => m ((c : Thread nD τ).loc main_arg2) (ix2 r k)) (fun k => m ((c : Thread nD τ).loc main_arg4) (ix2 k (⟨l, by omega⟩ : Fin 11264)))
      (fun k => m ((c : Thread nD τ).loc main_arg4) (ix2 k (⟨5632 + l, by omega⟩ : Fin 11264))) * (show EReal from m ((c : Thread nD τ).loc main_arg5) (ix2 (⟨l, hl⟩ : Fin 5632) d)) := by
  refine Ideal.mul_congr ?_ (iblk6 m c t j d l hl e)
  rw [show (fun k => (show FVec Ideal S32x2048 .bf16 from iblk m c 2 t) (ix2 r k)) = _ from funext fun k => iblk2 m c t r k,
    show (fun k => (show FVec Ideal S2048x512 .bf16 from iblk m c 4 t) (ix2 k j)) = _ from funext fun k => iblk4 m c t k j l hl e,
    show (fun k => (show FVec Ideal S2048x512 .bf16 from iblk m c 5 t) (ix2 k j)) = _ from funext fun k => iblk5 m c t k j l hl e]

theorem point8 (c : Dev nD) (t : Fin cfg0.N) (ht : t.val % 11 = 10) (r : Fin 512) (d : Fin 2048) (R : Fin 8192) (hR : R.val = 512 * (t.val / 11) + r.val) :
    yv m c t (ix2 r d) = REF (m ((c : Thread nD τ).loc main_arg0)) (m ((c : Thread nD τ).loc main_arg1)) (m ((c : Thread nD τ).loc main_arg4))
      (m ((c : Thread nD τ).loc main_arg5)) (m ((c : Thread nD τ).loc main_arg6)) (ix2 R d) := by
  refine (pay7_apply _ _ _ r d).trans ?_
  refine congrArg₂ (fun a b => rmsn _ _ a b d) (funext fun k => ?_) (funext fun k => iblk7 m c t k)
  refine Ideal.add_congr ?_ ?_
  · exact iblk1 m c t r k R hR
  · rw [st_flush m c t ht, zero_add]
    unfold term0
    refine Fin.sum_mul_add_congr fun s j hl => ?_
    exact term0_at m c _ r k j _ hl (by show _ = (11 * (t.val / 11) + s.val) % 11 * 512 + j.val; omega) R (by show _ = 512 * ((11 * (t.val / 11) + s.val) / 11) + r.val; omega)

theorem point9 (c : Dev nD) (r : Fin 32) (d : Fin 2048) :
    ysv m c (ix2 r d) = REF (m ((c : Thread nD τ).loc main_arg2)) (m ((c : Thread nD τ).loc main_arg3)) (m ((c : Thread nD τ).loc main_arg4))
      (m ((c : Thread nD τ).loc main_arg5)) (m ((c : Thread nD τ).loc main_arg6)) (ix2 r d) := by
  refine (pay8_apply _ _ _ r d).trans ?_
  refine congrArg₂ (fun a b => rmsn _ _ a b d) (funext fun k => ?_) (funext fun k => iblk7 m c t10 k)
  refine Ideal.add_congr (iblk3 m c t10 r k) ?_
  rw [st1_sum m c _ t10.val t10.isLt (by decide)]
  unfold term1
  refine Fin.sum_mul_add_congr fun s j hl => ?_
  exact term1_at m c _ r k j _ hl (by have := s.isLt; show _ = s.val % 11 * 512 + j.val; omega)

theorem final8 (c : Dev nD) : (dats m 0 c).arrAt 8 (cfgs 0).N
    = REF (m ((c : Thread nD τ).loc main_arg0)) (m ((c : Thread nD τ).loc main_arg1)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have ht := (flush0_8 t).mp hf
  blk_simp
  rw [after_8]
  refine (congrArg (yv m c t) (eq_ix2 (show S512x2048.Idx from y))).trans ((point8 m c t ht _ _ ⟨512 * (t.val / 11) + ((show S512x2048.Idx from y) 0).val, ?_⟩ rfl).trans (congrArg _ ?_))
  · have := nlt t; have h2 : ((show S512x2048.Idx from y) 0).val < 512 := ((show S512x2048.Idx from y) 0).isLt; omega
  · blk_ext [idx t]

theorem final9 (c : Dev nD) : (dats m 0 c).arrAt 9 (cfgs 0).N
    = REF (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after_9]
  refine (congrArg (ysv m c) (eq_ix2 (show S32x2048.Idx from y))).trans ((point9 m c _ _).trans (congrArg _ ?_))
  blk_ext [idx t]

end Cert.KernelIdeal.Ffn

end
-- ==== Proof.FfnRef.lean ====
/- The feed-forward reference's results, read at an index over the extended reals. -/
module

public import proofs.«01_k».proof.Proof.Spec
public import proofs.«01_k».proof.Proof.Gen.ReferenceIdeal.Run

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen Cert.Spec

variable (m : (ℓ : Loc nD τ sig) → Buf (Elt Ideal) ℓ)

set_option maxHeartbeats 4000000 in
theorem res0_apply (c : Dev nD) (r : Fin 8192) (d : Fin 2048) :
    Value.res_out0 m c (ix2 r d)
      = ffn (fun r k => m ((c : Thread nD τ).loc main_arg0) (ix2 r k)) (fun r k => m ((c : Thread nD τ).loc main_arg1) (ix2 r k))
        (fun k j => m ((c : Thread nD τ).loc main_arg4) (ix2 k j)) (fun j k => m ((c : Thread nD τ).loc main_arg5) (ix2 j k))
        (fun k => m ((c : Thread nD τ).loc main_arg6) (ix1 k)) r d := by
  unfold Value.res_out0 Value.res_main_v22
  pointwise [ffn, act, rmsn]
  all_goals rfl

set_option maxHeartbeats 4000000 in
theorem res1_apply (c : Dev nD) (r : Fin 32) (d : Fin 2048) :
    Value.res_out1 m c (ix2 r d)
      = ffn (fun r k => m ((c : Thread nD τ).loc main_arg2) (ix2 r k)) (fun r k => m ((c : Thread nD τ).loc main_arg3) (ix2 r k))
        (fun k j => m ((c : Thread nD τ).loc main_arg4) (ix2 k j)) (fun j k => m ((c : Thread nD τ).loc main_arg5) (ix2 j k))
        (fun k => m ((c : Thread nD τ).loc main_arg6) (ix1 k)) r d := by
  unfold Value.res_out1 Value.res_main_v45
  pointwise [ffn, act, rmsn]
  all_goals rfl

end Cert.ReferenceIdeal.Ffn

end
-- ==== Proof.FfnClaims.lean ====
/- The claims about the feed-forward kernel, from its run and the values of its two results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FfnValue
public import proofs.«01_k».proof.Proof.FfnRef
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

section
variable {F : FTy → Type} [FloatOps F]
open Cert.KernelIdeal Cert.KernelIdeal.Gen
variable (m : (ℓ : Loc nD τ sig) → Buf (Elt F) ℓ) (ρ : Dev nD → PrngReg)

/-- The feed-forward kernel's run, its arguments unchanged and the counters at zero. -/
theorem ffn_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (Ffn.dats m) (Ffn.A_eq m) ((θ_run defs _ _).mono (fun _ h => h.1) (Ffn.run_main m ρ)))
    ((θ_run defs _ _).mono (fun _ h => h.2) (Ffn.run_main m ρ))

end

attribute [local instance] Cert.Kernel.Gen.facts Cert.KernelIdeal.Gen.facts Cert.ReferenceIdeal.Gen.facts

/-- The two texts' kernel functions are one function, -/
theorem ffn_eq : Cert.Kernel.cc0_ffn (F := Bits) = Cert.KernelIdeal.cc0_ffn (F := Bits) := rfl

/-- and so are their tables of bodies. -/
theorem ffn_defs₀_eq : Cert.Kernel.defs₀ (F := Bits) = Cert.KernelIdeal.defs₀ (F := Bits) := by
  unfold Cert.Kernel.defs₀ Cert.KernelIdeal.defs₀
  refine congrArg Defs.onTc ?_
  funext l x
  fin_cases l
  rfl

theorem ffn_defs_eq : Cert.Kernel.defs (F := Bits) = Cert.KernelIdeal.defs (F := Bits) :=
  congrArg (Pipeline.defs _) ffn_defs₀_eq

theorem ffn_kernel : Cert.quiescent_Kernel := fun m ρ _ => by
  rw [ffn_defs_eq]
  exact (θ_run Cert.KernelIdeal.defs _ _).mono (fun _ h => h) (ffn_frame (F := Bits) m ρ)
theorem ffn_ideal : Cert.quiescent_KernelIdeal := fun m ρ _ => ffn_frame (F := Ideal) m ρ
theorem ffn_reference : Cert.quiescent_ReferenceIdeal := fun m ρ _ =>
  (θ_run Cert.ReferenceIdeal.defs _ _).mono (fun r h => ⟨fun c => (h c).2.2, sem_eq_zero_of_no_sems rfl r.2⟩)
    (Cert.ReferenceIdeal.Value.run m ρ)

theorem ffn_algebraic : Cert.algebraic_KernelIdeal_ReferenceIdeal := by
  intro m g m' g' _ hagree
  refine ⟨fun c => (Cert.KernelIdeal.Ffn.dats m 0 c).arrAt 8 (Cert.KernelIdeal.cfgs 0).N,
    fun c => (Cert.KernelIdeal.Ffn.dats m 0 c).arrAt 9 (Cert.KernelIdeal.cfgs 0).N, ?_, ?_⟩
  · have h := θ_run_and (Cert.KernelIdeal.Ffn.run_main m g) (ffn_frame m g)
    exact (θ_run Cert.KernelIdeal.defs _ _).mono (fun _ h c => ⟨(h.1.1 c).1 8, (h.1.1 c).1 9, h.2.1 c⟩) h
  · refine (θ_run Cert.ReferenceIdeal.defs _ _).mono (fun _ h c => ⟨?_, ?_, (h c).2.2⟩) (Cert.ReferenceIdeal.Value.run m' g')
    · refine (h c).1.trans (Eq.trans ?_ (Cert.KernelIdeal.Ffn.final8 m c).symm)
      funext i
      refine (congrArg _ (eq_ix2 i)).trans ((Cert.ReferenceIdeal.Ffn.res0_apply m' c (i 0) (i 1)).trans ?_)
      obtain ⟨h0, h1, h2, h3, h4, h5, h6⟩ := hagree c
      rw [h0, h1, h4, h5, h6]
    · refine (h c).2.1.trans (Eq.trans ?_ (Cert.KernelIdeal.Ffn.final9 m c).symm)
      funext i
      refine (congrArg _ (eq_ix2 i)).trans ((Cert.ReferenceIdeal.Ffn.res1_apply m' c (i 0) (i 1)).trans ?_)
      obtain ⟨h0, h1, h2, h3, h4, h5, h6⟩ := hagree c
      rw [h2, h3, h4, h5, h6]

end Cert.Proof

end
-- ==== Proof.QkvBody.lean ====
/- What one grid point of the rotary q/k/v projection does to its buffers: at the first tile, and at a later one. -/
module

public import proofs.«01_k».proof.Proof.Gen.Kernel2Ideal.Skeleton
public import proofs.«01_k».proof.Proof.Gen.Kernel2Ideal.Frame
public import proofs.«01_k».proof.Proof.Whole
public import Idealize.ShloMosaic.Lib.Pipeline.Value

@[expose] public section

set_option maxRecDepth 16384

noncomputable section

namespace Cert.Kernel2Ideal.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

open Cert.Whole

/-! ## What is stored, first tile -/

abbrev av29 (x0 : Vec F S512x2048 .f32) (x1 : Vec F S32x2048 .f32) (x2 : Vec F S1x2048 .f32) : FVec F S544x2048 .bf16 := k0_pay11 x0 x1 x2
abbrev av32 (x0 : Vec F S512x2048 .f32) (x1 : Vec F S32x2048 .f32) (x2 : Vec F S1x2048 .f32) (x3 : Vec F S2048x3072 .bf16) : FVec F S544x3072 .f32 := k0_pay12 x0 x1 x2 x3
abbrev av37 (x4 : Vec F S512x128 .f32) (x6 : Vec F S32x128 .f32) : FVec F S544x128 .f32 := k0_pay13 x4 x6
abbrev av42 (x5 : Vec F S512x128 .f32) (x7 : Vec F S32x128 .f32) : FVec F S544x128 .f32 := k0_pay14 x5 x7
abbrev av43  : IVec S544x128 32 := iota .tc S544x128 32 [1] iota_S544x128_d1_w32
abbrev av47  : IVec S544x128 1 := k0_pay15
abbrev av49  : IVec S544x128 1 := k0_pay16 (av43)
abbrev av65 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay20 (av32 x0 x1 x2 x3) (av37 x4 x6) (av42 x5 x7) (av43) (av47)
abbrev av68 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay21 (av32 x0 x1 x2 x3) (av37 x4 x6) (av42 x5 x7) (av43) (av47)
abbrev av75 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .f32 := k0_pay22 (av32 x0 x1 x2 x3) (av37 x4 x6) (av42 x5 x7) (av47)
abbrev av84 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S512x128 .f32 := k0_pay25 (av32 x0 x1 x2 x3) (av37 x4 x6) (av42 x5 x7) (av47)
abbrev av110 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay31 (av32 x0 x1 x2 x3) (av37 x4 x6) (av42 x5 x7) (av47) (av49)
abbrev av113 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay32 (av32 x0 x1 x2 x3) (av37 x4 x6) (av42 x5 x7) (av47) (av49)
abbrev av120 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .f32 := k0_pay33 (av32 x0 x1 x2 x3) (av37 x4 x6) (av42 x5 x7) (av47)
abbrev av121 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S512x128 .bf16 := k0_pay34 (av32 x0 x1 x2 x3) (av37 x4 x6) (av42 x5 x7) (av47) (av49)
abbrev av152 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .f32 := k0_pay42 (av32 x0 x1 x2 x3) (av37 x4 x6) (av42 x5 x7) (av47)
abbrev acst_80  : F .f32 := Scalar.ofBits .f32 0x00000000#32
abbrev av187 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S32x128 .f32 := (k0_pay52 (av32 x0 x1 x2 x3) (av37 x4 x6) (av42 x5 x7) (av47))
abbrev av200 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay54 (av32 x0 x1 x2 x3) (av37 x4 x6) (av42 x5 x7) (av47) (av49)
abbrev av203 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay55 (av32 x0 x1 x2 x3) (av37 x4 x6) (av42 x5 x7) (av47) (av49)
abbrev av210 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .f32 := k0_pay56 (av32 x0 x1 x2 x3) (av37 x4 x6) (av42 x5 x7) (av47)
abbrev av245 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay65 (av32 x0 x1 x2 x3) (av37 x4 x6) (av42 x5 x7) (av47) (av49)
abbrev av248 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay66 (av32 x0 x1 x2 x3) (av37 x4 x6) (av42 x5 x7) (av47) (av49)
abbrev av255 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .f32 := k0_pay67 (av32 x0 x1 x2 x3) (av37 x4 x6) (av42 x5 x7) (av47)
abbrev av260 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S512x128 .bf16 := k0_pay69 (av32 x0 x1 x2 x3) (av37 x4 x6) (av42 x5 x7) (av47) (av49)
abbrev av290 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay77 (av32 x0 x1 x2 x3) (av37 x4 x6) (av42 x5 x7) (av47) (av49)
abbrev av293 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay78 (av32 x0 x1 x2 x3) (av37 x4 x6) (av42 x5 x7) (av47) (av49)
abbrev av294 (x0 : Vec F S512x2048 .f32) (x1 : Vec F S32x2048 .f32) (x2 : Vec F S1x2048 .f32) (x3 : Vec F S2048x3072 .bf16) : FVec F S544x128 .f32 := k0_pay79 (av32 x0 x1 x2 x3)
abbrev ac96_i32_154  : BitVec 32 := 96#32
abbrev av324 (x0 : Vec F S512x2048 .f32) (x1 : Vec F S32x2048 .f32) (x2 : Vec F S1x2048 .f32) (x3 : Vec F S2048x3072 .bf16) : FVec F S544x128 .f32 := k0_pay88 (av32 x0 x1 x2 x3)
abbrev av325 (x0 : Vec F S512x2048 .f32) (x1 : Vec F S32x2048 .f32) (x2 : Vec F S1x2048 .f32) (x3 : Vec F S2048x3072 .bf16) : FVec F S544x128 .f32 := k0_pay89 (av32 x0 x1 x2 x3)
abbrev av326 (x0 : Vec F S512x2048 .f32) (x1 : Vec F S32x2048 .f32) (x2 : Vec F S1x2048 .f32) (x3 : Vec F S2048x3072 .bf16) : FVec F S544x128 .f32 := k0_pay90 (av32 x0 x1 x2 x3)
abbrev av345 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .f32 := k0_pay94 (av32 x0 x1 x2 x3) (av37 x4 x6) (av42 x5 x7) (av47)
abbrev av363 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S32x128 .bf16 := k0_pay100 (av37 x4 x6) (av42 x5 x7) (av47) (av49) (av324 x0 x1 x2 x3) (av325 x0 x1 x2 x3) (av326 x0 x1 x2 x3)
abbrev av380 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay104 (av32 x0 x1 x2 x3) (av37 x4 x6) (av42 x5 x7) (av47) (av49)
abbrev av383 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .bf16 := k0_pay105 (av32 x0 x1 x2 x3) (av37 x4 x6) (av42 x5 x7) (av47) (av49)
abbrev av390 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S544x128 .f32 := k0_pay106 (av32 x0 x1 x2 x3) (av37 x4 x6) (av42 x5 x7) (av47)
abbrev av399 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : FVec F S512x128 .f32 := k0_pay109 (av32 x0 x1 x2 x3) (av37 x4 x6) (av42 x5 x7) (av47)
/-- What the stores leave in buffer 10. -/
def ao10 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : Vec F S2x512x1024 .bf16 := View.canon (Val := Elt F) (s := S2x512x1024) (e := .bf16) [
    ⟨Rect.unit (s := S2x512x1024) ![1, 0, 896] S1x512x128.size inb_S2x512x1024_S1x512x128_1_0_896, (k0_pay108 (av32 x0 x1 x2 x3) (av37 x4 x6) (av42 x5 x7) (av47) (av49))⟩,
    ⟨Rect.unit (s := S2x512x1024) ![0, 0, 896] S1x512x128.size inb_S2x512x1024_S1x512x128_0_0_896, (k0_pay107 (av32 x0 x1 x2 x3) (av37 x4 x6) (av42 x5 x7) (av47) (av49))⟩,
    ⟨Rect.unit (s := S2x512x1024) ![1, 0, 768] S1x512x128.size inb_S2x512x1024_S1x512x128_1_0_768, (k0_pay96 (av37 x4 x6) (av42 x5 x7) (av47) (av49) (av324 x0 x1 x2 x3) (av325 x0 x1 x2 x3) (av326 x0 x1 x2 x3))⟩,
    ⟨Rect.unit (s := S2x512x1024) ![0, 0, 768] S1x512x128.size inb_S2x512x1024_S1x512x128_0_0_768, (k0_pay95 (av37 x4 x6) (av42 x5 x7) (av47) (av49) (av324 x0 x1 x2 x3) (av325 x0 x1 x2 x3) (av326 x0 x1 x2 x3))⟩,
    ⟨Rect.unit (s := S2x512x1024) ![1, 0, 640] S1x512x128.size inb_S2x512x1024_S1x512x128_1_0_640, (k0_pay82 (av293 x0 x1 x2 x3 x4 x5 x6 x7))⟩,
    ⟨Rect.unit (s := S2x512x1024) ![0, 0, 640] S1x512x128.size inb_S2x512x1024_S1x512x128_0_0_640, (k0_pay81 (av290 x0 x1 x2 x3 x4 x5 x6 x7))⟩,
    ⟨Rect.unit (s := S2x512x1024) ![1, 0, 512] S1x512x128.size inb_S2x512x1024_S1x512x128_1_0_512, (k0_pay70 (av260 x0 x1 x2 x3 x4 x5 x6 x7))⟩,
    ⟨Rect.unit (s := S2x512x1024) ![0, 0, 512] S1x512x128.size inb_S2x512x1024_S1x512x128_0_0_512, (k0_pay68 (av32 x0 x1 x2 x3) (av37 x4 x6) (av42 x5 x7) (av47) (av49))⟩,
    ⟨Rect.unit (s := S2x512x1024) ![1, 0, 384] S1x512x128.size inb_S2x512x1024_S1x512x128_1_0_384, (k0_pay58 (av32 x0 x1 x2 x3) (av37 x4 x6) (av42 x5 x7) (av47) (av49))⟩,
    ⟨Rect.unit (s := S2x512x1024) ![0, 0, 384] S1x512x128.size inb_S2x512x1024_S1x512x128_0_0_384, (k0_pay57 (av32 x0 x1 x2 x3) (av37 x4 x6) (av42 x5 x7) (av47) (av49))⟩,
    ⟨Rect.unit (s := S2x512x1024) ![1, 0, 256] S1x512x128.size inb_S2x512x1024_S1x512x128_1_0_256, (k0_pay47 (av49) (av152 x0 x1 x2 x3 x4 x5 x6 x7))⟩,
    ⟨Rect.unit (s := S2x512x1024) ![0, 0, 256] S1x512x128.size inb_S2x512x1024_S1x512x128_0_0_256, (k0_pay46 (av49) (av152 x0 x1 x2 x3 x4 x5 x6 x7) (acst_80))⟩,
    ⟨Rect.unit (s := S2x512x1024) ![1, 0, 128] S1x512x128.size inb_S2x512x1024_S1x512x128_1_0_128, (k0_pay36 (av113 x0 x1 x2 x3 x4 x5 x6 x7))⟩,
    ⟨Rect.unit (s := S2x512x1024) ![0, 0, 128] S1x512x128.size inb_S2x512x1024_S1x512x128_0_0_128, (k0_pay35 (av121 x0 x1 x2 x3 x4 x5 x6 x7))⟩,
    ⟨Rect.unit (s := S2x512x1024) ![1, 0, 0] S1x512x128.size inb_S2x512x1024_S1x512x128_1_0_0, (k0_pay24 (av32 x0 x1 x2 x3) (av37 x4 x6) (av42 x5 x7) (av43) (av47))⟩,
    ⟨Rect.unit (s := S2x512x1024) ![0, 0, 0] S1x512x128.size inb_S2x512x1024_S1x512x128_0_0_0, (k0_pay23 (av32 x0 x1 x2 x3) (av37 x4 x6) (av42 x5 x7) (av43) (av47))⟩]
/-- What the stores leave in buffer 11. -/
def ao11 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : Vec F S512x1024 .f32 := View.canon (Val := Elt F) (s := S512x1024) (e := .f32) [
    ⟨Rect.unit (s := S512x1024) ![0, 896] S512x128.size inb_S512x1024_S512x128_0_896, (av399 x0 x1 x2 x3 x4 x5 x6 x7)⟩,
    ⟨Rect.unit (s := S512x1024) ![0, 768] S512x128.size inb_S512x1024_S512x128_0_768, (k0_pay97 (av32 x0 x1 x2 x3) (av37 x4 x6) (av42 x5 x7) (av47))⟩,
    ⟨Rect.unit (s := S512x1024) ![0, 640] S512x128.size inb_S512x1024_S512x128_0_640, (k0_pay83 (av37 x4 x6) (av42 x5 x7) (av47) (av294 x0 x1 x2 x3) (ac96_i32_154))⟩,
    ⟨Rect.unit (s := S512x1024) ![0, 512] S512x128.size inb_S512x1024_S512x128_0_512, (k0_pay71 (av255 x0 x1 x2 x3 x4 x5 x6 x7))⟩,
    ⟨Rect.unit (s := S512x1024) ![0, 384] S512x128.size inb_S512x1024_S512x128_0_384, (k0_pay59 (av32 x0 x1 x2 x3) (av37 x4 x6) (av42 x5 x7) (av47))⟩,
    ⟨Rect.unit (s := S512x1024) ![0, 256] S512x128.size inb_S512x1024_S512x128_0_256, (k0_pay48 (av32 x0 x1 x2 x3) (av37 x4 x6) (av42 x5 x7) (av47))⟩,
    ⟨Rect.unit (s := S512x1024) ![0, 128] S512x128.size inb_S512x1024_S512x128_0_128, (k0_pay37 (av120 x0 x1 x2 x3 x4 x5 x6 x7))⟩,
    ⟨Rect.unit (s := S512x1024) ![0, 0] S512x128.size inb_S512x1024_S512x128_0_0, (av84 x0 x1 x2 x3 x4 x5 x6 x7)⟩]
/-- What the stores leave in buffer 12. -/
def ao12 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : Vec F S512x1024 .bf16 := View.canon (Val := Elt F) (s := S512x1024) (e := .bf16) [
    ⟨Rect.unit (s := S512x1024) ![0, 896] S512x128.size inb_S512x1024_S512x128_0_896, (k0_pay2 (av390 x0 x1 x2 x3 x4 x5 x6 x7))⟩,
    ⟨Rect.unit (s := S512x1024) ![0, 768] S512x128.size inb_S512x1024_S512x128_0_768, (k0_pay98 (av32 x0 x1 x2 x3) (av37 x4 x6) (av42 x5 x7) (av47))⟩,
    ⟨Rect.unit (s := S512x1024) ![0, 640] S512x128.size inb_S512x1024_S512x128_0_640, (k0_pay84 (av37 x4 x6) (av42 x5 x7) (av47) (av294 x0 x1 x2 x3) (ac96_i32_154))⟩,
    ⟨Rect.unit (s := S512x1024) ![0, 512] S512x128.size inb_S512x1024_S512x128_0_512, (k0_pay72 (av255 x0 x1 x2 x3 x4 x5 x6 x7))⟩,
    ⟨Rect.unit (s := S512x1024) ![0, 384] S512x128.size inb_S512x1024_S512x128_0_384, (k0_pay60 (av32 x0 x1 x2 x3) (av37 x4 x6) (av42 x5 x7) (av47))⟩,
    ⟨Rect.unit (s := S512x1024) ![0, 256] S512x128.size inb_S512x1024_S512x128_0_256, (k0_pay49 (av32 x0 x1 x2 x3) (av37 x4 x6) (av42 x5 x7) (av47))⟩,
    ⟨Rect.unit (s := S512x1024) ![0, 128] S512x128.size inb_S512x1024_S512x128_0_128, (k0_pay38 (av120 x0 x1 x2 x3 x4 x5 x6 x7))⟩,
    ⟨Rect.unit (s := S512x1024) ![0, 0] S512x128.size inb_S512x1024_S512x128_0_0, (k0_pay26 (av75 x0 x1 x2 x3 x4 x5 x6 x7))⟩]
/-- What the stores leave in buffer 16. -/
def ao16 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : Vec F S2x32x1024 .bf16 := View.canon (Val := Elt F) (s := S2x32x1024) (e := .bf16) [
    ⟨Rect.unit (s := S2x32x1024) ![1, 0, 896] S1x32x128.size inb_S2x32x1024_S1x32x128_1_0_896, (k0_pay4 (av383 x0 x1 x2 x3 x4 x5 x6 x7))⟩,
    ⟨Rect.unit (s := S2x32x1024) ![0, 0, 896] S1x32x128.size inb_S2x32x1024_S1x32x128_0_0_896, (k0_pay3 (av380 x0 x1 x2 x3 x4 x5 x6 x7))⟩,
    ⟨Rect.unit (s := S2x32x1024) ![1, 0, 768] S1x32x128.size inb_S2x32x1024_S1x32x128_1_0_768, (k0_pay101 (av363 x0 x1 x2 x3 x4 x5 x6 x7))⟩,
    ⟨Rect.unit (s := S2x32x1024) ![0, 0, 768] S1x32x128.size inb_S2x32x1024_S1x32x128_0_0_768, (k0_pay99 (av37 x4 x6) (av42 x5 x7) (av47) (av49) (av324 x0 x1 x2 x3) (av325 x0 x1 x2 x3) (av326 x0 x1 x2 x3))⟩,
    ⟨Rect.unit (s := S2x32x1024) ![1, 0, 640] S1x32x128.size inb_S2x32x1024_S1x32x128_1_0_640, (k0_pay86 (av293 x0 x1 x2 x3 x4 x5 x6 x7))⟩,
    ⟨Rect.unit (s := S2x32x1024) ![0, 0, 640] S1x32x128.size inb_S2x32x1024_S1x32x128_0_0_640, (k0_pay85 (av290 x0 x1 x2 x3 x4 x5 x6 x7))⟩,
    ⟨Rect.unit (s := S2x32x1024) ![1, 0, 512] S1x32x128.size inb_S2x32x1024_S1x32x128_1_0_512, (k0_pay74 (av248 x0 x1 x2 x3 x4 x5 x6 x7))⟩,
    ⟨Rect.unit (s := S2x32x1024) ![0, 0, 512] S1x32x128.size inb_S2x32x1024_S1x32x128_0_0_512, (k0_pay73 (av245 x0 x1 x2 x3 x4 x5 x6 x7))⟩,
    ⟨Rect.unit (s := S2x32x1024) ![1, 0, 384] S1x32x128.size inb_S2x32x1024_S1x32x128_1_0_384, (k0_pay62 (av203 x0 x1 x2 x3 x4 x5 x6 x7))⟩,
    ⟨Rect.unit (s := S2x32x1024) ![0, 0, 384] S1x32x128.size inb_S2x32x1024_S1x32x128_0_0_384, (k0_pay61 (av200 x0 x1 x2 x3 x4 x5 x6 x7))⟩,
    ⟨Rect.unit (s := S2x32x1024) ![1, 0, 256] S1x32x128.size inb_S2x32x1024_S1x32x128_1_0_256, (k0_pay51 (av49) (av152 x0 x1 x2 x3 x4 x5 x6 x7))⟩,
    ⟨Rect.unit (s := S2x32x1024) ![0, 0, 256] S1x32x128.size inb_S2x32x1024_S1x32x128_0_0_256, (k0_pay50 (av49) (av152 x0 x1 x2 x3 x4 x5 x6 x7) (acst_80))⟩,
    ⟨Rect.unit (s := S2x32x1024) ![1, 0, 128] S1x32x128.size inb_S2x32x1024_S1x32x128_1_0_128, (k0_pay40 (av113 x0 x1 x2 x3 x4 x5 x6 x7))⟩,
    ⟨Rect.unit (s := S2x32x1024) ![0, 0, 128] S1x32x128.size inb_S2x32x1024_S1x32x128_0_0_128, (k0_pay39 (av110 x0 x1 x2 x3 x4 x5 x6 x7))⟩,
    ⟨Rect.unit (s := S2x32x1024) ![1, 0, 0] S1x32x128.size inb_S2x32x1024_S1x32x128_1_0_0, (k0_pay28 (av68 x0 x1 x2 x3 x4 x5 x6 x7))⟩,
    ⟨Rect.unit (s := S2x32x1024) ![0, 0, 0] S1x32x128.size inb_S2x32x1024_S1x32x128_0_0_0, (k0_pay27 (av65 x0 x1 x2 x3 x4 x5 x6 x7))⟩]
/-- What the stores leave in buffer 17. -/
def ao17 (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) : Vec F S32x1024 .f32 := View.canon (Val := Elt F) (s := S32x1024) (e := .f32) [
    ⟨Rect.unit (s := S32x1024) ![0, 896] S32x128.size inb_S32x1024_S32x128_0_896, (k0_pay5 (av390 x0 x1 x2 x3 x4 x5 x6 x7))⟩,
    ⟨Rect.unit (s := S32x1024) ![0, 768] S32x128.size inb_S32x1024_S32x128_0_768, (k0_pay102 (av345 x0 x1 x2 x3 x4 x5 x6 x7))⟩,
    ⟨Rect.unit (s := S32x1024) ![0, 640] S32x128.size inb_S32x1024_S32x128_0_640, (k0_pay87 (av37 x4 x6) (av42 x5 x7) (av47) (av294 x0 x1 x2 x3) (ac96_i32_154))⟩,
    ⟨Rect.unit (s := S32x1024) ![0, 512] S32x128.size inb_S32x1024_S32x128_0_512, (k0_pay75 (av255 x0 x1 x2 x3 x4 x5 x6 x7))⟩,
    ⟨Rect.unit (s := S32x1024) ![0, 384] S32x128.size inb_S32x1024_S32x128_0_384, (k0_pay63 (av210 x0 x1 x2 x3 x4 x5 x6 x7))⟩,
    ⟨Rect.unit (s := S32x1024) ![0, 256] S32x128.size inb_S32x1024_S32x128_0_256, (av187 x0 x1 x2 x3 x4 x5 x6 x7)⟩,
    ⟨Rect.unit (s := S32x1024) ![0, 128] S32x128.size inb_S32x1024_S32x128_0_128, (k0_pay41 (av120 x0 x1 x2 x3 x4 x5 x6 x7))⟩,
    ⟨Rect.unit (s := S32x1024) ![0, 0] S32x128.size inb_S32x1024_S32x128_0_0, (k0_pay29 (av75 x0 x1 x2 x3 x4 x5 x6 x7))⟩]

/-! ## What is stored, later tiles -/

abbrev bv29 (x0 : Vec F S512x2048 .f32) (x2 : Vec F S1x2048 .f32) (x3 : Vec F S2048x3072 .bf16) : FVec F S512x3072 .f32 := k0_pay111 x0 x2 x3
abbrev bv31 (x4 : Vec F S512x128 .f32) : FVec F S512x128 .f32 := k0_pay112 x4
abbrev bv33 (x5 : Vec F S512x128 .f32) : FVec F S512x128 .f32 := k0_pay113 x5
abbrev bv38  : IVec S512x128 1 := k0_pay114
abbrev bv40  : IVec S512x128 1 := k0_pay115
abbrev bv46 (x0 : Vec F S512x2048 .f32) (x2 : Vec F S1x2048 .f32) (x3 : Vec F S2048x3072 .bf16) (x4 : Vec F S512x128 .f32) : FVec F S512x128 .f32 := k0_pay117 x0 x2 x3 x4
abbrev bv47 (x0 : Vec F S512x2048 .f32) (x2 : Vec F S1x2048 .f32) (x3 : Vec F S2048x3072 .bf16) (x5 : Vec F S512x128 .f32) : FVec F S512x128 .f32 := k0_pay118 x0 x2 x3 x5
abbrev bv81 (x0 : Vec F S512x2048 .f32) (x2 : Vec F S1x2048 .f32) (x3 : Vec F S2048x3072 .bf16) (x4 : Vec F S512x128 .f32) (x5 : Vec F S512x128 .f32) : FVec F S512x128 .f32 := k0_pay124 (bv29 x0 x2 x3) (bv31 x4) (bv33 x5) (bv38)
abbrev bv84 (x0 : Vec F S512x2048 .f32) (x2 : Vec F S1x2048 .f32) (x3 : Vec F S2048x3072 .bf16) (x4 : Vec F S512x128 .f32) (x5 : Vec F S512x128 .f32) : FVec F S512x128 .bf16 := k0_pay125 (bv29 x0 x2 x3) (bv31 x4) (bv33 x5) (bv38) (bv40)
abbrev bv115 (x0 : Vec F S512x2048 .f32) (x2 : Vec F S1x2048 .f32) (x3 : Vec F S2048x3072 .bf16) (x4 : Vec F S512x128 .f32) (x5 : Vec F S512x128 .f32) : FVec F S512x128 .bf16 := k0_pay131 (bv29 x0 x2 x3) (bv31 x4) (bv33 x5) (bv38) (bv40)
abbrev bv118 (x0 : Vec F S512x2048 .f32) (x2 : Vec F S1x2048 .f32) (x3 : Vec F S2048x3072 .bf16) (x4 : Vec F S512x128 .f32) (x5 : Vec F S512x128 .f32) : FVec F S512x128 .bf16 := k0_pay132 (bv29 x0 x2 x3) (bv31 x4) (bv33 x5) (bv38) (bv40)
abbrev bv119 (x0 : Vec F S512x2048 .f32) (x2 : Vec F S1x2048 .f32) (x3 : Vec F S2048x3072 .bf16) : FVec F S512x128 .f32 := k0_pay133 (bv29 x0 x2 x3)
abbrev bv120 (x0 : Vec F S512x2048 .f32) (x2 : Vec F S1x2048 .f32) (x3 : Vec F S2048x3072 .bf16) : FVec F S512x128 .f32 := k0_pay134 (bv29 x0 x2 x3)
abbrev bc32_i32_59  : BitVec 32 := 32#32
abbrev bv146 (x0 : Vec F S512x2048 .f32) (x2 : Vec F S1x2048 .f32) (x3 : Vec F S2048x3072 .bf16) (x4 : Vec F S512x128 .f32) (x5 : Vec F S512x128 .f32) : FVec F S512x128 .bf16 := k0_pay140 (bv29 x0 x2 x3) (bv31 x4) (bv33 x5) (bv38) (bv40)
abbrev bv149 (x0 : Vec F S512x2048 .f32) (x2 : Vec F S1x2048 .f32) (x3 : Vec F S2048x3072 .bf16) (x4 : Vec F S512x128 .f32) (x5 : Vec F S512x128 .f32) : FVec F S512x128 .bf16 := k0_pay141 (bv29 x0 x2 x3) (bv31 x4) (bv33 x5) (bv38) (bv40)
abbrev bv156 (x0 : Vec F S512x2048 .f32) (x2 : Vec F S1x2048 .f32) (x3 : Vec F S2048x3072 .bf16) (x4 : Vec F S512x128 .f32) (x5 : Vec F S512x128 .f32) : FVec F S512x128 .f32 := k0_pay142 (bv29 x0 x2 x3) (bv31 x4) (bv33 x5) (bv38)
abbrev bv180 (x0 : Vec F S512x2048 .f32) (x2 : Vec F S1x2048 .f32) (x3 : Vec F S2048x3072 .bf16) (x4 : Vec F S512x128 .f32) (x5 : Vec F S512x128 .f32) : FVec F S512x128 .bf16 := k0_pay147 (bv29 x0 x2 x3) (bv31 x4) (bv33 x5) (bv38) (bv40)
abbrev bv187 (x0 : Vec F S512x2048 .f32) (x2 : Vec F S1x2048 .f32) (x3 : Vec F S2048x3072 .bf16) (x4 : Vec F S512x128 .f32) (x5 : Vec F S512x128 .f32) : FVec F S512x128 .f32 := k0_pay148 (bv29 x0 x2 x3) (bv31 x4) (bv33 x5) (bv38)
abbrev bv226 (x0 : Vec F S512x2048 .f32) (x2 : Vec F S1x2048 .f32) (x3 : Vec F S2048x3072 .bf16) (x4 : Vec F S512x128 .f32) (x5 : Vec F S512x128 .f32) : FVec F S512x128 .bf16 := (k0_pay156 (bv29 x0 x2 x3) (bv31 x4) (bv33 x5) (bv38))
abbrev bv259 (x0 : Vec F S512x2048 .f32) (x2 : Vec F S1x2048 .f32) (x3 : Vec F S2048x3072 .bf16) : FVec F S512x128 .f32 := k0_pay162 (bv29 x0 x2 x3)
abbrev bv260 (x0 : Vec F S512x2048 .f32) (x2 : Vec F S1x2048 .f32) (x3 : Vec F S2048x3072 .bf16) : FVec F S512x128 .f32 := k0_pay163 (bv29 x0 x2 x3)
abbrev bc32_i32_134  : BitVec 32 := 32#32
abbrev bv290 (x0 : Vec F S512x2048 .f32) (x2 : Vec F S1x2048 .f32) (x3 : Vec F S2048x3072 .bf16) : FVec F S512x1024 .f32 := (k0_pay169 (bv29 x0 x2 x3))
/-- What the stores leave in buffer 10. -/
def bo10 (x0 : Vec F S512x2048 .f32) (x2 : Vec F S1x2048 .f32) (x3 : Vec F S2048x3072 .bf16) (x4 : Vec F S512x128 .f32) (x5 : Vec F S512x128 .f32) : Vec F S2x512x1024 .bf16 := View.canon (Val := Elt F) (s := S2x512x1024) (e := .bf16) [
    ⟨Rect.unit (s := S2x512x1024) ![1, 0, 896] S1x512x128.size inb_S2x512x1024_S1x512x128_1_0_896, (k0_pay167 (bv31 x4) (bv33 x5) (bv38) (bv40) (bv259 x0 x2 x3) (bv260 x0 x2 x3) (bc32_i32_134))⟩,
    ⟨Rect.unit (s := S2x512x1024) ![0, 0, 896] S1x512x128.size inb_S2x512x1024_S1x512x128_0_0_896, (k0_pay166 (bv31 x4) (bv33 x5) (bv38) (bv40) (bv259 x0 x2 x3) (bv260 x0 x2 x3) (bc32_i32_134))⟩,
    ⟨Rect.unit (s := S2x512x1024) ![1, 0, 768] S1x512x128.size inb_S2x512x1024_S1x512x128_1_0_768, (k0_pay160 (bv29 x0 x2 x3) (bv31 x4) (bv33 x5) (bv38) (bv40))⟩,
    ⟨Rect.unit (s := S2x512x1024) ![0, 0, 768] S1x512x128.size inb_S2x512x1024_S1x512x128_0_0_768, (k0_pay159 (bv29 x0 x2 x3) (bv31 x4) (bv33 x5) (bv38) (bv40))⟩,
    ⟨Rect.unit (s := S2x512x1024) ![1, 0, 640] S1x512x128.size inb_S2x512x1024_S1x512x128_1_0_640, (k0_pay155 (bv29 x0 x2 x3) (bv31 x4) (bv33 x5) (bv38) (bv40))⟩,
    ⟨Rect.unit (s := S2x512x1024) ![0, 0, 640] S1x512x128.size inb_S2x512x1024_S1x512x128_0_0_640, (k0_pay154 (bv29 x0 x2 x3) (bv31 x4) (bv33 x5) (bv38) (bv40))⟩,
    ⟨Rect.unit (s := S2x512x1024) ![1, 0, 512] S1x512x128.size inb_S2x512x1024_S1x512x128_1_0_512, (k0_pay150 (bv180 x0 x2 x3 x4 x5))⟩,
    ⟨Rect.unit (s := S2x512x1024) ![0, 0, 512] S1x512x128.size inb_S2x512x1024_S1x512x128_0_0_512, (k0_pay149 (bv29 x0 x2 x3) (bv31 x4) (bv33 x5) (bv38) (bv40))⟩,
    ⟨Rect.unit (s := S2x512x1024) ![1, 0, 384] S1x512x128.size inb_S2x512x1024_S1x512x128_1_0_384, (k0_pay144 (bv149 x0 x2 x3 x4 x5))⟩,
    ⟨Rect.unit (s := S2x512x1024) ![0, 0, 384] S1x512x128.size inb_S2x512x1024_S1x512x128_0_0_384, (k0_pay143 (bv146 x0 x2 x3 x4 x5))⟩,
    ⟨Rect.unit (s := S2x512x1024) ![1, 0, 256] S1x512x128.size inb_S2x512x1024_S1x512x128_1_0_256, (k0_pay137 (bv118 x0 x2 x3 x4 x5))⟩,
    ⟨Rect.unit (s := S2x512x1024) ![0, 0, 256] S1x512x128.size inb_S2x512x1024_S1x512x128_0_0_256, (k0_pay136 (bv115 x0 x2 x3 x4 x5))⟩,
    ⟨Rect.unit (s := S2x512x1024) ![1, 0, 128] S1x512x128.size inb_S2x512x1024_S1x512x128_1_0_128, (k0_pay128 (bv40) (bv81 x0 x2 x3 x4 x5))⟩,
    ⟨Rect.unit (s := S2x512x1024) ![0, 0, 128] S1x512x128.size inb_S2x512x1024_S1x512x128_0_0_128, (k0_pay127 (bv84 x0 x2 x3 x4 x5))⟩,
    ⟨Rect.unit (s := S2x512x1024) ![1, 0, 0] S1x512x128.size inb_S2x512x1024_S1x512x128_1_0_0, (k0_pay122 (bv40) (bv46 x0 x2 x3 x4) (bv47 x0 x2 x3 x5))⟩,
    ⟨Rect.unit (s := S2x512x1024) ![0, 0, 0] S1x512x128.size inb_S2x512x1024_S1x512x128_0_0_0, (k0_pay121 (bv40) (bv46 x0 x2 x3 x4) (bv47 x0 x2 x3 x5))⟩]
/-- What the stores leave in buffer 11. -/
def bo11 (x0 : Vec F S512x2048 .f32) (x2 : Vec F S1x2048 .f32) (x3 : Vec F S2048x3072 .bf16) (x4 : Vec F S512x128 .f32) (x5 : Vec F S512x128 .f32) : Vec F S512x1024 .f32 := View.canon (Val := Elt F) (s := S512x1024) (e := .f32) [
    ⟨Rect.unit (s := S512x1024) ![0, 896] S512x128.size inb_S512x1024_S512x128_0_896, (k0_pay165 (bv29 x0 x2 x3) (bv31 x4) (bv33 x5) (bv38))⟩,
    ⟨Rect.unit (s := S512x1024) ![0, 768] S512x128.size inb_S512x1024_S512x128_0_768, (k0_pay158 (bv29 x0 x2 x3) (bv31 x4) (bv33 x5) (bv38))⟩,
    ⟨Rect.unit (s := S512x1024) ![0, 640] S512x128.size inb_S512x1024_S512x128_0_640, (k0_pay153 (bv29 x0 x2 x3) (bv31 x4) (bv33 x5) (bv38))⟩,
    ⟨Rect.unit (s := S512x1024) ![0, 512] S512x128.size inb_S512x1024_S512x128_0_512, (bv187 x0 x2 x3 x4 x5)⟩,
    ⟨Rect.unit (s := S512x1024) ![0, 384] S512x128.size inb_S512x1024_S512x128_0_384, (bv156 x0 x2 x3 x4 x5)⟩,
    ⟨Rect.unit (s := S512x1024) ![0, 256] S512x128.size inb_S512x1024_S512x128_0_256, (k0_pay135 (bv31 x4) (bv33 x5) (bv38) (bv119 x0 x2 x3) (bv120 x0 x2 x3) (bc32_i32_59))⟩,
    ⟨Rect.unit (s := S512x1024) ![0, 128] S512x128.size inb_S512x1024_S512x128_0_128, (k0_pay126 (bv29 x0 x2 x3) (bv31 x4) (bv33 x5) (bv38))⟩,
    ⟨Rect.unit (s := S512x1024) ![0, 0] S512x128.size inb_S512x1024_S512x128_0_0, (k0_pay120 (bv29 x0 x2 x3) (bv31 x4) (bv33 x5) (bv38))⟩]
/-- What the stores leave in buffer 12. -/
def bo12 (x0 : Vec F S512x2048 .f32) (x2 : Vec F S1x2048 .f32) (x3 : Vec F S2048x3072 .bf16) (x4 : Vec F S512x128 .f32) (x5 : Vec F S512x128 .f32) : Vec F S512x1024 .bf16 := View.canon (Val := Elt F) (s := S512x1024) (e := .bf16) [
    ⟨Rect.unit (s := S512x1024) ![0, 896] S512x128.size inb_S512x1024_S512x128_0_896, (k0_pay168 (bv29 x0 x2 x3) (bv31 x4) (bv33 x5) (bv38))⟩,
    ⟨Rect.unit (s := S512x1024) ![0, 768] S512x128.size inb_S512x1024_S512x128_0_768, (k0_pay161 (bv29 x0 x2 x3) (bv31 x4) (bv33 x5) (bv38))⟩,
    ⟨Rect.unit (s := S512x1024) ![0, 640] S512x128.size inb_S512x1024_S512x128_0_640, (bv226 x0 x2 x3 x4 x5)⟩,
    ⟨Rect.unit (s := S512x1024) ![0, 512] S512x128.size inb_S512x1024_S512x128_0_512, (k0_pay151 (bv187 x0 x2 x3 x4 x5))⟩,
    ⟨Rect.unit (s := S512x1024) ![0, 384] S512x128.size inb_S512x1024_S512x128_0_384, (k0_pay145 (bv156 x0 x2 x3 x4 x5))⟩,
    ⟨Rect.unit (s := S512x1024) ![0, 256] S512x128.size inb_S512x1024_S512x128_0_256, (k0_pay138 (bv31 x4) (bv33 x5) (bv38) (bv119 x0 x2 x3) (bv120 x0 x2 x3) (bc32_i32_59))⟩,
    ⟨Rect.unit (s := S512x1024) ![0, 128] S512x128.size inb_S512x1024_S512x128_0_128, (k0_pay129 (bv29 x0 x2 x3) (bv31 x4) (bv33 x5) (bv38))⟩,
    ⟨Rect.unit (s := S512x1024) ![0, 0] S512x128.size inb_S512x1024_S512x128_0_0, (k0_pay123 (bv29 x0 x2 x3) (bv31 x4) (bv33 x5) (bv38))⟩]

set_option maxHeartbeats 4000000 in
/-- The first tile: the sample rows go along. -/
theorem body_A (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S1x2048 .f32) (harg3 : arg3.IsWhole) (arg4 : Memref sig .tc .vmem S2048x3072 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S128x3072 .f32) (harg9 : arg9.IsWhole) (arg10 : Memref sig .tc .vmem S512x2048 .bf16) (harg10 : arg10.IsWhole) (arg11 : Memref sig .tc .vmem S2x512x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S32x2048 .bf16) (harg16 : arg16.IsWhole) (arg17 : Memref sig .tc .vmem S2x32x1024 .bf16) (harg17 : arg17.IsWhole) (arg18 : Memref sig .tc .vmem S32x1024 .f32) (harg18 : arg18.IsWhole) (arg19 : Memref sig .tc .vmem S32x1024 .f32) (harg19 : arg19.IsWhole) (arg20 : Memref sig .tc .vmem S128x3072 .bf16) (harg20 : arg20.IsWhole) (hc1 : k0_cond1 i = 1#1) (hc2 : ¬k0_cond2 i = 1#1)
    (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) (x8 : Vec F S128x3072 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare ((k0_pay17 (av29 x0 x1 x2))) ∗ owns (c : Thread nD τ) arg11 fullShare ((ao10 x0 x1 x2 x3 x4 x5 x6 x7)) ∗ owns (c : Thread nD τ) arg12 fullShare ((ao11 x0 x1 x2 x3 x4 x5 x6 x7)) ∗ owns (c : Thread nD τ) arg13 fullShare ((ao12 x0 x1 x2 x3 x4 x5 x6 x7)) ∗ owns (c : Thread nD τ) arg14 fullShare ((k0_pay7 (av32 x0 x1 x2 x3))) ∗ owns (c : Thread nD τ) arg15 fullShare ((k0_pay8 (av32 x0 x1 x2 x3))) ∗ owns (c : Thread nD τ) arg16 fullShare ((k0_pay18 (av29 x0 x1 x2))) ∗ owns (c : Thread nD τ) arg17 fullShare ((ao16 x0 x1 x2 x3 x4 x5 x6 x7)) ∗ owns (c : Thread nD τ) arg18 fullShare ((ao17 x0 x1 x2 x3 x4 x5 x6 x7)) ∗ owns (c : Thread nD τ) arg19 fullShare ((k0_pay9 (av32 x0 x1 x2 x3))) ∗ owns (c : Thread nD τ) arg20 fullShare ((k0_pay1 x8))) -∗ K ⟨⟩))
    ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_qkv_rope_eq_skeleton]; unfold cc0_qkv_rope_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S512x2048) _ hz]
    try rfl
  isplitl [H10]
  · iexists _; isplitr; swap; · iexact H10
    ipureintro
    sl_unfold_words
    refine (View.read_writes_eq_canon _ _ _ (View.cover_of_tiled _ ![1, 512, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H11]
  · iexists _; isplitr; swap; · iexact H11
    ipureintro
    sl_unfold_words
    refine (View.read_writes_eq_canon _ _ _ (View.cover_of_tiled _ ![512, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H12]
  · iexists _; isplitr; swap; · iexact H12
    ipureintro
    sl_unfold_words
    refine (View.read_writes_eq_canon _ _ _ (View.cover_of_tiled _ ![512, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H13]
  · iexists _; isplitr; swap; · iexact H13
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S512x1024) _ hz]
    try rfl
  isplitl [H14]
  · iexists _; isplitr; swap; · iexact H14
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S512x1024) _ hz]
    try rfl
  isplitl [H15]
  · iexists _; isplitr; swap; · iexact H15
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S32x2048) _ hz]
    try rfl
  isplitl [H16]
  · iexists _; isplitr; swap; · iexact H16
    ipureintro
    sl_unfold_words
    refine (View.read_writes_eq_canon _ _ _ (View.cover_of_tiled _ ![1, 32, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H17]
  · iexists _; isplitr; swap; · iexact H17
    ipureintro
    sl_unfold_words
    refine (View.read_writes_eq_canon _ _ _ (View.cover_of_tiled _ ![32, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H18]
  · iexists _; isplitr; swap; · iexact H18
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S32x1024) _ hz]
    try rfl
  iexists _; isplitr; swap; · iexact H19
  ipureintro
  sl_unfold_words
  rw [whole_writes hz]
  try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S128x3072) _ hz]
  try rfl

set_option maxHeartbeats 4000000 in
/-- A later tile: the sample outputs are left alone. -/
theorem body_B (c : Dev nD) (i : grid0.Coords) (arg1 : Memref sig .tc .vmem S512x2048 .f32) (harg1 : arg1.IsWhole) (arg2 : Memref sig .tc .vmem S32x2048 .f32) (harg2 : arg2.IsWhole) (arg3 : Memref sig .tc .vmem S1x2048 .f32) (harg3 : arg3.IsWhole) (arg4 : Memref sig .tc .vmem S2048x3072 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S32x128 .f32) (harg7 : arg7.IsWhole) (arg8 : Memref sig .tc .vmem S32x128 .f32) (harg8 : arg8.IsWhole) (arg9 : Memref sig .tc .vmem S128x3072 .f32) (harg9 : arg9.IsWhole) (arg10 : Memref sig .tc .vmem S512x2048 .bf16) (harg10 : arg10.IsWhole) (arg11 : Memref sig .tc .vmem S2x512x1024 .bf16) (harg11 : arg11.IsWhole) (arg12 : Memref sig .tc .vmem S512x1024 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S512x1024 .bf16) (harg15 : arg15.IsWhole) (arg16 : Memref sig .tc .vmem S32x2048 .bf16) (harg16 : arg16.IsWhole) (arg17 : Memref sig .tc .vmem S2x32x1024 .bf16) (harg17 : arg17.IsWhole) (arg18 : Memref sig .tc .vmem S32x1024 .f32) (harg18 : arg18.IsWhole) (arg19 : Memref sig .tc .vmem S32x1024 .f32) (harg19 : arg19.IsWhole) (arg20 : Memref sig .tc .vmem S128x3072 .bf16) (harg20 : arg20.IsWhole) (hc1 : ¬k0_cond1 i = 1#1) (hc2 : k0_cond2 i = 1#1)
    (x0 : Vec F S512x2048 .f32) (x1 : Vec F S32x2048 .f32) (x2 : Vec F S1x2048 .f32) (x3 : Vec F S2048x3072 .bf16) (x4 : Vec F S512x128 .f32) (x5 : Vec F S512x128 .f32) (x6 : Vec F S32x128 .f32) (x7 : Vec F S32x128 .f32) (x8 : Vec F S128x3072 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg20 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare ((k0_pay110 x0 x2)) ∗ owns (c : Thread nD τ) arg11 fullShare ((bo10 x0 x2 x3 x4 x5)) ∗ owns (c : Thread nD τ) arg12 fullShare ((bo11 x0 x2 x3 x4 x5)) ∗ owns (c : Thread nD τ) arg13 fullShare ((bo12 x0 x2 x3 x4 x5)) ∗ owns (c : Thread nD τ) arg14 fullShare ((k0_pay169 (bv29 x0 x2 x3))) ∗ owns (c : Thread nD τ) arg15 fullShare ((k0_pay10 (bv290 x0 x2 x3))) ∗ owns (c : Thread nD τ) arg20 fullShare ((k0_pay1 x8))) -∗ K ⟨⟩))
    ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_qkv_rope_eq_skeleton]; unfold cc0_qkv_rope_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S512x2048) _ hz]
    try rfl
  isplitl [H10]
  · iexists _; isplitr; swap; · iexact H10
    ipureintro
    sl_unfold_words
    refine (View.read_writes_eq_canon _ _ _ (View.cover_of_tiled _ ![1, 512, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H11]
  · iexists _; isplitr; swap; · iexact H11
    ipureintro
    sl_unfold_words
    refine (View.read_writes_eq_canon _ _ _ (View.cover_of_tiled _ ![512, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H12]
  · iexists _; isplitr; swap; · iexact H12
    ipureintro
    sl_unfold_words
    refine (View.read_writes_eq_canon _ _ _ (View.cover_of_tiled _ ![512, 128] ?_)).trans ?_
    · rfl
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz]
    rfl
  isplitl [H13]
  · iexists _; isplitr; swap; · iexact H13
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S512x1024) _ hz]
    try rfl
  isplitl [H14]
  · iexists _; isplitr; swap; · iexact H14
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S512x1024) _ hz]
    try rfl
  iexists _; isplitr; swap; · iexact H15
  ipureintro
  sl_unfold_words
  rw [whole_writes hz]
  try simp only [View.readAt_eq_ld, harg1.read_unread, harg2.read_unread, harg3.read_unread, harg4.read_unread, harg5.read_unread, harg6.read_unread, harg7.read_unread, harg8.read_unread, harg9.read_unread, View.ld_unit_zero (S := S128x3072) hz, View.ld_unit_zero (S := S1x2048) hz, View.ld_unit_zero (S := S2048x3072) hz, View.ld_unit_zero (S := S2x32x1024) hz3, View.ld_unit_zero (S := S2x512x1024) hz3, View.ld_unit_zero (S := S32x1024) hz, View.ld_unit_zero (S := S32x128) hz, View.ld_unit_zero (S := S32x2048) hz, View.ld_unit_zero (S := S512x1024) hz, View.ld_unit_zero (S := S512x128) hz, View.ld_unit_zero (S := S512x2048) hz, View.readCov_unit_zero (S := S128x3072) _ hz]
  try rfl

end Cert.Kernel2Ideal.Qkv

end
-- ==== Proof.QkvRun.lean ====
/- The run of the rotary q/k/v projection: what each output's buffer holds after each grid point, and the whole program's run from that. -/
module

public import proofs.«01_k».proof.Proof.QkvBody
public import Idealize.ShloMosaic.Lib.Pipeline.TableIdle

@[expose] public section

set_option maxRecDepth 16384

noncomputable section

namespace Cert.Kernel2Ideal.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond1 : ∀ t : Fin cfg0.N, k0_cond1 (grid0.coords t) = 1#1 ↔ t.val = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val = 0)

theorem hcond2 : ∀ t : Fin cfg0.N, k0_cond2 (grid0.coords t) = 1#1 ↔ ¬t.val = 0 :=
  (fun t => by
    have ht : t.val < 16 := Nat.lt_of_lt_of_eq t.isLt N_0
    have e0 : (grid0.coords t 0).val = t.val / 1 % 16 := Pipeline.Grid.coords_val t 0 (by decide) rfl
    simp only [k0_cond2, e0]
    word_cmp
   : ∀ t : Fin grid0.N, k0_cond2 (grid0.coords t) = 1#1 ↔ ¬t.val = 0)

/-- A tile's own outputs are stored at every point. -/
theorem live (t : Fin cfg0.N) : (!(k0_cond1 (grid0.coords t) == 1#1) && !(k0_cond2 (grid0.coords t) == 1#1)) = false := by
  by_cases h : t.val = 0
  · rw [(hcond1 t).mpr h]; rfl
  · rw [(hcond2 t).mpr h, Bool.and_comm]; rfl

theorem idle15 (t : Fin cfg0.N) (h : ¬t.val = 0) : cfg0.idle 15 (grid0.coords t) = true := by
  have := fun h' => h ((hcond1 t).mp h')
  show (!decide _ : Bool) = true
  simpa using this
theorem live15 (t : Fin cfg0.N) (h : t.val = 0) : cfg0.idle 15 (grid0.coords t) = false := by
  have := (hcond1 t).mpr h
  show (!decide _ : Bool) = false
  simpa using this
theorem fresh15 : cfg0.fresh 15 15 = false := by decide +kernel

theorem idle16 (t : Fin cfg0.N) (h : ¬t.val = 0) : cfg0.idle 16 (grid0.coords t) = true := by
  have := fun h' => h ((hcond1 t).mp h')
  show (!decide _ : Bool) = true
  simpa using this
theorem live16 (t : Fin cfg0.N) (h : t.val = 0) : cfg0.idle 16 (grid0.coords t) = false := by
  have := (hcond1 t).mpr h
  show (!decide _ : Bool) = false
  simpa using this
theorem fresh16 : cfg0.fresh 16 15 = false := by decide +kernel

theorem idle17 (t : Fin cfg0.N) (h : ¬t.val = 0) : cfg0.idle 17 (grid0.coords t) = true := by
  have := fun h' => h ((hcond1 t).mp h')
  show (!decide _ : Bool) = true
  simpa using this
theorem live17 (t : Fin cfg0.N) (h : t.val = 0) : cfg0.idle 17 (grid0.coords t) = false := by
  have := (hcond1 t).mpr h
  show (!decide _ : Bool) = false
  simpa using this
theorem fresh17 : cfg0.fresh 17 15 = false := by decide +kernel

theorem idle18 (t : Fin cfg0.N) (h : ¬t.val = 0) : cfg0.idle 18 (grid0.coords t) = true := by
  have := fun h' => h ((hcond1 t).mp h')
  show (!decide _ : Bool) = true
  simpa using this
theorem live18 (t : Fin cfg0.N) (h : t.val = 0) : cfg0.idle 18 (grid0.coords t) = false := by
  have := (hcond1 t).mpr h
  show (!decide _ : Bool) = false
  simpa using this
theorem fresh18 : cfg0.fresh 18 15 = false := by decide +kernel

/-- The first point. -/
abbrev t0 : Fin cfg0.N := ⟨0, lt_of_lt_of_eq (by decide : 0 < 16) N_0.symm⟩

def tv9 (c : Dev nD) (t : Fin cfg0.N) : Vec F S512x2048 .bf16 := if t.val = 0 then (k0_pay17 (av29 (iblk m c 0 t) (iblk m c 1 t) (iblk m c 2 t))) else (k0_pay110 (iblk m c 0 t) (iblk m c 2 t))
theorem tv9_A (c : Dev nD) (t : Fin cfg0.N) (h : t.val = 0) : tv9 m c t = (k0_pay17 (av29 (iblk m c 0 t) (iblk m c 1 t) (iblk m c 2 t))) := if_pos h
theorem tv9_B (c : Dev nD) (t : Fin cfg0.N) (h : ¬t.val = 0) : tv9 m c t = (k0_pay110 (iblk m c 0 t) (iblk m c 2 t)) := if_neg h
def tv10 (c : Dev nD) (t : Fin cfg0.N) : Vec F S2x512x1024 .bf16 := if t.val = 0 then (ao10 (iblk m c 0 t) (iblk m c 1 t) (iblk m c 2 t) (iblk m c 3 t) (iblk m c 4 t) (iblk m c 5 t) (iblk m c 6 t) (iblk m c 7 t)) else (bo10 (iblk m c 0 t) (iblk m c 2 t) (iblk m c 3 t) (iblk m c 4 t) (iblk m c 5 t))
theorem tv10_A (c : Dev nD) (t : Fin cfg0.N) (h : t.val = 0) : tv10 m c t = (ao10 (iblk m c 0 t) (iblk m c 1 t) (iblk m c 2 t) (iblk m c 3 t) (iblk m c 4 t) (iblk m c 5 t) (iblk m c 6 t) (iblk m c 7 t)) := if_pos h
theorem tv10_B (c : Dev nD) (t : Fin cfg0.N) (h : ¬t.val = 0) : tv10 m c t = (bo10 (iblk m c 0 t) (iblk m c 2 t) (iblk m c 3 t) (iblk m c 4 t) (iblk m c 5 t)) := if_neg h
def tv11 (c : Dev nD) (t : Fin cfg0.N) : Vec F S512x1024 .f32 := if t.val = 0 then (ao11 (iblk m c 0 t) (iblk m c 1 t) (iblk m c 2 t) (iblk m c 3 t) (iblk m c 4 t) (iblk m c 5 t) (iblk m c 6 t) (iblk m c 7 t)) else (bo11 (iblk m c 0 t) (iblk m c 2 t) (iblk m c 3 t) (iblk m c 4 t) (iblk m c 5 t))
theorem tv11_A (c : Dev nD) (t : Fin cfg0.N) (h : t.val = 0) : tv11 m c t = (ao11 (iblk m c 0 t) (iblk m c 1 t) (iblk m c 2 t) (iblk m c 3 t) (iblk m c 4 t) (iblk m c 5 t) (iblk m c 6 t) (iblk m c 7 t)) := if_pos h
theorem tv11_B (c : Dev nD) (t : Fin cfg0.N) (h : ¬t.val = 0) : tv11 m c t = (bo11 (iblk m c 0 t) (iblk m c 2 t) (iblk m c 3 t) (iblk m c 4 t) (iblk m c 5 t)) := if_neg h
def tv12 (c : Dev nD) (t : Fin cfg0.N) : Vec F S512x1024 .bf16 := if t.val = 0 then (ao12 (iblk m c 0 t) (iblk m c 1 t) (iblk m c 2 t) (iblk m c 3 t) (iblk m c 4 t) (iblk m c 5 t) (iblk m c 6 t) (iblk m c 7 t)) else (bo12 (iblk m c 0 t) (iblk m c 2 t) (iblk m c 3 t) (iblk m c 4 t) (iblk m c 5 t))
theorem tv12_A (c : Dev nD) (t : Fin cfg0.N) (h : t.val = 0) : tv12 m c t = (ao12 (iblk m c 0 t) (iblk m c 1 t) (iblk m c 2 t) (iblk m c 3 t) (iblk m c 4 t) (iblk m c 5 t) (iblk m c 6 t) (iblk m c 7 t)) := if_pos h
theorem tv12_B (c : Dev nD) (t : Fin cfg0.N) (h : ¬t.val = 0) : tv12 m c t = (bo12 (iblk m c 0 t) (iblk m c 2 t) (iblk m c 3 t) (iblk m c 4 t) (iblk m c 5 t)) := if_neg h
def tv13 (c : Dev nD) (t : Fin cfg0.N) : Vec F S512x1024 .f32 := if t.val = 0 then (k0_pay7 (av32 (iblk m c 0 t) (iblk m c 1 t) (iblk m c 2 t) (iblk m c 3 t))) else (k0_pay169 (bv29 (iblk m c 0 t) (iblk m c 2 t) (iblk m c 3 t)))
theorem tv13_A (c : Dev nD) (t : Fin cfg0.N) (h : t.val = 0) : tv13 m c t = (k0_pay7 (av32 (iblk m c 0 t) (iblk m c 1 t) (iblk m c 2 t) (iblk m c 3 t))) := if_pos h
theorem tv13_B (c : Dev nD) (t : Fin cfg0.N) (h : ¬t.val = 0) : tv13 m c t = (k0_pay169 (bv29 (iblk m c 0 t) (iblk m c 2 t) (iblk m c 3 t))) := if_neg h
def tv14 (c : Dev nD) (t : Fin cfg0.N) : Vec F S512x1024 .bf16 := if t.val = 0 then (k0_pay8 (av32 (iblk m c 0 t) (iblk m c 1 t) (iblk m c 2 t) (iblk m c 3 t))) else (k0_pay10 (bv290 (iblk m c 0 t) (iblk m c 2 t) (iblk m c 3 t)))
theorem tv14_A (c : Dev nD) (t : Fin cfg0.N) (h : t.val = 0) : tv14 m c t = (k0_pay8 (av32 (iblk m c 0 t) (iblk m c 1 t) (iblk m c 2 t) (iblk m c 3 t))) := if_pos h
theorem tv14_B (c : Dev nD) (t : Fin cfg0.N) (h : ¬t.val = 0) : tv14 m c t = (k0_pay10 (bv290 (iblk m c 0 t) (iblk m c 2 t) (iblk m c 3 t))) := if_neg h
def sv15 (c : Dev nD) : Vec F S32x2048 .bf16 := (k0_pay18 (av29 (iblk m c 0 t0) (iblk m c 1 t0) (iblk m c 2 t0)))
theorem sv15_eq (c : Dev nD) (t : Fin cfg0.N) (h : t.val = 0) : sv15 m c = (k0_pay18 (av29 (iblk m c 0 t) (iblk m c 1 t) (iblk m c 2 t))) := by
  obtain rfl : t = t0 := Fin.ext h
  rfl
def sv16 (c : Dev nD) : Vec F S2x32x1024 .bf16 := (ao16 (iblk m c 0 t0) (iblk m c 1 t0) (iblk m c 2 t0) (iblk m c 3 t0) (iblk m c 4 t0) (iblk m c 5 t0) (iblk m c 6 t0) (iblk m c 7 t0))
theorem sv16_eq (c : Dev nD) (t : Fin cfg0.N) (h : t.val = 0) : sv16 m c = (ao16 (iblk m c 0 t) (iblk m c 1 t) (iblk m c 2 t) (iblk m c 3 t) (iblk m c 4 t) (iblk m c 5 t) (iblk m c 6 t) (iblk m c 7 t)) := by
  obtain rfl : t = t0 := Fin.ext h
  rfl
def sv17 (c : Dev nD) : Vec F S32x1024 .f32 := (ao17 (iblk m c 0 t0) (iblk m c 1 t0) (iblk m c 2 t0) (iblk m c 3 t0) (iblk m c 4 t0) (iblk m c 5 t0) (iblk m c 6 t0) (iblk m c 7 t0))
theorem sv17_eq (c : Dev nD) (t : Fin cfg0.N) (h : t.val = 0) : sv17 m c = (ao17 (iblk m c 0 t) (iblk m c 1 t) (iblk m c 2 t) (iblk m c 3 t) (iblk m c 4 t) (iblk m c 5 t) (iblk m c 6 t) (iblk m c 7 t)) := by
  obtain rfl : t = t0 := Fin.ext h
  rfl
def sv18 (c : Dev nD) : Vec F S32x1024 .f32 := (k0_pay9 (av32 (iblk m c 0 t0) (iblk m c 1 t0) (iblk m c 2 t0) (iblk m c 3 t0)))
theorem sv18_eq (c : Dev nD) (t : Fin cfg0.N) (h : t.val = 0) : sv18 m c = (k0_pay9 (av32 (iblk m c 0 t) (iblk m c 1 t) (iblk m c 2 t) (iblk m c 3 t))) := by
  obtain rfl : t = t0 := Fin.ext h
  rfl
def dv19 (c : Dev nD) (t : Fin cfg0.N) : Vec F S128x3072 .bf16 := (k0_pay1 (X0_8 m c t))
theorem dv19_eq (c : Dev nD) (t : Fin cfg0.N) : dv19 m c t = (k0_pay1 (X0_8 m c t)) := rfl

/-- The proof data: inputs at their blocks, the outputs at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => X0_8 m c t
    | ⟨9, _⟩ => tv9 m c t
    | ⟨10, _⟩ => tv10 m c t
    | ⟨11, _⟩ => tv11 m c t
    | ⟨12, _⟩ => tv12 m c t
    | ⟨13, _⟩ => tv13 m c t
    | ⟨14, _⟩ => tv14 m c t
    | ⟨15, _⟩ => sv15 m c
    | ⟨16, _⟩ => sv16 m c
    | ⟨17, _⟩ => sv17 m c
    | ⟨18, _⟩ => sv18 m c
    | ⟨19, _⟩ => dv19 m c t
    | ⟨n + 20, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = X0_8 m c t := by dsimp only [dats]
theorem after_9 (c : Dev nD) (t : Fin cfg0.N) : (dats m 0 c).after 9 t = tv9 m c t := by dsimp only [dats]
theorem after_10 (c : Dev nD) (t : Fin cfg0.N) : (dats m 0 c).after 10 t = tv10 m c t := by dsimp only [dats]
theorem after_11 (c : Dev nD) (t : Fin cfg0.N) : (dats m 0 c).after 11 t = tv11 m c t := by dsimp only [dats]
theorem after_12 (c : Dev nD) (t : Fin cfg0.N) : (dats m 0 c).after 12 t = tv12 m c t := by dsimp only [dats]
theorem after_13 (c : Dev nD) (t : Fin cfg0.N) : (dats m 0 c).after 13 t = tv13 m c t := by dsimp only [dats]
theorem after_14 (c : Dev nD) (t : Fin cfg0.N) : (dats m 0 c).after 14 t = tv14 m c t := by dsimp only [dats]
theorem after_15 (c : Dev nD) (t : Fin cfg0.N) : (dats m 0 c).after 15 t = sv15 m c := by dsimp only [dats]
theorem after_16 (c : Dev nD) (t : Fin cfg0.N) : (dats m 0 c).after 16 t = sv16 m c := by dsimp only [dats]
theorem after_17 (c : Dev nD) (t : Fin cfg0.N) : (dats m 0 c).after 17 t = sv17 m c := by dsimp only [dats]
theorem after_18 (c : Dev nD) (t : Fin cfg0.N) : (dats m 0 c).after 18 t = sv18 m c := by dsimp only [dats]
theorem after_19 (c : Dev nD) (t : Fin cfg0.N) : (dats m 0 c).after 19 t = dv19 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = X0_8 m c t :=
  before0_8_of m (dats m 0 c) (A_eq m c 8) (after_8 m c) t d
theorem leaves_0 (c : Dev nD) (t : Fin cfg0.N) :
    (dats m 0 c).leavesExact 0 t = owns (c : Thread nD τ) (win0_0.stage (cfg0.slots t 0)) fullShare (iblk m c 0 t) := by
  rw [← after_0 m c t]
theorem leaves_1 (c : Dev nD) (t : Fin cfg0.N) :
    (dats m 0 c).leavesExact 1 t = owns (c : Thread nD τ) (win0_1.stage (cfg0.slots t 1)) fullShare (iblk m c 1 t) := by
  rw [← after_1 m c t]
theorem leaves_2 (c : Dev nD) (t : Fin cfg0.N) :
    (dats m 0 c).leavesExact 2 t = owns (c : Thread nD τ) (win0_2.stage (cfg0.slots t 2)) fullShare (iblk m c 2 t) := by
  rw [← after_2 m c t]
theorem leaves_3 (c : Dev nD) (t : Fin cfg0.N) :
    (dats m 0 c).leavesExact 3 t = owns (c : Thread nD τ) (win0_3.stage (cfg0.slots t 3)) fullShare (iblk m c 3 t) := by
  rw [← after_3 m c t]
theorem leaves_4 (c : Dev nD) (t : Fin cfg0.N) :
    (dats m 0 c).leavesExact 4 t = owns (c : Thread nD τ) (win0_4.stage (cfg0.slots t 4)) fullShare (iblk m c 4 t) := by
  rw [← after_4 m c t]
theorem leaves_5 (c : Dev nD) (t : Fin cfg0.N) :
    (dats m 0 c).leavesExact 5 t = owns (c : Thread nD τ) (win0_5.stage (cfg0.slots t 5)) fullShare (iblk m c 5 t) := by
  rw [← after_5 m c t]
theorem leaves_6 (c : Dev nD) (t : Fin cfg0.N) :
    (dats m 0 c).leavesExact 6 t = owns (c : Thread nD τ) (win0_6.stage (cfg0.slots t 6)) fullShare (iblk m c 6 t) := by
  rw [← after_6 m c t]
theorem leaves_7 (c : Dev nD) (t : Fin cfg0.N) :
    (dats m 0 c).leavesExact 7 t = owns (c : Thread nD τ) (win0_7.stage (cfg0.slots t 7)) fullShare (iblk m c 7 t) := by
  rw [← after_7 m c t]
theorem leaves_8 (c : Dev nD) (t : Fin cfg0.N) :
    (dats m 0 c).leavesExact 8 t = owns (c : Thread nD τ) (win0_8.stage (cfg0.slots t 8)) fullShare (X0_8 m c t) := by
  rw [← after_8 m c t]
theorem leaves_19 (c : Dev nD) (t : Fin cfg0.N) :
    (dats m 0 c).leavesExact 19 t = owns (c : Thread nD τ) (win0_19.stage (cfg0.slots t 19)) fullShare (dv19 m c t) := by
  rw [← after_19 m c t]
theorem leaves_9 (c : Dev nD) (t : Fin cfg0.N) :
    (dats m 0 c).leavesExact 9 t = owns (c : Thread nD τ) (win0_9.stage (cfg0.slots t 9)) fullShare (tv9 m c t) := by
  rw [← after_9 m c t]; unfold Dat.leavesExact; rw [show cfg0.idle 9 (cfg0.grid.coords t) = false from live t]
theorem leaves_10 (c : Dev nD) (t : Fin cfg0.N) :
    (dats m 0 c).leavesExact 10 t = owns (c : Thread nD τ) (win0_10.stage (cfg0.slots t 10)) fullShare (tv10 m c t) := by
  rw [← after_10 m c t]; unfold Dat.leavesExact; rw [show cfg0.idle 10 (cfg0.grid.coords t) = false from live t]
theorem leaves_11 (c : Dev nD) (t : Fin cfg0.N) :
    (dats m 0 c).leavesExact 11 t = owns (c : Thread nD τ) (win0_11.stage (cfg0.slots t 11)) fullShare (tv11 m c t) := by
  rw [← after_11 m c t]; unfold Dat.leavesExact; rw [show cfg0.idle 11 (cfg0.grid.coords t) = false from live t]
theorem leaves_12 (c : Dev nD) (t : Fin cfg0.N) :
    (dats m 0 c).leavesExact 12 t = owns (c : Thread nD τ) (win0_12.stage (cfg0.slots t 12)) fullShare (tv12 m c t) := by
  rw [← after_12 m c t]; unfold Dat.leavesExact; rw [show cfg0.idle 12 (cfg0.grid.coords t) = false from live t]
theorem leaves_13 (c : Dev nD) (t : Fin cfg0.N) :
    (dats m 0 c).leavesExact 13 t = owns (c : Thread nD τ) (win0_13.stage (cfg0.slots t 13)) fullShare (tv13 m c t) := by
  rw [← after_13 m c t]; unfold Dat.leavesExact; rw [show cfg0.idle 13 (cfg0.grid.coords t) = false from live t]
theorem leaves_14 (c : Dev nD) (t : Fin cfg0.N) :
    (dats m 0 c).leavesExact 14 t = owns (c : Thread nD τ) (win0_14.stage (cfg0.slots t 14)) fullShare (tv14 m c t) := by
  rw [← after_14 m c t]; unfold Dat.leavesExact; rw [show cfg0.idle 14 (cfg0.grid.coords t) = false from live t]
theorem leaves_15 (c : Dev nD) (t : Fin cfg0.N) (h : t.val = 0) :
    (dats m 0 c).leavesExact 15 t = owns (c : Thread nD τ) (win0_15.stage (cfg0.slots t 15)) fullShare (sv15 m c) := by
  rw [← after_15 m c t]; unfold Dat.leavesExact; rw [show cfg0.idle 15 (cfg0.grid.coords t) = false from live15 t h]
theorem before_15_last (c : Dev nD) (t : Fin cfg0.N) (h : t.val = 15) (d) : (dats m 0 c).before 15 t d = sv15 m c := by
  refine (Dat.before_out_traj (dats m 0 c) 15 rfl (fun _ _ => rfl) (fun t _ _ _ => by rw [after_15, after_15]) t.val t rfl d).trans ?_
  rw [if_neg (by rw [h, fresh15]; exact Bool.false_ne_true)]; exact after_15 m c _
theorem leaves_15_idle (c : Dev nD) (t : Fin cfg0.N) (h : ¬t.val = 0) :
    iprop(∃ d, owns (c : Thread nD τ) (win0_15.stage (cfg0.slots t 15)) fullShare ((dats m 0 c).before 15 t d)) ⊢ (dats m 0 c).leavesExact 15 t := by
  have hN : t.val < 16 := lt_of_lt_of_eq t.isLt (show cfg0.N = 16 from N_0)
  by_cases hl : t.val = 15
  · iintro ⟨%d, H⟩
    rw [before_15_last m c t hl d, ← after_15 m c t]
    unfold Dat.leavesExact
    rw [show cfg0.idle 15 (cfg0.grid.coords t) = true from idle15 t h, (flush0_15 t).mpr (by omega)]
    iexact H
  · rw [Dat.leavesExact_idle (dats m 0 c) 15 t (idle15 t h) (Bool.eq_false_iff.mpr fun hf => hl (by have := (flush0_15 t).mp hf; omega))]
theorem leaves_16 (c : Dev nD) (t : Fin cfg0.N) (h : t.val = 0) :
    (dats m 0 c).leavesExact 16 t = owns (c : Thread nD τ) (win0_16.stage (cfg0.slots t 16)) fullShare (sv16 m c) := by
  rw [← after_16 m c t]; unfold Dat.leavesExact; rw [show cfg0.idle 16 (cfg0.grid.coords t) = false from live16 t h]
theorem before_16_last (c : Dev nD) (t : Fin cfg0.N) (h : t.val = 15) (d) : (dats m 0 c).before 16 t d = sv16 m c := by
  refine (Dat.before_out_traj (dats m 0 c) 16 rfl (fun _ _ => rfl) (fun t _ _ _ => by rw [after_16, after_16]) t.val t rfl d).trans ?_
  rw [if_neg (by rw [h, fresh16]; exact Bool.false_ne_true)]; exact after_16 m c _
theorem leaves_16_idle (c : Dev nD) (t : Fin cfg0.N) (h : ¬t.val = 0) :
    iprop(∃ d, owns (c : Thread nD τ) (win0_16.stage (cfg0.slots t 16)) fullShare ((dats m 0 c).before 16 t d)) ⊢ (dats m 0 c).leavesExact 16 t := by
  have hN : t.val < 16 := lt_of_lt_of_eq t.isLt (show cfg0.N = 16 from N_0)
  by_cases hl : t.val = 15
  · iintro ⟨%d, H⟩
    rw [before_16_last m c t hl d, ← after_16 m c t]
    unfold Dat.leavesExact
    rw [show cfg0.idle 16 (cfg0.grid.coords t) = true from idle16 t h, (flush0_16 t).mpr (by omega)]
    iexact H
  · rw [Dat.leavesExact_idle (dats m 0 c) 16 t (idle16 t h) (Bool.eq_false_iff.mpr fun hf => hl (by have := (flush0_16 t).mp hf; omega))]
theorem leaves_17 (c : Dev nD) (t : Fin cfg0.N) (h : t.val = 0) :
    (dats m 0 c).leavesExact 17 t = owns (c : Thread nD τ) (win0_17.stage (cfg0.slots t 17)) fullShare (sv17 m c) := by
  rw [← after_17 m c t]; unfold Dat.leavesExact; rw [show cfg0.idle 17 (cfg0.grid.coords t) = false from live17 t h]
theorem before_17_last (c : Dev nD) (t : Fin cfg0.N) (h : t.val = 15) (d) : (dats m 0 c).before 17 t d = sv17 m c := by
  refine (Dat.before_out_traj (dats m 0 c) 17 rfl (fun _ _ => rfl) (fun t _ _ _ => by rw [after_17, after_17]) t.val t rfl d).trans ?_
  rw [if_neg (by rw [h, fresh17]; exact Bool.false_ne_true)]; exact after_17 m c _
theorem leaves_17_idle (c : Dev nD) (t : Fin cfg0.N) (h : ¬t.val = 0) :
    iprop(∃ d, owns (c : Thread nD τ) (win0_17.stage (cfg0.slots t 17)) fullShare ((dats m 0 c).before 17 t d)) ⊢ (dats m 0 c).leavesExact 17 t := by
  have hN : t.val < 16 := lt_of_lt_of_eq t.isLt (show cfg0.N = 16 from N_0)
  by_cases hl : t.val = 15
  · iintro ⟨%d, H⟩
    rw [before_17_last m c t hl d, ← after_17 m c t]
    unfold Dat.leavesExact
    rw [show cfg0.idle 17 (cfg0.grid.coords t) = true from idle17 t h, (flush0_17 t).mpr (by omega)]
    iexact H
  · rw [Dat.leavesExact_idle (dats m 0 c) 17 t (idle17 t h) (Bool.eq_false_iff.mpr fun hf => hl (by have := (flush0_17 t).mp hf; omega))]
theorem leaves_18 (c : Dev nD) (t : Fin cfg0.N) (h : t.val = 0) :
    (dats m 0 c).leavesExact 18 t = owns (c : Thread nD τ) (win0_18.stage (cfg0.slots t 18)) fullShare (sv18 m c) := by
  rw [← after_18 m c t]; unfold Dat.leavesExact; rw [show cfg0.idle 18 (cfg0.grid.coords t) = false from live18 t h]
theorem before_18_last (c : Dev nD) (t : Fin cfg0.N) (h : t.val = 15) (d) : (dats m 0 c).before 18 t d = sv18 m c := by
  refine (Dat.before_out_traj (dats m 0 c) 18 rfl (fun _ _ => rfl) (fun t _ _ _ => by rw [after_18, after_18]) t.val t rfl d).trans ?_
  rw [if_neg (by rw [h, fresh18]; exact Bool.false_ne_true)]; exact after_18 m c _
theorem leaves_18_idle (c : Dev nD) (t : Fin cfg0.N) (h : ¬t.val = 0) :
    iprop(∃ d, owns (c : Thread nD τ) (win0_18.stage (cfg0.slots t 18)) fullShare ((dats m 0 c).before 18 t d)) ⊢ (dats m 0 c).leavesExact 18 t := by
  have hN : t.val < 16 := lt_of_lt_of_eq t.isLt (show cfg0.N = 16 from N_0)
  by_cases hl : t.val = 15
  · iintro ⟨%d, H⟩
    rw [before_18_last m c t hl d, ← after_18 m c t]
    unfold Dat.leavesExact
    rw [show cfg0.idle 18 (cfg0.grid.coords t) = true from idle18 t h, (flush0_18 t).mpr (by omega)]
    iexact H
  · rw [Dat.leavesExact_idle (dats m 0 c) 18 t (idle18 t h) (Bool.eq_false_iff.mpr fun hf => hl (by have := (flush0_18 t).mp hf; omega))]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  simp only [leaves_0, leaves_1, leaves_2, leaves_3, leaves_4, leaves_5, leaves_6, leaves_7, leaves_8, leaves_9, leaves_10, leaves_11, leaves_12, leaves_13, leaves_14, leaves_19]
  have hN : t.val < 16 := lt_of_lt_of_eq t.isLt (show cfg0.N = 16 from N_0)
  by_cases h0 : t.val = 0
  · rw [leaves_15 m c t h0, sv15_eq m c t h0]
    rw [leaves_16 m c t h0, sv16_eq m c t h0]
    rw [leaves_17 m c t h0, sv17_eq m c t h0]
    rw [leaves_18 m c t h0, sv18_eq m c t h0]
    rw [tv9_A m c t h0]
    rw [tv10_A m c t h0]
    rw [tv11_A m c t h0]
    rw [tv12_A m c t h0]
    rw [tv13_A m c t h0]
    rw [tv14_A m c t h0]
    rw [dv19_eq m c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15, H16, H17, H18, H19⟩
    iapply (body_A c (grid0.coords t) _ _ _ _ _ _ _ _ _ _ _ _ _ _ _ _ _ _ _ _ _ _ _ _ _ _ _ _ _ _ _ _ _ _ _ _ _ _ _ _ ((hcond1 t).mpr h0) (fun h => absurd h0 ((hcond2 t).mp h)) (iblk m c 0 t) (iblk m c 1 t) (iblk m c 2 t) (iblk m c 3 t) (iblk m c 4 t) (iblk m c 5 t) (iblk m c 6 t) (iblk m c 7 t) (X0_8 m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · icases H9 with ⟨%d9, H9⟩; iexists _; iexact H9
    isplitl [H10]; · icases H10 with ⟨%d10, H10⟩; iexists _; iexact H10
    isplitl [H11]; · icases H11 with ⟨%d11, H11⟩; iexists _; iexact H11
    isplitl [H12]; · icases H12 with ⟨%d12, H12⟩; iexists _; iexact H12
    isplitl [H13]; · icases H13 with ⟨%d13, H13⟩; iexists _; iexact H13
    isplitl [H14]; · icases H14 with ⟨%d14, H14⟩; iexists _; iexact H14
    isplitl [H15]; · icases H15 with ⟨%d15, H15⟩; iexists _; iexact H15
    isplitl [H16]; · icases H16 with ⟨%d16, H16⟩; iexists _; iexact H16
    isplitl [H17]; · icases H17 with ⟨%d17, H17⟩; iexists _; iexact H17
    isplitl [H18]; · icases H18 with ⟨%d18, H18⟩; iexists _; iexact H18
    isplitl [H19]; · icases H19 with ⟨%d19, H19⟩; iexists _; iexact H19
    iintro ⟨H0, H1, H2, H3, H4, H5, H6, H7, H8, H9, H10, H11, H12, H13, H14, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [tv9_B m c t h0]
    rw [tv10_B m c t h0]
    rw [tv11_B m c t h0]
    rw [tv12_B m c t h0]
    rw [tv13_B m c t h0]
    rw [tv14_B m c t h0]
    rw [dv19_eq m c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15, H16, H17, H18, H19⟩
    iapply (body_B c (grid0.coords t) _ _ _ _ _ _ _ _ _ _ _ _ _ _ _ _ _ _ _ _ _ _ _ _ _ _ _ _ _ _ _ _ _ _ _ _ _ _ _ _ (fun h => absurd ((hcond1 t).mp h) h0) ((hcond2 t).mpr h0) (iblk m c 0 t) (iblk m c 1 t) (iblk m c 2 t) (iblk m c 3 t) (iblk m c 4 t) (iblk m c 5 t) (iblk m c 6 t) (iblk m c 7 t) (X0_8 m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · icases H9 with ⟨%d9, H9⟩; iexists _; iexact H9
    isplitl [H10]; · icases H10 with ⟨%d10, H10⟩; iexists _; iexact H10
    isplitl [H11]; · icases H11 with ⟨%d11, H11⟩; iexists _; iexact H11
    isplitl [H12]; · icases H12 with ⟨%d12, H12⟩; iexists _; iexact H12
    isplitl [H13]; · icases H13 with ⟨%d13, H13⟩; iexists _; iexact H13
    isplitl [H14]; · icases H14 with ⟨%d14, H14⟩; iexists _; iexact H14
    isplitl [H19]; · icases H19 with ⟨%d19, H19⟩; iexists _; iexact H19
    iintro ⟨H0, H1, H2, H3, H4, H5, H6, H7, H8, H9, H10, H11, H12, H13, H14, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iapply (leaves_15_idle m c t h0); iexact H15
    isplitl [H16]; · iapply (leaves_16_idle m c t h0); iexact H16
    isplitl [H17]; · iapply (leaves_17_idle m c t h0); iexact H17
    isplitl [H18]; · iapply (leaves_18_idle m c t h0); iexact H18
    iexact H19

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run -/

set_option backward.isDefEq.respectTransparency.types false in
/-- The whole program's run: every array of the kernel ends as the proof data says, the counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel2Ideal.Qkv

end
-- ==== Proof.RopeSpec.lean ====
/- The rotary embedding and the projection it is applied to, in closed form over the extended reals. -/
module

public import proofs.«01_k».proof.Proof.Spec

@[expose] public section

noncomputable section

namespace Cert.Spec

open Idealize.ShloMosaic

/-- A position's angle at a lane of half a head: the position times the lane's frequency. -/
def angle (p : BitVec 32) (l : Fin 32) : EReal :=
  FloatOps.sitofp (F := Ideal) FTy.f32 p * Ideal.pow (Ideal.ofBits FTy.f32 0x461C4000#32)
    (Ideal.div (-FloatOps.sitofp (F := Ideal) FTy.f32 (BitVec.ofNat 32 l.val)) (Ideal.ofBits FTy.f32 0x42000000#32))

/-- The rotary embedding of a row at position `p`: in every head of 64 columns the two halves rotated by the angles. -/
def rope (z : Fin 1024 → EReal) (p : BitVec 32) (d : Fin 1024) : EReal :=
  if h : d.val % 64 < 32 then
    z d * Ideal.cos (angle p ⟨d.val % 32, by omega⟩) - z ⟨d.val + 32, by omega⟩ * Ideal.sin (angle p ⟨d.val % 32, by omega⟩)
  else z d * Ideal.cos (angle p ⟨d.val % 32, by omega⟩) + z ⟨d.val - 32, by omega⟩ * Ideal.sin (angle p ⟨d.val % 32, by omega⟩)

/-- The same, from a table of cosines and one of sines whose signs are in the table, the partner fetched by a rotation of
    the 128 lanes of its strip. -/
def lanes (z : Fin 3072 → EReal) (cs sn : Fin 128 → EReal) (q : Fin 8) (l : Fin 128) : EReal :=
  z ⟨1024 + 128 * q.val + l.val, by omega⟩ * cs l
    + Scalar.select (IntOp.cmpi CmpIPredicate.eq (IntOp.andi (BitVec.ofNat 32 l.val) 32#32) 0#32)
        (z ⟨1024 + 128 * q.val + (l.val + 128 - 96) % 128, by omega⟩) (z ⟨1024 + 128 * q.val + (l.val + 128 - 32) % 128, by omega⟩) * sn l

theorem mask (l : Fin 128) : IntOp.cmpi CmpIPredicate.eq (IntOp.andi (BitVec.ofNat 32 l.val) 32#32) 0#32 = if l.val % 64 < 32 then 1#1 else 0#1 := by
  revert l
  decide +kernel

/-- The two agree when the tables hold what they should. -/
theorem lanes_eq (z : Fin 3072 → EReal) (cs sn : Fin 128 → EReal) (p : BitVec 32) (q : Fin 8) (l : Fin 128) (d : Fin 1024) (hd : d.val = 128 * q.val + l.val)
    (hc : cs l = Ideal.cos (angle p ⟨l.val % 32, by omega⟩))
    (hs : sn l = Scalar.select (IntOp.cmpi CmpIPredicate.eq (IntOp.andi (BitVec.ofNat 32 l.val) 32#32) 0#32)
      (-Ideal.sin (angle p ⟨l.val % 32, by omega⟩)) (Ideal.sin (angle p ⟨l.val % 32, by omega⟩))) :
    lanes z cs sn q l = rope (fun e => z ⟨1024 + e.val, by omega⟩) p d := by
  have hl : (⟨l.val % 32, by omega⟩ : Fin 32) = ⟨d.val % 32, by omega⟩ := Fin.ext (by first | omega | (simp only; omega))
  unfold lanes rope
  rw [hc, hs, mask l, hl]
  have e0 : (⟨1024 + 128 * q.val + l.val, by omega⟩ : Fin 3072) = ⟨1024 + d.val, by omega⟩ := Fin.ext (by simp only; omega)
  rw [e0]
  by_cases h : l.val % 64 < 32
  · have e1 : (⟨1024 + 128 * q.val + (l.val + 128 - 96) % 128, by omega⟩ : Fin 3072) = ⟨1024 + (d.val + 32), by omega⟩ := Fin.ext (by simp only; omega)
    rw [if_pos h, dif_pos (show d.val % 64 < 32 by omega), e1]
    refine Eq.trans ?_ (sub_eq_add_neg _ _).symm
    rw [← mul_neg]
    rfl
  · have e1 : (⟨1024 + 128 * q.val + (l.val + 128 - 32) % 128, by omega⟩ : Fin 3072) = ⟨1024 + (d.val - 32), by omega⟩ := Fin.ext (by simp only; omega)
    rw [if_neg h, dif_neg (show ¬d.val % 64 < 32 by omega), e1]
    rfl

/-- Equal places and equal lanes give equal rotations. -/
theorem rope_lo {N : ℕ} (z : Fin N → EReal) (p p' : BitVec 32) (n n' : ℕ) (a a' b b' : Fin N) (hp : p = p') (hn : n = n') (ha : a = a') (hb : b = b') :
    z a * Ideal.cos (FloatOps.sitofp (F := Ideal) FTy.f32 p * Ideal.pow (Ideal.ofBits FTy.f32 0x461C4000#32) (Ideal.div (-FloatOps.sitofp (F := Ideal) FTy.f32 (BitVec.ofNat 32 n)) (Ideal.ofBits FTy.f32 0x42000000#32))) - z b * Ideal.sin (FloatOps.sitofp (F := Ideal) FTy.f32 p * Ideal.pow (Ideal.ofBits FTy.f32 0x461C4000#32) (Ideal.div (-FloatOps.sitofp (F := Ideal) FTy.f32 (BitVec.ofNat 32 n)) (Ideal.ofBits FTy.f32 0x42000000#32)))
      = z a' * Ideal.cos (FloatOps.sitofp (F := Ideal) FTy.f32 p' * Ideal.pow (Ideal.ofBits FTy.f32 0x461C4000#32) (Ideal.div (-FloatOps.sitofp (F := Ideal) FTy.f32 (BitVec.ofNat 32 n')) (Ideal.ofBits FTy.f32 0x42000000#32))) - z b' * Ideal.sin (FloatOps.sitofp (F := Ideal) FTy.f32 p' * Ideal.pow (Ideal.ofBits FTy.f32 0x461C4000#32) (Ideal.div (-FloatOps.sitofp (F := Ideal) FTy.f32 (BitVec.ofNat 32 n')) (Ideal.ofBits FTy.f32 0x42000000#32))) := by
  rw [hp, hn, ha, hb]
/-- Equal places and equal lanes give equal rotations. -/
theorem rope_hi {N : ℕ} (z : Fin N → EReal) (p p' : BitVec 32) (n n' : ℕ) (a a' b b' : Fin N) (hp : p = p') (hn : n = n') (ha : a = a') (hb : b = b') :
    z a * Ideal.cos (FloatOps.sitofp (F := Ideal) FTy.f32 p * Ideal.pow (Ideal.ofBits FTy.f32 0x461C4000#32) (Ideal.div (-FloatOps.sitofp (F := Ideal) FTy.f32 (BitVec.ofNat 32 n)) (Ideal.ofBits FTy.f32 0x42000000#32))) + z b * Ideal.sin (FloatOps.sitofp (F := Ideal) FTy.f32 p * Ideal.pow (Ideal.ofBits FTy.f32 0x461C4000#32) (Ideal.div (-FloatOps.sitofp (F := Ideal) FTy.f32 (BitVec.ofNat 32 n)) (Ideal.ofBits FTy.f32 0x42000000#32)))
      = z a' * Ideal.cos (FloatOps.sitofp (F := Ideal) FTy.f32 p' * Ideal.pow (Ideal.ofBits FTy.f32 0x461C4000#32) (Ideal.div (-FloatOps.sitofp (F := Ideal) FTy.f32 (BitVec.ofNat 32 n')) (Ideal.ofBits FTy.f32 0x42000000#32))) + z b' * Ideal.sin (FloatOps.sitofp (F := Ideal) FTy.f32 p' * Ideal.pow (Ideal.ofBits FTy.f32 0x461C4000#32) (Ideal.div (-FloatOps.sitofp (F := Ideal) FTy.f32 (BitVec.ofNat 32 n')) (Ideal.ofBits FTy.f32 0x42000000#32))) := by
  rw [hp, hn, ha, hb]

end Cert.Spec

end
-- ==== Proof.QkvPure.lean ====
/- The projection kernel's stored values, read at an index over the extended reals. -/
module

public import proofs.«01_k».proof.Proof.QkvBody
public import proofs.«01_k».proof.Proof.RopeSpec

@[expose] public section

set_option maxRecDepth 16384

noncomputable section

namespace Cert.Kernel2Ideal.Qkv

open Idealize.ShloMosaic Idealize.ShloMosaic.TcCoe Idealize.SL.Sem
open Idealize.ShloMosaic.Pipeline (Dat)
open Cert.Kernel2Ideal Cert.Kernel2Ideal.Gen Cert.Spec

variable (x0 : FVec Ideal S512x2048 .f32) (x1 : FVec Ideal S32x2048 .f32) (x2 : FVec Ideal S1x2048 .f32) (x3 : FVec Ideal S2048x3072 .bf16)
  (x4 x5 : FVec Ideal S512x128 .f32) (x6 x7 : FVec Ideal S32x128 .f32)

/-- The normalised row. -/
abbrev HN {R : ℕ} (x : FVec Ideal ⟨2, ![R, 2048]⟩ .f32) (g : FVec Ideal S1x2048 .f32) (r : Fin R) : Fin 2048 → EReal :=
  rmsn (Ideal.ofBits .f32 0x45000000#32) (Ideal.ofBits .f32 0x3727C5AC#32) (fun k => x (ix2 r k)) (fun k => g (ix2 0 k))
/-- The row's products with the projection's columns. -/
abbrev ZN {R : ℕ} (x : FVec Ideal ⟨2, ![R, 2048]⟩ .f32) (g : FVec Ideal S1x2048 .f32) (w : FVec Ideal S2048x3072 .bf16) (r : Fin R) (e : Fin 3072) : EReal :=
  ∑ k : Fin 2048, HN x g r k * w (ix2 k e)

set_option maxHeartbeats 2000000 in
theorem h17 (r : Fin 512) (d : Fin 2048) : k0_pay17 (F := Ideal) (av29 x0 x1 x2) (ix2 r d) = HN x0 x2 r d := by
  pointwise [k0_pay17, av29, k0_pay11, rmsn]
set_option maxHeartbeats 2000000 in
theorem h18 (r : Fin 32) (d : Fin 2048) : k0_pay18 (F := Ideal) (av29 x0 x1 x2) (ix2 r d) = HN x1 x2 r d := by
  pointwise [k0_pay18, av29, k0_pay11, rmsn]
set_option maxHeartbeats 2000000 in
theorem h110 (r : Fin 512) (d : Fin 2048) : k0_pay110 (F := Ideal) x0 x2 (ix2 r d) = HN x0 x2 r d := by
  pointwise [k0_pay110, rmsn]
set_option maxHeartbeats 2000000 in
theorem zP (r : Fin 512) (e : Fin 3072) : k0_pay12 (F := Ideal) x0 x1 x2 x3 (ix2 (⟨r.val, by omega⟩ : Fin 544) e) = ZN x0 x2 x3 r e := by
  pointwise [k0_pay12, k0_pay11, ZN, HN, rmsn]
  all_goals rfl
set_option maxHeartbeats 2000000 in
theorem zS (r : Fin 32) (e : Fin 3072) : k0_pay12 (F := Ideal) x0 x1 x2 x3 (ix2 (⟨512 + r.val, by omega⟩ : Fin 544) e) = ZN x1 x2 x3 r e := by
  pointwise [k0_pay12, k0_pay11, ZN, HN, rmsn]
  all_goals rfl
set_option maxHeartbeats 2000000 in
theorem zB (r : Fin 512) (e : Fin 3072) : k0_pay111 (F := Ideal) x0 x2 x3 (ix2 r e) = ZN x0 x2 x3 r e := by
  pointwise [k0_pay111, k0_pay110, ZN, HN, rmsn]
  all_goals rfl
theorem v7 (z : FVec Ideal S544x3072 .f32) (r : Fin 512) (d : Fin 1024) : k0_pay7 (F := Ideal) z (ix2 r d) = z (ix2 (⟨r.val, by omega⟩ : Fin 544) (⟨2048 + d.val, by omega⟩ : Fin 3072)) := by
  pointwise [k0_pay7, k0_pay6]
theorem v9 (z : FVec Ideal S544x3072 .f32) (r : Fin 32) (d : Fin 1024) : k0_pay9 (F := Ideal) z (ix2 r d) = z (ix2 (⟨512 + r.val, by omega⟩ : Fin 544) (⟨2048 + d.val, by omega⟩ : Fin 3072)) := by
  pointwise [k0_pay9, k0_pay6]
theorem v169 (z : FVec Ideal S512x3072 .f32) (r : Fin 512) (d : Fin 1024) : k0_pay169 (F := Ideal) z (ix2 r d) = z (ix2 r (⟨2048 + d.val, by omega⟩ : Fin 3072)) := by
  pointwise [k0_pay169]
theorem c13P (r : Fin 512) (l : Fin 128) : k0_pay13 (F := Ideal) x4 x6 (ix2 (⟨r.val, by omega⟩ : Fin 544) l) = x4 (ix2 r l) := by
  pointwise [k0_pay13]
theorem c13S (r : Fin 32) (l : Fin 128) : k0_pay13 (F := Ideal) x4 x6 (ix2 (⟨512 + r.val, by omega⟩ : Fin 544) l) = x6 (ix2 r l) := by
  pointwise [k0_pay13]
theorem c14P (r : Fin 512) (l : Fin 128) : k0_pay14 (F := Ideal) x5 x7 (ix2 (⟨r.val, by omega⟩ : Fin 544) l) = x5 (ix2 r l) := by
  pointwise [k0_pay14]
theorem c14S (r : Fin 32) (l : Fin 128) : k0_pay14 (F := Ideal) x5 x7 (ix2 (⟨512 + r.val, by omega⟩ : Fin 544) l) = x7 (ix2 r l) := by
  pointwise [k0_pay14]
theorem c112B (r : Fin 512) (l : Fin 128) : k0_pay112 (F := Ideal) x4 (ix2 r l) = x4 (ix2 r l) := by
  pointwise [k0_pay112]
theorem c113B (r : Fin 512) (l : Fin 128) : k0_pay113 (F := Ideal) x5 (ix2 r l) = x5 (ix2 r l) := by
  pointwise [k0_pay113]

set_option maxHeartbeats 4000000 in
theorem kP (r : Fin 512) (d : Fin 1024) (q : Fin 8) (l : Fin 128) (hd : d.val = 128 * q.val + l.val) : ao11 (F := Ideal) x0 x1 x2 x3 x4 x5 x6 x7 (ix2 r d)
    = lanes (fun e => k0_pay12 (F := Ideal) x0 x1 x2 x3 (ix2 (⟨r.val, by omega⟩ : Fin 544) e)) (fun l => k0_pay13 (F := Ideal) x4 x6 (ix2 (⟨r.val, by omega⟩ : Fin 544) l)) (fun l => k0_pay14 (F := Ideal) x5 x7 (ix2 (⟨r.val, by omega⟩ : Fin 544) l)) q l := by
  unfold ao11
  canon_tiles x h
  case piece0 =>
    have h0' : r.val = (x 0).val := h0
    have h1' : d.val = 896 + (x 1).val := h1
    have hq : q.val = 7 := by omega
    obtain rfl : x = ix2 r l := (eq_ix2 x).trans (by congr 1 <;> apply Fin.ext <;> omega)
    obtain rfl : q = 7 := Fin.ext hq
    pointwise [av32, av37, av399, av42, av47, k0_pay106, k0_pay109, k0_pay15, lanes]
    all_goals rfl
  case piece1 =>
    have h0' : r.val = (x 0).val := h0
    have h1' : d.val = 768 + (x 1).val := h1
    have hq : q.val = 6 := by omega
    obtain rfl : x = ix2 r l := (eq_ix2 x).trans (by congr 1 <;> apply Fin.ext <;> omega)
    obtain rfl : q = 6 := Fin.ext hq
    pointwise [av32, av37, av42, av47, k0_pay15, k0_pay94, k0_pay97, lanes]
    all_goals rfl
  case piece2 =>
    have h0' : r.val = (x 0).val := h0
    have h1' : d.val = 640 + (x 1).val := h1
    have hq : q.val = 5 := by omega
    obtain rfl : x = ix2 r l := (eq_ix2 x).trans (by congr 1 <;> apply Fin.ext <;> omega)
    obtain rfl : q = 5 := Fin.ext hq
    pointwise [ac96_i32_154, av294, av32, av37, av42, av47, k0_pay15, k0_pay79, k0_pay80, k0_pay83, lanes]
    all_goals rfl
  case piece3 =>
    have h0' : r.val = (x 0).val := h0
    have h1' : d.val = 512 + (x 1).val := h1
    have hq : q.val = 4 := by omega
    obtain rfl : x = ix2 r l := (eq_ix2 x).trans (by congr 1 <;> apply Fin.ext <;> omega)
    obtain rfl : q = 4 := Fin.ext hq
    pointwise [av255, av32, av37, av42, av47, k0_pay15, k0_pay67, k0_pay71, lanes]
    all_goals rfl
  case piece4 =>
    have h0' : r.val = (x 0).val := h0
    have h1' : d.val = 384 + (x 1).val := h1
    have hq : q.val = 3 := by omega
    obtain rfl : x = ix2 r l := (eq_ix2 x).trans (by congr 1 <;> apply Fin.ext <;> omega)
    obtain rfl : q = 3 := Fin.ext hq
    pointwise [av32, av37, av42, av47, k0_pay15, k0_pay56, k0_pay59, lanes]
    all_goals rfl
  case piece5 =>
    have h0' : r.val = (x 0).val := h0
    have h1' : d.val = 256 + (x 1).val := h1
    have hq : q.val = 2 := by omega
    obtain rfl : x = ix2 r l := (eq_ix2 x).trans (by congr 1 <;> apply Fin.ext <;> omega)
    obtain rfl : q = 2 := Fin.ext hq
    pointwise [av32, av37, av42, av47, k0_pay15, k0_pay45, k0_pay48, lanes]
    all_goals rfl
  case piece6 =>
    have h0' : r.val = (x 0).val := h0
    have h1' : d.val = 128 + (x 1).val := h1
    have hq : q.val = 1 := by omega
    obtain rfl : x = ix2 r l := (eq_ix2 x).trans (by congr 1 <;> apply Fin.ext <;> omega)
    obtain rfl : q = 1 := Fin.ext hq
    pointwise [av120, av32, av37, av42, av47, k0_pay15, k0_pay33, k0_pay37, lanes]
    all_goals rfl
  case piece7 =>
    have h0' : r.val = (x 0).val := h0
    have h1' : d.val = (x 1).val := h1
    have hq : q.val = 0 := by omega
    obtain rfl : x = ix2 r l := (eq_ix2 x).trans (by congr 1 <;> apply Fin.ext <;> omega)
    obtain rfl : q = 0 := Fin.ext hq
    pointwise [av32, av37, av42, av47, av84, k0_pay15, k0_pay22, k0_pay25, lanes]
    all_goals rfl

set_option maxHeartbeats 4000000 in
theorem kS (r : Fin 32) (d : Fin 1024) (q : Fin 8) (l : Fin 128) (hd : d.val = 128 * q.val + l.val) : ao17 (F := Ideal) x0 x1 x2 x3 x4 x5 x6 x7 (ix2 r d)
    = lanes (fun e => k0_pay12 (F := Ideal) x0 x1 x2 x3 (ix2 (⟨512 + r.val, by omega⟩ : Fin 544) e)) (fun l => k0_pay13 (F := Ideal) x4 x6 (ix2 (⟨512 + r.val, by omega⟩ : Fin 544) l)) (fun l => k0_pay14 (F := Ideal) x5 x7 (ix2 (⟨512 + r.val, by omega⟩ : Fin 544) l)) q l := by
  unfold ao17
  canon_tiles x h
  case piece0 =>
    have h0' : r.val = (x 0).val := h0
    have h1' : d.val = 896 + (x 1).val := h1
    have hq : q.val = 7 := by omega
    obtain rfl : x = ix2 r l := (eq_ix2 x).trans (by congr 1 <;> apply Fin.ext <;> omega)
    obtain rfl : q = 7 := Fin.ext hq
    pointwise [av32, av37, av390, av42, av47, k0_pay106, k0_pay15, k0_pay5, lanes]
    all_goals rfl
  case piece1 =>
    have h0' : r.val = (x 0).val := h0
    have h1' : d.val = 768 + (x 1).val := h1
    have hq : q.val = 6 := by omega
    obtain rfl : x = ix2 r l := (eq_ix2 x).trans (by congr 1 <;> apply Fin.ext <;> omega)
    obtain rfl : q = 6 := Fin.ext hq
    pointwise [av32, av345, av37, av42, av47, k0_pay102, k0_pay15, k0_pay94, lanes]
    all_goals rfl
  case piece2 =>
    have h0' : r.val = (x 0).val := h0
    have h1' : d.val = 640 + (x 1).val := h1
    have hq : q.val = 5 := by omega
    obtain rfl : x = ix2 r l := (eq_ix2 x).trans (by congr 1 <;> apply Fin.ext <;> omega)
    obtain rfl : q = 5 := Fin.ext hq
    pointwise [ac96_i32_154, av294, av32, av37, av42, av47, k0_pay15, k0_pay79, k0_pay80, k0_pay87, lanes]
    all_goals rfl
  case piece3 =>
    have h0' : r.val = (x 0).val := h0
    have h1' : d.val = 512 + (x 1).val := h1
    have hq : q.val = 4 := by omega
    obtain rfl : x = ix2 r l := (eq_ix2 x).trans (by congr 1 <;> apply Fin.ext <;> omega)
    obtain rfl : q = 4 := Fin.ext hq
    pointwise [av255, av32, av37, av42, av47, k0_pay15, k0_pay67, k0_pay75, lanes]
    all_goals rfl
  case piece4 =>
    have h0' : r.val = (x 0).val := h0
    have h1' : d.val = 384 + (x 1).val := h1
    have hq : q.val = 3 := by omega
    obtain rfl : x = ix2 r l := (eq_ix2 x).trans (by congr 1 <;> apply Fin.ext <;> omega)
    obtain rfl : q = 3 := Fin.ext hq
    pointwise [av210, av32, av37, av42, av47, k0_pay15, k0_pay56, k0_pay63, lanes]
    all_goals rfl
  case piece5 =>
    have h0' : r.val = (x 0).val := h0
    have h1' : d.val = 256 + (x 1).val := h1
    have hq : q.val = 2 := by omega
    obtain rfl : x = ix2 r l := (eq_ix2 x).trans (by congr 1 <;> apply Fin.ext <;> omega)
    obtain rfl : q = 2 := Fin.ext hq
    pointwise [av187, av32, av37, av42, av47, k0_pay15, k0_pay45, k0_pay52, lanes]
    all_goals rfl
  case piece6 =>
    have h0' : r.val = (x 0).val := h0
    have h1' : d.val = 128 + (x 1).val := h1
    have hq : q.val = 1 := by omega
    obtain rfl : x = ix2 r l := (eq_ix2 x).trans (by congr 1 <;> apply Fin.ext <;> omega)
    obtain rfl : q = 1 := Fin.ext hq
    pointwise [av120, av32, av37, av42, av47, k0_pay15, k0_pay33, k0_pay41, lanes]
    all_goals rfl
  case piece7 =>
    have h0' : r.val = (x 0).val := h0
    have h1' : d.val = (x 1).val := h1
    have hq : q.val = 0 := by omega
    obtain rfl : x = ix2 r l := (eq_ix2 x).trans (by congr 1 <;> apply Fin.ext <;> omega)
    obtain rfl : q = 0 := Fin.ext hq
    pointwise [av32, av37, av42, av47, av75, k0_pay15, k0_pay22, k0_pay29, lanes]
    all_goals rfl

set_option maxHeartbeats 4000000 in
theorem kB (r : Fin 512) (d : Fin 1024) (q : Fin 8) (l : Fin 128) (hd : d.val = 128 * q.val + l.val) : bo11 (F := Ideal) x0 x2 x3 x4 x5 (ix2 r d)
    = lanes (fun e => k0_pay111 (F := Ideal) x0 x2 x3 (ix2 r e)) (fun l => k0_pay112 (F := Ideal) x4 (ix2 r l)) (fun l => k0_pay113 (F := Ideal) x5 (ix2 r l)) q l := by
  unfold bo11
  canon_tiles x h
  case piece0 =>
    have h0' : r.val = (x 0).val := h0
    have h1' : d.val = 896 + (x 1).val := h1
    have hq : q.val = 7 := by omega
    obtain rfl : x = ix2 r l := (eq_ix2 x).trans (by congr 1 <;> apply Fin.ext <;> omega)
    obtain rfl : q = 7 := Fin.ext hq
    pointwise [bv29, bv31, bv33, bv38, k0_pay114, k0_pay165, lanes]
    all_goals rfl
  case piece1 =>
    have h0' : r.val = (x 0).val := h0
    have h1' : d.val = 768 + (x 1).val := h1
    have hq : q.val = 6 := by omega
    obtain rfl : x = ix2 r l := (eq_ix2 x).trans (by congr 1 <;> apply Fin.ext <;> omega)
    obtain rfl : q = 6 := Fin.ext hq
    pointwise [bv29, bv31, bv33, bv38, k0_pay114, k0_pay158, lanes]
    all_goals rfl
  case piece2 =>
    have h0' : r.val = (x 0).val := h0
    have h1' : d.val = 640 + (x 1).val := h1
    have hq : q.val = 5 := by omega
    obtain rfl : x = ix2 r l := (eq_ix2 x).trans (by congr 1 <;> apply Fin.ext <;> omega)
    obtain rfl : q = 5 := Fin.ext hq
    pointwise [bv29, bv31, bv33, bv38, k0_pay114, k0_pay153, lanes]
    all_goals rfl
  case piece3 =>
    have h0' : r.val = (x 0).val := h0
    have h1' : d.val = 512 + (x 1).val := h1
    have hq : q.val = 4 := by omega
    obtain rfl : x = ix2 r l := (eq_ix2 x).trans (by congr 1 <;> apply Fin.ext <;> omega)
    obtain rfl : q = 4 := Fin.ext hq
    pointwise [bv187, bv29, bv31, bv33, bv38, k0_pay114, k0_pay148, lanes]
    all_goals rfl
  case piece4 =>
    have h0' : r.val = (x 0).val := h0
    have h1' : d.val = 384 + (x 1).val := h1
    have hq : q.val = 3 := by omega
    obtain rfl : x = ix2 r l := (eq_ix2 x).trans (by congr 1 <;> apply Fin.ext <;> omega)
    obtain rfl : q = 3 := Fin.ext hq
    pointwise [bv156, bv29, bv31, bv33, bv38, k0_pay114, k0_pay142, lanes]
    all_goals rfl
  case piece5 =>
    have h0' : r.val = (x 0).val := h0
    have h1' : d.val = 256 + (x 1).val := h1
    have hq : q.val = 2 := by omega
    obtain rfl : x = ix2 r l := (eq_ix2 x).trans (by congr 1 <;> apply Fin.ext <;> omega)
    obtain rfl : q = 2 := Fin.ext hq
    pointwise [bc32_i32_59, bv119, bv120, bv29, bv31, bv33, bv38, k0_pay114, k0_pay133, k0_pay134, k0_pay135, lanes]
    all_goals rfl
  case piece6 =>
    have h0' : r.val = (x 0).val := h0
    have h1' : d.val = 128 + (x 1).val := h1
    have hq : q.val = 1 := by omega
    obtain rfl : x = ix2 r l := (eq_ix2 x).trans (by congr 1 <;> apply Fin.ext <;> omega)
    obtain rfl : q = 1 := Fin.ext hq
    pointwise [bv29, bv31, bv33, bv38, k0_pay114, k0_pay126, lanes]
    all_goals rfl
  case piece7 =>
    have h0' : r.val = (x 0).val := h0
    have h1' : d.val = (x 1).val := h1
    have hq : q.val = 0 := by omega
    obtain rfl : x = ix2 r l := (eq_ix2 x).trans (by congr 1 <;> apply Fin.ext <;> omega)
    obtain rfl : q = 0 := Fin.ext hq
    pointwise [bv29, bv31, bv33, bv38, k0_pay114, k0_pay120, lanes]
    all_goals rfl

end Cert.Kernel2Ideal.Qkv

end
-- ==== Proof.QkvValue.lean ====
/- The projection kernel's six result arrays over the extended reals. -/
module

public import proofs.«01_k».proof.Proof.QkvRun
public import proofs.«01_k».proof.Proof.QkvPure

@[expose] public section

set_option maxRecDepth 16384

noncomputable section

namespace Cert.Kernel2Ideal.Qkv

open Idealize.ShloMosaic Idealize.ShloMosaic.TcCoe Idealize.SL.Sem
open Idealize.ShloMosaic.Pipeline (Dat)
open Cert.Kernel2Ideal Cert.Kernel2Ideal.Gen Cert.Spec

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![t.val % 8, 0] ∧ win0_5.index t = ![t.val % 8, 0] ∧ win0_6.index t = ![0, 0] ∧ win0_7.index t = ![0, 0] ∧ win0_9.index t = ![t.val, 0] ∧ win0_11.index t = ![t.val, 0] ∧ win0_13.index t = ![t.val, 0] ∧ win0_15.index t = ![0, 0] ∧ win0_17.index t = ![0, 0] ∧ win0_18.index t = ![0, 0] :=
  (by decide +kernel : ∀ t : Fin grid0.N, _)
theorem nlt (t : Fin cfg0.N) : t.val < 16 := lt_of_lt_of_eq t.isLt (show cfg0.N = 16 from N_0)

/-- The lanes' frequencies as the host writes them. -/
def inverse : FVec Ideal S32 .f32 := Host.powf (broadcastInDim S32 ![] bcast_S_S32 (constant S_ .f32 0x461C4000#32))
  (Host.divf (Host.negf (sitofp .f32 (iotaInDim S32 32 0))) (broadcastInDim S32 ![] bcast_S_S32 (constant S_ .f32 0x42000000#32)))

/-- The angles of the prompt rows, -/
def angP : FVec Ideal S4096x32 .f32 := mulf (broadcastInDim S4096x32 ![0, 1] bcast_S4096x1_S4096x32_0_1 (broadcastInDim S4096x1 ![0] bcast_S4096_S4096x1_0 (sitofp .f32 (iotaInDim S4096 32 0))))
  (broadcastInDim S4096x32 ![0, 1] bcast_S1x32_S4096x32_0_1 (broadcastInDim S1x32 ![1] bcast_S32_S1x32_1 inverse))
/-- a table of half a head's width, repeated over the lanes, -/
def tileP (x : FVec Ideal S4096x32 .f32) : FVec Ideal S4096x128 .f32 :=
  shapeCast S4096x128 (broadcastInDim S1x4096x4x32 ![0, 1, 2, 3] bcast_S1x4096x1x32_S1x4096x4x32_0_1_2_3 (shapeCast S1x4096x1x32 x shapeCasts_S4096x32_S1x4096x1x32)) shapeCasts_S1x4096x4x32_S4096x128
/-- and a table with the signs of the rotation. -/
def sgnP (x : FVec Ideal S4096x128 .f32) : FVec Ideal S4096x128 .f32 :=
  select (broadcastInDim S4096x128 ![0, 1] bcast_S1x128_S4096x128_0_1 (broadcastInDim S1x128 ![1] bcast_S128_S1x128_1
    (cmpi .eq (andi (iotaInDim S128 32 0) (broadcastInDim S128 ![] bcast_S_S128 (constantI S_ 32 32#32))) (broadcastInDim S128 ![] bcast_S_S128 (constantI S_ 32 0#32))))) (Host.negf x) x

theorem tileP_apply (x : FVec Ideal S4096x32 .f32) (r : Fin 4096) (l : Fin 128) : tileP x (ix2 r l) = x (ix2 r ⟨l.val % 32, by omega⟩) := by
  pointwise [tileP]
theorem sgnP_apply (x : FVec Ideal S4096x128 .f32) (r : Fin 4096) (l : Fin 128) : sgnP x (ix2 r l)
    = Scalar.select (IntOp.cmpi CmpIPredicate.eq (IntOp.andi (BitVec.ofNat 32 l.val) 32#32) 0#32) (-x (ix2 r l)) (x (ix2 r l)) := by
  pointwise [sgnP]
theorem cosP_apply (r : Fin 4096) (l : Fin 32) : (Host.cos angP) (ix2 r l) = Ideal.cos (angle (BitVec.ofNat 32 r.val) l) := by
  pointwise [angP, inverse, angle]
theorem sinP_apply (r : Fin 4096) (l : Fin 32) : (Host.sin angP) (ix2 r l) = Ideal.sin (angle (BitVec.ofNat 32 r.val) l) := by
  pointwise [angP, inverse, angle]
theorem cosVP (c : Dev nD) (r : Fin 4096) (l : Fin 128) : (show FVec Ideal S4096x128 .f32 from V m c main_v23) (ix2 r l) = Ideal.cos (angle (BitVec.ofNat 32 r.val) ⟨l.val % 32, by omega⟩) := by
  have e : V m c main_v23 = tileP (Host.cos angP) := by entry_read; rfl
  rw [e]
  exact (tileP_apply _ r l).trans (cosP_apply r _)
theorem sinVP (c : Dev nD) (r : Fin 4096) (l : Fin 128) : (show FVec Ideal S4096x128 .f32 from V m c main_v35) (ix2 r l)
    = Scalar.select (IntOp.cmpi CmpIPredicate.eq (IntOp.andi (BitVec.ofNat 32 l.val) 32#32) 0#32) (-Ideal.sin (angle (BitVec.ofNat 32 r.val) ⟨l.val % 32, by omega⟩)) (Ideal.sin (angle (BitVec.ofNat 32 r.val) ⟨l.val % 32, by omega⟩)) := by
  have e : V m c main_v35 = sgnP (tileP (Host.sin angP)) := by entry_read; rfl
  rw [e]
  refine (sgnP_apply _ r l).trans ?_
  rw [tileP_apply, sinP_apply]

/-- The angles of the sample rows, -/
def angS : FVec Ideal S32x32 .f32 := mulf (broadcastInDim S32x32 ![0, 1] bcast_S32x1_S32x32_0_1 (broadcastInDim S32x1 ![0] bcast_S32_S32x1_0 (sitofp .f32 (broadcastInDim S32 ![] bcast_S_S32 (constantI S_ 32 16384#32)))))
  (broadcastInDim S32x32 ![0, 1] bcast_S1x32_S32x32_0_1 (broadcastInDim S1x32 ![1] bcast_S32_S1x32_1 inverse))
/-- a table of half a head's width, repeated over the lanes, -/
def tileS (x : FVec Ideal S32x32 .f32) : FVec Ideal S32x128 .f32 :=
  shapeCast S32x128 (broadcastInDim S1x32x4x32 ![0, 1, 2, 3] bcast_S1x32x1x32_S1x32x4x32_0_1_2_3 (shapeCast S1x32x1x32 x shapeCasts_S32x32_S1x32x1x32)) shapeCasts_S1x32x4x32_S32x128
/-- and a table with the signs of the rotation. -/
def sgnS (x : FVec Ideal S32x128 .f32) : FVec Ideal S32x128 .f32 :=
  select (broadcastInDim S32x128 ![0, 1] bcast_S1x128_S32x128_0_1 (broadcastInDim S1x128 ![1] bcast_S128_S1x128_1
    (cmpi .eq (andi (iotaInDim S128 32 0) (broadcastInDim S128 ![] bcast_S_S128 (constantI S_ 32 32#32))) (broadcastInDim S128 ![] bcast_S_S128 (constantI S_ 32 0#32))))) (Host.negf x) x

theorem tileS_apply (x : FVec Ideal S32x32 .f32) (r : Fin 32) (l : Fin 128) : tileS x (ix2 r l) = x (ix2 r ⟨l.val % 32, by omega⟩) := by
  pointwise [tileS]
theorem sgnS_apply (x : FVec Ideal S32x128 .f32) (r : Fin 32) (l : Fin 128) : sgnS x (ix2 r l)
    = Scalar.select (IntOp.cmpi CmpIPredicate.eq (IntOp.andi (BitVec.ofNat 32 l.val) 32#32) 0#32) (-x (ix2 r l)) (x (ix2 r l)) := by
  pointwise [sgnS]
theorem cosS_apply (r : Fin 32) (l : Fin 32) : (Host.cos angS) (ix2 r l) = Ideal.cos (angle 16384#32 l) := by
  pointwise [angS, inverse, angle]
theorem sinS_apply (r : Fin 32) (l : Fin 32) : (Host.sin angS) (ix2 r l) = Ideal.sin (angle 16384#32 l) := by
  pointwise [angS, inverse, angle]
theorem cosVS (c : Dev nD) (r : Fin 32) (l : Fin 128) : (show FVec Ideal S32x128 .f32 from V m c main_v52) (ix2 r l) = Ideal.cos (angle 16384#32 ⟨l.val % 32, by omega⟩) := by
  have e : V m c main_v52 = tileS (Host.cos angS) := by entry_read; rfl
  rw [e]
  exact (tileS_apply _ r l).trans (cosS_apply r _)
theorem sinVS (c : Dev nD) (r : Fin 32) (l : Fin 128) : (show FVec Ideal S32x128 .f32 from V m c main_v64) (ix2 r l)
    = Scalar.select (IntOp.cmpi CmpIPredicate.eq (IntOp.andi (BitVec.ofNat 32 l.val) 32#32) 0#32) (-Ideal.sin (angle 16384#32 ⟨l.val % 32, by omega⟩)) (Ideal.sin (angle 16384#32 ⟨l.val % 32, by omega⟩)) := by
  have e : V m c main_v64 = sgnS (tileS (Host.sin angS)) := by entry_read; rfl
  rw [e]
  refine (sgnS_apply _ r l).trans ?_
  rw [tileS_apply, sinS_apply]
theorem castP (x : FVec Ideal S2x4096x2048 .f32) (h : S2x4096x2048.ShapeCasts S8192x2048) (R : Fin 8192) (k : Fin 2048) :
    shapeCast S8192x2048 x h (ix2 R k) = x (ix3 (⟨R.val / 4096, by omega⟩ : Fin 2) (⟨R.val % 4096, by omega⟩ : Fin 4096) k) := by
  pointwise
theorem castS (x : FVec Ideal S32x1x2048 .f32) (h : S32x1x2048.ShapeCasts S32x2048) (R : Fin 32) (k : Fin 2048) :
    shapeCast S32x2048 x h (ix2 R k) = x (ix3 R 0 k) := by
  pointwise

theorem castG (x : FVec Ideal S1x2048 .f32) (h : S1x2048.ShapeCasts S2048) (h' : S2048.ShapeCasts S1x2048) (k : Fin 2048) :
    shapeCast S1x2048 (shapeCast S2048 x h) h' (ix2 0 k) = x (ix2 0 k) := by
  pointwise
theorem castW (x : FVec Ideal S1x2048x10240 .f32) (h : S1x2048x10240.ShapeCasts S2048x10240) (k : Fin 2048) (e : Fin 3072) :
    truncf .bf16 (extractStridedSlice S2048x3072 ![0, 0] (shapeCast S2048x10240 x h) slices_S2048x10240_S2048x3072_0_0) bitsLt_bf16_f32 (ix2 k e)
      = x (ix3 0 k (⟨e.val, by omega⟩ : Fin 10240)) := by
  pointwise

/-- The rows the kernel reads, -/
abbrev XP (c : Dev nD) (R : Fin 8192) : Fin 2048 → EReal := fun k => m ((c : Thread nD τ).loc main_arg0) (ix3 (⟨R.val / 4096, by omega⟩ : Fin 2) (⟨R.val % 4096, by omega⟩ : Fin 4096) k)
abbrev XS (c : Dev nD) (r : Fin 32) : Fin 2048 → EReal := fun k => m ((c : Thread nD τ).loc main_arg1) (ix3 r (0 : Fin 1) k)
abbrev GG (c : Dev nD) : Fin 2048 → EReal := fun k => m ((c : Thread nD τ).loc main_arg3) (ix2 0 k)
abbrev WW (c : Dev nD) (k : Fin 2048) (e : Fin 10240) : EReal := m ((c : Thread nD τ).loc main_arg2) (ix3 0 k e)
/-- normalised, -/
abbrev NN (c : Dev nD) (x : Fin 2048 → EReal) : Fin 2048 → EReal := rmsn (Ideal.ofBits .f32 0x45000000#32) (Ideal.ofBits .f32 0x3727C5AC#32) x (GG m c)
/-- and projected. -/
abbrev ZZ (c : Dev nD) (x : Fin 2048 → EReal) (e : Fin 10240) : EReal := ∑ k : Fin 2048, NN m c x k * WW m c k e

abbrev F9 (c : Dev nD) : FVec Ideal S8192x2048 .bf16 := fun i => NN m c (XP m c (i 0)) (i 1)
abbrev F11 (c : Dev nD) : FVec Ideal S8192x1024 .f32 := fun i =>
  rope (fun e => ZZ m c (XP m c (i 0)) ⟨1024 + e.val, by omega⟩) (BitVec.ofNat 32 ((i 0).val % 4096)) (i 1)
abbrev F13 (c : Dev nD) : FVec Ideal S8192x1024 .f32 := fun i => ZZ m c (XP m c (i 0)) ⟨2048 + (show Fin 1024 from i 1).val, by omega⟩
abbrev F15 (c : Dev nD) : FVec Ideal S32x2048 .bf16 := fun i => NN m c (XS m c (i 0)) (i 1)
abbrev F17 (c : Dev nD) : FVec Ideal S32x1024 .f32 := fun i =>
  rope (fun e => ZZ m c (XS m c (i 0)) ⟨1024 + e.val, by omega⟩) 16384#32 (i 1)
abbrev F18 (c : Dev nD) : FVec Ideal S32x1024 .f32 := fun i => ZZ m c (XS m c (i 0)) ⟨2048 + (show Fin 1024 from i 1).val, by omega⟩

set_option maxHeartbeats 1000000 in
theorem iblk0 (c : Dev nD) (t : Fin cfg0.N) (r : Fin 512) (k : Fin 2048) (R : Fin 8192) (hR : R.val = 512 * t.val + r.val) :
    (show FVec Ideal S512x2048 .f32 from iblk m c 0 t) (ix2 r k) = XP m c R k := by
  have e : V m c main_v5 = shapeCast S8192x2048 (m ((c : Thread nD τ).loc main_arg0)) shapeCasts_S2x4096x2048_S8192x2048 := by entry_read; rfl
  have e2 : (show FVec Ideal S512x2048 .f32 from iblk m c 0 t) (ix2 r k) = (show FVec Ideal S8192x2048 .f32 from V m c main_v5) (ix2 R k) := by
    blk_ext [iblk, idx t]
  rw [e2, e]
  exact castP _ _ R k

set_option maxHeartbeats 1000000 in
theorem iblk1 (c : Dev nD) (t : Fin cfg0.N) (r : Fin 32) (k : Fin 2048) :
    (show FVec Ideal S32x2048 .f32 from iblk m c 1 t) (ix2 r k) = XS m c r k := by
  have e : V m c main_v6 = shapeCast S32x2048 (m ((c : Thread nD τ).loc main_arg1)) shapeCasts_S32x1x2048_S32x2048 := by entry_read; rfl
  have e2 : (show FVec Ideal S32x2048 .f32 from iblk m c 1 t) (ix2 r k) = (show FVec Ideal S32x2048 .f32 from V m c main_v6) (ix2 r k) := by
    blk_ext [iblk, idx t]
  rw [e2, e]
  exact castS _ _ r k

set_option maxHeartbeats 1000000 in
theorem iblk2 (c : Dev nD) (t : Fin cfg0.N) (k : Fin 2048) :
    (show FVec Ideal S1x2048 .f32 from iblk m c 2 t) (ix2 0 k) = GG m c k := by
  have e : V m c main_v4 = shapeCast S1x2048 (shapeCast S2048 (m ((c : Thread nD τ).loc main_arg3)) shapeCasts_S1x2048_S2048) shapeCasts_S2048_S1x2048 := by entry_read; rfl
  have e2 : (show FVec Ideal S1x2048 .f32 from iblk m c 2 t) (ix2 0 k) = (show FVec Ideal S1x2048 .f32 from V m c main_v4) (ix2 0 k) := by
    blk_ext [iblk, idx t]
  rw [e2, e]
  exact castG _ _ _ k

set_option maxHeartbeats 1000000 in
theorem iblk3 (c : Dev nD) (t : Fin cfg0.N) (k : Fin 2048) (e : Fin 3072) :
    (show FVec Ideal S2048x3072 .bf16 from iblk m c 3 t) (ix2 k e) = WW m c k ⟨e.val, by omega⟩ := by
  have e0 : V m c main_v2 = truncf (F := Ideal) .bf16 (extractStridedSlice S2048x3072 ![0, 0] (shapeCast S2048x10240 (m ((c : Thread nD τ).loc main_arg2)) shapeCasts_S1x2048x10240_S2048x10240) slices_S2048x10240_S2048x3072_0_0) bitsLt_bf16_f32 := by entry_read; rfl
  have e2 : (show FVec Ideal S2048x3072 .bf16 from iblk m c 3 t) (ix2 k e) = (show FVec Ideal S2048x3072 .bf16 from V m c main_v2) (ix2 k e) := by
    blk_ext [iblk, idx t]
  rw [e2, e0]
  exact castW _ _ k e

theorem iblk4 (c : Dev nD) (t : Fin cfg0.N) (r : Fin 512) (l : Fin 128) (R : Fin 4096) (hR : R.val = 512 * (t.val % 8) + r.val) :
    (show FVec Ideal S512x128 .f32 from iblk m c 4 t) (ix2 r l) = (show FVec Ideal S4096x128 .f32 from V m c main_v23) (ix2 R l) := by
  blk_ext [iblk, idx t]

theorem iblk5 (c : Dev nD) (t : Fin cfg0.N) (r : Fin 512) (l : Fin 128) (R : Fin 4096) (hR : R.val = 512 * (t.val % 8) + r.val) :
    (show FVec Ideal S512x128 .f32 from iblk m c 5 t) (ix2 r l) = (show FVec Ideal S4096x128 .f32 from V m c main_v35) (ix2 R l) := by
  blk_ext [iblk, idx t]

theorem iblk6 (c : Dev nD) (t : Fin cfg0.N) (r : Fin 32) (l : Fin 128) :
    (show FVec Ideal S32x128 .f32 from iblk m c 6 t) (ix2 r l) = (show FVec Ideal S32x128 .f32 from V m c main_v52) (ix2 r l) := by
  blk_ext [iblk, idx t]

theorem iblk7 (c : Dev nD) (t : Fin cfg0.N) (r : Fin 32) (l : Fin 128) :
    (show FVec Ideal S32x128 .f32 from iblk m c 7 t) (ix2 r l) = (show FVec Ideal S32x128 .f32 from V m c main_v64) (ix2 r l) := by
  blk_ext [iblk, idx t]

theorem rowP (c : Dev nD) (t : Fin cfg0.N) (r : Fin 512) (R : Fin 8192) (hR : R.val = 512 * t.val + r.val) (k : Fin 2048) :
    HN (R := 512) (iblk m c 0 t) (iblk m c 2 t) r k = NN m c (XP m c R) k :=
  congrArg₂ (fun x g => rmsn _ _ x g k) (funext fun k => iblk0 m c t r k R hR) (funext fun k => iblk2 m c t k)
theorem rowS (c : Dev nD) (t : Fin cfg0.N) (r : Fin 32) (k : Fin 2048) :
    HN (R := 32) (iblk m c 1 t) (iblk m c 2 t) r k = NN m c (XS m c r) k :=
  congrArg₂ (fun x g => rmsn _ _ x g k) (funext fun k => iblk1 m c t r k) (funext fun k => iblk2 m c t k)
theorem mulP (c : Dev nD) (t : Fin cfg0.N) (r : Fin 512) (R : Fin 8192) (hR : R.val = 512 * t.val + r.val) (e : Fin 3072) :
    ZN (R := 512) (iblk m c 0 t) (iblk m c 2 t) (iblk m c 3 t) r e = ZZ m c (XP m c R) ⟨e.val, by omega⟩ :=
  Finset.sum_congr rfl fun k _ => congrArg₂ (· * ·) (rowP m c t r R hR k) (iblk3 m c t k e)
theorem mulS (c : Dev nD) (t : Fin cfg0.N) (r : Fin 32) (e : Fin 3072) :
    ZN (R := 32) (iblk m c 1 t) (iblk m c 2 t) (iblk m c 3 t) r e = ZZ m c (XS m c r) ⟨e.val, by omega⟩ :=
  Finset.sum_congr rfl fun k _ => congrArg₂ (· * ·) (rowS m c t r k) (iblk3 m c t k e)

theorem point9 (c : Dev nD) (t : Fin cfg0.N) (r : Fin 512) (d : Fin 2048) (R : Fin 8192) (hR : R.val = 512 * t.val + r.val) :
    tv9 m c t (ix2 r d) = F9 m c (ix2 R d) := by
  by_cases h0 : t.val = 0
  · rw [tv9_A m c t h0]
    exact (h17 _ _ _ r d).trans (rowP m c t r R hR d)
  · rw [tv9_B m c t h0]
    exact (h110 _ _ r d).trans (rowP m c t r R hR d)
theorem point13 (c : Dev nD) (t : Fin cfg0.N) (r : Fin 512) (d : Fin 1024) (R : Fin 8192) (hR : R.val = 512 * t.val + r.val) :
    tv13 m c t (ix2 r d) = F13 m c (ix2 R d) := by
  by_cases h0 : t.val = 0
  · rw [tv13_A m c t h0]
    exact (v7 _ r d).trans ((zP _ _ _ _ r _).trans (mulP m c t r R hR _))
  · rw [tv13_B m c t h0]
    exact (v169 _ r d).trans ((zB _ _ _ r _).trans (mulP m c t r R hR _))
set_option maxHeartbeats 1000000 in
theorem point11 (c : Dev nD) (t : Fin cfg0.N) (r : Fin 512) (d : Fin 1024) (R : Fin 8192) (hR : R.val = 512 * t.val + r.val) :
    tv11 m c t (ix2 r d) = F11 m c (ix2 R d) := by
  have hd : d.val = 128 * (⟨d.val / 128, by omega⟩ : Fin 8).val + (⟨d.val % 128, by omega⟩ : Fin 128).val := by simp only; omega
  have hP : (⟨R.val % 4096, by omega⟩ : Fin 4096).val = 512 * (t.val % 8) + r.val := by have := nlt t; simp only; omega
  by_cases h0 : t.val = 0
  · rw [tv11_A m c t h0]
    refine (kP _ _ _ _ _ _ _ _ r d _ _ hd).trans ((lanes_eq _ _ _ (BitVec.ofNat 32 (R.val % 4096)) _ _ d hd ?_ ?_).trans
      (congrArg (fun f => rope f _ d) (funext fun e => (zP _ _ _ _ r _).trans (mulP m c t r R hR _))))
    · exact (c13P _ _ r _).trans ((iblk4 m c t r _ _ hP).trans (cosVP m c _ _))
    · exact (c14P _ _ r _).trans ((iblk5 m c t r _ _ hP).trans (sinVP m c _ _))
  · rw [tv11_B m c t h0]
    refine (kB _ _ _ _ _ r d _ _ hd).trans ((lanes_eq _ _ _ (BitVec.ofNat 32 (R.val % 4096)) _ _ d hd ?_ ?_).trans
      (congrArg (fun f => rope f _ d) (funext fun e => (zB _ _ _ r _).trans (mulP m c t r R hR _))))
    · exact (c112B _ r _).trans ((iblk4 m c t r _ _ hP).trans (cosVP m c _ _))
    · exact (c113B _ r _).trans ((iblk5 m c t r _ _ hP).trans (sinVP m c _ _))
theorem point15 (c : Dev nD) (r : Fin 32) (d : Fin 2048) : sv15 m c (ix2 r d) = F15 m c (ix2 r d) :=
  (h18 _ _ _ r d).trans (rowS m c t0 r d)
theorem point18 (c : Dev nD) (r : Fin 32) (d : Fin 1024) : sv18 m c (ix2 r d) = F18 m c (ix2 r d) :=
  (v9 _ r d).trans ((zS _ _ _ _ r _).trans (mulS m c t0 r _))
set_option maxHeartbeats 1000000 in
theorem point17 (c : Dev nD) (r : Fin 32) (d : Fin 1024) : sv17 m c (ix2 r d) = F17 m c (ix2 r d) := by
  have hd : d.val = 128 * (⟨d.val / 128, by omega⟩ : Fin 8).val + (⟨d.val % 128, by omega⟩ : Fin 128).val := by simp only; omega
  refine (kS _ _ _ _ _ _ _ _ r d _ _ hd).trans ((lanes_eq _ _ _ 16384#32 _ _ d hd ?_ ?_).trans
    (congrArg (fun f => rope f _ d) (funext fun e => (zS _ _ _ _ r _).trans (mulS m c t0 r _))))
  · exact (c13S _ _ r _).trans ((iblk6 m c t0 r _).trans (cosVS m c _ _))
  · exact (c14S _ _ r _).trans ((iblk7 m c t0 r _).trans (sinVS m c _ _))

theorem final9 (c : Dev nD) : (dats m 0 c).arrAt 9 (cfgs 0).N = F9 m c := by
  refine (dats m 0 c).arrAt_eq_of_covers 9 _ (by decide +kernel) fun t hf y => ?_
  blk_simp
  rw [after_9]
  refine (congrArg (tv9 m c t) (eq_ix2 (show S512x2048.Idx from y))).trans ((point9 m c t _ _ ⟨512 * t.val + ((show S512x2048.Idx from y) 0).val, ?_⟩ rfl).trans (congrArg (F9 m c) ?_))
  · have := nlt t; have h2 : ((show S512x2048.Idx from y) 0).val < 512 := ((show S512x2048.Idx from y) 0).isLt; omega
  · blk_ext [idx t]

theorem final11 (c : Dev nD) : (dats m 0 c).arrAt 11 (cfgs 0).N = F11 m c := by
  refine (dats m 0 c).arrAt_eq_of_covers 11 _ (by decide +kernel) fun t hf y => ?_
  blk_simp
  rw [after_11]
  refine (congrArg (tv11 m c t) (eq_ix2 (show S512x1024.Idx from y))).trans ((point11 m c t _ _ ⟨512 * t.val + ((show S512x1024.Idx from y) 0).val, ?_⟩ rfl).trans (congrArg (F11 m c) ?_))
  · have := nlt t; have h2 : ((show S512x1024.Idx from y) 0).val < 512 := ((show S512x1024.Idx from y) 0).isLt; omega
  · blk_ext [idx t]

theorem final13 (c : Dev nD) : (dats m 0 c).arrAt 13 (cfgs 0).N = F13 m c := by
  refine (dats m 0 c).arrAt_eq_of_covers 13 _ (by decide +kernel) fun t hf y => ?_
  blk_simp
  rw [after_13]
  refine (congrArg (tv13 m c t) (eq_ix2 (show S512x1024.Idx from y))).trans ((point13 m c t _ _ ⟨512 * t.val + ((show S512x1024.Idx from y) 0).val, ?_⟩ rfl).trans (congrArg (F13 m c) ?_))
  · have := nlt t; have h2 : ((show S512x1024.Idx from y) 0).val < 512 := ((show S512x1024.Idx from y) 0).isLt; omega
  · blk_ext [idx t]

theorem final15 (c : Dev nD) : (dats m 0 c).arrAt 15 (cfgs 0).N = F15 m c := by
  refine (dats m 0 c).arrAt_eq_of_covers 15 _ (by decide +kernel) fun t hf y => ?_
  blk_simp
  rw [after_15]
  refine (congrArg (sv15 m c) (eq_ix2 (show S32x2048.Idx from y))).trans ((point15 m c _ _).trans (congrArg (F15 m c) ?_))
  blk_ext [idx t]

theorem final17 (c : Dev nD) : (dats m 0 c).arrAt 17 (cfgs 0).N = F17 m c := by
  refine (dats m 0 c).arrAt_eq_of_covers 17 _ (by decide +kernel) fun t hf y => ?_
  blk_simp
  rw [after_17]
  refine (congrArg (sv17 m c) (eq_ix2 (show S32x1024.Idx from y))).trans ((point17 m c _ _).trans (congrArg (F17 m c) ?_))
  blk_ext [idx t]

theorem final18 (c : Dev nD) : (dats m 0 c).arrAt 18 (cfgs 0).N = F18 m c := by
  refine (dats m 0 c).arrAt_eq_of_covers 18 _ (by decide +kernel) fun t hf y => ?_
  blk_simp
  rw [after_18]
  refine (congrArg (sv18 m c) (eq_ix2 (show S32x1024.Idx from y))).trans ((point18 m c _ _).trans (congrArg (F18 m c) ?_))
  blk_ext [idx t]

end Cert.Kernel2Ideal.Qkv

end
-- ==== Proof.QkvRef.lean ====
/- The projection reference's results, read at an index over the extended reals. -/
module

public import proofs.«01_k».proof.Proof.RopeSpec
public import proofs.«01_k».proof.Proof.Gen.Reference2Ideal.Run

@[expose] public section

set_option maxRecDepth 16384

noncomputable section

namespace Cert.Reference2Ideal.Qkv

open Idealize.ShloMosaic Idealize.ShloMosaic.TcCoe Idealize.SL.Sem
open Idealize.ShloMosaic.Pipeline (Dat)
open Cert.Reference2Ideal Cert.Reference2Ideal.Gen Cert.Spec

/-- The norm as the host writes it, -/
def hP (x : FVec Ideal S2x4096x2048 .f32) (g : FVec Ideal S1x2048 .f32) : FVec Ideal S2x4096x2048 .f32 := (mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x3727C5AC#32)))))) (broadcastInDim S2x4096x2048 ![0, 1, 2] bcast_S1x1x2048_S2x4096x2048_0_1_2 (broadcastInDim S1x1x2048 ![2] bcast_S2048_S1x1x2048_2 (shapeCast _ g shapeCasts_S1x2048_S2048))))
/-- the projection, -/
def zP (h : FVec Ideal S2x4096x2048 .f32) (w : FVec Ideal S1x2048x10240 .f32) : FVec Ideal S2x4096x10240 .f32 := (Host.dotGeneral dot_S2x4096x2048_S2048x10240_S2x4096x10240_2_0_01_1_n_n none h (shapeCast _ w shapeCasts_S1x2048x10240_S2048x10240))
/-- its result rows, -/
def rhP (h : FVec Ideal S2x4096x2048 .f32) : FVec Ideal S8192x2048 .bf16 := truncf .bf16 (shapeCast _ h shapeCasts_S2x4096x2048_S8192x2048) bitsLt_bf16_f32
/-- the values, -/
def rvP (z : FVec Ideal S2x4096x10240 .f32) : FVec Ideal S8192x1024 .f32 := shapeCast _ (extractStridedSlice S2x4096x1024 ![0, 0, 2048] z slices_S2x4096x10240_S2x4096x1024_0_0_2048) shapeCasts_S2x4096x1024_S8192x1024
/-- the rotated keys. -/
def rkP (z : FVec Ideal S2x4096x10240 .f32) : FVec Ideal S8192x1024 .f32 := shapeCast _ (concatenate S2x4096x8x2x64 4 [⟨S2x4096x8x2x32, (subf (mulf (extractStridedSlice S2x4096x8x2x32 ![0, 0, 0, 0, 0] (shapeCast _ (extractStridedSlice S2x4096x1024 ![0, 0, 1024] z slices_S2x4096x10240_S2x4096x1024_0_0_1024) shapeCasts_S2x4096x1024_S2x4096x8x2x64) slices_S2x4096x8x2x64_S2x4096x8x2x32_0_0_0_0_0) (broadcastInDim S2x4096x8x2x32 ![0, 1, 2, 3, 4] bcast_S1x4096x1x1x32_S2x4096x8x2x32_0_1_2_3_4 (broadcastInDim S1x4096x1x1x32 ![1, 2, 3, 4] bcast_S4096x1x1x32_S1x4096x1x1x32_1_2_3_4 (broadcastInDim S4096x1x1x32 ![0, 3] bcast_S4096x32_S4096x1x1x32_0_3 (Host.cos (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S2x4096x8x2x32 ![0, 0, 0, 0, 32] (shapeCast _ (extractStridedSlice S2x4096x1024 ![0, 0, 1024] z slices_S2x4096x10240_S2x4096x1024_0_0_1024) shapeCasts_S2x4096x1024_S2x4096x8x2x64) slices_S2x4096x8x2x64_S2x4096x8x2x32_0_0_0_0_32) (broadcastInDim S2x4096x8x2x32 ![0, 1, 2, 3, 4] bcast_S1x4096x1x1x32_S2x4096x8x2x32_0_1_2_3_4 (broadcastInDim S1x4096x1x1x32 ![1, 2, 3, 4] bcast_S4096x1x1x32_S1x4096x1x1x32_1_2_3_4 (broadcastInDim S4096x1x1x32 ![0, 3] bcast_S4096x32_S4096x1x1x32_0_3 (Host.sin (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩, ⟨S2x4096x8x2x32, (addf (mulf (extractStridedSlice S2x4096x8x2x32 ![0, 0, 0, 0, 32] (shapeCast _ (extractStridedSlice S2x4096x1024 ![0, 0, 1024] z slices_S2x4096x10240_S2x4096x1024_0_0_1024) shapeCasts_S2x4096x1024_S2x4096x8x2x64) slices_S2x4096x8x2x64_S2x4096x8x2x32_0_0_0_0_32) (broadcastInDim S2x4096x8x2x32 ![0, 1, 2, 3, 4] bcast_S1x4096x1x1x32_S2x4096x8x2x32_0_1_2_3_4 (broadcastInDim S1x4096x1x1x32 ![1, 2, 3, 4] bcast_S4096x1x1x32_S1x4096x1x1x32_1_2_3_4 (broadcastInDim S4096x1x1x32 ![0, 3] bcast_S4096x32_S4096x1x1x32_0_3 (Host.cos (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))) (mulf (extractStridedSlice S2x4096x8x2x32 ![0, 0, 0, 0, 0] (shapeCast _ (extractStridedSlice S2x4096x1024 ![0, 0, 1024] z slices_S2x4096x10240_S2x4096x1024_0_0_1024) shapeCasts_S2x4096x1024_S2x4096x8x2x64) slices_S2x4096x8x2x64_S2x4096x8x2x32_0_0_0_0_0) (broadcastInDim S2x4096x8x2x32 ![0, 1, 2, 3, 4] bcast_S1x4096x1x1x32_S2x4096x8x2x32_0_1_2_3_4 (broadcastInDim S1x4096x1x1x32 ![1, 2, 3, 4] bcast_S4096x1x1x32_S1x4096x1x1x32_1_2_3_4 (broadcastInDim S4096x1x1x32 ![0, 3] bcast_S4096x32_S4096x1x1x32_0_3 (Host.sin (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))))))))⟩] concatenates_S2x4096x8x2x32_S2x4096x8x2x32_S2x4096x8x2x64_d4) shapeCasts_S2x4096x8x2x64_S8192x1024

set_option maxHeartbeats 400000 in
theorem hP_apply (x : FVec Ideal S2x4096x2048 .f32) (g : FVec Ideal S1x2048 .f32) (b : Fin 2) (s : Fin 4096) (k : Fin 2048) :
    hP x g (ix3 b s k) = rmsn (Ideal.ofBits .f32 0x45000000#32) (Ideal.ofBits .f32 0x3727C5AC#32) (fun k => x (ix3 b s k)) (fun k => g (ix2 0 k)) k := by
  unfold hP
  pointwise [rmsn]
set_option maxHeartbeats 400000 in
theorem zP_apply (h : FVec Ideal S2x4096x2048 .f32) (w : FVec Ideal S1x2048x10240 .f32) (b : Fin 2) (s : Fin 4096) (e : Fin 10240) :
    zP h w (ix3 b s e) = ∑ k : Fin 2048, h (ix3 b s k) * w (ix3 0 k e) := by
  unfold zP
  pointwise
set_option maxHeartbeats 400000 in
theorem rhP_apply (h : FVec Ideal S2x4096x2048 .f32) (r : Fin 8192) (k : Fin 2048) :
    rhP h (ix2 r k) = h (ix3 (⟨r.val / 4096, by omega⟩ : Fin 2) (⟨r.val % 4096, by omega⟩ : Fin 4096) k) := by
  unfold rhP
  pointwise
set_option maxHeartbeats 400000 in
theorem rvP_apply (z : FVec Ideal S2x4096x10240 .f32) (r : Fin 8192) (d : Fin 1024) :
    rvP z (ix2 r d) = z (ix3 (⟨r.val / 4096, by omega⟩ : Fin 2) (⟨r.val % 4096, by omega⟩ : Fin 4096) (⟨2048 + d.val, by omega⟩ : Fin 10240)) := by
  unfold rvP
  pointwise
set_option maxHeartbeats 400000 in
theorem rkP_apply (z : FVec Ideal S2x4096x10240 .f32) (r : Fin 8192) (d : Fin 1024) :
    rkP z (ix2 r d) = rope (fun e => z (ix3 (⟨r.val / 4096, by omega⟩ : Fin 2) (⟨r.val % 4096, by omega⟩ : Fin 4096) (⟨1024 + e.val, by omega⟩ : Fin 10240))) (BitVec.ofNat 32 (r.val % 4096)) d := by
  unfold rkP
  pointwise [rope, angle]
  by_cases h : d.val % 64 < 32
  · refine (dif_pos h).trans (Eq.trans ?_ (dif_pos h).symm)
    exact rope_lo (fun e => z (ix3 (⟨r.val / 4096, by omega⟩ : Fin 2) (⟨r.val % 4096, by omega⟩ : Fin 4096) e)) _ _ _ _ _ _ _ _ rfl (show d.val % 64 = d.val % 32 by omega) rfl (Fin.ext (by simp only; omega))
  · refine (dif_neg h).trans (Eq.trans ?_ (dif_neg h).symm)
    exact rope_hi (fun e => z (ix3 (⟨r.val / 4096, by omega⟩ : Fin 2) (⟨r.val % 4096, by omega⟩ : Fin 4096) e)) _ _ _ _ _ _ _ _ rfl (show d.val % 64 - 32 = d.val % 32 by omega) (Fin.ext (by simp only; omega)) (Fin.ext (by simp only; omega))

def res0 (m : (ℓ : Loc nD τ sig) → Buf (Elt Ideal) ℓ) (c : Dev nD) : FVec Ideal S8192x2048 .bf16 := rhP (hP (m ((c.tc : Thread nD τ).loc main_arg0)) (m ((c.tc : Thread nD τ).loc main_arg3)))
def res1 (m : (ℓ : Loc nD τ sig) → Buf (Elt Ideal) ℓ) (c : Dev nD) : FVec Ideal S8192x1024 .f32 := rkP (zP (hP (m ((c.tc : Thread nD τ).loc main_arg0)) (m ((c.tc : Thread nD τ).loc main_arg3))) (m ((c.tc : Thread nD τ).loc main_arg2)))
def res2 (m : (ℓ : Loc nD τ sig) → Buf (Elt Ideal) ℓ) (c : Dev nD) : FVec Ideal S8192x1024 .f32 := rvP (zP (hP (m ((c.tc : Thread nD τ).loc main_arg0)) (m ((c.tc : Thread nD τ).loc main_arg3))) (m ((c.tc : Thread nD τ).loc main_arg2)))

theorem res0_apply (m : (ℓ : Loc nD τ sig) → Buf (Elt Ideal) ℓ) (c : Dev nD) (r : Fin 8192) (d : Fin 2048) : res0 m c (ix2 r d) = rmsn (Ideal.ofBits .f32 0x45000000#32) (Ideal.ofBits .f32 0x3727C5AC#32) (fun k => (m ((c : Thread nD τ).loc main_arg0) (ix3 (⟨r.val / 4096, by omega⟩ : Fin 2) (⟨r.val % 4096, by omega⟩ : Fin 4096) k))) (fun k => (m ((c : Thread nD τ).loc main_arg3) (ix2 0 k))) d :=
  (rhP_apply _ r d).trans (hP_apply _ _ _ _ d)
theorem rowP (m : (ℓ : Loc nD τ sig) → Buf (Elt Ideal) ℓ) (c : Dev nD) (r : Fin 8192) (e : Fin 10240) :
    zP (hP (m ((c.tc : Thread nD τ).loc main_arg0)) (m ((c.tc : Thread nD τ).loc main_arg3))) (m ((c.tc : Thread nD τ).loc main_arg2)) (ix3 (⟨r.val / 4096, by omega⟩ : Fin 2) (⟨r.val % 4096, by omega⟩ : Fin 4096) e) = ∑ k : Fin 2048, rmsn (Ideal.ofBits .f32 0x45000000#32) (Ideal.ofBits .f32 0x3727C5AC#32) (fun k => (m ((c : Thread nD τ).loc main_arg0) (ix3 (⟨r.val / 4096, by omega⟩ : Fin 2) (⟨r.val % 4096, by omega⟩ : Fin 4096) k))) (fun k => (m ((c : Thread nD τ).loc main_arg3) (ix2 0 k))) k * (m ((c : Thread nD τ).loc main_arg2) (ix3 0 k e)) :=
  (zP_apply _ _ _ _ e).trans (Finset.sum_congr rfl fun k _ => congrArg (· * _) (hP_apply _ _ _ _ k))
theorem res1_apply (m : (ℓ : Loc nD τ sig) → Buf (Elt Ideal) ℓ) (c : Dev nD) (r : Fin 8192) (d : Fin 1024) :
    res1 m c (ix2 r d) = rope (fun e => ∑ k : Fin 2048, rmsn (Ideal.ofBits .f32 0x45000000#32) (Ideal.ofBits .f32 0x3727C5AC#32) (fun k => (m ((c : Thread nD τ).loc main_arg0) (ix3 (⟨r.val / 4096, by omega⟩ : Fin 2) (⟨r.val % 4096, by omega⟩ : Fin 4096) k))) (fun k => (m ((c : Thread nD τ).loc main_arg3) (ix2 0 k))) k * (m ((c : Thread nD τ).loc main_arg2) (ix3 0 k (⟨1024 + e.val, by omega⟩ : Fin 10240)))) (BitVec.ofNat 32 (r.val % 4096)) d :=
  (rkP_apply _ r d).trans (congrArg (fun f => rope f _ d) (funext fun e => rowP m c r _))
theorem res2_apply (m : (ℓ : Loc nD τ sig) → Buf (Elt Ideal) ℓ) (c : Dev nD) (r : Fin 8192) (d : Fin 1024) :
    res2 m c (ix2 r d) = ∑ k : Fin 2048, rmsn (Ideal.ofBits .f32 0x45000000#32) (Ideal.ofBits .f32 0x3727C5AC#32) (fun k => (m ((c : Thread nD τ).loc main_arg0) (ix3 (⟨r.val / 4096, by omega⟩ : Fin 2) (⟨r.val % 4096, by omega⟩ : Fin 4096) k))) (fun k => (m ((c : Thread nD τ).loc main_arg3) (ix2 0 k))) k * (m ((c : Thread nD τ).loc main_arg2) (ix3 0 k (⟨2048 + d.val, by omega⟩ : Fin 10240))) :=
  (rvP_apply _ r d).trans (rowP m c r _)

/-- The norm as the host writes it, -/
def hS (x : FVec Ideal S32x1x2048 .f32) (g : FVec Ideal S1x2048 .f32) : FVec Ideal S32x1x2048 .f32 := (mulf (mulf x (broadcastInDim S32x1x2048 ![0, 1, 2] bcast_S32x1x1_S32x1x2048_0_1_2 (Host.rsqrt (addf (Host.divf (broadcastInDim S32x1x1 ![0, 1] bcast_S32x1_S32x1x1_0_1 (Host.reduceAdd (mulf x x) (constant S_ .f32 0x00000000#32) reducesTo_S32x1x2048_S32x1_d2 h_S_)) (broadcastInDim S32x1x1 ![] bcast_S_S32x1x1 (constant S_ .f32 0x45000000#32))) (broadcastInDim S32x1x1 ![] bcast_S_S32x1x1 (constant S_ .f32 0x3727C5AC#32)))))) (broadcastInDim S32x1x2048 ![0, 1, 2] bcast_S1x1x2048_S32x1x2048_0_1_2 (broadcastInDim S1x1x2048 ![2] bcast_S2048_S1x1x2048_2 (shapeCast _ g shapeCasts_S1x2048_S2048))))
/-- the projection, -/
def zS (h : FVec Ideal S32x1x2048 .f32) (w : FVec Ideal S1x2048x10240 .f32) : FVec Ideal S32x1x10240 .f32 := (Host.dotGeneral dot_S32x1x2048_S2048x10240_S32x1x10240_2_0_01_1_n_n none h (shapeCast _ w shapeCasts_S1x2048x10240_S2048x10240))
/-- its result rows, -/
def rhS (h : FVec Ideal S32x1x2048 .f32) : FVec Ideal S32x2048 .bf16 := truncf .bf16 (shapeCast _ h shapeCasts_S32x1x2048_S32x2048) bitsLt_bf16_f32
/-- the values, -/
def rvS (z : FVec Ideal S32x1x10240 .f32) : FVec Ideal S32x1024 .f32 := shapeCast _ (extractStridedSlice S32x1x1024 ![0, 0, 2048] z slices_S32x1x10240_S32x1x1024_0_0_2048) shapeCasts_S32x1x1024_S32x1024
/-- the rotated keys. -/
def rkS (z : FVec Ideal S32x1x10240 .f32) : FVec Ideal S32x1024 .f32 := shapeCast _ (concatenate S32x1x8x2x64 4 [⟨S32x1x8x2x32, (subf (mulf (extractStridedSlice S32x1x8x2x32 ![0, 0, 0, 0, 0] (shapeCast _ (extractStridedSlice S32x1x1024 ![0, 0, 1024] z slices_S32x1x10240_S32x1x1024_0_0_1024) shapeCasts_S32x1x1024_S32x1x8x2x64) slices_S32x1x8x2x64_S32x1x8x2x32_0_0_0_0_0) (broadcastInDim S32x1x8x2x32 ![0, 1, 2, 3, 4] bcast_S1x1x1x1x32_S32x1x8x2x32_0_1_2_3_4 (broadcastInDim S1x1x1x1x32 ![1, 2, 3, 4] bcast_S1x1x1x32_S1x1x1x1x32_1_2_3_4 (broadcastInDim S1x1x1x32 ![0, 3] bcast_S1x32_S1x1x1x32_0_3 (Host.cos (mulf (broadcastInDim S1x32 ![0, 1] bcast_S1x1_S1x32_0_1 (broadcastInDim S1x1 ![0] bcast_S1_S1x1_0 (sitofp .f32 (addi (broadcastInDim S1 ![] bcast_S_S1 (constantI S_ 32 16384#32)) (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S32x1x8x2x32 ![0, 0, 0, 0, 32] (shapeCast _ (extractStridedSlice S32x1x1024 ![0, 0, 1024] z slices_S32x1x10240_S32x1x1024_0_0_1024) shapeCasts_S32x1x1024_S32x1x8x2x64) slices_S32x1x8x2x64_S32x1x8x2x32_0_0_0_0_32) (broadcastInDim S32x1x8x2x32 ![0, 1, 2, 3, 4] bcast_S1x1x1x1x32_S32x1x8x2x32_0_1_2_3_4 (broadcastInDim S1x1x1x1x32 ![1, 2, 3, 4] bcast_S1x1x1x32_S1x1x1x1x32_1_2_3_4 (broadcastInDim S1x1x1x32 ![0, 3] bcast_S1x32_S1x1x1x32_0_3 (Host.sin (mulf (broadcastInDim S1x32 ![0, 1] bcast_S1x1_S1x32_0_1 (broadcastInDim S1x1 ![0] bcast_S1_S1x1_0 (sitofp .f32 (addi (broadcastInDim S1 ![] bcast_S_S1 (constantI S_ 32 16384#32)) (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩, ⟨S32x1x8x2x32, (addf (mulf (extractStridedSlice S32x1x8x2x32 ![0, 0, 0, 0, 32] (shapeCast _ (extractStridedSlice S32x1x1024 ![0, 0, 1024] z slices_S32x1x10240_S32x1x1024_0_0_1024) shapeCasts_S32x1x1024_S32x1x8x2x64) slices_S32x1x8x2x64_S32x1x8x2x32_0_0_0_0_32) (broadcastInDim S32x1x8x2x32 ![0, 1, 2, 3, 4] bcast_S1x1x1x1x32_S32x1x8x2x32_0_1_2_3_4 (broadcastInDim S1x1x1x1x32 ![1, 2, 3, 4] bcast_S1x1x1x32_S1x1x1x1x32_1_2_3_4 (broadcastInDim S1x1x1x32 ![0, 3] bcast_S1x32_S1x1x1x32_0_3 (Host.cos (mulf (broadcastInDim S1x32 ![0, 1] bcast_S1x1_S1x32_0_1 (broadcastInDim S1x1 ![0] bcast_S1_S1x1_0 (sitofp .f32 (addi (broadcastInDim S1 ![] bcast_S_S1 (constantI S_ 32 16384#32)) (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S32x1x8x2x32 ![0, 0, 0, 0, 0] (shapeCast _ (extractStridedSlice S32x1x1024 ![0, 0, 1024] z slices_S32x1x10240_S32x1x1024_0_0_1024) shapeCasts_S32x1x1024_S32x1x8x2x64) slices_S32x1x8x2x64_S32x1x8x2x32_0_0_0_0_0) (broadcastInDim S32x1x8x2x32 ![0, 1, 2, 3, 4] bcast_S1x1x1x1x32_S32x1x8x2x32_0_1_2_3_4 (broadcastInDim S1x1x1x1x32 ![1, 2, 3, 4] bcast_S1x1x1x32_S1x1x1x1x32_1_2_3_4 (broadcastInDim S1x1x1x32 ![0, 3] bcast_S1x32_S1x1x1x32_0_3 (Host.sin (mulf (broadcastInDim S1x32 ![0, 1] bcast_S1x1_S1x32_0_1 (broadcastInDim S1x1 ![0] bcast_S1_S1x1_0 (sitofp .f32 (addi (broadcastInDim S1 ![] bcast_S_S1 (constantI S_ 32 16384#32)) (iotaInDim S1 32 0))))) (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩] concatenates_S32x1x8x2x32_S32x1x8x2x32_S32x1x8x2x64_d4) shapeCasts_S32x1x8x2x64_S32x1024

set_option maxHeartbeats 400000 in
theorem hS_apply (x : FVec Ideal S32x1x2048 .f32) (g : FVec Ideal S1x2048 .f32) (b : Fin 32) (s : Fin 1) (k : Fin 2048) :
    hS x g (ix3 b s k) = rmsn (Ideal.ofBits .f32 0x45000000#32) (Ideal.ofBits .f32 0x3727C5AC#32) (fun k => x (ix3 b s k)) (fun k => g (ix2 0 k)) k := by
  unfold hS
  obtain rfl : s = 0 := Subsingleton.elim _ _
  pointwise [rmsn]
set_option maxHeartbeats 400000 in
theorem zS_apply (h : FVec Ideal S32x1x2048 .f32) (w : FVec Ideal S1x2048x10240 .f32) (b : Fin 32) (s : Fin 1) (e : Fin 10240) :
    zS h w (ix3 b s e) = ∑ k : Fin 2048, h (ix3 b s k) * w (ix3 0 k e) := by
  unfold zS
  obtain rfl : s = 0 := Subsingleton.elim _ _
  pointwise
set_option maxHeartbeats 400000 in
theorem rhS_apply (h : FVec Ideal S32x1x2048 .f32) (r : Fin 32) (k : Fin 2048) :
    rhS h (ix2 r k) = h (ix3 r (0 : Fin 1) k) := by
  unfold rhS
  pointwise
set_option maxHeartbeats 400000 in
theorem rvS_apply (z : FVec Ideal S32x1x10240 .f32) (r : Fin 32) (d : Fin 1024) :
    rvS z (ix2 r d) = z (ix3 r (0 : Fin 1) (⟨2048 + d.val, by omega⟩ : Fin 10240)) := by
  unfold rvS
  pointwise
set_option maxHeartbeats 400000 in
theorem rkS_apply (z : FVec Ideal S32x1x10240 .f32) (r : Fin 32) (d : Fin 1024) :
    rkS z (ix2 r d) = rope (fun e => z (ix3 r (0 : Fin 1) (⟨1024 + e.val, by omega⟩ : Fin 10240))) (16384#32) d := by
  unfold rkS
  pointwise [rope, angle]
  by_cases h : d.val % 64 < 32
  · refine (dif_pos h).trans (Eq.trans ?_ (dif_pos h).symm)
    exact rope_lo (fun e => z (ix3 r (0 : Fin 1) e)) _ _ _ _ _ _ _ _ (by decide) (show d.val % 64 = d.val % 32 by omega) rfl (Fin.ext (by simp only; omega))
  · refine (dif_neg h).trans (Eq.trans ?_ (dif_neg h).symm)
    exact rope_hi (fun e => z (ix3 r (0 : Fin 1) e)) _ _ _ _ _ _ _ _ (by decide) (show d.val % 64 - 32 = d.val % 32 by omega) (Fin.ext (by simp only; omega)) (Fin.ext (by simp only; omega))

def res3 (m : (ℓ : Loc nD τ sig) → Buf (Elt Ideal) ℓ) (c : Dev nD) : FVec Ideal S32x2048 .bf16 := rhS (hS (m ((c.tc : Thread nD τ).loc main_arg1)) (m ((c.tc : Thread nD τ).loc main_arg3)))
def res4 (m : (ℓ : Loc nD τ sig) → Buf (Elt Ideal) ℓ) (c : Dev nD) : FVec Ideal S32x1024 .f32 := rkS (zS (hS (m ((c.tc : Thread nD τ).loc main_arg1)) (m ((c.tc : Thread nD τ).loc main_arg3))) (m ((c.tc : Thread nD τ).loc main_arg2)))
def res5 (m : (ℓ : Loc nD τ sig) → Buf (Elt Ideal) ℓ) (c : Dev nD) : FVec Ideal S32x1024 .f32 := rvS (zS (hS (m ((c.tc : Thread nD τ).loc main_arg1)) (m ((c.tc : Thread nD τ).loc main_arg3))) (m ((c.tc : Thread nD τ).loc main_arg2)))

theorem res3_apply (m : (ℓ : Loc nD τ sig) → Buf (Elt Ideal) ℓ) (c : Dev nD) (r : Fin 32) (d : Fin 2048) : res3 m c (ix2 r d) = rmsn (Ideal.ofBits .f32 0x45000000#32) (Ideal.ofBits .f32 0x3727C5AC#32) (fun k => (m ((c : Thread nD τ).loc main_arg1) (ix3 r (0 : Fin 1) k))) (fun k => (m ((c : Thread nD τ).loc main_arg3) (ix2 0 k))) d :=
  (rhS_apply _ r d).trans (hS_apply _ _ _ _ d)
theorem rowS (m : (ℓ : Loc nD τ sig) → Buf (Elt Ideal) ℓ) (c : Dev nD) (r : Fin 32) (e : Fin 10240) :
    zS (hS (m ((c.tc : Thread nD τ).loc main_arg1)) (m ((c.tc : Thread nD τ).loc main_arg3))) (m ((c.tc : Thread nD τ).loc main_arg2)) (ix3 r (0 : Fin 1) e) = ∑ k : Fin 2048, rmsn (Ideal.ofBits .f32 0x45000000#32) (Ideal.ofBits .f32 0x3727C5AC#32) (fun k => (m ((c : Thread nD τ).loc main_arg1) (ix3 r (0 : Fin 1) k))) (fun k => (m ((c : Thread nD τ).loc main_arg3) (ix2 0 k))) k * (m ((c : Thread nD τ).loc main_arg2) (ix3 0 k e)) :=
  (zS_apply _ _ _ _ e).trans (Finset.sum_congr rfl fun k _ => congrArg (· * _) (hS_apply _ _ _ _ k))
theorem res4_apply (m : (ℓ : Loc nD τ sig) → Buf (Elt Ideal) ℓ) (c : Dev nD) (r : Fin 32) (d : Fin 1024) :
    res4 m c (ix2 r d) = rope (fun e => ∑ k : Fin 2048, rmsn (Ideal.ofBits .f32 0x45000000#32) (Ideal.ofBits .f32 0x3727C5AC#32) (fun k => (m ((c : Thread nD τ).loc main_arg1) (ix3 r (0 : Fin 1) k))) (fun k => (m ((c : Thread nD τ).loc main_arg3) (ix2 0 k))) k * (m ((c : Thread nD τ).loc main_arg2) (ix3 0 k (⟨1024 + e.val, by omega⟩ : Fin 10240)))) (16384#32) d :=
  (rkS_apply _ r d).trans (congrArg (fun f => rope f _ d) (funext fun e => rowS m c r _))
theorem res5_apply (m : (ℓ : Loc nD τ sig) → Buf (Elt Ideal) ℓ) (c : Dev nD) (r : Fin 32) (d : Fin 1024) :
    res5 m c (ix2 r d) = ∑ k : Fin 2048, rmsn (Ideal.ofBits .f32 0x45000000#32) (Ideal.ofBits .f32 0x3727C5AC#32) (fun k => (m ((c : Thread nD τ).loc main_arg1) (ix3 r (0 : Fin 1) k))) (fun k => (m ((c : Thread nD τ).loc main_arg3) (ix2 0 k))) k * (m ((c : Thread nD τ).loc main_arg2) (ix3 0 k (⟨2048 + d.val, by omega⟩ : Fin 10240))) :=
  (rvS_apply _ r d).trans (rowS m c r _)

end Cert.Reference2Ideal.Qkv

end
-- ==== Proof.QkvClaims.lean ====
/- The claims about the projection kernel, from its run and the values of its six results. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.QkvValue
public import proofs.«01_k».proof.Proof.QkvRef
public import Idealize.ShloMosaic.Adequacy
public import Idealize.ShloMosaic.Init
public import Idealize.ShloMosaic.Lib.Claim
public import Idealize.ShloMosaic.Lib.Quiescent

@[expose] public section

set_option maxHeartbeats 16000000

noncomputable section

namespace Cert.Proof

open Idealize.ShloMosaic Idealize.ShloMosaic.TcCoe Idealize.SL.Sem

section
variable {F : FTy → Type} [FloatOps F]
open Cert.Kernel2Ideal Cert.Kernel2Ideal.Gen
variable (m : (ℓ : Loc nD τ sig) → Buf (Elt F) ℓ) (ρ : Dev nD → PrngReg)

/-- The kernel's run, its arguments unchanged and the counters at zero. -/
theorem qkv_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (Qkv.dats m) (Qkv.A_eq m) ((θ_run defs _ _).mono (fun _ h => h.1) (Qkv.run_main m ρ)))
    ((θ_run defs _ _).mono (fun _ h => h.2) (Qkv.run_main m ρ))

end

attribute [local instance] Cert.Kernel2.Gen.facts Cert.Kernel2Ideal.Gen.facts Cert.Reference2Ideal.Gen.facts

/-- The two texts' kernel functions are one function, -/
theorem qkv_eq : Cert.Kernel2.cc0_qkv_rope (F := Bits) = Cert.Kernel2Ideal.cc0_qkv_rope (F := Bits) := rfl

/-- and so are their tables of bodies. -/
theorem qkv_defs₀_eq : Cert.Kernel2.defs₀ (F := Bits) = Cert.Kernel2Ideal.defs₀ (F := Bits) := by
  unfold Cert.Kernel2.defs₀ Cert.Kernel2Ideal.defs₀
  refine congrArg Defs.onTc ?_
  funext l x
  fin_cases l
  rfl

theorem qkv_defs_eq : Cert.Kernel2.defs (F := Bits) = Cert.Kernel2Ideal.defs (F := Bits) :=
  congrArg (Pipeline.defs _) qkv_defs₀_eq

theorem qkv_kernel : Cert.quiescent_Kernel2 := fun m ρ _ => by
  rw [qkv_defs_eq]
  exact (θ_run Cert.Kernel2Ideal.defs _ _).mono (fun _ h => h) (qkv_frame (F := Bits) m ρ)
theorem qkv_ideal : Cert.quiescent_Kernel2Ideal := fun m ρ _ => qkv_frame (F := Ideal) m ρ
theorem qkv_reference : Cert.quiescent_Reference2Ideal := fun m ρ _ =>
  (θ_run Cert.Reference2Ideal.defs _ _).mono (fun r h => ⟨fun c => (h c).2.2.2.2.2.2, sem_eq_zero_of_no_sems rfl r.2⟩)
    (Cert.Reference2Ideal.Value.run m ρ)

theorem qkv_algebraic : Cert.algebraic_Kernel2Ideal_Reference2Ideal := by
  intro m g m' g' _ hagree
  refine ⟨fun c => (Cert.Kernel2Ideal.Qkv.dats m 0 c).arrAt 9 (Cert.Kernel2Ideal.cfgs 0).N,
    fun c => (Cert.Kernel2Ideal.Qkv.dats m 0 c).arrAt 11 (Cert.Kernel2Ideal.cfgs 0).N,
    fun c => (Cert.Kernel2Ideal.Qkv.dats m 0 c).arrAt 13 (Cert.Kernel2Ideal.cfgs 0).N,
    fun c => (Cert.Kernel2Ideal.Qkv.dats m 0 c).arrAt 15 (Cert.Kernel2Ideal.cfgs 0).N,
    fun c => (Cert.Kernel2Ideal.Qkv.dats m 0 c).arrAt 17 (Cert.Kernel2Ideal.cfgs 0).N,
    fun c => (Cert.Kernel2Ideal.Qkv.dats m 0 c).arrAt 18 (Cert.Kernel2Ideal.cfgs 0).N, ?_, ?_⟩
  · have h := θ_run_and (Cert.Kernel2Ideal.Qkv.run_main m g) (qkv_frame m g)
    exact (θ_run Cert.Kernel2Ideal.defs _ _).mono (fun _ h c => ⟨(h.1.1 c).1 9, (h.1.1 c).1 11, (h.1.1 c).1 13, (h.1.1 c).1 15, (h.1.1 c).1 17, (h.1.1 c).1 18, h.2.1 c⟩) h
  · refine (θ_run Cert.Reference2Ideal.defs _ _).mono (fun _ h c => ⟨?_, ?_, ?_, ?_, ?_, ?_, (h c).2.2.2.2.2.2⟩) (Cert.Reference2Ideal.Value.run m' g')
    · refine (h c).1.trans (Eq.trans ?_ (Cert.Kernel2Ideal.Qkv.final9 m c).symm)
      funext i
      refine (congrArg (Cert.Reference2Ideal.Qkv.res0 m' c) (eq_ix2 i)).trans ((Cert.Reference2Ideal.Qkv.res0_apply m' c (i 0) (i 1)).trans ?_)
      obtain ⟨h0, h1, h2, h3⟩ := hagree c
      rw [h0, h3]
    · refine (h c).2.1.trans (Eq.trans ?_ (Cert.Kernel2Ideal.Qkv.final11 m c).symm)
      funext i
      refine (congrArg (Cert.Reference2Ideal.Qkv.res1 m' c) (eq_ix2 i)).trans ((Cert.Reference2Ideal.Qkv.res1_apply m' c (i 0) (i 1)).trans ?_)
      obtain ⟨h0, h1, h2, h3⟩ := hagree c
      rw [h0, h2, h3]
    · refine (h c).2.2.1.trans (Eq.trans ?_ (Cert.Kernel2Ideal.Qkv.final13 m c).symm)
      funext i
      refine (congrArg (Cert.Reference2Ideal.Qkv.res2 m' c) (eq_ix2 i)).trans ((Cert.Reference2Ideal.Qkv.res2_apply m' c (i 0) (i 1)).trans ?_)
      obtain ⟨h0, h1, h2, h3⟩ := hagree c
      rw [h0, h2, h3]
    · refine (h c).2.2.2.1.trans (Eq.trans ?_ (Cert.Kernel2Ideal.Qkv.final15 m c).symm)
      funext i
      refine (congrArg (Cert.Reference2Ideal.Qkv.res3 m' c) (eq_ix2 i)).trans ((Cert.Reference2Ideal.Qkv.res3_apply m' c (i 0) (i 1)).trans ?_)
      obtain ⟨h0, h1, h2, h3⟩ := hagree c
      rw [h1, h3]
    · refine (h c).2.2.2.2.1.trans (Eq.trans ?_ (Cert.Kernel2Ideal.Qkv.final17 m c).symm)
      funext i
      refine (congrArg (Cert.Reference2Ideal.Qkv.res4 m' c) (eq_ix2 i)).trans ((Cert.Reference2Ideal.Qkv.res4_apply m' c (i 0) (i 1)).trans ?_)
      obtain ⟨h0, h1, h2, h3⟩ := hagree c
      rw [h1, h2, h3]
    · refine (h c).2.2.2.2.2.1.trans (Eq.trans ?_ (Cert.Kernel2Ideal.Qkv.final18 m c).symm)
      funext i
      refine (congrArg (Cert.Reference2Ideal.Qkv.res5 m' c) (eq_ix2 i)).trans ((Cert.Reference2Ideal.Qkv.res5_apply m' c (i 0) (i 1)).trans ?_)
      obtain ⟨h0, h1, h2, h3⟩ := hagree c
      rw [h1, h2, h3]

end Cert.Proof

end
-- ==== Proof.ConvBody.lean ====
/- What one grid point of the gated short convolution does to its buffers. -/
module

public import proofs.«01_k».proof.Proof.Gen.Kernel3Ideal.Skeleton
public import proofs.«01_k».proof.Proof.Gen.Kernel3Ideal.Frame
public import proofs.«01_k».proof.Proof.Whole
public import Idealize.ShloMosaic.Lib.Pipeline.Value

@[expose] public section

set_option maxRecDepth 16384

noncomputable section

namespace Cert.Kernel3Ideal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

open Cert.Whole

/-! ## What is stored -/

/-- Four column blocks of rows 8 to 519 and the eight rows above them fill the scratch. -/
theorem cover_scr (w3 w2 w1 w0 : Vec F S512x256 .f32) (wh : Vec F S8x1024 .f32) : ∀ y : S520x1024.Idx,
    ∃ p ∈ ([⟨Rect.unit (s := S520x1024) ![8, 768] S512x256.size inb_S520x1024_S512x256_8_768, w3⟩,
      ⟨Rect.unit (s := S520x1024) ![8, 512] S512x256.size inb_S520x1024_S512x256_8_512, w2⟩,
      ⟨Rect.unit (s := S520x1024) ![8, 256] S512x256.size inb_S520x1024_S512x256_8_256, w1⟩,
      ⟨Rect.unit (s := S520x1024) ![8, 0] S512x256.size inb_S520x1024_S512x256_8_0, w0⟩,
      ⟨Rect.unit (s := S520x1024) ![0, 0] S8x1024.size inb_S520x1024_S8x1024_0_0, wh⟩] : List (View.Piece (Elt F) S520x1024 .f32)), y ∈ p.1.set := by
  intro y
  have h0 : (y 0).val < 520 := (y 0).isLt
  have h1 : (y 1).val < 1024 := (y 1).isLt
  by_cases hh : (y 0).val < 8
  · refine ⟨_, List.mem_cons_of_mem _ (List.mem_cons_of_mem _ (List.mem_cons_of_mem _ (List.mem_cons_of_mem _ (List.mem_cons_self)))), (Rect.mem_set_unit (inb := inb_S520x1024_S8x1024_0_0)).mpr ?_⟩
    intro a
    match a with
    | ⟨0, _⟩ => exact ⟨show 0 ≤ (y 0).val by omega, show (y 0).val < 0 + 8 by omega⟩
    | ⟨1, _⟩ => exact ⟨show 0 ≤ (y 1).val by omega, show (y 1).val < 0 + 1024 by omega⟩
  rcases (by omega : (768 ≤ (y 1).val) ∨ (512 ≤ (y 1).val ∧ (y 1).val < 768) ∨ (256 ≤ (y 1).val ∧ (y 1).val < 512) ∨ (y 1).val < 256) with h | h | h | h
  · refine ⟨_, List.mem_cons_self, (Rect.mem_set_unit (inb := inb_S520x1024_S512x256_8_768)).mpr ?_⟩
    intro a
    match a with
    | ⟨0, _⟩ => exact ⟨show 8 ≤ (y 0).val by omega, show (y 0).val < 8 + 512 by omega⟩
    | ⟨1, _⟩ => exact ⟨show 768 ≤ (y 1).val by omega, show (y 1).val < 768 + 256 by omega⟩
  · refine ⟨_, List.mem_cons_of_mem _ (List.mem_cons_self), (Rect.mem_set_unit (inb := inb_S520x1024_S512x256_8_512)).mpr ?_⟩
    intro a
    match a with
    | ⟨0, _⟩ => exact ⟨show 8 ≤ (y 0).val by omega, show (y 0).val < 8 + 512 by omega⟩
    | ⟨1, _⟩ => exact ⟨show 512 ≤ (y 1).val by omega, show (y 1).val < 512 + 256 by omega⟩
  · refine ⟨_, List.mem_cons_of_mem _ (List.mem_cons_of_mem _ (List.mem_cons_self)), (Rect.mem_set_unit (inb := inb_S520x1024_S512x256_8_256)).mpr ?_⟩
    intro a
    match a with
    | ⟨0, _⟩ => exact ⟨show 8 ≤ (y 0).val by omega, show (y 0).val < 8 + 512 by omega⟩
    | ⟨1, _⟩ => exact ⟨show 256 ≤ (y 1).val by omega, show (y 1).val < 256 + 256 by omega⟩
  · refine ⟨_, List.mem_cons_of_mem _ (List.mem_cons_of_mem _ (List.mem_cons_of_mem _ (List.mem_cons_self))), (Rect.mem_set_unit (inb := inb_S520x1024_S512x256_8_0)).mpr ?_⟩
    intro a
    match a with
    | ⟨0, _⟩ => exact ⟨show 8 ≤ (y 0).val by omega, show (y 0).val < 8 + 512 by omega⟩
    | ⟨1, _⟩ => exact ⟨show 0 ≤ (y 1).val by omega, show (y 1).val < 0 + 256 by omega⟩

abbrev lw0 (x : Vec F S2048x3072 .bf16) : Vec F S2048x256 .bf16 := View.ld x (Rect.unit (s := S2048x3072) ![0, 0] S2048x256.size inb_S2048x3072_S2048x256_0_0)
abbrev lw256 (x : Vec F S2048x3072 .bf16) : Vec F S2048x256 .bf16 := View.ld x (Rect.unit (s := S2048x3072) ![0, 256] S2048x256.size inb_S2048x3072_S2048x256_0_256)
abbrev lw512 (x : Vec F S2048x3072 .bf16) : Vec F S2048x256 .bf16 := View.ld x (Rect.unit (s := S2048x3072) ![0, 512] S2048x256.size inb_S2048x3072_S2048x256_0_512)
abbrev lw768 (x : Vec F S2048x3072 .bf16) : Vec F S2048x256 .bf16 := View.ld x (Rect.unit (s := S2048x3072) ![0, 768] S2048x256.size inb_S2048x3072_S2048x256_0_768)
abbrev lw1024 (x : Vec F S2048x3072 .bf16) : Vec F S2048x256 .bf16 := View.ld x (Rect.unit (s := S2048x3072) ![0, 1024] S2048x256.size inb_S2048x3072_S2048x256_0_1024)
abbrev lw1280 (x : Vec F S2048x3072 .bf16) : Vec F S2048x256 .bf16 := View.ld x (Rect.unit (s := S2048x3072) ![0, 1280] S2048x256.size inb_S2048x3072_S2048x256_0_1280)
abbrev lw1536 (x : Vec F S2048x3072 .bf16) : Vec F S2048x256 .bf16 := View.ld x (Rect.unit (s := S2048x3072) ![0, 1536] S2048x256.size inb_S2048x3072_S2048x256_0_1536)
abbrev lw1792 (x : Vec F S2048x3072 .bf16) : Vec F S2048x256 .bf16 := View.ld x (Rect.unit (s := S2048x3072) ![0, 1792] S2048x256.size inb_S2048x3072_S2048x256_0_1792)
abbrev lw2048 (x : Vec F S2048x3072 .bf16) : Vec F S2048x256 .bf16 := View.ld x (Rect.unit (s := S2048x3072) ![0, 2048] S2048x256.size inb_S2048x3072_S2048x256_0_2048)
abbrev lw2304 (x : Vec F S2048x3072 .bf16) : Vec F S2048x256 .bf16 := View.ld x (Rect.unit (s := S2048x3072) ![0, 2304] S2048x256.size inb_S2048x3072_S2048x256_0_2304)
abbrev lw2560 (x : Vec F S2048x3072 .bf16) : Vec F S2048x256 .bf16 := View.ld x (Rect.unit (s := S2048x3072) ![0, 2560] S2048x256.size inb_S2048x3072_S2048x256_0_2560)
abbrev lw2816 (x : Vec F S2048x3072 .bf16) : Vec F S2048x256 .bf16 := View.ld x (Rect.unit (s := S2048x3072) ![0, 2816] S2048x256.size inb_S2048x3072_S2048x256_0_2816)
abbrev ls0 (x : Vec F S32x2048 .f32) : Vec F S32x256 .f32 := View.ld x (Rect.unit (s := S32x2048) ![0, 0] S32x256.size inb_S32x2048_S32x256_0_0)
abbrev ls256 (x : Vec F S32x2048 .f32) : Vec F S32x256 .f32 := View.ld x (Rect.unit (s := S32x2048) ![0, 256] S32x256.size inb_S32x2048_S32x256_0_256)
abbrev ls512 (x : Vec F S32x2048 .f32) : Vec F S32x256 .f32 := View.ld x (Rect.unit (s := S32x2048) ![0, 512] S32x256.size inb_S32x2048_S32x256_0_512)
abbrev ls768 (x : Vec F S32x2048 .f32) : Vec F S32x256 .f32 := View.ld x (Rect.unit (s := S32x2048) ![0, 768] S32x256.size inb_S32x2048_S32x256_0_768)
abbrev ls1024 (x : Vec F S32x2048 .f32) : Vec F S32x256 .f32 := View.ld x (Rect.unit (s := S32x2048) ![0, 1024] S32x256.size inb_S32x2048_S32x256_0_1024)
abbrev ls1280 (x : Vec F S32x2048 .f32) : Vec F S32x256 .f32 := View.ld x (Rect.unit (s := S32x2048) ![0, 1280] S32x256.size inb_S32x2048_S32x256_0_1280)
abbrev ls1536 (x : Vec F S32x2048 .f32) : Vec F S32x256 .f32 := View.ld x (Rect.unit (s := S32x2048) ![0, 1536] S32x256.size inb_S32x2048_S32x256_0_1536)
abbrev ls1792 (x : Vec F S32x2048 .f32) : Vec F S32x256 .f32 := View.ld x (Rect.unit (s := S32x2048) ![0, 1792] S32x256.size inb_S32x2048_S32x256_0_1792)
abbrev acn_0 (x0 : Vec F S512x2048 .bf16) (x1 : Vec F S32x2048 .bf16) (x3 : Vec F S2048x3072 .bf16) : Vec F S520x1024 .f32 := View.canon (Val := Elt F) (s := S520x1024) (e := .f32) [
    ⟨Rect.unit (s := S520x1024) ![8, 0] S512x256.size inb_S520x1024_S512x256_8_0, (k0_pay11 x0 x1 (lw1024 x3) (lw2048 x3))⟩,
    ⟨Rect.unit (s := S520x1024) ![0, 0] S8x1024.size inb_S520x1024_S8x1024_0_0, (k0_pay65 (F := F))⟩]
abbrev ald6_0 (x0 : Vec F S512x2048 .bf16) (x1 : Vec F S32x2048 .bf16) (x3 : Vec F S2048x3072 .bf16) : Vec F S512x256 .f32 := View.ld (acn_0 x0 x1 x3) (Rect.unit (s := S520x1024) ![6, 0] S512x256.size inb_S520x1024_S512x256_6_0)
abbrev ald7_0 (x0 : Vec F S512x2048 .bf16) (x1 : Vec F S32x2048 .bf16) (x3 : Vec F S2048x3072 .bf16) : Vec F S512x256 .f32 := View.ld (acn_0 x0 x1 x3) (Rect.unit (s := S520x1024) ![7, 0] S512x256.size inb_S520x1024_S512x256_7_0)
abbrev av46 (x0 : Vec F S512x2048 .bf16) (x1 : Vec F S32x2048 .bf16) : FVec F S544x2048 .bf16 := k0_pay6 x0 x1
abbrev av48 (x4 : Vec F S3x1024 .f32) : FVec F S3x1024 .f32 := k0_pay7 x4
abbrev av50 (x0 : Vec F S512x2048 .bf16) (x1 : Vec F S32x2048 .bf16) (x3 : Vec F S2048x3072 .bf16) : FVec F S544x256 .f32 := k0_pay8 x0 x1 (lw0 x3)
abbrev av55 (x0 : Vec F S512x2048 .bf16) (x1 : Vec F S32x2048 .bf16) (x3 : Vec F S2048x3072 .bf16) : FVec F S544x256 .f32 := k0_pay9 x0 x1 (lw1024 x3) (lw2048 x3)
abbrev av77 (x0 : Vec F S512x2048 .bf16) (x1 : Vec F S32x2048 .bf16) (x3 : Vec F S2048x3072 .bf16) : FVec F S8x256 .f32 := k0_pay13 x0 x1 (lw1024 x3) (lw2048 x3)
abbrev av104 (x0 : Vec F S512x2048 .bf16) (x1 : Vec F S32x2048 .bf16) (x3 : Vec F S2048x3072 .bf16) : FVec F S544x256 .f32 := k0_pay18 (av46 x0 x1) (lw256 x3)
abbrev av109 (x0 : Vec F S512x2048 .bf16) (x1 : Vec F S32x2048 .bf16) (x3 : Vec F S2048x3072 .bf16) : FVec F S544x256 .f32 := k0_pay19 (av46 x0 x1) (lw1280 x3) (lw2304 x3)
abbrev av110 (x0 : Vec F S512x2048 .bf16) (x1 : Vec F S32x2048 .bf16) (x3 : Vec F S2048x3072 .bf16) : FVec F S512x256 .f32 := k0_pay20 (av46 x0 x1) (lw1280 x3) (lw2304 x3)
abbrev acn_256 (x0 : Vec F S512x2048 .bf16) (x1 : Vec F S32x2048 .bf16) (x3 : Vec F S2048x3072 .bf16) : Vec F S520x1024 .f32 := View.canon (Val := Elt F) (s := S520x1024) (e := .f32) [
    ⟨Rect.unit (s := S520x1024) ![8, 256] S512x256.size inb_S520x1024_S512x256_8_256, (k0_pay21 (av110 x0 x1 x3))⟩,
    ⟨Rect.unit (s := S520x1024) ![8, 0] S512x256.size inb_S520x1024_S512x256_8_0, (k0_pay11 x0 x1 (lw1024 x3) (lw2048 x3))⟩,
    ⟨Rect.unit (s := S520x1024) ![0, 0] S8x1024.size inb_S520x1024_S8x1024_0_0, (k0_pay65 (F := F))⟩]
abbrev ald6_256 (x0 : Vec F S512x2048 .bf16) (x1 : Vec F S32x2048 .bf16) (x3 : Vec F S2048x3072 .bf16) : Vec F S512x256 .f32 := View.ld (acn_256 x0 x1 x3) (Rect.unit (s := S520x1024) ![6, 256] S512x256.size inb_S520x1024_S512x256_6_256)
abbrev ald7_256 (x0 : Vec F S512x2048 .bf16) (x1 : Vec F S32x2048 .bf16) (x3 : Vec F S2048x3072 .bf16) : Vec F S512x256 .f32 := View.ld (acn_256 x0 x1 x3) (Rect.unit (s := S520x1024) ![7, 256] S512x256.size inb_S520x1024_S512x256_7_256)
abbrev av135 (x0 : Vec F S512x2048 .bf16) (x1 : Vec F S32x2048 .bf16) (x3 : Vec F S2048x3072 .bf16) : FVec F S32x256 .f32 := k0_pay24 (av109 x0 x1 x3)
abbrev av139 (x2 : Vec F S32x2048 .f32) : FVec F S32x256 .f32 := k0_pay25 (ls1280 x2)
abbrev av153 (x0 : Vec F S512x2048 .bf16) (x1 : Vec F S32x2048 .bf16) (x2 : Vec F S32x2048 .f32) (x3 : Vec F S2048x3072 .bf16) (x4 : Vec F S3x1024 .f32) : FVec F S32x256 .bf16 := k0_pay26 (av48 x4) (av104 x0 x1 x3) (av109 x0 x1 x3) (ls256 x2) (ls1280 x2)
abbrev acn_512 (x0 : Vec F S512x2048 .bf16) (x1 : Vec F S32x2048 .bf16) (x3 : Vec F S2048x3072 .bf16) : Vec F S520x1024 .f32 := View.canon (Val := Elt F) (s := S520x1024) (e := .f32) [
    ⟨Rect.unit (s := S520x1024) ![8, 512] S512x256.size inb_S520x1024_S512x256_8_512, (k0_pay30 (av46 x0 x1) (lw1536 x3) (lw2560 x3))⟩,
    ⟨Rect.unit (s := S520x1024) ![8, 256] S512x256.size inb_S520x1024_S512x256_8_256, (k0_pay21 (av110 x0 x1 x3))⟩,
    ⟨Rect.unit (s := S520x1024) ![8, 0] S512x256.size inb_S520x1024_S512x256_8_0, (k0_pay11 x0 x1 (lw1024 x3) (lw2048 x3))⟩,
    ⟨Rect.unit (s := S520x1024) ![0, 0] S8x1024.size inb_S520x1024_S8x1024_0_0, (k0_pay65 (F := F))⟩]
abbrev ald6_512 (x0 : Vec F S512x2048 .bf16) (x1 : Vec F S32x2048 .bf16) (x3 : Vec F S2048x3072 .bf16) : Vec F S512x256 .f32 := View.ld (acn_512 x0 x1 x3) (Rect.unit (s := S520x1024) ![6, 512] S512x256.size inb_S520x1024_S512x256_6_512)
abbrev ald7_512 (x0 : Vec F S512x2048 .bf16) (x1 : Vec F S32x2048 .bf16) (x3 : Vec F S2048x3072 .bf16) : Vec F S512x256 .f32 := View.ld (acn_512 x0 x1 x3) (Rect.unit (s := S520x1024) ![7, 512] S512x256.size inb_S520x1024_S512x256_7_512)
abbrev av158 (x0 : Vec F S512x2048 .bf16) (x1 : Vec F S32x2048 .bf16) (x3 : Vec F S2048x3072 .bf16) : FVec F S544x256 .f32 := k0_pay27 (av46 x0 x1) (lw512 x3)
abbrev av163 (x0 : Vec F S512x2048 .bf16) (x1 : Vec F S32x2048 .bf16) (x3 : Vec F S2048x3072 .bf16) : FVec F S544x256 .f32 := k0_pay28 (av46 x0 x1) (lw1536 x3) (lw2560 x3)
abbrev av185 (x0 : Vec F S512x2048 .bf16) (x1 : Vec F S32x2048 .bf16) (x3 : Vec F S2048x3072 .bf16) : FVec F S8x256 .f32 := k0_pay32 (av46 x0 x1) (lw1536 x3) (lw2560 x3)
abbrev av212 (x0 : Vec F S512x2048 .bf16) (x1 : Vec F S32x2048 .bf16) (x3 : Vec F S2048x3072 .bf16) : FVec F S544x256 .f32 := k0_pay37 (av46 x0 x1) (lw768 x3)
abbrev av217 (x0 : Vec F S512x2048 .bf16) (x1 : Vec F S32x2048 .bf16) (x3 : Vec F S2048x3072 .bf16) : FVec F S544x256 .f32 := k0_pay38 (av46 x0 x1) (lw1792 x3) (lw2816 x3)
abbrev av218 (x0 : Vec F S512x2048 .bf16) (x1 : Vec F S32x2048 .bf16) (x3 : Vec F S2048x3072 .bf16) : FVec F S512x256 .f32 := k0_pay39 (av46 x0 x1) (lw1792 x3) (lw2816 x3)
abbrev acn_768 (x0 : Vec F S512x2048 .bf16) (x1 : Vec F S32x2048 .bf16) (x3 : Vec F S2048x3072 .bf16) : Vec F S520x1024 .f32 := View.canon (Val := Elt F) (s := S520x1024) (e := .f32) [
    ⟨Rect.unit (s := S520x1024) ![8, 768] S512x256.size inb_S520x1024_S512x256_8_768, (k0_pay40 (av218 x0 x1 x3))⟩,
    ⟨Rect.unit (s := S520x1024) ![8, 512] S512x256.size inb_S520x1024_S512x256_8_512, (k0_pay30 (av46 x0 x1) (lw1536 x3) (lw2560 x3))⟩,
    ⟨Rect.unit (s := S520x1024) ![8, 256] S512x256.size inb_S520x1024_S512x256_8_256, (k0_pay21 (av110 x0 x1 x3))⟩,
    ⟨Rect.unit (s := S520x1024) ![8, 0] S512x256.size inb_S520x1024_S512x256_8_0, (k0_pay11 x0 x1 (lw1024 x3) (lw2048 x3))⟩,
    ⟨Rect.unit (s := S520x1024) ![0, 0] S8x1024.size inb_S520x1024_S8x1024_0_0, (k0_pay65 (F := F))⟩]
abbrev ald6_768 (x0 : Vec F S512x2048 .bf16) (x1 : Vec F S32x2048 .bf16) (x3 : Vec F S2048x3072 .bf16) : Vec F S512x256 .f32 := View.ld (acn_768 x0 x1 x3) (Rect.unit (s := S520x1024) ![6, 768] S512x256.size inb_S520x1024_S512x256_6_768)
abbrev ald7_768 (x0 : Vec F S512x2048 .bf16) (x1 : Vec F S32x2048 .bf16) (x3 : Vec F S2048x3072 .bf16) : Vec F S512x256 .f32 := View.ld (acn_768 x0 x1 x3) (Rect.unit (s := S520x1024) ![7, 768] S512x256.size inb_S520x1024_S512x256_7_768)
abbrev av243 (x0 : Vec F S512x2048 .bf16) (x1 : Vec F S32x2048 .bf16) (x3 : Vec F S2048x3072 .bf16) : FVec F S32x256 .f32 := k0_pay43 (av217 x0 x1 x3)
abbrev av247 (x2 : Vec F S32x2048 .f32) : FVec F S32x256 .f32 := k0_pay44 (ls1792 x2)
abbrev av261 (x0 : Vec F S512x2048 .bf16) (x1 : Vec F S32x2048 .bf16) (x2 : Vec F S32x2048 .f32) (x3 : Vec F S2048x3072 .bf16) (x4 : Vec F S3x1024 .f32) : FVec F S32x256 .bf16 := k0_pay45 (av48 x4) (av212 x0 x1 x3) (av217 x0 x1 x3) (ls768 x2) (ls1792 x2)
/-- What the stores leave in buffer 15. -/
def ao15 (x0 : Vec F S512x2048 .bf16) (x1 : Vec F S32x2048 .bf16) (x3 : Vec F S2048x3072 .bf16) : Vec F S520x1024 .f32 := View.canon (Val := Elt F) (s := S520x1024) (e := .f32) [
    ⟨Rect.unit (s := S520x1024) ![8, 768] S512x256.size inb_S520x1024_S512x256_8_768, (k0_pay40 (av218 x0 x1 x3))⟩,
    ⟨Rect.unit (s := S520x1024) ![8, 512] S512x256.size inb_S520x1024_S512x256_8_512, (k0_pay30 (av46 x0 x1) (lw1536 x3) (lw2560 x3))⟩,
    ⟨Rect.unit (s := S520x1024) ![8, 256] S512x256.size inb_S520x1024_S512x256_8_256, (k0_pay21 (av110 x0 x1 x3))⟩,
    ⟨Rect.unit (s := S520x1024) ![8, 0] S512x256.size inb_S520x1024_S512x256_8_0, (k0_pay11 x0 x1 (lw1024 x3) (lw2048 x3))⟩,
    ⟨Rect.unit (s := S520x1024) ![0, 0] S8x1024.size inb_S520x1024_S8x1024_0_0, (k0_pay65 (F := F))⟩]
/-- What the stores leave in buffer 8. -/
def ao8 (x0 : Vec F S512x2048 .bf16) (x1 : Vec F S32x2048 .bf16) (x3 : Vec F S2048x3072 .bf16) (x4 : Vec F S3x1024 .f32) : Vec F S512x1024 .bf16 := View.canon (Val := Elt F) (s := S512x1024) (e := .bf16) [
    ⟨Rect.unit (s := S512x1024) ![0, 768] S512x256.size inb_S512x1024_S512x256_0_768, (k0_pay41 (av48 x4) (av212 x0 x1 x3) (av218 x0 x1 x3) (ald6_768 x0 x1 x3) (ald7_768 x0 x1 x3))⟩,
    ⟨Rect.unit (s := S512x1024) ![0, 512] S512x256.size inb_S512x1024_S512x256_0_512, (k0_pay31 (av46 x0 x1) (av48 x4) (lw512 x3) (lw1536 x3) (lw2560 x3) (ald6_512 x0 x1 x3) (ald7_512 x0 x1 x3))⟩,
    ⟨Rect.unit (s := S512x1024) ![0, 256] S512x256.size inb_S512x1024_S512x256_0_256, (k0_pay22 (av48 x4) (av104 x0 x1 x3) (av110 x0 x1 x3) (ald6_256 x0 x1 x3) (ald7_256 x0 x1 x3))⟩,
    ⟨Rect.unit (s := S512x1024) ![0, 0] S512x256.size inb_S512x1024_S512x256_0_0, (k0_pay12 x0 x1 x4 (lw0 x3) (lw1024 x3) (lw2048 x3) (ald6_0 x0 x1 x3) (ald7_0 x0 x1 x3))⟩]
/-- What the stores leave in buffer 9. -/
def ao9 (x0 : Vec F S512x2048 .bf16) (x1 : Vec F S32x2048 .bf16) (x3 : Vec F S2048x3072 .bf16) : Vec F S1x8x1024 .f32 := View.canon (Val := Elt F) (s := S1x8x1024) (e := .f32) [
    ⟨Rect.unit (s := S1x8x1024) ![0, 0, 768] S1x8x256.size inb_S1x8x1024_S1x8x256_0_0_768, (k0_pay42 (av218 x0 x1 x3))⟩,
    ⟨Rect.unit (s := S1x8x1024) ![0, 0, 512] S1x8x256.size inb_S1x8x1024_S1x8x256_0_0_512, (k0_pay33 (av185 x0 x1 x3))⟩,
    ⟨Rect.unit (s := S1x8x1024) ![0, 0, 256] S1x8x256.size inb_S1x8x1024_S1x8x256_0_0_256, (k0_pay23 (av110 x0 x1 x3))⟩,
    ⟨Rect.unit (s := S1x8x1024) ![0, 0, 0] S1x8x256.size inb_S1x8x1024_S1x8x256_0_0_0, (k0_pay14 (av77 x0 x1 x3))⟩]
/-- What the stores leave in buffer 10. -/
def ao10 (x0 : Vec F S512x2048 .bf16) (x1 : Vec F S32x2048 .bf16) (x2 : Vec F S32x2048 .f32) (x3 : Vec F S2048x3072 .bf16) (x4 : Vec F S3x1024 .f32) : Vec F S32x1024 .bf16 := View.canon (Val := Elt F) (s := S32x1024) (e := .bf16) [
    ⟨Rect.unit (s := S32x1024) ![0, 768] S32x256.size inb_S32x1024_S32x256_0_768, (av261 x0 x1 x2 x3 x4)⟩,
    ⟨Rect.unit (s := S32x1024) ![0, 512] S32x256.size inb_S32x1024_S32x256_0_512, (k0_pay36 (av48 x4) (av158 x0 x1 x3) (av163 x0 x1 x3) (ls512 x2) (ls1536 x2))⟩,
    ⟨Rect.unit (s := S32x1024) ![0, 256] S32x256.size inb_S32x1024_S32x256_0_256, (av153 x0 x1 x2 x3 x4)⟩,
    ⟨Rect.unit (s := S32x1024) ![0, 0] S32x256.size inb_S32x1024_S32x256_0_0, (k0_pay17 (av48 x4) (av50 x0 x1 x3) (av55 x0 x1 x3) (ls0 x2) (ls1024 x2))⟩]
/-- What the stores leave in buffer 11. -/
def ao11 (x0 : Vec F S512x2048 .bf16) (x1 : Vec F S32x2048 .bf16) (x2 : Vec F S32x2048 .f32) (x3 : Vec F S2048x3072 .bf16) : Vec F S32x2048 .f32 := View.canon (Val := Elt F) (s := S32x2048) (e := .f32) [
    ⟨Rect.unit (s := S32x2048) ![0, 1792] S32x256.size inb_S32x2048_S32x256_0_1792, (av243 x0 x1 x3)⟩,
    ⟨Rect.unit (s := S32x2048) ![0, 768] S32x256.size inb_S32x2048_S32x256_0_768, (av247 x2)⟩,
    ⟨Rect.unit (s := S32x2048) ![0, 1536] S32x256.size inb_S32x2048_S32x256_0_1536, (k0_pay34 (av163 x0 x1 x3))⟩,
    ⟨Rect.unit (s := S32x2048) ![0, 512] S32x256.size inb_S32x2048_S32x256_0_512, (k0_pay35 (ls1536 x2))⟩,
    ⟨Rect.unit (s := S32x2048) ![0, 1280] S32x256.size inb_S32x2048_S32x256_0_1280, (av135 x0 x1 x3)⟩,
    ⟨Rect.unit (s := S32x2048) ![0, 256] S32x256.size inb_S32x2048_S32x256_0_256, (av139 x2)⟩,
    ⟨Rect.unit (s := S32x2048) ![0, 1024] S32x256.size inb_S32x2048_S32x256_0_1024, (k0_pay15 (av55 x0 x1 x3))⟩,
    ⟨Rect.unit (s := S32x2048) ![0, 0] S32x256.size inb_S32x2048_S32x256_0_0, (k0_pay16 (ls1024 x2))⟩]
abbrev bcn_0 (x0 : Vec F S512x2048 .bf16) (x3 : Vec F S2048x3072 .bf16) : Vec F S520x1024 .f32 := View.canon (Val := Elt F) (s := S520x1024) (e := .f32) [
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay65 (F := F))⟩]
abbrev bld6_0 (x0 : Vec F S512x2048 .bf16) (x3 : Vec F S2048x3072 .bf16) : Vec F S512x256 .f32 := View.ld (bcn_0 x0 x3) (Rect.unit (s := S520x1024) ![6, 0] S512x256.size inb_S520x1024_S512x256_6_0)
abbrev bld7_0 (x0 : Vec F S512x2048 .bf16) (x3 : Vec F S2048x3072 .bf16) : Vec F S512x256 .f32 := View.ld (bcn_0 x0 x3) (Rect.unit (s := S520x1024) ![7, 0] S512x256.size inb_S520x1024_S512x256_7_0)
abbrev bv44 (x0 : Vec F S512x2048 .bf16) : Vec F S512x2048 .bf16 := x0
abbrev bv46 (x4 : Vec F S3x1024 .f32) : FVec F S3x1024 .f32 := k0_pay46 x4
abbrev bcn_256 (x0 : Vec F S512x2048 .bf16) (x3 : Vec F S2048x3072 .bf16) : Vec F S520x1024 .f32 := View.canon (Val := Elt F) (s := S520x1024) (e := .f32) [
    ⟨Rect.unit (s := S520x1024) ![8, 256] S512x256.size inb_S520x1024_S512x256_8_256, (k0_pay52 (bv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay65 (F := F))⟩]
abbrev bld6_256 (x0 : Vec F S512x2048 .bf16) (x3 : Vec F S2048x3072 .bf16) : Vec F S512x256 .f32 := View.ld (bcn_256 x0 x3) (Rect.unit (s := S520x1024) ![6, 256] S512x256.size inb_S520x1024_S512x256_6_256)
abbrev bld7_256 (x0 : Vec F S512x2048 .bf16) (x3 : Vec F S2048x3072 .bf16) : Vec F S512x256 .f32 := View.ld (bcn_256 x0 x3) (Rect.unit (s := S520x1024) ![7, 256] S512x256.size inb_S520x1024_S512x256_7_256)
abbrev bv108 (x0 : Vec F S512x2048 .bf16) (x3 : Vec F S2048x3072 .bf16) : FVec F S512x256 .f32 := (k0_pay55 (bv44 x0) (lw512 x3))
abbrev bcn_512 (x0 : Vec F S512x2048 .bf16) (x3 : Vec F S2048x3072 .bf16) : Vec F S520x1024 .f32 := View.canon (Val := Elt F) (s := S520x1024) (e := .f32) [
    ⟨Rect.unit (s := S520x1024) ![8, 512] S512x256.size inb_S520x1024_S512x256_8_512, (k0_pay57 (bv44 x0) (lw1536 x3) (lw2560 x3))⟩,
    ⟨Rect.unit (s := S520x1024) ![8, 256] S512x256.size inb_S520x1024_S512x256_8_256, (k0_pay52 (bv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay65 (F := F))⟩]
abbrev bld6_512 (x0 : Vec F S512x2048 .bf16) (x3 : Vec F S2048x3072 .bf16) : Vec F S512x256 .f32 := View.ld (bcn_512 x0 x3) (Rect.unit (s := S520x1024) ![6, 512] S512x256.size inb_S520x1024_S512x256_6_512)
abbrev bld7_512 (x0 : Vec F S512x2048 .bf16) (x3 : Vec F S2048x3072 .bf16) : Vec F S512x256 .f32 := View.ld (bcn_512 x0 x3) (Rect.unit (s := S520x1024) ![7, 512] S512x256.size inb_S520x1024_S512x256_7_512)
abbrev bv138 (x0 : Vec F S512x2048 .bf16) (x3 : Vec F S2048x3072 .bf16) : FVec F S512x256 .f32 := k0_pay60 (bv44 x0) (lw768 x3)
abbrev bv140 (x0 : Vec F S512x2048 .bf16) (x3 : Vec F S2048x3072 .bf16) : FVec F S512x256 .f32 := k0_pay61 (bv44 x0) (lw1792 x3)
abbrev bv141 (x3 : Vec F S2048x3072 .bf16) : Vec F S2048x256 .bf16 := View.ld x3 (Rect.unit (s := S2048x3072) ![0, 2816] S2048x256.size inb_S2048x3072_S2048x256_0_2816)
abbrev bcst_85  : FVec F S512x256 .f32 := constant S512x256 .f32 0x00000000#32
abbrev bcn_768 (x0 : Vec F S512x2048 .bf16) (x3 : Vec F S2048x3072 .bf16) : Vec F S520x1024 .f32 := View.canon (Val := Elt F) (s := S520x1024) (e := .f32) [
    ⟨Rect.unit (s := S520x1024) ![8, 768] S512x256.size inb_S520x1024_S512x256_8_768, (k0_pay3 (bv44 x0) (bv140 x0 x3) (bv141 x3) (bcst_85))⟩,
    ⟨Rect.unit (s := S520x1024) ![8, 512] S512x256.size inb_S520x1024_S512x256_8_512, (k0_pay57 (bv44 x0) (lw1536 x3) (lw2560 x3))⟩,
    ⟨Rect.unit (s := S520x1024) ![8, 256] S512x256.size inb_S520x1024_S512x256_8_256, (k0_pay52 (bv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay65 (F := F))⟩]
abbrev bld6_768 (x0 : Vec F S512x2048 .bf16) (x3 : Vec F S2048x3072 .bf16) : Vec F S512x256 .f32 := View.ld (bcn_768 x0 x3) (Rect.unit (s := S520x1024) ![6, 768] S512x256.size inb_S520x1024_S512x256_6_768)
abbrev bld7_768 (x0 : Vec F S512x2048 .bf16) (x3 : Vec F S2048x3072 .bf16) : Vec F S512x256 .f32 := View.ld (bcn_768 x0 x3) (Rect.unit (s := S520x1024) ![7, 768] S512x256.size inb_S520x1024_S512x256_7_768)
/-- What the stores leave in buffer 15. -/
def bo15 (x0 : Vec F S512x2048 .bf16) (x3 : Vec F S2048x3072 .bf16) : Vec F S520x1024 .f32 := View.canon (Val := Elt F) (s := S520x1024) (e := .f32) [
    ⟨Rect.unit (s := S520x1024) ![8, 768] S512x256.size inb_S520x1024_S512x256_8_768, (k0_pay3 (bv44 x0) (bv140 x0 x3) (bv141 x3) (bcst_85))⟩,
    ⟨Rect.unit (s := S520x1024) ![8, 512] S512x256.size inb_S520x1024_S512x256_8_512, (k0_pay57 (bv44 x0) (lw1536 x3) (lw2560 x3))⟩,
    ⟨Rect.unit (s := S520x1024) ![8, 256] S512x256.size inb_S520x1024_S512x256_8_256, (k0_pay52 (bv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay65 (F := F))⟩]
/-- What the stores leave in buffer 8. -/
def bo8 (x0 : Vec F S512x2048 .bf16) (x3 : Vec F S2048x3072 .bf16) (x4 : Vec F S3x1024 .f32) : Vec F S512x1024 .bf16 := View.canon (Val := Elt F) (s := S512x1024) (e := .bf16) [
    ⟨Rect.unit (s := S512x1024) ![0, 768] S512x256.size inb_S512x1024_S512x256_0_768, (k0_pay4 (bv44 x0) (bv46 x4) (bv138 x0 x3) (bv140 x0 x3) (bv141 x3) (bcst_85) (bld6_768 x0 x3) (bld7_768 x0 x3))⟩,
    ⟨Rect.unit (s := S512x1024) ![0, 512] S512x256.size inb_S512x1024_S512x256_0_512, (k0_pay58 (bv44 x0) (bv46 x4) (bv108 x0 x3) (lw1536 x3) (lw2560 x3) (bld6_512 x0 x3) (bld7_512 x0 x3))⟩,
    ⟨Rect.unit (s := S512x1024) ![0, 256] S512x256.size inb_S512x1024_S512x256_0_256, (k0_pay53 (bv44 x0) (bv46 x4) (lw256 x3) (lw1280 x3) (lw2304 x3) (bld6_256 x0 x3) (bld7_256 x0 x3))⟩,
    ⟨Rect.unit (s := S512x1024) ![0, 0] S512x256.size inb_S512x1024_S512x256_0_0, (k0_pay49 x0 x4 (lw0 x3) (lw1024 x3) (lw2048 x3) (bld6_0 x0 x3) (bld7_0 x0 x3))⟩]
/-- What the stores leave in buffer 9. -/
def bo9 (x0 : Vec F S512x2048 .bf16) (x3 : Vec F S2048x3072 .bf16) : Vec F S1x8x1024 .f32 := View.canon (Val := Elt F) (s := S1x8x1024) (e := .f32) [
    ⟨Rect.unit (s := S1x8x1024) ![0, 0, 768] S1x8x256.size inb_S1x8x1024_S1x8x256_0_0_768, (k0_pay5 (bv44 x0) (bv140 x0 x3) (bv141 x3) (bcst_85))⟩,
    ⟨Rect.unit (s := S1x8x1024) ![0, 0, 512] S1x8x256.size inb_S1x8x1024_S1x8x256_0_0_512, (k0_pay59 (bv44 x0) (lw1536 x3) (lw2560 x3))⟩,
    ⟨Rect.unit (s := S1x8x1024) ![0, 0, 256] S1x8x256.size inb_S1x8x1024_S1x8x256_0_0_256, (k0_pay54 (bv44 x0) (lw1280 x3) (lw2304 x3))⟩,
    ⟨Rect.unit (s := S1x8x1024) ![0, 0, 0] S1x8x256.size inb_S1x8x1024_S1x8x256_0_0_0, (k0_pay50 x0 (lw1024 x3) (lw2048 x3))⟩]
abbrev ccn_0 (a0 : Vec F S520x1024 .f32) (x0 : Vec F S512x2048 .bf16) (x3 : Vec F S2048x3072 .bf16) : Vec F S520x1024 .f32 := View.canon (Val := Elt F) (s := S520x1024) (e := .f32) [
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay1 (View.ld a0 (Rect.unit (s := S520x1024) ![512, 0] S8x1024.size inb_S520x1024_S8x1024_512_0)))⟩]
abbrev cld6_0 (a0 : Vec F S520x1024 .f32) (x0 : Vec F S512x2048 .bf16) (x3 : Vec F S2048x3072 .bf16) : Vec F S512x256 .f32 := View.ld (ccn_0 a0 x0 x3) (Rect.unit (s := S520x1024) ![6, 0] S512x256.size inb_S520x1024_S512x256_6_0)
abbrev cld7_0 (a0 : Vec F S520x1024 .f32) (x0 : Vec F S512x2048 .bf16) (x3 : Vec F S2048x3072 .bf16) : Vec F S512x256 .f32 := View.ld (ccn_0 a0 x0 x3) (Rect.unit (s := S520x1024) ![7, 0] S512x256.size inb_S520x1024_S512x256_7_0)
abbrev cv44 (x0 : Vec F S512x2048 .bf16) : Vec F S512x2048 .bf16 := x0
abbrev cv46 (x4 : Vec F S3x1024 .f32) : FVec F S3x1024 .f32 := k0_pay46 x4
abbrev ccn_256 (a0 : Vec F S520x1024 .f32) (x0 : Vec F S512x2048 .bf16) (x3 : Vec F S2048x3072 .bf16) : Vec F S520x1024 .f32 := View.canon (Val := Elt F) (s := S520x1024) (e := .f32) [
    ⟨Rect.unit (s := S520x1024) ![8, 256] S512x256.size inb_S520x1024_S512x256_8_256, (k0_pay52 (cv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay1 (View.ld a0 (Rect.unit (s := S520x1024) ![512, 0] S8x1024.size inb_S520x1024_S8x1024_512_0)))⟩]
abbrev cld6_256 (a0 : Vec F S520x1024 .f32) (x0 : Vec F S512x2048 .bf16) (x3 : Vec F S2048x3072 .bf16) : Vec F S512x256 .f32 := View.ld (ccn_256 a0 x0 x3) (Rect.unit (s := S520x1024) ![6, 256] S512x256.size inb_S520x1024_S512x256_6_256)
abbrev cld7_256 (a0 : Vec F S520x1024 .f32) (x0 : Vec F S512x2048 .bf16) (x3 : Vec F S2048x3072 .bf16) : Vec F S512x256 .f32 := View.ld (ccn_256 a0 x0 x3) (Rect.unit (s := S520x1024) ![7, 256] S512x256.size inb_S520x1024_S512x256_7_256)
abbrev cv108 (x0 : Vec F S512x2048 .bf16) (x3 : Vec F S2048x3072 .bf16) : FVec F S512x256 .f32 := (k0_pay55 (cv44 x0) (lw512 x3))
abbrev ccn_512 (a0 : Vec F S520x1024 .f32) (x0 : Vec F S512x2048 .bf16) (x3 : Vec F S2048x3072 .bf16) : Vec F S520x1024 .f32 := View.canon (Val := Elt F) (s := S520x1024) (e := .f32) [
    ⟨Rect.unit (s := S520x1024) ![8, 512] S512x256.size inb_S520x1024_S512x256_8_512, (k0_pay57 (cv44 x0) (lw1536 x3) (lw2560 x3))⟩,
    ⟨Rect.unit (s := S520x1024) ![8, 256] S512x256.size inb_S520x1024_S512x256_8_256, (k0_pay52 (cv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay1 (View.ld a0 (Rect.unit (s := S520x1024) ![512, 0] S8x1024.size inb_S520x1024_S8x1024_512_0)))⟩]
abbrev cld6_512 (a0 : Vec F S520x1024 .f32) (x0 : Vec F S512x2048 .bf16) (x3 : Vec F S2048x3072 .bf16) : Vec F S512x256 .f32 := View.ld (ccn_512 a0 x0 x3) (Rect.unit (s := S520x1024) ![6, 512] S512x256.size inb_S520x1024_S512x256_6_512)
abbrev cld7_512 (a0 : Vec F S520x1024 .f32) (x0 : Vec F S512x2048 .bf16) (x3 : Vec F S2048x3072 .bf16) : Vec F S512x256 .f32 := View.ld (ccn_512 a0 x0 x3) (Rect.unit (s := S520x1024) ![7, 512] S512x256.size inb_S520x1024_S512x256_7_512)
abbrev cv138 (x0 : Vec F S512x2048 .bf16) (x3 : Vec F S2048x3072 .bf16) : FVec F S512x256 .f32 := k0_pay60 (cv44 x0) (lw768 x3)
abbrev cv140 (x0 : Vec F S512x2048 .bf16) (x3 : Vec F S2048x3072 .bf16) : FVec F S512x256 .f32 := k0_pay61 (cv44 x0) (lw1792 x3)
abbrev cv141 (x3 : Vec F S2048x3072 .bf16) : Vec F S2048x256 .bf16 := View.ld x3 (Rect.unit (s := S2048x3072) ![0, 2816] S2048x256.size inb_S2048x3072_S2048x256_0_2816)
abbrev ccst_85  : FVec F S512x256 .f32 := constant S512x256 .f32 0x00000000#32
abbrev ccn_768 (a0 : Vec F S520x1024 .f32) (x0 : Vec F S512x2048 .bf16) (x3 : Vec F S2048x3072 .bf16) : Vec F S520x1024 .f32 := View.canon (Val := Elt F) (s := S520x1024) (e := .f32) [
    ⟨Rect.unit (s := S520x1024) ![8, 768] S512x256.size inb_S520x1024_S512x256_8_768, (k0_pay3 (cv44 x0) (cv140 x0 x3) (cv141 x3) (ccst_85))⟩,
    ⟨Rect.unit (s := S520x1024) ![8, 512] S512x256.size inb_S520x1024_S512x256_8_512, (k0_pay57 (cv44 x0) (lw1536 x3) (lw2560 x3))⟩,
    ⟨Rect.unit (s := S520x1024) ![8, 256] S512x256.size inb_S520x1024_S512x256_8_256, (k0_pay52 (cv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay1 (View.ld a0 (Rect.unit (s := S520x1024) ![512, 0] S8x1024.size inb_S520x1024_S8x1024_512_0)))⟩]
abbrev cld6_768 (a0 : Vec F S520x1024 .f32) (x0 : Vec F S512x2048 .bf16) (x3 : Vec F S2048x3072 .bf16) : Vec F S512x256 .f32 := View.ld (ccn_768 a0 x0 x3) (Rect.unit (s := S520x1024) ![6, 768] S512x256.size inb_S520x1024_S512x256_6_768)
abbrev cld7_768 (a0 : Vec F S520x1024 .f32) (x0 : Vec F S512x2048 .bf16) (x3 : Vec F S2048x3072 .bf16) : Vec F S512x256 .f32 := View.ld (ccn_768 a0 x0 x3) (Rect.unit (s := S520x1024) ![7, 768] S512x256.size inb_S520x1024_S512x256_7_768)
/-- What the stores leave in buffer 15. -/
def co15 (a0 : Vec F S520x1024 .f32) (x0 : Vec F S512x2048 .bf16) (x3 : Vec F S2048x3072 .bf16) : Vec F S520x1024 .f32 := View.canon (Val := Elt F) (s := S520x1024) (e := .f32) [
    ⟨Rect.unit (s := S520x1024) ![8, 768] S512x256.size inb_S520x1024_S512x256_8_768, (k0_pay3 (cv44 x0) (cv140 x0 x3) (cv141 x3) (ccst_85))⟩,
    ⟨Rect.unit (s := S520x1024) ![8, 512] S512x256.size inb_S520x1024_S512x256_8_512, (k0_pay57 (cv44 x0) (lw1536 x3) (lw2560 x3))⟩,
    ⟨Rect.unit (s := S520x1024) ![8, 256] S512x256.size inb_S520x1024_S512x256_8_256, (k0_pay52 (cv44 x0) (lw1280 x3) (lw2304 x3))⟩,
    ⟨Rect.unit (s := S520x1024) ![8, 0] S512x256.size inb_S520x1024_S512x256_8_0, (k0_pay48 x0 (lw1024 x3) (lw2048 x3))⟩,
    ⟨Rect.unit (s := S520x1024) ![0, 0] S8x1024.size inb_S520x1024_S8x1024_0_0, (k0_pay1 (View.ld a0 (Rect.unit (s := S520x1024) ![512, 0] S8x1024.size inb_S520x1024_S8x1024_512_0)))⟩]
/-- What the stores leave in buffer 8. -/
def co8 (a0 : Vec F S520x1024 .f32) (x0 : Vec F S512x2048 .bf16) (x3 : Vec F S2048x3072 .bf16) (x4 : Vec F S3x1024 .f32) : Vec F S512x1024 .bf16 := View.canon (Val := Elt F) (s := S512x1024) (e := .bf16) [
    ⟨Rect.unit (s := S512x1024) ![0, 768] S512x256.size inb_S512x1024_S512x256_0_768, (k0_pay4 (cv44 x0) (cv46 x4) (cv138 x0 x3) (cv140 x0 x3) (cv141 x3) (ccst_85) (cld6_768 a0 x0 x3) (cld7_768 a0 x0 x3))⟩,
    ⟨Rect.unit (s := S512x1024) ![0, 512] S512x256.size inb_S512x1024_S512x256_0_512, (k0_pay58 (cv44 x0) (cv46 x4) (cv108 x0 x3) (lw1536 x3) (lw2560 x3) (cld6_512 a0 x0 x3) (cld7_512 a0 x0 x3))⟩,
    ⟨Rect.unit (s := S512x1024) ![0, 256] S512x256.size inb_S512x1024_S512x256_0_256, (k0_pay53 (cv44 x0) (cv46 x4) (lw256 x3) (lw1280 x3) (lw2304 x3) (cld6_256 a0 x0 x3) (cld7_256 a0 x0 x3))⟩,
    ⟨Rect.unit (s := S512x1024) ![0, 0] S512x256.size inb_S512x1024_S512x256_0_0, (k0_pay49 x0 x4 (lw0 x3) (lw1024 x3) (lw2048 x3) (cld6_0 a0 x0 x3) (cld7_0 a0 x0 x3))⟩]
/-- What the stores leave in buffer 9. -/
def co9 (x0 : Vec F S512x2048 .bf16) (x3 : Vec F S2048x3072 .bf16) : Vec F S1x8x1024 .f32 := View.canon (Val := Elt F) (s := S1x8x1024) (e := .f32) [
    ⟨Rect.unit (s := S1x8x1024) ![0, 0, 768] S1x8x256.size inb_S1x8x1024_S1x8x256_0_0_768, (k0_pay5 (cv44 x0) (cv140 x0 x3) (cv141 x3) (ccst_85))⟩,
    ⟨Rect.unit (s := S1x8x1024) ![0, 0, 512] S1x8x256.size inb_S1x8x1024_S1x8x256_0_0_512, (k0_pay59 (cv44 x0) (lw1536 x3) (lw2560 x3))⟩,
    ⟨Rect.unit (s := S1x8x1024) ![0, 0, 256] S1x8x256.size inb_S1x8x1024_S1x8x256_0_0_256, (k0_pay54 (cv44 x0) (lw1280 x3) (lw2304 x3))⟩,
    ⟨Rect.unit (s := S1x8x1024) ![0, 0, 0] S1x8x256.size inb_S1x8x1024_S1x8x256_0_0_0, (k0_pay50 x0 (lw1024 x3) (lw2048 x3))⟩]

set_option maxHeartbeats 16000000 in
/-- The first tile: the halo is zero and the sample rows go along. -/
theorem body_A (c : Dev nD) (i : grid0.Coords) (arg1 : Memref sig .tc .vmem S512x2048 .bf16) (harg1 : arg1.IsWhole) (arg2 : Memref sig .tc .vmem S32x2048 .bf16) (harg2 : arg2.IsWhole) (arg3 : Memref sig .tc .vmem S32x2048 .f32) (harg3 : arg3.IsWhole) (arg4 : Memref sig .tc .vmem S2048x3072 .bf16) (harg4 : arg4.IsWhole) (arg5 : Memref sig .tc .vmem S3x1024 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x11264 .f32) (harg8 : arg8.IsWhole) (arg9 : Memref sig .tc .vmem S512x1024 .bf16) (harg9 : arg9.IsWhole) (arg10 : Memref sig .tc .vmem S1x8x1024 .f32) (harg10 : arg10.IsWhole) (arg11 : Memref sig .tc .vmem S32x1024 .bf16) (harg11 : arg11.IsWhole) (arg12 : Memref sig .tc .vmem S32x2048 .f32) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S128x11264 .bf16) (harg15 : arg15.IsWhole) (arg16 : Memref sig .tc .vmem S520x1024 .f32) (harg16 : arg16.IsWhole) (hc1 : Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32 = 1#1) (hc2 : ¬Scalar.cmpi .ne (Scalar.extui (Scalar.cmpi .ne (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32 = 1#1) (hc3 : k0_cond3 i = 1#1) (hc4 : ¬k0_cond4 i = 1#1)
    (x0 : Vec F S512x2048 .bf16) (x1 : Vec F S32x2048 .bf16) (x2 : Vec F S32x2048 .f32) (x3 : Vec F S2048x3072 .bf16) (x4 : Vec F S3x1024 .f32) (x5 : Vec F S128x2048 .f32) (x6 : Vec F S128x2048 .f32) (x7 : Vec F S128x11264 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare ((ao8 x0 x1 x3 x4)) ∗ owns (c : Thread nD τ) arg10 fullShare ((ao9 x0 x1 x3)) ∗ owns (c : Thread nD τ) arg11 fullShare ((ao10 x0 x1 x2 x3 x4)) ∗ owns (c : Thread nD τ) arg12 fullShare ((ao11 x0 x1 x2 x3)) ∗ owns (c : Thread nD τ) arg13 fullShare ((k0_pay62 x5)) ∗ owns (c : Thread nD τ) arg14 fullShare ((k0_pay63 x6)) ∗ owns (c : Thread nD τ) arg15 fullShare ((k0_pay64 x7)) ∗ owns (c : Thread nD τ) arg16 fullShare ((ao15 x0 x1 x3))) -∗ K ⟨⟩))
    ⊢ wp frame (wpE (defs₀ (F := F)) Variants.none c none) E (cc0_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_conv_eq_skeleton]; unfold cc0_conv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    sl_unfold_words
    refine (View.read_writes_eq_canon _ _ _ (View.cover_of_tiled _ ![512, 256] ?_)).trans ?_
    · rfl
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H9]
  · iexists _; isplitr; swap; · iexact H9
    ipureintro
    sl_unfold_words
    refine (View.read_writes_eq_canon _ _ _ (View.cover_of_tiled _ ![1, 8, 256] ?_)).trans ?_
    · rfl
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H10]
  · iexists _; isplitr; swap; · iexact H10
    ipureintro
    sl_unfold_words
    refine (View.read_writes_eq_canon _ _ _ (View.cover_of_tiled _ ![32, 256] ?_)).trans ?_
    · rfl
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H11]
  · iexists _; isplitr; swap; · iexact H11
    ipureintro
    sl_unfold_words
    refine (View.read_writes_eq_canon _ _ _ (View.cover_of_tiled _ ![32, 256] ?_)).trans ?_
    · rfl
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H12]
  · iexists _; isplitr; swap; · iexact H12
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x2048) _ hz, View.readCov_eq_canon']
    try rfl
  isplitl [H13]
  · iexists _; isplitr; swap; · iexact H13
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x2048) _ hz, View.readCov_eq_canon']
    try rfl
  isplitl [H14]
  · iexists _; isplitr; swap; · iexact H14
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x11264) _ hz, View.readCov_eq_canon']
    try rfl
  iexists _; isplitr; swap; · iexact H15
  ipureintro
  sl_unfold_words
  refine (View.read_writes_eq_canon _ _ _ (cover_scr _ _ _ _ _)).trans ?_
  try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
  rfl

set_option maxHeartbeats 16000000 in
/-- The first tile of the second sequence: the halo is zero. -/
theorem body_B (c : Dev nD) (i : grid0.Coords) (arg1 : Memref sig .tc .vmem S512x2048 .bf16) (harg1 : arg1.IsWhole) (arg2 : Memref sig .tc .vmem S32x2048 .bf16) (harg2 : arg2.IsWhole) (arg3 : Memref sig .tc .vmem S32x2048 .f32) (harg3 : arg3.IsWhole) (arg4 : Memref sig .tc .vmem S2048x3072 .bf16) (harg4 : arg4.IsWhole) (arg5 : Memref sig .tc .vmem S3x1024 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x11264 .f32) (harg8 : arg8.IsWhole) (arg9 : Memref sig .tc .vmem S512x1024 .bf16) (harg9 : arg9.IsWhole) (arg10 : Memref sig .tc .vmem S1x8x1024 .f32) (harg10 : arg10.IsWhole) (arg11 : Memref sig .tc .vmem S32x1024 .bf16) (harg11 : arg11.IsWhole) (arg12 : Memref sig .tc .vmem S32x2048 .f32) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S128x11264 .bf16) (harg15 : arg15.IsWhole) (arg16 : Memref sig .tc .vmem S520x1024 .f32) (harg16 : arg16.IsWhole) (hc1 : Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32 = 1#1) (hc2 : ¬Scalar.cmpi .ne (Scalar.extui (Scalar.cmpi .ne (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32 = 1#1) (hc3 : ¬k0_cond3 i = 1#1) (hc4 : k0_cond4 i = 1#1)
    (x0 : Vec F S512x2048 .bf16) (x1 : Vec F S32x2048 .bf16) (x2 : Vec F S32x2048 .f32) (x3 : Vec F S2048x3072 .bf16) (x4 : Vec F S3x1024 .f32) (x5 : Vec F S128x2048 .f32) (x6 : Vec F S128x2048 .f32) (x7 : Vec F S128x11264 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare ((bo8 x0 x3 x4)) ∗ owns (c : Thread nD τ) arg10 fullShare ((bo9 x0 x3)) ∗ owns (c : Thread nD τ) arg13 fullShare ((k0_pay62 x5)) ∗ owns (c : Thread nD τ) arg14 fullShare ((k0_pay63 x6)) ∗ owns (c : Thread nD τ) arg15 fullShare ((k0_pay64 x7)) ∗ owns (c : Thread nD τ) arg16 fullShare ((bo15 x0 x3))) -∗ K ⟨⟩))
    ⊢ wp frame (wpE (defs₀ (F := F)) Variants.none c none) E (cc0_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_conv_eq_skeleton]; unfold cc0_conv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    sl_unfold_words
    refine (View.read_writes_eq_canon _ _ _ (View.cover_of_tiled _ ![512, 256] ?_)).trans ?_
    · rfl
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H9]
  · iexists _; isplitr; swap; · iexact H9
    ipureintro
    sl_unfold_words
    refine (View.read_writes_eq_canon _ _ _ (View.cover_of_tiled _ ![1, 8, 256] ?_)).trans ?_
    · rfl
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H10]
  · iexists _; isplitr; swap; · iexact H10
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x2048) _ hz, View.readCov_eq_canon']
    try rfl
  isplitl [H11]
  · iexists _; isplitr; swap; · iexact H11
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x2048) _ hz, View.readCov_eq_canon']
    try rfl
  isplitl [H12]
  · iexists _; isplitr; swap; · iexact H12
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x11264) _ hz, View.readCov_eq_canon']
    try rfl
  iexists _; isplitr; swap; · iexact H13
  ipureintro
  sl_unfold_words
  refine (View.read_writes_eq_canon _ _ _ (cover_scr _ _ _ _ _)).trans ?_
  try simp only [View.readAt_eq_ld, harg1.read_unread, harg2.read_unread, harg3.read_unread, harg4.read_unread, harg5.read_unread, harg6.read_unread, harg7.read_unread, harg8.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
  rfl

set_option maxHeartbeats 16000000 in
/-- A later tile of a sequence: the halo is the last rows left by the tile before. -/
theorem body_C (c : Dev nD) (i : grid0.Coords) (arg1 : Memref sig .tc .vmem S512x2048 .bf16) (harg1 : arg1.IsWhole) (arg2 : Memref sig .tc .vmem S32x2048 .bf16) (harg2 : arg2.IsWhole) (arg3 : Memref sig .tc .vmem S32x2048 .f32) (harg3 : arg3.IsWhole) (arg4 : Memref sig .tc .vmem S2048x3072 .bf16) (harg4 : arg4.IsWhole) (arg5 : Memref sig .tc .vmem S3x1024 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x11264 .f32) (harg8 : arg8.IsWhole) (arg9 : Memref sig .tc .vmem S512x1024 .bf16) (harg9 : arg9.IsWhole) (arg10 : Memref sig .tc .vmem S1x8x1024 .f32) (harg10 : arg10.IsWhole) (arg11 : Memref sig .tc .vmem S32x1024 .bf16) (harg11 : arg11.IsWhole) (arg12 : Memref sig .tc .vmem S32x2048 .f32) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S128x11264 .bf16) (harg15 : arg15.IsWhole) (arg16 : Memref sig .tc .vmem S520x1024 .f32) (harg16 : arg16.IsWhole) (hc1 : ¬Scalar.cmpi .ne (Scalar.extui (Scalar.cmpi .eq (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32 = 1#1) (hc2 : Scalar.cmpi .ne (Scalar.extui (Scalar.cmpi .ne (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32))) 0#32)) 0#32 = 1#1) (hc3 : ¬k0_cond3 i = 1#1) (hc4 : k0_cond4 i = 1#1)
    (x0 : Vec F S512x2048 .bf16) (x1 : Vec F S32x2048 .bf16) (x2 : Vec F S32x2048 .f32) (x3 : Vec F S2048x3072 .bf16) (x4 : Vec F S3x1024 .f32) (x5 : Vec F S128x2048 .f32) (x6 : Vec F S128x2048 .f32) (x7 : Vec F S128x11264 .f32) (a0 : Vec F S520x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare a0
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare ((co8 a0 x0 x3 x4)) ∗ owns (c : Thread nD τ) arg10 fullShare ((co9 x0 x3)) ∗ owns (c : Thread nD τ) arg13 fullShare ((k0_pay62 x5)) ∗ owns (c : Thread nD τ) arg14 fullShare ((k0_pay63 x6)) ∗ owns (c : Thread nD τ) arg15 fullShare ((k0_pay64 x7)) ∗ owns (c : Thread nD τ) arg16 fullShare ((co15 a0 x0 x3))) -∗ K ⟨⟩))
    ⊢ wp frame (wpE (defs₀ (F := F)) Variants.none c none) E (cc0_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_conv_eq_skeleton]; unfold cc0_conv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg16.eq_unread hf13
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    sl_unfold_words
    refine (View.read_writes_eq_canon _ _ _ (View.cover_of_tiled _ ![512, 256] ?_)).trans ?_
    · rfl
    try simp only [View.readAt_eq_ld, harg1.read_unread, harg2.read_unread, harg3.read_unread, harg4.read_unread, harg5.read_unread, harg6.read_unread, harg7.read_unread, harg8.read_unread, harg16.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H9]
  · iexists _; isplitr; swap; · iexact H9
    ipureintro
    sl_unfold_words
    refine (View.read_writes_eq_canon _ _ _ (View.cover_of_tiled _ ![1, 8, 256] ?_)).trans ?_
    · rfl
    try simp only [View.readAt_eq_ld, harg1.read_unread, harg2.read_unread, harg3.read_unread, harg4.read_unread, harg5.read_unread, harg6.read_unread, harg7.read_unread, harg8.read_unread, harg16.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
    rfl
  isplitl [H10]
  · iexists _; isplitr; swap; · iexact H10
    ipureintro
    sl_unfold_words
    rw [whole_writes hz]
    try simp only [View.readAt_eq_ld, harg1.read_unread, harg2.read_unread, harg3.read_unread, harg4.read_unread, harg5.read_unread, harg6.read_unread, harg7.read_unread, harg8.read_unread, harg16.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x2048) _ hz, View.readCov_eq_canon']
    try rfl
  isplitl [H11]
  · iexists _; isplitr; swap; · iexact H11
    ipureintro
    sl_unfold_words
    rw [whole_writes hz]
    try simp only [View.readAt_eq_ld, harg1.read_unread, harg2.read_unread, harg3.read_unread, harg4.read_unread, harg5.read_unread, harg6.read_unread, harg7.read_unread, harg8.read_unread, harg16.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x2048) _ hz, View.readCov_eq_canon']
    try rfl
  isplitl [H12]
  · iexists _; isplitr; swap; · iexact H12
    ipureintro
    sl_unfold_words
    rw [whole_writes hz]
    try simp only [View.readAt_eq_ld, harg1.read_unread, harg2.read_unread, harg3.read_unread, harg4.read_unread, harg5.read_unread, harg6.read_unread, harg7.read_unread, harg8.read_unread, harg16.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_unit_zero (S := S128x11264) _ hz, View.readCov_eq_canon']
    try rfl
  iexists _; isplitr; swap; · iexact H13
  ipureintro
  sl_unfold_words
  refine (View.read_writes_eq_canon _ _ _ (cover_scr _ _ _ _ _)).trans ?_
  try simp only [View.readAt_eq_ld, harg1.read_unread, harg2.read_unread, harg3.read_unread, harg4.read_unread, harg5.read_unread, harg6.read_unread, harg7.read_unread, harg8.read_unread, harg16.read_unread, View.ld_unit_zero (S := S128x11264) hz, View.ld_unit_zero (S := S128x2048) hz, View.ld_unit_zero (S := S1x8x1024) hz3, View.ld_unit_zero (S := S2048x3072) hz, View.ld_unit_zero (S := S32x1024) hz, View.ld_unit_zero (S := S32x2048) hz, View.ld_unit_zero (S := S3x1024) hz, View.ld_unit_zero (S := S512x1024) hz, View.ld_unit_zero (S := S512x2048) hz, View.ld_unit_zero (S := S520x1024) hz, View.readCov_eq_canon']
  rfl

end Cert.Kernel3Ideal.Conv

end
-- ==== Proof.ConvRun.lean ====
/- The run of the gated short convolution: what each output's buffer holds after each grid point, and the whole program's run from that. -/
module

public import proofs.«01_k».proof.Proof.ConvBody
public import Idealize.ShloMosaic.Lib.Pipeline.TableIdle

@[expose] public section

set_option maxRecDepth 16384

noncomputable section

namespace Cert.Kernel3Ideal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond3 : ∀ t : Fin cfg0.N, k0_cond3 (grid0.coords t) = 1#1 ↔ t.val = 0 :=
  (fun t => by
    have ht : t.val < 16 := Nat.lt_of_lt_of_eq t.isLt N_0
    have e0 : (grid0.coords t 0).val = t.val / 1 % 16 := Pipeline.Grid.coords_val t 0 (by decide) rfl
    simp only [k0_cond3, e0]
    word_cmp
   : ∀ t : Fin grid0.N, k0_cond3 (grid0.coords t) = 1#1 ↔ t.val = 0)

theorem hcond4 : ∀ t : Fin cfg0.N, k0_cond4 (grid0.coords t) = 1#1 ↔ ¬t.val = 0 :=
  (fun t => by
    have ht : t.val < 16 := Nat.lt_of_lt_of_eq t.isLt N_0
    have e0 : (grid0.coords t 0).val = t.val / 1 % 16 := Pipeline.Grid.coords_val t 0 (by decide) rfl
    simp only [k0_cond4, e0]
    word_cmp
   : ∀ t : Fin grid0.N, k0_cond4 (grid0.coords t) = 1#1 ↔ ¬t.val = 0)

theorem hcondZ : ∀ t : Fin cfg0.N, Scalar.cmpi .ne (Scalar.extui (Scalar.cmpi .eq (Scalar.select (Scalar.andi (Scalar.xori (Scalar.cmpi .slt (Scalar.remsi (BitVec.ofNat 32 (grid0.coords t 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (grid0.coords t 0).val) (Scalar.select (Scalar.cmpi .eq 8#32 0#32) 1#32 8#32)) 0#32)) (Scalar.addi (Scalar.remsi (BitVec.ofNat 32 (grid0.coords t 0).val) (Scalar.select (Scalar.cmpi .eq 8#32 0#32) 1#32 8#32)) (Scalar.select (Scalar.cmpi .eq 8#32 0#32) 1#32 8#32)) (Scalar.remsi (BitVec.ofNat 32 (grid0.coords t 0).val) (Scalar.select (Scalar.cmpi .eq 8#32 0#32) 1#32 8#32))) 0#32)) 0#32 = 1#1 ↔ t.val % 8 = 0 :=
  (fun t => by
    have ht : t.val < 16 := Nat.lt_of_lt_of_eq t.isLt N_0
    have e0 : (grid0.coords t 0).val = t.val / 1 % 16 := Pipeline.Grid.coords_val t 0 (by decide) rfl
    simp only [e0]
    clear e0
    generalize t.val = n at *
    revert n
    decide +kernel
   : ∀ t : Fin grid0.N, Scalar.cmpi .ne (Scalar.extui (Scalar.cmpi .eq (Scalar.select (Scalar.andi (Scalar.xori (Scalar.cmpi .slt (Scalar.remsi (BitVec.ofNat 32 (grid0.coords t 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (grid0.coords t 0).val) (Scalar.select (Scalar.cmpi .eq 8#32 0#32) 1#32 8#32)) 0#32)) (Scalar.addi (Scalar.remsi (BitVec.ofNat 32 (grid0.coords t 0).val) (Scalar.select (Scalar.cmpi .eq 8#32 0#32) 1#32 8#32)) (Scalar.select (Scalar.cmpi .eq 8#32 0#32) 1#32 8#32)) (Scalar.remsi (BitVec.ofNat 32 (grid0.coords t 0).val) (Scalar.select (Scalar.cmpi .eq 8#32 0#32) 1#32 8#32))) 0#32)) 0#32 = 1#1 ↔ t.val % 8 = 0)

theorem hcondN : ∀ t : Fin cfg0.N, Scalar.cmpi .ne (Scalar.extui (Scalar.cmpi .ne (Scalar.select (Scalar.andi (Scalar.xori (Scalar.cmpi .slt (Scalar.remsi (BitVec.ofNat 32 (grid0.coords t 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (grid0.coords t 0).val) (Scalar.select (Scalar.cmpi .eq 8#32 0#32) 1#32 8#32)) 0#32)) (Scalar.addi (Scalar.remsi (BitVec.ofNat 32 (grid0.coords t 0).val) (Scalar.select (Scalar.cmpi .eq 8#32 0#32) 1#32 8#32)) (Scalar.select (Scalar.cmpi .eq 8#32 0#32) 1#32 8#32)) (Scalar.remsi (BitVec.ofNat 32 (grid0.coords t 0).val) (Scalar.select (Scalar.cmpi .eq 8#32 0#32) 1#32 8#32))) 0#32)) 0#32 = 1#1 ↔ ¬t.val % 8 = 0 :=
  (fun t => by
    have ht : t.val < 16 := Nat.lt_of_lt_of_eq t.isLt N_0
    have e0 : (grid0.coords t 0).val = t.val / 1 % 16 := Pipeline.Grid.coords_val t 0 (by decide) rfl
    simp only [e0]
    clear e0
    generalize t.val = n at *
    revert n
    decide +kernel
   : ∀ t : Fin grid0.N, Scalar.cmpi .ne (Scalar.extui (Scalar.cmpi .ne (Scalar.select (Scalar.andi (Scalar.xori (Scalar.cmpi .slt (Scalar.remsi (BitVec.ofNat 32 (grid0.coords t 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (grid0.coords t 0).val) (Scalar.select (Scalar.cmpi .eq 8#32 0#32) 1#32 8#32)) 0#32)) (Scalar.addi (Scalar.remsi (BitVec.ofNat 32 (grid0.coords t 0).val) (Scalar.select (Scalar.cmpi .eq 8#32 0#32) 1#32 8#32)) (Scalar.select (Scalar.cmpi .eq 8#32 0#32) 1#32 8#32)) (Scalar.remsi (BitVec.ofNat 32 (grid0.coords t 0).val) (Scalar.select (Scalar.cmpi .eq 8#32 0#32) 1#32 8#32))) 0#32)) 0#32 = 1#1 ↔ ¬t.val % 8 = 0)

/-- A tile's own outputs are stored at every point. -/
theorem live (t : Fin cfg0.N) : (!(k0_cond3 (grid0.coords t) == 1#1) && !(k0_cond4 (grid0.coords t) == 1#1)) = false := by
  by_cases h : t.val = 0
  · rw [(hcond3 t).mpr h]; rfl
  · rw [(hcond4 t).mpr h, Bool.and_comm]; rfl

theorem idle10 (t : Fin cfg0.N) (h : ¬t.val = 0) : cfg0.idle 10 (grid0.coords t) = true := by
  have := fun h' => h ((hcond3 t).mp h')
  show (!decide _ : Bool) = true
  simpa using this
theorem live10 (t : Fin cfg0.N) (h : t.val = 0) : cfg0.idle 10 (grid0.coords t) = false := by
  have := (hcond3 t).mpr h
  show (!decide _ : Bool) = false
  simpa using this
theorem fresh10 : cfg0.fresh 10 15 = false := by decide +kernel

theorem idle11 (t : Fin cfg0.N) (h : ¬t.val = 0) : cfg0.idle 11 (grid0.coords t) = true := by
  have := fun h' => h ((hcond3 t).mp h')
  show (!decide _ : Bool) = true
  simpa using this
theorem live11 (t : Fin cfg0.N) (h : t.val = 0) : cfg0.idle 11 (grid0.coords t) = false := by
  have := (hcond3 t).mpr h
  show (!decide _ : Bool) = false
  simpa using this
theorem fresh11 : cfg0.fresh 11 15 = false := by decide +kernel

/-- The first point. -/
abbrev t0 : Fin cfg0.N := ⟨0, lt_of_lt_of_eq (by decide : 0 < 16) N_0.symm⟩

/-- The scratch after point `n`: the halo rows and the tile's own products, the halo from the point before except at the start of a sequence. -/
def sc (c : Dev nD) : (n : ℕ) → n < cfg0.N → Vec F S520x1024 .f32
  | 0, hn => (ao15 (iblk m c 0 ⟨0, hn⟩) (iblk m c 1 ⟨0, hn⟩) (iblk m c 3 ⟨0, hn⟩))
  | n + 1, hn =>
    if (n + 1) % 8 = 0 then (bo15 (iblk m c 0 ⟨n + 1, hn⟩) (iblk m c 3 ⟨n + 1, hn⟩))
    else (co15 (sc c n (Nat.lt_of_succ_lt hn)) (iblk m c 0 ⟨n + 1, hn⟩) (iblk m c 3 ⟨n + 1, hn⟩))

theorem sc_A (c : Dev nD) (t : Fin cfg0.N) (h : t.val = 0) : sc m c t.val t.isLt = (ao15 (iblk m c 0 t) (iblk m c 1 t) (iblk m c 3 t)) := by
  obtain ⟨n, hn⟩ := t; dsimp only at h; subst h; rfl
theorem sc_B (c : Dev nD) (t : Fin cfg0.N) (h : ¬t.val = 0) (h8 : t.val % 8 = 0) : sc m c t.val t.isLt = (bo15 (iblk m c 0 t) (iblk m c 3 t)) := by
  obtain ⟨n, hn⟩ := t
  cases n with
  | zero => exact absurd rfl h
  | succ n => exact if_pos h8
theorem sc_C (c : Dev nD) (t : Fin cfg0.N) (h8 : ¬t.val % 8 = 0) :
    sc m c t.val t.isLt = (co15 (sc m c (t.val - 1) (Nat.lt_of_le_of_lt (Nat.sub_le _ _) t.isLt)) (iblk m c 0 t) (iblk m c 3 t)) := by
  obtain ⟨n, hn⟩ := t
  cases n with
  | zero => exact absurd (Nat.zero_mod _) h8
  | succ n => exact if_neg h8

/-- The scratch as the point found it: what the point before left. -/
abbrev scp (c : Dev nD) (t : Fin cfg0.N) : Vec F S520x1024 .f32 := sc m c (t.val - 1) (Nat.lt_of_le_of_lt (Nat.sub_le _ _) t.isLt)

abbrev scM0 : Memref sig .tc .vmem S520x1024 .f32 := Memref.whole cc0_scratch0

/-- The invariant before point `n`: at first the scratch at anything, afterwards at what the point before left. -/
def PhiS (c : Dev nD) : (n : ℕ) → n ≤ cfg0.N → sProp 𝕄
  | 0, _ => Pipeline.ΦA spec0 c
  | n + 1, hn => iprop(owns (c : Thread nD τ) scM0 fullShare (sc m c n hn) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) scM0 fullShare (sc m c n hn) ∗ (∃ r, prngReg c r)) := rfl
theorem PhiS_pos (c : Dev nD) (n : ℕ) (h : n ≤ cfg0.N) (hz : n ≠ 0) :
    PhiS m c n h = iprop(owns (c : Thread nD τ) scM0 fullShare (sc m c (n - 1) (by omega)) ∗ (∃ r, prngReg c r)) := by
  cases n with
  | zero => exact absurd rfl hz
  | succ n => rfl
theorem PhiA0_eq (c : Dev nD) :
    (Pipeline.ΦA spec0 c : sProp 𝕄)
      = iprop((∃ d, owns (c : Thread nD τ) scM0 fullShare d) ∗ (∃ r, prngReg c r)) := by
  unfold Pipeline.ΦA; rw [scopedRest0_eq]; simp only [scM0, owns_whole]; try rfl

def tv8 (c : Dev nD) (t : Fin cfg0.N) : Vec F S512x1024 .bf16 :=
  if t.val = 0 then (ao8 (iblk m c 0 t) (iblk m c 1 t) (iblk m c 3 t) (iblk m c 4 t)) else if t.val % 8 = 0 then (bo8 (iblk m c 0 t) (iblk m c 3 t) (iblk m c 4 t)) else (co8 (scp m c t) (iblk m c 0 t) (iblk m c 3 t) (iblk m c 4 t))
theorem tv8_A (c : Dev nD) (t : Fin cfg0.N) (h : t.val = 0) : tv8 m c t = (ao8 (iblk m c 0 t) (iblk m c 1 t) (iblk m c 3 t) (iblk m c 4 t)) := if_pos h
theorem tv8_B (c : Dev nD) (t : Fin cfg0.N) (h : ¬t.val = 0) (h8 : t.val % 8 = 0) : tv8 m c t = (bo8 (iblk m c 0 t) (iblk m c 3 t) (iblk m c 4 t)) := (if_neg h).trans (if_pos h8)
theorem tv8_C (c : Dev nD) (t : Fin cfg0.N) (h : ¬t.val = 0) (h8 : ¬t.val % 8 = 0) : tv8 m c t = (co8 (scp m c t) (iblk m c 0 t) (iblk m c 3 t) (iblk m c 4 t)) := (if_neg h).trans (if_neg h8)
def tv9 (c : Dev nD) (t : Fin cfg0.N) : Vec F S1x8x1024 .f32 :=
  if t.val = 0 then (ao9 (iblk m c 0 t) (iblk m c 1 t) (iblk m c 3 t)) else if t.val % 8 = 0 then (bo9 (iblk m c 0 t) (iblk m c 3 t)) else (co9 (iblk m c 0 t) (iblk m c 3 t))
theorem tv9_A (c : Dev nD) (t : Fin cfg0.N) (h : t.val = 0) : tv9 m c t = (ao9 (iblk m c 0 t) (iblk m c 1 t) (iblk m c 3 t)) := if_pos h
theorem tv9_B (c : Dev nD) (t : Fin cfg0.N) (h : ¬t.val = 0) (h8 : t.val % 8 = 0) : tv9 m c t = (bo9 (iblk m c 0 t) (iblk m c 3 t)) := (if_neg h).trans (if_pos h8)
theorem tv9_C (c : Dev nD) (t : Fin cfg0.N) (h : ¬t.val = 0) (h8 : ¬t.val % 8 = 0) : tv9 m c t = (co9 (iblk m c 0 t) (iblk m c 3 t)) := (if_neg h).trans (if_neg h8)
def sv10 (c : Dev nD) : Vec F S32x1024 .bf16 := (ao10 (iblk m c 0 t0) (iblk m c 1 t0) (iblk m c 2 t0) (iblk m c 3 t0) (iblk m c 4 t0))
theorem sv10_eq (c : Dev nD) (t : Fin cfg0.N) (h : t.val = 0) : sv10 m c = (ao10 (iblk m c 0 t) (iblk m c 1 t) (iblk m c 2 t) (iblk m c 3 t) (iblk m c 4 t)) := by
  obtain rfl : t = t0 := Fin.ext h
  rfl
def sv11 (c : Dev nD) : Vec F S32x2048 .f32 := (ao11 (iblk m c 0 t0) (iblk m c 1 t0) (iblk m c 2 t0) (iblk m c 3 t0))
theorem sv11_eq (c : Dev nD) (t : Fin cfg0.N) (h : t.val = 0) : sv11 m c = (ao11 (iblk m c 0 t) (iblk m c 1 t) (iblk m c 2 t) (iblk m c 3 t)) := by
  obtain rfl : t = t0 := Fin.ext h
  rfl
def dv12 (c : Dev nD) (t : Fin cfg0.N) : Vec F S128x2048 .bf16 := (k0_pay62 (iblk m c 5 t))
theorem dv12_eq (c : Dev nD) (t : Fin cfg0.N) : dv12 m c t = (k0_pay62 (iblk m c 5 t)) := rfl
def dv13 (c : Dev nD) (t : Fin cfg0.N) : Vec F S128x2048 .bf16 := (k0_pay63 (iblk m c 6 t))
theorem dv13_eq (c : Dev nD) (t : Fin cfg0.N) : dv13 m c t = (k0_pay63 (iblk m c 6 t)) := rfl
def dv14 (c : Dev nD) (t : Fin cfg0.N) : Vec F S128x11264 .bf16 := (k0_pay64 (iblk m c 7 t))
theorem dv14_eq (c : Dev nD) (t : Fin cfg0.N) : dv14 m c t = (k0_pay64 (iblk m c 7 t)) := rfl

/-- The proof data: inputs at their blocks, the outputs at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tv8 m c t
    | ⟨9, _⟩ => tv9 m c t
    | ⟨10, _⟩ => sv10 m c
    | ⟨11, _⟩ => sv11 m c
    | ⟨12, _⟩ => dv12 m c t
    | ⟨13, _⟩ => dv13 m c t
    | ⟨14, _⟩ => dv14 m c t
    | ⟨n + 15, h⟩ => absurd h (Nat.not_lt.mpr (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = tv8 m c t := by dsimp only [dats]
theorem after_9 (c : Dev nD) (t : Fin cfg0.N) : (dats m 0 c).after 9 t = tv9 m c t := by dsimp only [dats]
theorem after_10 (c : Dev nD) (t : Fin cfg0.N) : (dats m 0 c).after 10 t = sv10 m c := by dsimp only [dats]
theorem after_11 (c : Dev nD) (t : Fin cfg0.N) : (dats m 0 c).after 11 t = sv11 m c := by dsimp only [dats]
theorem after_12 (c : Dev nD) (t : Fin cfg0.N) : (dats m 0 c).after 12 t = dv12 m c t := by dsimp only [dats]
theorem after_13 (c : Dev nD) (t : Fin cfg0.N) : (dats m 0 c).after 13 t = dv13 m c t := by dsimp only [dats]
theorem after_14 (c : Dev nD) (t : Fin cfg0.N) : (dats m 0 c).after 14 t = dv14 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem leaves_0 (c : Dev nD) (t : Fin cfg0.N) :
    (dats m 0 c).leavesExact 0 t = owns (c : Thread nD τ) (win0_0.stage (cfg0.slots t 0)) fullShare (iblk m c 0 t) := by
  rw [← after_0 m c t]
theorem leaves_1 (c : Dev nD) (t : Fin cfg0.N) :
    (dats m 0 c).leavesExact 1 t = owns (c : Thread nD τ) (win0_1.stage (cfg0.slots t 1)) fullShare (iblk m c 1 t) := by
  rw [← after_1 m c t]
theorem leaves_2 (c : Dev nD) (t : Fin cfg0.N) :
    (dats m 0 c).leavesExact 2 t = owns (c : Thread nD τ) (win0_2.stage (cfg0.slots t 2)) fullShare (iblk m c 2 t) := by
  rw [← after_2 m c t]
theorem leaves_3 (c : Dev nD) (t : Fin cfg0.N) :
    (dats m 0 c).leavesExact 3 t = owns (c : Thread nD τ) (win0_3.stage (cfg0.slots t 3)) fullShare (iblk m c 3 t) := by
  rw [← after_3 m c t]
theorem leaves_4 (c : Dev nD) (t : Fin cfg0.N) :
    (dats m 0 c).leavesExact 4 t = owns (c : Thread nD τ) (win0_4.stage (cfg0.slots t 4)) fullShare (iblk m c 4 t) := by
  rw [← after_4 m c t]
theorem leaves_5 (c : Dev nD) (t : Fin cfg0.N) :
    (dats m 0 c).leavesExact 5 t = owns (c : Thread nD τ) (win0_5.stage (cfg0.slots t 5)) fullShare (iblk m c 5 t) := by
  rw [← after_5 m c t]
theorem leaves_6 (c : Dev nD) (t : Fin cfg0.N) :
    (dats m 0 c).leavesExact 6 t = owns (c : Thread nD τ) (win0_6.stage (cfg0.slots t 6)) fullShare (iblk m c 6 t) := by
  rw [← after_6 m c t]
theorem leaves_7 (c : Dev nD) (t : Fin cfg0.N) :
    (dats m 0 c).leavesExact 7 t = owns (c : Thread nD τ) (win0_7.stage (cfg0.slots t 7)) fullShare (iblk m c 7 t) := by
  rw [← after_7 m c t]
theorem leaves_12 (c : Dev nD) (t : Fin cfg0.N) :
    (dats m 0 c).leavesExact 12 t = owns (c : Thread nD τ) (win0_12.stage (cfg0.slots t 12)) fullShare (dv12 m c t) := by
  rw [← after_12 m c t]
theorem leaves_13 (c : Dev nD) (t : Fin cfg0.N) :
    (dats m 0 c).leavesExact 13 t = owns (c : Thread nD τ) (win0_13.stage (cfg0.slots t 13)) fullShare (dv13 m c t) := by
  rw [← after_13 m c t]
theorem leaves_14 (c : Dev nD) (t : Fin cfg0.N) :
    (dats m 0 c).leavesExact 14 t = owns (c : Thread nD τ) (win0_14.stage (cfg0.slots t 14)) fullShare (dv14 m c t) := by
  rw [← after_14 m c t]
theorem leaves_8 (c : Dev nD) (t : Fin cfg0.N) :
    (dats m 0 c).leavesExact 8 t = owns (c : Thread nD τ) (win0_8.stage (cfg0.slots t 8)) fullShare (tv8 m c t) := by
  rw [← after_8 m c t]; unfold Dat.leavesExact; rw [show cfg0.idle 8 (cfg0.grid.coords t) = false from live t]
theorem leaves_9 (c : Dev nD) (t : Fin cfg0.N) :
    (dats m 0 c).leavesExact 9 t = owns (c : Thread nD τ) (win0_9.stage (cfg0.slots t 9)) fullShare (tv9 m c t) := by
  rw [← after_9 m c t]; unfold Dat.leavesExact; rw [show cfg0.idle 9 (cfg0.grid.coords t) = false from live t]
theorem leaves_10 (c : Dev nD) (t : Fin cfg0.N) (h : t.val = 0) :
    (dats m 0 c).leavesExact 10 t = owns (c : Thread nD τ) (win0_10.stage (cfg0.slots t 10)) fullShare (sv10 m c) := by
  rw [← after_10 m c t]; unfold Dat.leavesExact; rw [show cfg0.idle 10 (cfg0.grid.coords t) = false from live10 t h]
theorem before_10_last (c : Dev nD) (t : Fin cfg0.N) (h : t.val = 15) (d) : (dats m 0 c).before 10 t d = sv10 m c := by
  refine (Dat.before_out_traj (dats m 0 c) 10 rfl (fun _ _ => rfl) (fun t _ _ _ => by rw [after_10, after_10]) t.val t rfl d).trans ?_
  rw [if_neg (by rw [h, fresh10]; exact Bool.false_ne_true)]; exact after_10 m c _
theorem leaves_10_idle (c : Dev nD) (t : Fin cfg0.N) (h : ¬t.val = 0) :
    iprop(∃ d, owns (c : Thread nD τ) (win0_10.stage (cfg0.slots t 10)) fullShare ((dats m 0 c).before 10 t d)) ⊢ (dats m 0 c).leavesExact 10 t := by
  have hN : t.val < 16 := lt_of_lt_of_eq t.isLt (show cfg0.N = 16 from N_0)
  by_cases hl : t.val = 15
  · iintro ⟨%d, H⟩
    rw [before_10_last m c t hl d, ← after_10 m c t]
    unfold Dat.leavesExact
    rw [show cfg0.idle 10 (cfg0.grid.coords t) = true from idle10 t h, (flush0_10 t).mpr (by omega)]
    iexact H
  · rw [Dat.leavesExact_idle (dats m 0 c) 10 t (idle10 t h) (Bool.eq_false_iff.mpr fun hf => hl (by have := (flush0_10 t).mp hf; omega))]
theorem leaves_11 (c : Dev nD) (t : Fin cfg0.N) (h : t.val = 0) :
    (dats m 0 c).leavesExact 11 t = owns (c : Thread nD τ) (win0_11.stage (cfg0.slots t 11)) fullShare (sv11 m c) := by
  rw [← after_11 m c t]; unfold Dat.leavesExact; rw [show cfg0.idle 11 (cfg0.grid.coords t) = false from live11 t h]
theorem before_11_last (c : Dev nD) (t : Fin cfg0.N) (h : t.val = 15) (d) : (dats m 0 c).before 11 t d = sv11 m c := by
  refine (Dat.before_out_traj (dats m 0 c) 11 rfl (fun _ _ => rfl) (fun t _ _ _ => by rw [after_11, after_11]) t.val t rfl d).trans ?_
  rw [if_neg (by rw [h, fresh11]; exact Bool.false_ne_true)]; exact after_11 m c _
theorem leaves_11_idle (c : Dev nD) (t : Fin cfg0.N) (h : ¬t.val = 0) :
    iprop(∃ d, owns (c : Thread nD τ) (win0_11.stage (cfg0.slots t 11)) fullShare ((dats m 0 c).before 11 t d)) ⊢ (dats m 0 c).leavesExact 11 t := by
  have hN : t.val < 16 := lt_of_lt_of_eq t.isLt (show cfg0.N = 16 from N_0)
  by_cases hl : t.val = 15
  · iintro ⟨%d, H⟩
    rw [before_11_last m c t hl d, ← after_11 m c t]
    unfold Dat.leavesExact
    rw [show cfg0.idle 11 (cfg0.grid.coords t) = true from idle11 t h, (flush0_11 t).mpr (by omega)]
    iexact H
  · rw [Dat.leavesExact_idle (dats m 0 c) 11 t (idle11 t h) (Bool.eq_false_iff.mpr fun hf => hl (by have := (flush0_11 t).mp hf; omega))]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  simp only [leaves_0, leaves_1, leaves_2, leaves_3, leaves_4, leaves_5, leaves_6, leaves_7, leaves_8, leaves_9, leaves_12, leaves_13, leaves_14]
  have hN : t.val < 16 := lt_of_lt_of_eq t.isLt (show cfg0.N = 16 from N_0)
  by_cases h0 : t.val = 0
  · rw [PhiS_zero m c _ _ h0, PhiA0_eq, sc_A m c t h0]
    rw [leaves_10 m c t h0, sv10_eq m c t h0]
    rw [leaves_11 m c t h0, sv11_eq m c t h0]
    rw [tv8_A m c t h0]
    rw [tv9_A m c t h0]
    rw [dv12_eq m c t]
    rw [dv13_eq m c t]
    rw [dv14_eq m c t]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
    iapply (body_A c (grid0.coords t) _ _ _ _ _ _ _ _ _ _ _ _ _ _ _ _ _ _ _ _ _ _ _ _ _ _ _ _ _ _ _ _ ((hcondZ t).mpr (by omega)) (fun h => absurd ((hcondN t).mp h) (by omega)) ((hcond3 t).mpr h0) (fun h => absurd h0 ((hcond4 t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · icases H8 with ⟨%d8, H8⟩; iexists _; iexact H8
    isplitl [H9]; · icases H9 with ⟨%d9, H9⟩; iexists _; iexact H9
    isplitl [H10]; · icases H10 with ⟨%d10, H10⟩; iexists _; iexact H10
    isplitl [H11]; · icases H11 with ⟨%d11, H11⟩; iexists _; iexact H11
    isplitl [H12]; · icases H12 with ⟨%d12, H12⟩; iexists _; iexact H12
    isplitl [H13]; · icases H13 with ⟨%d13, H13⟩; iexists _; iexact H13
    isplitl [H14]; · icases H14 with ⟨%d14, H14⟩; iexists _; iexact H14
    isplitl [HS]; · iexact HS
    iintro ⟨H0, H1, H2, H3, H4, H5, H6, H7, H8, H9, H10, H11, H12, H13, H14, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · by_cases h8 : t.val % 8 = 0
    · rw [PhiS_pos m c _ _ h0, sc_B m c t h0 h8]
      rw [tv8_B m c t h0 h8]
      rw [tv9_B m c t h0 h8]
      rw [dv12_eq m c t]
      rw [dv13_eq m c t]
      rw [dv14_eq m c t]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
      iapply (body_B c (grid0.coords t) _ _ _ _ _ _ _ _ _ _ _ _ _ _ _ _ _ _ _ _ _ _ _ _ _ _ _ _ _ _ _ _ ((hcondZ t).mpr h8) (fun h => absurd h8 ((hcondN t).mp h)) (fun h => absurd ((hcond3 t).mp h) h0) ((hcond4 t).mpr h0) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · icases H8 with ⟨%d8, H8⟩; iexists _; iexact H8
      isplitl [H9]; · icases H9 with ⟨%d9, H9⟩; iexists _; iexact H9
      isplitl [H12]; · icases H12 with ⟨%d12, H12⟩; iexists _; iexact H12
      isplitl [H13]; · icases H13 with ⟨%d13, H13⟩; iexists _; iexact H13
      isplitl [H14]; · icases H14 with ⟨%d14, H14⟩; iexists _; iexact H14
      isplitl [HS]; · iexists _; iexact HS
      iintro ⟨H0, H1, H2, H3, H4, H5, H6, H7, H8, H9, H12, H13, H14, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iapply (leaves_10_idle m c t h0); iexact H10
      isplitl [H11]; · iapply (leaves_11_idle m c t h0); iexact H11
      isplitl [H12]; · iexact H12
      isplitl [H13]; · iexact H13
      iexact H14
    · rw [PhiS_pos m c _ _ h0, sc_C m c t h8]
      rw [tv8_C m c t h0 h8]
      rw [tv9_C m c t h0 h8]
      rw [dv12_eq m c t]
      rw [dv13_eq m c t]
      rw [dv14_eq m c t]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
      iapply (body_C c (grid0.coords t) _ _ _ _ _ _ _ _ _ _ _ _ _ _ _ _ _ _ _ _ _ _ _ _ _ _ _ _ _ _ _ _ (fun h => absurd ((hcondZ t).mp h) h8) ((hcondN t).mpr h8) (fun h => absurd ((hcond3 t).mp h) h0) ((hcond4 t).mpr h0) (iblk m c 0 t) (iblk m c 1 t) (iblk m c 2 t) (iblk m c 3 t) (iblk m c 4 t) (iblk m c 5 t) (iblk m c 6 t) (iblk m c 7 t) (scp m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · icases H8 with ⟨%d8, H8⟩; iexists _; iexact H8
      isplitl [H9]; · icases H9 with ⟨%d9, H9⟩; iexists _; iexact H9
      isplitl [H12]; · icases H12 with ⟨%d12, H12⟩; iexists _; iexact H12
      isplitl [H13]; · icases H13 with ⟨%d13, H13⟩; iexists _; iexact H13
      isplitl [H14]; · icases H14 with ⟨%d14, H14⟩; iexists _; iexact H14
      isplitl [HS]; · iexact HS
      iintro ⟨H0, H1, H2, H3, H4, H5, H6, H7, H8, H9, H12, H13, H14, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iapply (leaves_10_idle m c t h0); iexact H10
      isplitl [H11]; · iapply (leaves_11_idle m c t h0); iexact H11
      isplitl [H12]; · iexact H12
      isplitl [H13]; · iexact H13
      iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hz : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨HS, Hg⟩
  isplitl [HS]
  · iexists _; iexact HS
  iexact Hg

/-! ## The run -/

set_option backward.isDefEq.respectTransparency.types false in
/-- The whole program's run: every array of the kernel ends as the proof data says, the counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel3Ideal.Conv

end
-- ==== Proof.ConvSpec.lean ====
/- The gated short convolution as sums over the extended reals. -/
module

public import proofs.«01_k».proof.Proof.Spec

@[expose] public section

set_option maxRecDepth 16384

noncomputable section

namespace Cert.Spec

open Idealize.ShloMosaic Idealize.ShloMosaic.TcCoe Idealize.SL.Sem
open Idealize.ShloMosaic.Pipeline (Dat)

/-- A row's product with a column. -/
abbrev GB {R E : ℕ} (x : FVec Ideal ⟨2, ![R, 2048]⟩ .bf16) (w : FVec Ideal ⟨2, ![2048, E]⟩ .bf16) (r : Fin R) (e : Fin E) : EReal :=
  ∑ k : Fin 2048, x (ix2 r k) * w (ix2 k e)
/-- The product the convolution runs over. -/
abbrev UB {R : ℕ} (x : FVec Ideal ⟨2, ![R, 2048]⟩ .bf16) (w : FVec Ideal ⟨2, ![2048, 3072]⟩ .bf16) (r : Fin R) (d : Fin 1024) : EReal :=
  GB x w r ⟨1024 + d.val, by omega⟩ * GB x w r ⟨2048 + d.val, by omega⟩
/-- The product `j` rows above a row of its sequence, zero above the first. -/
def prv (h : FVec Ideal ⟨2, ![8192, 2048]⟩ .bf16) (w : FVec Ideal ⟨2, ![2048, 3072]⟩ .bf16) (j : ℕ) (r : Fin 8192) (d : Fin 1024) : EReal :=
  if r.val % 4096 < j then 0 else UB h w (⟨r.val - j, by omega⟩ : Fin 8192) d
/-- The gated convolution of a prefill row. -/
abbrev FC (h : FVec Ideal ⟨2, ![8192, 2048]⟩ .bf16) (w : FVec Ideal ⟨2, ![2048, 3072]⟩ .bf16) (cw : FVec Ideal ⟨3, ![1, 3, 1024]⟩ .f32) (r : Fin 8192) (d : Fin 1024) : EReal :=
  GB h w r (⟨d.val, by omega⟩ : Fin 3072) * (cw (ix3 (0 : Fin 1) (0 : Fin 3) d) * prv h w 2 r d + cw (ix3 (0 : Fin 1) (1 : Fin 3) d) * prv h w 1 r d
    + cw (ix3 (0 : Fin 1) (2 : Fin 3) d) * UB h w r d)
/-- The gated convolution of a token's row, over the two rows kept for its stream. -/
abbrev FT (hs : FVec Ideal ⟨2, ![32, 2048]⟩ .bf16) (st : FVec Ideal ⟨4, ![1, 32, 2, 1024]⟩ .f32) (w : FVec Ideal ⟨2, ![2048, 3072]⟩ .bf16) (cw : FVec Ideal ⟨3, ![1, 3, 1024]⟩ .f32) (r : Fin 32) (d : Fin 1024) : EReal :=
  GB hs w r (⟨d.val, by omega⟩ : Fin 3072) * (cw (ix3 (0 : Fin 1) (0 : Fin 3) d) * st (ix4 (0 : Fin 1) r (0 : Fin 2) d) + cw (ix3 (0 : Fin 1) (1 : Fin 3) d) * st (ix4 (0 : Fin 1) r (1 : Fin 2) d)
    + cw (ix3 (0 : Fin 1) (2 : Fin 3) d) * UB hs w r d)
/-- The two rows kept for a stream's next token. -/
abbrev FK (hs : FVec Ideal ⟨2, ![32, 2048]⟩ .bf16) (st : FVec Ideal ⟨4, ![1, 32, 2, 1024]⟩ .f32) (w : FVec Ideal ⟨2, ![2048, 3072]⟩ .bf16) (r : Fin 32) (e : Fin 2048) : EReal :=
  if h : e.val < 1024 then st (ix4 (0 : Fin 1) r (1 : Fin 2) (⟨e.val, h⟩ : Fin 1024)) else UB hs w r (⟨e.val - 1024, by omega⟩ : Fin 1024)

end Cert.Spec

end
-- ==== Proof.ConvPure.lean ====
/- The gated short convolution's stored values, read at an index over the extended reals. -/
module

public import proofs.«01_k».proof.Proof.ConvBody
public import proofs.«01_k».proof.Proof.ConvSpec

@[expose] public section

set_option maxRecDepth 16384

noncomputable section

namespace Cert.Kernel3Ideal.Conv

open Idealize.ShloMosaic Idealize.ShloMosaic.TcCoe Idealize.SL.Sem
open Idealize.ShloMosaic.Pipeline (Dat)
open Cert.Kernel3Ideal Cert.Kernel3Ideal.Gen Cert.Spec

/-- Eight halo rows and the tile's rows below them. -/
def ext (halo : Fin 8 → Fin 1024 → EReal) (u : Fin 512 → Fin 1024 → EReal) (n : ℕ) (hn : n < 520) (d : Fin 1024) : EReal :=
  if h : n < 8 then halo ⟨n, h⟩ d else u ⟨n - 8, by omega⟩ d

/-! ## Loads of a column block -/

theorem wl (x : FVec Ideal S2048x3072 .bf16) (o : ℕ) (inb) (k : Fin 2048) (l : Fin 256) (e : Fin 3072) (he : e.val = o + l.val) :
    View.ld (Val := Elt Ideal) (e' := .bf16) x (Rect.unit (s := S2048x3072) ![0, o] S2048x256.size inb) (ix2 k l) = x (ix2 k e) := by
  refine congrArg x (funext fun a => ?_)
  match a with
  | ⟨0, _⟩ => exact Fin.ext (show 0 + 1 * k.val = k.val by omega)
  | ⟨1, _⟩ => exact Fin.ext (show o + 1 * l.val = e.val by omega)
theorem sl (x : FVec Ideal S32x2048 .f32) (o : ℕ) (inb) (k : Fin 32) (l : Fin 256) (e : Fin 2048) (he : e.val = o + l.val) :
    View.ld (Val := Elt Ideal) (e' := .f32) x (Rect.unit (s := S32x2048) ![0, o] S32x256.size inb) (ix2 k l) = x (ix2 k e) := by
  refine congrArg x (funext fun a => ?_)
  match a with
  | ⟨0, _⟩ => exact Fin.ext (show 0 + 1 * k.val = k.val by omega)
  | ⟨1, _⟩ => exact Fin.ext (show o + 1 * l.val = e.val by omega)
theorem cl (x : FVec Ideal S520x1024 .f32) (o p : ℕ) (inb) (k : Fin 512) (l : Fin 256) (n : Fin 520) (d : Fin 1024) (hn : n.val = o + k.val) (hd : d.val = p + l.val) :
    View.ld (Val := Elt Ideal) (e' := .f32) x (Rect.unit (s := S520x1024) ![o, p] S512x256.size inb) (ix2 k l) = x (ix2 n d) := by
  refine congrArg x (funext fun a => ?_)
  match a with
  | ⟨0, _⟩ => exact Fin.ext (show o + 1 * k.val = n.val by omega)
  | ⟨1, _⟩ => exact Fin.ext (show p + 1 * l.val = d.val by omega)
theorem hl (x : FVec Ideal S520x1024 .f32) (inb) (k : Fin 8) (d : Fin 1024) :
    View.ld (Val := Elt Ideal) (e' := .f32) x (Rect.unit (s := S520x1024) ![512, 0] S8x1024.size inb) (ix2 k d) = x (ix2 (⟨512 + k.val, by omega⟩ : Fin 520) d) := by
  refine congrArg x (funext fun a => ?_)
  match a with
  | ⟨0, _⟩ => exact Fin.ext (show 512 + 1 * k.val = 512 + k.val by omega)
  | ⟨1, _⟩ => exact Fin.ext (show 0 + 1 * d.val = d.val by omega)

theorem gl {R : ℕ} (x : FVec Ideal ⟨2, ![R, 2048]⟩ .bf16) (w : FVec Ideal S2048x3072 .bf16) (o : ℕ) (inb) (r : Fin R) (l : Fin 256) (e : Fin 3072) (he : e.val = o + l.val) :
    GB x (View.ld (Val := Elt Ideal) (e' := .bf16) w (Rect.unit (s := S2048x3072) ![0, o] S2048x256.size inb)) r l = GB x w r e :=
  Finset.sum_congr rfl fun k _ => congrArg (x (ix2 r k) * ·) (wl w o inb k l e he)
theorem ul {R : ℕ} (x : FVec Ideal ⟨2, ![R, 2048]⟩ .bf16) (w : FVec Ideal S2048x3072 .bf16) (o p : ℕ) (inb inb') (r : Fin R) (l : Fin 256) (d : Fin 1024)
    (ho : 1024 + d.val = o + l.val) (hp : 2048 + d.val = p + l.val) :
    GB x (View.ld (Val := Elt Ideal) (e' := .bf16) w (Rect.unit (s := S2048x3072) ![0, o] S2048x256.size inb)) r l
      * GB x (View.ld (Val := Elt Ideal) (e' := .bf16) w (Rect.unit (s := S2048x3072) ![0, p] S2048x256.size inb')) r l = UB x w r d :=
  congrArg₂ (· * ·) (gl x w o inb r l _ ho) (gl x w p inb' r l _ hp)
theorem comb (g g' a a' b b' u u' c0 c0' c1 c1' c2 c2' : EReal) (hg : g = g') (h0 : c0 = c0') (ha : a = a') (h1 : c1 = c1') (hb : b = b') (h2 : c2 = c2') (hu : u = u') :
    g * (c0 * a + c1 * b + c2 * u) = g' * (c0' * a' + c1' * b' + c2' * u') := by
  rw [hg, h0, ha, h1, hb, h2, hu]

/-! ## The scratch's pieces -/

theorem hit {S : Shape} (r : Rect S) (w : r.shape.Idx → Elt Ideal .f32) (T : List (View.Piece (Elt Ideal) S .f32)) (j : r.shape.Idx) (y : S.Idx) (h : y = r.idx j) :
    View.canon (⟨r, w⟩ :: T) y = w j := by
  subst h; exact View.canon_cons_emb r w T j
theorem miss {S : Shape} (r : Rect S) (w : r.shape.Idx → Elt Ideal .f32) (T : List (View.Piece (Elt Ideal) S .f32)) (y : S.Idx) (h : y ∉ r.set) :
    View.canon (⟨r, w⟩ :: T) y = View.canon T y := View.canon_cons_of_not_mem ⟨r, w⟩ T h

theorem at8 (n : Fin 520) (d : Fin 1024) (p : ℕ) (inb) (r : Fin 512) (l : Fin 256) (hn : n.val = 8 + r.val) (hd : d.val = p + l.val) :
    ix2 n d = (Rect.unit (s := S520x1024) ![8, p] S512x256.size inb).idx (ix2 r l) := by
  refine funext fun a => ?_
  match a with
  | ⟨0, _⟩ => exact Fin.ext (show n.val = 8 + 1 * r.val by omega)
  | ⟨1, _⟩ => exact Fin.ext (show d.val = p + 1 * l.val by omega)
theorem at0 (n : Fin 520) (d : Fin 1024) (inb) (r : Fin 8) (hn : n.val = r.val) :
    ix2 n d = (Rect.unit (s := S520x1024) ![0, 0] S8x1024.size inb).idx (ix2 r d) := by
  refine funext fun a => ?_
  match a with
  | ⟨0, _⟩ => exact Fin.ext (show n.val = 0 + 1 * r.val by omega)
  | ⟨1, _⟩ => exact Fin.ext (show d.val = 0 + 1 * d.val by omega)
theorem off8 (n : Fin 520) (d : Fin 1024) (p : ℕ) (inb) (h : n.val < 8 ∨ d.val < p) :
    ix2 n d ∉ (Rect.unit (s := S520x1024) ![8, p] S512x256.size inb).set := fun hm => by
  have h0 := (Rect.mem_set_unit (inb := inb)).mp hm 0
  have h1 := (Rect.mem_set_unit (inb := inb)).mp hm 1
  have a0 : 8 ≤ n.val := h0.1
  have a1 : p ≤ d.val := h1.1
  omega

theorem scr0 (v0 : FVec Ideal S512x256 .f32) (vh : FVec Ideal S8x1024 .f32) (n : Fin 520) (d : Fin 1024) (l : Fin 256) (hd : d.val = 0 + l.val)
    (halo : Fin 8 → Fin 1024 → EReal) (u : Fin 512 → Fin 1024 → EReal) (hh : ∀ j, vh (ix2 j d) = halo j d) (hu : ∀ r, v0 (ix2 r l) = u r d) :
    View.canon (Val := Elt Ideal) (s := S520x1024) (e := .f32) [
    ⟨Rect.unit (s := S520x1024) ![8, 0] S512x256.size inb_S520x1024_S512x256_8_0, v0⟩,
    ⟨Rect.unit (s := S520x1024) ![0, 0] S8x1024.size inb_S520x1024_S8x1024_0_0, vh⟩] (ix2 n d) = ext halo u n.val n.isLt d := by
  unfold ext
  by_cases h : n.val < 8
  · refine Eq.trans ?_ (dif_pos h).symm
    refine (miss _ _ _ _ (off8 n d 0 _ (Or.inl h))).trans ?_
    exact (hit _ _ _ (ix2 (⟨n.val, h⟩ : Fin 8) d) _ (at0 n d _ _ rfl)).trans (hh _)
  · refine Eq.trans ?_ (dif_neg h).symm
    exact (hit _ _ _ (ix2 (⟨n.val - 8, by omega⟩ : Fin 512) l) _ (at8 n d 0 _ _ _ (by simp only; omega) hd)).trans (hu _)

theorem scr1 (v1 v0 : FVec Ideal S512x256 .f32) (vh : FVec Ideal S8x1024 .f32) (n : Fin 520) (d : Fin 1024) (l : Fin 256) (hd : d.val = 256 + l.val)
    (halo : Fin 8 → Fin 1024 → EReal) (u : Fin 512 → Fin 1024 → EReal) (hh : ∀ j, vh (ix2 j d) = halo j d) (hu : ∀ r, v1 (ix2 r l) = u r d) :
    View.canon (Val := Elt Ideal) (s := S520x1024) (e := .f32) [
    ⟨Rect.unit (s := S520x1024) ![8, 256] S512x256.size inb_S520x1024_S512x256_8_256, v1⟩,
    ⟨Rect.unit (s := S520x1024) ![8, 0] S512x256.size inb_S520x1024_S512x256_8_0, v0⟩,
    ⟨Rect.unit (s := S520x1024) ![0, 0] S8x1024.size inb_S520x1024_S8x1024_0_0, vh⟩] (ix2 n d) = ext halo u n.val n.isLt d := by
  unfold ext
  by_cases h : n.val < 8
  · refine Eq.trans ?_ (dif_pos h).symm
    refine (miss _ _ _ _ (off8 n d 256 _ (Or.inl h))).trans ?_
    refine (miss _ _ _ _ (off8 n d 0 _ (Or.inl h))).trans ?_
    exact (hit _ _ _ (ix2 (⟨n.val, h⟩ : Fin 8) d) _ (at0 n d _ _ rfl)).trans (hh _)
  · refine Eq.trans ?_ (dif_neg h).symm
    exact (hit _ _ _ (ix2 (⟨n.val - 8, by omega⟩ : Fin 512) l) _ (at8 n d 256 _ _ _ (by simp only; omega) hd)).trans (hu _)

theorem scr2 (v2 v1 v0 : FVec Ideal S512x256 .f32) (vh : FVec Ideal S8x1024 .f32) (n : Fin 520) (d : Fin 1024) (l : Fin 256) (hd : d.val = 512 + l.val)
    (halo : Fin 8 → Fin 1024 → EReal) (u : Fin 512 → Fin 1024 → EReal) (hh : ∀ j, vh (ix2 j d) = halo j d) (hu : ∀ r, v2 (ix2 r l) = u r d) :
    View.canon (Val := Elt Ideal) (s := S520x1024) (e := .f32) [
    ⟨Rect.unit (s := S520x1024) ![8, 512] S512x256.size inb_S520x1024_S512x256_8_512, v2⟩,
    ⟨Rect.unit (s := S520x1024) ![8, 256] S512x256.size inb_S520x1024_S512x256_8_256, v1⟩,
    ⟨Rect.unit (s := S520x1024) ![8, 0] S512x256.size inb_S520x1024_S512x256_8_0, v0⟩,
    ⟨Rect.unit (s := S520x1024) ![0, 0] S8x1024.size inb_S520x1024_S8x1024_0_0, vh⟩] (ix2 n d) = ext halo u n.val n.isLt d := by
  unfold ext
  by_cases h : n.val < 8
  · refine Eq.trans ?_ (dif_pos h).symm
    refine (miss _ _ _ _ (off8 n d 512 _ (Or.inl h))).trans ?_
    refine (miss _ _ _ _ (off8 n d 256 _ (Or.inl h))).trans ?_
    refine (miss _ _ _ _ (off8 n d 0 _ (Or.inl h))).trans ?_
    exact (hit _ _ _ (ix2 (⟨n.val, h⟩ : Fin 8) d) _ (at0 n d _ _ rfl)).trans (hh _)
  · refine Eq.trans ?_ (dif_neg h).symm
    exact (hit _ _ _ (ix2 (⟨n.val - 8, by omega⟩ : Fin 512) l) _ (at8 n d 512 _ _ _ (by simp only; omega) hd)).trans (hu _)

theorem scr3 (v3 v2 v1 v0 : FVec Ideal S512x256 .f32) (vh : FVec Ideal S8x1024 .f32) (n : Fin 520) (d : Fin 1024) (l : Fin 256) (hd : d.val = 768 + l.val)
    (halo : Fin 8 → Fin 1024 → EReal) (u : Fin 512 → Fin 1024 → EReal) (hh : ∀ j, vh (ix2 j d) = halo j d) (hu : ∀ r, v3 (ix2 r l) = u r d) :
    View.canon (Val := Elt Ideal) (s := S520x1024) (e := .f32) [
    ⟨Rect.unit (s := S520x1024) ![8, 768] S512x256.size inb_S520x1024_S512x256_8_768, v3⟩,
    ⟨Rect.unit (s := S520x1024) ![8, 512] S512x256.size inb_S520x1024_S512x256_8_512, v2⟩,
    ⟨Rect.unit (s := S520x1024) ![8, 256] S512x256.size inb_S520x1024_S512x256_8_256, v1⟩,
    ⟨Rect.unit (s := S520x1024) ![8, 0] S512x256.size inb_S520x1024_S512x256_8_0, v0⟩,
    ⟨Rect.unit (s := S520x1024) ![0, 0] S8x1024.size inb_S520x1024_S8x1024_0_0, vh⟩] (ix2 n d) = ext halo u n.val n.isLt d := by
  unfold ext
  by_cases h : n.val < 8
  · refine Eq.trans ?_ (dif_pos h).symm
    refine (miss _ _ _ _ (off8 n d 768 _ (Or.inl h))).trans ?_
    refine (miss _ _ _ _ (off8 n d 512 _ (Or.inl h))).trans ?_
    refine (miss _ _ _ _ (off8 n d 256 _ (Or.inl h))).trans ?_
    refine (miss _ _ _ _ (off8 n d 0 _ (Or.inl h))).trans ?_
    exact (hit _ _ _ (ix2 (⟨n.val, h⟩ : Fin 8) d) _ (at0 n d _ _ rfl)).trans (hh _)
  · refine Eq.trans ?_ (dif_neg h).symm
    exact (hit _ _ _ (ix2 (⟨n.val - 8, by omega⟩ : Fin 512) l) _ (at8 n d 768 _ _ _ (by simp only; omega) hd)).trans (hu _)

theorem scrU (v3 v2 v1 v0 : FVec Ideal S512x256 .f32) (vh : FVec Ideal S8x1024 .f32) (n : Fin 520) (r : Fin 512) (hn : n.val = 8 + r.val) (d : Fin 1024) (u : Fin 512 → Fin 1024 → EReal)
    (h0 : ∀ l : Fin 256, d.val = 0 + l.val → v0 (ix2 r l) = u r d) (h1 : ∀ l : Fin 256, d.val = 256 + l.val → v1 (ix2 r l) = u r d)
    (h2 : ∀ l : Fin 256, d.val = 512 + l.val → v2 (ix2 r l) = u r d) (h3 : ∀ l : Fin 256, d.val = 768 + l.val → v3 (ix2 r l) = u r d) :
    View.canon (Val := Elt Ideal) (s := S520x1024) (e := .f32) [
    ⟨Rect.unit (s := S520x1024) ![8, 768] S512x256.size inb_S520x1024_S512x256_8_768, v3⟩,
    ⟨Rect.unit (s := S520x1024) ![8, 512] S512x256.size inb_S520x1024_S512x256_8_512, v2⟩,
    ⟨Rect.unit (s := S520x1024) ![8, 256] S512x256.size inb_S520x1024_S512x256_8_256, v1⟩,
    ⟨Rect.unit (s := S520x1024) ![8, 0] S512x256.size inb_S520x1024_S512x256_8_0, v0⟩,
    ⟨Rect.unit (s := S520x1024) ![0, 0] S8x1024.size inb_S520x1024_S8x1024_0_0, vh⟩] (ix2 n d) = u r d := by
  rcases (by omega : 768 ≤ d.val ∨ (512 ≤ d.val ∧ d.val < 768) ∨ (256 ≤ d.val ∧ d.val < 512) ∨ d.val < 256) with h | h | h | h
  · exact (hit _ _ _ (ix2 r (⟨d.val - 768, by omega⟩ : Fin 256)) _ (at8 n d 768 _ _ _ hn (by simp only; omega))).trans (h3 _ (by simp only; omega))
  · refine (miss _ _ _ _ (off8 n d 768 _ (Or.inr (by omega)))).trans ?_
    exact (hit _ _ _ (ix2 r (⟨d.val - 512, by omega⟩ : Fin 256)) _ (at8 n d 512 _ _ _ hn (by simp only; omega))).trans (h2 _ (by simp only; omega))
  · refine (miss _ _ _ _ (off8 n d 768 _ (Or.inr (by omega)))).trans ?_
    refine (miss _ _ _ _ (off8 n d 512 _ (Or.inr (by omega)))).trans ?_
    exact (hit _ _ _ (ix2 r (⟨d.val - 256, by omega⟩ : Fin 256)) _ (at8 n d 256 _ _ _ hn (by simp only; omega))).trans (h1 _ (by simp only; omega))
  · refine (miss _ _ _ _ (off8 n d 768 _ (Or.inr (by omega)))).trans ?_
    refine (miss _ _ _ _ (off8 n d 512 _ (Or.inr (by omega)))).trans ?_
    refine (miss _ _ _ _ (off8 n d 256 _ (Or.inr (by omega)))).trans ?_
    exact (hit _ _ _ (ix2 r (⟨d.val - 0, by omega⟩ : Fin 256)) _ (at8 n d 0 _ _ _ hn (by simp only; omega))).trans (h0 _ (by simp only; omega))

theorem h65 (j : Fin 8) (d : Fin 1024) : k0_pay65 (F := Ideal) (ix2 j d) = 0 := by
  pointwise [k0_pay65]
theorem h1 (x : FVec Ideal S8x1024 .f32) (j : Fin 8) (d : Fin 1024) : k0_pay1 (F := Ideal) x (ix2 j d) = x (ix2 j d) := by
  pointwise [k0_pay1]

/-! ## The stored values -/

variable (a0 : FVec Ideal S520x1024 .f32) (x0 : FVec Ideal S512x2048 .bf16) (x1 : FVec Ideal S32x2048 .bf16) (x2 : FVec Ideal S32x2048 .f32) (x3 : FVec Ideal S2048x3072 .bf16) (x4 : FVec Ideal S3x1024 .f32) (w0 : FVec Ideal S2048x256 .bf16) (w1 : FVec Ideal S2048x256 .bf16) (w2 : FVec Ideal S2048x256 .bf16) (s0 : FVec Ideal S32x256 .f32) (s1 : FVec Ideal S32x256 .f32) (p6 : FVec Ideal S512x256 .f32) (p7 : FVec Ideal S512x256 .f32)

set_option maxHeartbeats 2000000 in
theorem aU3  (r : Fin 512) (l : Fin 256) : (k0_pay40 (F := Ideal) (k0_pay39 (F := Ideal) (k0_pay6 (F := Ideal) x0 x1) w1 w2)) (ix2 r l) = GB x0 w1 r l * GB x0 w2 r l := by
  pointwise [k0_pay38, k0_pay39, k0_pay40, k0_pay6, GB]
  all_goals rfl

set_option maxHeartbeats 2000000 in
theorem aU2  (r : Fin 512) (l : Fin 256) : (k0_pay30 (F := Ideal) (k0_pay6 (F := Ideal) x0 x1) w1 w2) (ix2 r l) = GB x0 w1 r l * GB x0 w2 r l := by
  pointwise [k0_pay28, k0_pay29, k0_pay30, k0_pay6, GB]
  all_goals rfl

set_option maxHeartbeats 2000000 in
theorem aU1  (r : Fin 512) (l : Fin 256) : (k0_pay21 (F := Ideal) (k0_pay20 (F := Ideal) (k0_pay6 (F := Ideal) x0 x1) w1 w2)) (ix2 r l) = GB x0 w1 r l * GB x0 w2 r l := by
  pointwise [k0_pay19, k0_pay20, k0_pay21, k0_pay6, GB]
  all_goals rfl

set_option maxHeartbeats 2000000 in
theorem aU0  (r : Fin 512) (l : Fin 256) : (k0_pay11 (F := Ideal) x0 x1 w1 w2) (ix2 r l) = GB x0 w1 r l * GB x0 w2 r l := by
  pointwise [k0_pay10, k0_pay11, k0_pay6, k0_pay9, GB]
  all_goals rfl

set_option maxHeartbeats 2000000 in
theorem aC3  (r : Fin 512) (l : Fin 256) : (k0_pay41 (F := Ideal) (k0_pay7 (F := Ideal) x4) (k0_pay37 (F := Ideal) (k0_pay6 (F := Ideal) x0 x1) w0) (k0_pay39 (F := Ideal) (k0_pay6 (F := Ideal) x0 x1) w1 w2) p6 p7) (ix2 r l) = GB x0 w0 r l * (x4 (ix2 (0 : Fin 3) (⟨768 + l.val, by omega⟩ : Fin 1024)) * p6 (ix2 r l) + x4 (ix2 (1 : Fin 3) (⟨768 + l.val, by omega⟩ : Fin 1024)) * p7 (ix2 r l) + x4 (ix2 (2 : Fin 3) (⟨768 + l.val, by omega⟩ : Fin 1024)) * (GB x0 w1 r l * GB x0 w2 r l)) := by
  pointwise [k0_pay37, k0_pay38, k0_pay39, k0_pay41, k0_pay6, k0_pay7, GB]
  all_goals rfl

set_option maxHeartbeats 2000000 in
theorem aC2  (r : Fin 512) (l : Fin 256) : (k0_pay31 (F := Ideal) (k0_pay6 (F := Ideal) x0 x1) (k0_pay7 (F := Ideal) x4) w0 w1 w2 p6 p7) (ix2 r l) = GB x0 w0 r l * (x4 (ix2 (0 : Fin 3) (⟨512 + l.val, by omega⟩ : Fin 1024)) * p6 (ix2 r l) + x4 (ix2 (1 : Fin 3) (⟨512 + l.val, by omega⟩ : Fin 1024)) * p7 (ix2 r l) + x4 (ix2 (2 : Fin 3) (⟨512 + l.val, by omega⟩ : Fin 1024)) * (GB x0 w1 r l * GB x0 w2 r l)) := by
  pointwise [k0_pay27, k0_pay28, k0_pay29, k0_pay31, k0_pay6, k0_pay7, GB]
  all_goals rfl

set_option maxHeartbeats 2000000 in
theorem aC1  (r : Fin 512) (l : Fin 256) : (k0_pay22 (F := Ideal) (k0_pay7 (F := Ideal) x4) (k0_pay18 (F := Ideal) (k0_pay6 (F := Ideal) x0 x1) w0) (k0_pay20 (F := Ideal) (k0_pay6 (F := Ideal) x0 x1) w1 w2) p6 p7) (ix2 r l) = GB x0 w0 r l * (x4 (ix2 (0 : Fin 3) (⟨256 + l.val, by omega⟩ : Fin 1024)) * p6 (ix2 r l) + x4 (ix2 (1 : Fin 3) (⟨256 + l.val, by omega⟩ : Fin 1024)) * p7 (ix2 r l) + x4 (ix2 (2 : Fin 3) (⟨256 + l.val, by omega⟩ : Fin 1024)) * (GB x0 w1 r l * GB x0 w2 r l)) := by
  pointwise [k0_pay18, k0_pay19, k0_pay20, k0_pay22, k0_pay6, k0_pay7, GB]
  all_goals rfl

set_option maxHeartbeats 2000000 in
theorem aC0  (r : Fin 512) (l : Fin 256) : (k0_pay12 (F := Ideal) x0 x1 x4 w0 w1 w2 p6 p7) (ix2 r l) = GB x0 w0 r l * (x4 (ix2 (0 : Fin 3) (⟨0 + l.val, by omega⟩ : Fin 1024)) * p6 (ix2 r l) + x4 (ix2 (1 : Fin 3) (⟨0 + l.val, by omega⟩ : Fin 1024)) * p7 (ix2 r l) + x4 (ix2 (2 : Fin 3) (⟨0 + l.val, by omega⟩ : Fin 1024)) * (GB x0 w1 r l * GB x0 w2 r l)) := by
  pointwise [k0_pay10, k0_pay12, k0_pay6, k0_pay7, k0_pay8, k0_pay9, GB]
  all_goals rfl

set_option maxHeartbeats 2000000 in
theorem aS3  (j : Fin 8) (l : Fin 256) : (k0_pay42 (F := Ideal) (k0_pay39 (F := Ideal) (k0_pay6 (F := Ideal) x0 x1) w1 w2)) (ix3 (0 : Fin 1) j l) = GB x0 w1 (⟨504 + j.val, by omega⟩ : Fin 512) l * GB x0 w2 (⟨504 + j.val, by omega⟩ : Fin 512) l := by
  pointwise [k0_pay38, k0_pay39, k0_pay42, k0_pay6, GB]
  simp only [dif_pos (show 504 + j.val < 512 by omega)]
  all_goals rfl

set_option maxHeartbeats 2000000 in
theorem aS2  (j : Fin 8) (l : Fin 256) : (k0_pay33 (F := Ideal) (k0_pay32 (F := Ideal) (k0_pay6 (F := Ideal) x0 x1) w1 w2)) (ix3 (0 : Fin 1) j l) = GB x0 w1 (⟨504 + j.val, by omega⟩ : Fin 512) l * GB x0 w2 (⟨504 + j.val, by omega⟩ : Fin 512) l := by
  pointwise [k0_pay28, k0_pay29, k0_pay32, k0_pay33, k0_pay6, GB]
  simp only [dif_pos (show 504 + j.val < 512 by omega)]
  all_goals rfl

set_option maxHeartbeats 2000000 in
theorem aS1  (j : Fin 8) (l : Fin 256) : (k0_pay23 (F := Ideal) (k0_pay20 (F := Ideal) (k0_pay6 (F := Ideal) x0 x1) w1 w2)) (ix3 (0 : Fin 1) j l) = GB x0 w1 (⟨504 + j.val, by omega⟩ : Fin 512) l * GB x0 w2 (⟨504 + j.val, by omega⟩ : Fin 512) l := by
  pointwise [k0_pay19, k0_pay20, k0_pay23, k0_pay6, GB]
  simp only [dif_pos (show 504 + j.val < 512 by omega)]
  all_goals rfl

set_option maxHeartbeats 2000000 in
theorem aS0  (j : Fin 8) (l : Fin 256) : (k0_pay14 (F := Ideal) (k0_pay13 (F := Ideal) x0 x1 w1 w2)) (ix3 (0 : Fin 1) j l) = GB x0 w1 (⟨504 + j.val, by omega⟩ : Fin 512) l * GB x0 w2 (⟨504 + j.val, by omega⟩ : Fin 512) l := by
  pointwise [k0_pay10, k0_pay13, k0_pay14, k0_pay6, k0_pay9, GB]
  simp only [dif_pos (show 504 + j.val < 512 by omega)]
  all_goals rfl

set_option maxHeartbeats 2000000 in
theorem bU3  (r : Fin 512) (l : Fin 256) : (k0_pay3 (F := Ideal) (x0) (k0_pay61 (F := Ideal) (x0) w1) w2 (constant (F := Ideal) S512x256 .f32 0x00000000#32)) (ix2 r l) = GB x0 w1 r l * GB x0 w2 r l := by
  pointwise [k0_pay2, k0_pay3, k0_pay61, GB]
  all_goals rfl

set_option maxHeartbeats 2000000 in
theorem bU2  (r : Fin 512) (l : Fin 256) : (k0_pay57 (F := Ideal) (x0) w1 w2) (ix2 r l) = GB x0 w1 r l * GB x0 w2 r l := by
  pointwise [k0_pay56, k0_pay57, GB]
  all_goals rfl

set_option maxHeartbeats 2000000 in
theorem bU1  (r : Fin 512) (l : Fin 256) : (k0_pay52 (F := Ideal) (x0) w1 w2) (ix2 r l) = GB x0 w1 r l * GB x0 w2 r l := by
  pointwise [k0_pay51, k0_pay52, GB]
  all_goals rfl

set_option maxHeartbeats 2000000 in
theorem bU0  (r : Fin 512) (l : Fin 256) : (k0_pay48 (F := Ideal) x0 w1 w2) (ix2 r l) = GB x0 w1 r l * GB x0 w2 r l := by
  pointwise [k0_pay47, k0_pay48, GB]
  all_goals rfl

set_option maxHeartbeats 2000000 in
theorem bC3  (r : Fin 512) (l : Fin 256) : (k0_pay4 (F := Ideal) (x0) (k0_pay46 (F := Ideal) x4) (k0_pay60 (F := Ideal) (x0) w0) (k0_pay61 (F := Ideal) (x0) w1) w2 (constant (F := Ideal) S512x256 .f32 0x00000000#32) p6 p7) (ix2 r l) = GB x0 w0 r l * (x4 (ix2 (0 : Fin 3) (⟨768 + l.val, by omega⟩ : Fin 1024)) * p6 (ix2 r l) + x4 (ix2 (1 : Fin 3) (⟨768 + l.val, by omega⟩ : Fin 1024)) * p7 (ix2 r l) + x4 (ix2 (2 : Fin 3) (⟨768 + l.val, by omega⟩ : Fin 1024)) * (GB x0 w1 r l * GB x0 w2 r l)) := by
  pointwise [k0_pay2, k0_pay4, k0_pay46, k0_pay60, k0_pay61, GB]
  all_goals rfl

set_option maxHeartbeats 2000000 in
theorem bC2  (r : Fin 512) (l : Fin 256) : (k0_pay58 (F := Ideal) (x0) (k0_pay46 (F := Ideal) x4) ((k0_pay55 (F := Ideal) (x0) w0)) w1 w2 p6 p7) (ix2 r l) = GB x0 w0 r l * (x4 (ix2 (0 : Fin 3) (⟨512 + l.val, by omega⟩ : Fin 1024)) * p6 (ix2 r l) + x4 (ix2 (1 : Fin 3) (⟨512 + l.val, by omega⟩ : Fin 1024)) * p7 (ix2 r l) + x4 (ix2 (2 : Fin 3) (⟨512 + l.val, by omega⟩ : Fin 1024)) * (GB x0 w1 r l * GB x0 w2 r l)) := by
  pointwise [k0_pay46, k0_pay55, k0_pay56, k0_pay58, GB]
  all_goals rfl

set_option maxHeartbeats 2000000 in
theorem bC1  (r : Fin 512) (l : Fin 256) : (k0_pay53 (F := Ideal) (x0) (k0_pay46 (F := Ideal) x4) w0 w1 w2 p6 p7) (ix2 r l) = GB x0 w0 r l * (x4 (ix2 (0 : Fin 3) (⟨256 + l.val, by omega⟩ : Fin 1024)) * p6 (ix2 r l) + x4 (ix2 (1 : Fin 3) (⟨256 + l.val, by omega⟩ : Fin 1024)) * p7 (ix2 r l) + x4 (ix2 (2 : Fin 3) (⟨256 + l.val, by omega⟩ : Fin 1024)) * (GB x0 w1 r l * GB x0 w2 r l)) := by
  pointwise [k0_pay46, k0_pay51, k0_pay53, GB]
  all_goals rfl

set_option maxHeartbeats 2000000 in
theorem bC0  (r : Fin 512) (l : Fin 256) : (k0_pay49 (F := Ideal) x0 x4 w0 w1 w2 p6 p7) (ix2 r l) = GB x0 w0 r l * (x4 (ix2 (0 : Fin 3) (⟨0 + l.val, by omega⟩ : Fin 1024)) * p6 (ix2 r l) + x4 (ix2 (1 : Fin 3) (⟨0 + l.val, by omega⟩ : Fin 1024)) * p7 (ix2 r l) + x4 (ix2 (2 : Fin 3) (⟨0 + l.val, by omega⟩ : Fin 1024)) * (GB x0 w1 r l * GB x0 w2 r l)) := by
  pointwise [k0_pay46, k0_pay47, k0_pay49, GB]
  all_goals rfl

set_option maxHeartbeats 2000000 in
theorem bS3  (j : Fin 8) (l : Fin 256) : (k0_pay5 (F := Ideal) (x0) (k0_pay61 (F := Ideal) (x0) w1) w2 (constant (F := Ideal) S512x256 .f32 0x00000000#32)) (ix3 (0 : Fin 1) j l) = GB x0 w1 (⟨504 + j.val, by omega⟩ : Fin 512) l * GB x0 w2 (⟨504 + j.val, by omega⟩ : Fin 512) l := by
  pointwise [k0_pay2, k0_pay5, k0_pay61, GB]
  all_goals rfl

set_option maxHeartbeats 2000000 in
theorem bS2  (j : Fin 8) (l : Fin 256) : (k0_pay59 (F := Ideal) (x0) w1 w2) (ix3 (0 : Fin 1) j l) = GB x0 w1 (⟨504 + j.val, by omega⟩ : Fin 512) l * GB x0 w2 (⟨504 + j.val, by omega⟩ : Fin 512) l := by
  pointwise [k0_pay56, k0_pay59, GB]
  all_goals rfl

set_option maxHeartbeats 2000000 in
theorem bS1  (j : Fin 8) (l : Fin 256) : (k0_pay54 (F := Ideal) (x0) w1 w2) (ix3 (0 : Fin 1) j l) = GB x0 w1 (⟨504 + j.val, by omega⟩ : Fin 512) l * GB x0 w2 (⟨504 + j.val, by omega⟩ : Fin 512) l := by
  pointwise [k0_pay51, k0_pay54, GB]
  all_goals rfl

set_option maxHeartbeats 2000000 in
theorem bS0  (j : Fin 8) (l : Fin 256) : (k0_pay50 (F := Ideal) x0 w1 w2) (ix3 (0 : Fin 1) j l) = GB x0 w1 (⟨504 + j.val, by omega⟩ : Fin 512) l * GB x0 w2 (⟨504 + j.val, by omega⟩ : Fin 512) l := by
  pointwise [k0_pay47, k0_pay50, GB]
  all_goals rfl

set_option maxHeartbeats 2000000 in
theorem cU3  (r : Fin 512) (l : Fin 256) : (k0_pay3 (F := Ideal) (x0) (k0_pay61 (F := Ideal) (x0) w1) w2 (constant (F := Ideal) S512x256 .f32 0x00000000#32)) (ix2 r l) = GB x0 w1 r l * GB x0 w2 r l := by
  pointwise [k0_pay2, k0_pay3, k0_pay61, GB]
  all_goals rfl

set_option maxHeartbeats 2000000 in
theorem cU2  (r : Fin 512) (l : Fin 256) : (k0_pay57 (F := Ideal) (x0) w1 w2) (ix2 r l) = GB x0 w1 r l * GB x0 w2 r l := by
  pointwise [k0_pay56, k0_pay57, GB]
  all_goals rfl

set_option maxHeartbeats 2000000 in
theorem cU1  (r : Fin 512) (l : Fin 256) : (k0_pay52 (F := Ideal) (x0) w1 w2) (ix2 r l) = GB x0 w1 r l * GB x0 w2 r l := by
  pointwise [k0_pay51, k0_pay52, GB]
  all_goals rfl

set_option maxHeartbeats 2000000 in
theorem cU0  (r : Fin 512) (l : Fin 256) : (k0_pay48 (F := Ideal) x0 w1 w2) (ix2 r l) = GB x0 w1 r l * GB x0 w2 r l := by
  pointwise [k0_pay47, k0_pay48, GB]
  all_goals rfl

set_option maxHeartbeats 2000000 in
theorem cC3  (r : Fin 512) (l : Fin 256) : (k0_pay4 (F := Ideal) (x0) (k0_pay46 (F := Ideal) x4) (k0_pay60 (F := Ideal) (x0) w0) (k0_pay61 (F := Ideal) (x0) w1) w2 (constant (F := Ideal) S512x256 .f32 0x00000000#32) p6 p7) (ix2 r l) = GB x0 w0 r l * (x4 (ix2 (0 : Fin 3) (⟨768 + l.val, by omega⟩ : Fin 1024)) * p6 (ix2 r l) + x4 (ix2 (1 : Fin 3) (⟨768 + l.val, by omega⟩ : Fin 1024)) * p7 (ix2 r l) + x4 (ix2 (2 : Fin 3) (⟨768 + l.val, by omega⟩ : Fin 1024)) * (GB x0 w1 r l * GB x0 w2 r l)) := by
  pointwise [k0_pay2, k0_pay4, k0_pay46, k0_pay60, k0_pay61, GB]
  all_goals rfl

set_option maxHeartbeats 2000000 in
theorem cC2  (r : Fin 512) (l : Fin 256) : (k0_pay58 (F := Ideal) (x0) (k0_pay46 (F := Ideal) x4) ((k0_pay55 (F := Ideal) (x0) w0)) w1 w2 p6 p7) (ix2 r l) = GB x0 w0 r l * (x4 (ix2 (0 : Fin 3) (⟨512 + l.val, by omega⟩ : Fin 1024)) * p6 (ix2 r l) + x4 (ix2 (1 : Fin 3) (⟨512 + l.val, by omega⟩ : Fin 1024)) * p7 (ix2 r l) + x4 (ix2 (2 : Fin 3) (⟨512 + l.val, by omega⟩ : Fin 1024)) * (GB x0 w1 r l * GB x0 w2 r l)) := by
  pointwise [k0_pay46, k0_pay55, k0_pay56, k0_pay58, GB]
  all_goals rfl

set_option maxHeartbeats 2000000 in
theorem cC1  (r : Fin 512) (l : Fin 256) : (k0_pay53 (F := Ideal) (x0) (k0_pay46 (F := Ideal) x4) w0 w1 w2 p6 p7) (ix2 r l) = GB x0 w0 r l * (x4 (ix2 (0 : Fin 3) (⟨256 + l.val, by omega⟩ : Fin 1024)) * p6 (ix2 r l) + x4 (ix2 (1 : Fin 3) (⟨256 + l.val, by omega⟩ : Fin 1024)) * p7 (ix2 r l) + x4 (ix2 (2 : Fin 3) (⟨256 + l.val, by omega⟩ : Fin 1024)) * (GB x0 w1 r l * GB x0 w2 r l)) := by
  pointwise [k0_pay46, k0_pay51, k0_pay53, GB]
  all_goals rfl

set_option maxHeartbeats 2000000 in
theorem cC0  (r : Fin 512) (l : Fin 256) : (k0_pay49 (F := Ideal) x0 x4 w0 w1 w2 p6 p7) (ix2 r l) = GB x0 w0 r l * (x4 (ix2 (0 : Fin 3) (⟨0 + l.val, by omega⟩ : Fin 1024)) * p6 (ix2 r l) + x4 (ix2 (1 : Fin 3) (⟨0 + l.val, by omega⟩ : Fin 1024)) * p7 (ix2 r l) + x4 (ix2 (2 : Fin 3) (⟨0 + l.val, by omega⟩ : Fin 1024)) * (GB x0 w1 r l * GB x0 w2 r l)) := by
  pointwise [k0_pay46, k0_pay47, k0_pay49, GB]
  all_goals rfl

set_option maxHeartbeats 2000000 in
theorem cS3  (j : Fin 8) (l : Fin 256) : (k0_pay5 (F := Ideal) (x0) (k0_pay61 (F := Ideal) (x0) w1) w2 (constant (F := Ideal) S512x256 .f32 0x00000000#32)) (ix3 (0 : Fin 1) j l) = GB x0 w1 (⟨504 + j.val, by omega⟩ : Fin 512) l * GB x0 w2 (⟨504 + j.val, by omega⟩ : Fin 512) l := by
  pointwise [k0_pay2, k0_pay5, k0_pay61, GB]
  all_goals rfl

set_option maxHeartbeats 2000000 in
theorem cS2  (j : Fin 8) (l : Fin 256) : (k0_pay59 (F := Ideal) (x0) w1 w2) (ix3 (0 : Fin 1) j l) = GB x0 w1 (⟨504 + j.val, by omega⟩ : Fin 512) l * GB x0 w2 (⟨504 + j.val, by omega⟩ : Fin 512) l := by
  pointwise [k0_pay56, k0_pay59, GB]
  all_goals rfl

set_option maxHeartbeats 2000000 in
theorem cS1  (j : Fin 8) (l : Fin 256) : (k0_pay54 (F := Ideal) (x0) w1 w2) (ix3 (0 : Fin 1) j l) = GB x0 w1 (⟨504 + j.val, by omega⟩ : Fin 512) l * GB x0 w2 (⟨504 + j.val, by omega⟩ : Fin 512) l := by
  pointwise [k0_pay51, k0_pay54, GB]
  all_goals rfl

set_option maxHeartbeats 2000000 in
theorem cS0  (j : Fin 8) (l : Fin 256) : (k0_pay50 (F := Ideal) x0 w1 w2) (ix3 (0 : Fin 1) j l) = GB x0 w1 (⟨504 + j.val, by omega⟩ : Fin 512) l * GB x0 w2 (⟨504 + j.val, by omega⟩ : Fin 512) l := by
  pointwise [k0_pay47, k0_pay50, GB]
  all_goals rfl

set_option maxHeartbeats 2000000 in
theorem aK3  (r : Fin 32) (l : Fin 256) : (k0_pay45 (F := Ideal) (k0_pay7 (F := Ideal) x4) (k0_pay37 (F := Ideal) (k0_pay6 (F := Ideal) x0 x1) w0) (k0_pay38 (F := Ideal) (k0_pay6 (F := Ideal) x0 x1) w1 w2) s0 s1) (ix2 r l) = GB x1 w0 r l * (x4 (ix2 (0 : Fin 3) (⟨768 + l.val, by omega⟩ : Fin 1024)) * s0 (ix2 r l) + x4 (ix2 (1 : Fin 3) (⟨768 + l.val, by omega⟩ : Fin 1024)) * s1 (ix2 r l) + x4 (ix2 (2 : Fin 3) (⟨768 + l.val, by omega⟩ : Fin 1024)) * (GB x1 w1 r l * GB x1 w2 r l)) := by
  pointwise [k0_pay37, k0_pay38, k0_pay43, k0_pay44, k0_pay45, k0_pay6, k0_pay7, GB]
  all_goals rfl

set_option maxHeartbeats 2000000 in
theorem aK2  (r : Fin 32) (l : Fin 256) : (k0_pay36 (F := Ideal) (k0_pay7 (F := Ideal) x4) (k0_pay27 (F := Ideal) (k0_pay6 (F := Ideal) x0 x1) w0) (k0_pay28 (F := Ideal) (k0_pay6 (F := Ideal) x0 x1) w1 w2) s0 s1) (ix2 r l) = GB x1 w0 r l * (x4 (ix2 (0 : Fin 3) (⟨512 + l.val, by omega⟩ : Fin 1024)) * s0 (ix2 r l) + x4 (ix2 (1 : Fin 3) (⟨512 + l.val, by omega⟩ : Fin 1024)) * s1 (ix2 r l) + x4 (ix2 (2 : Fin 3) (⟨512 + l.val, by omega⟩ : Fin 1024)) * (GB x1 w1 r l * GB x1 w2 r l)) := by
  pointwise [k0_pay27, k0_pay28, k0_pay34, k0_pay35, k0_pay36, k0_pay6, k0_pay7, GB]
  all_goals rfl

set_option maxHeartbeats 2000000 in
theorem aK1  (r : Fin 32) (l : Fin 256) : (k0_pay26 (F := Ideal) (k0_pay7 (F := Ideal) x4) (k0_pay18 (F := Ideal) (k0_pay6 (F := Ideal) x0 x1) w0) (k0_pay19 (F := Ideal) (k0_pay6 (F := Ideal) x0 x1) w1 w2) s0 s1) (ix2 r l) = GB x1 w0 r l * (x4 (ix2 (0 : Fin 3) (⟨256 + l.val, by omega⟩ : Fin 1024)) * s0 (ix2 r l) + x4 (ix2 (1 : Fin 3) (⟨256 + l.val, by omega⟩ : Fin 1024)) * s1 (ix2 r l) + x4 (ix2 (2 : Fin 3) (⟨256 + l.val, by omega⟩ : Fin 1024)) * (GB x1 w1 r l * GB x1 w2 r l)) := by
  pointwise [k0_pay18, k0_pay19, k0_pay24, k0_pay25, k0_pay26, k0_pay6, k0_pay7, GB]
  all_goals rfl

set_option maxHeartbeats 2000000 in
theorem aK0  (r : Fin 32) (l : Fin 256) : (k0_pay17 (F := Ideal) (k0_pay7 (F := Ideal) x4) (k0_pay8 (F := Ideal) x0 x1 w0) (k0_pay9 (F := Ideal) x0 x1 w1 w2) s0 s1) (ix2 r l) = GB x1 w0 r l * (x4 (ix2 (0 : Fin 3) (⟨0 + l.val, by omega⟩ : Fin 1024)) * s0 (ix2 r l) + x4 (ix2 (1 : Fin 3) (⟨0 + l.val, by omega⟩ : Fin 1024)) * s1 (ix2 r l) + x4 (ix2 (2 : Fin 3) (⟨0 + l.val, by omega⟩ : Fin 1024)) * (GB x1 w1 r l * GB x1 w2 r l)) := by
  pointwise [k0_pay15, k0_pay16, k0_pay17, k0_pay6, k0_pay7, k0_pay8, k0_pay9, GB]
  all_goals rfl

set_option maxHeartbeats 2000000 in
theorem aM3  (r : Fin 32) (l : Fin 256) : (k0_pay43 (F := Ideal) (k0_pay38 (F := Ideal) (k0_pay6 (F := Ideal) x0 x1) w1 w2)) (ix2 r l) = GB x1 w1 r l * GB x1 w2 r l := by
  pointwise [k0_pay38, k0_pay43, k0_pay6, GB]
  all_goals rfl

set_option maxHeartbeats 2000000 in
theorem aN3  (r : Fin 32) (l : Fin 256) : (k0_pay44 (F := Ideal) s1) (ix2 r l) = s1 (ix2 r l) := by
  pointwise [k0_pay44, GB]
  all_goals rfl

set_option maxHeartbeats 2000000 in
theorem aM2  (r : Fin 32) (l : Fin 256) : (k0_pay34 (F := Ideal) (k0_pay28 (F := Ideal) (k0_pay6 (F := Ideal) x0 x1) w1 w2)) (ix2 r l) = GB x1 w1 r l * GB x1 w2 r l := by
  pointwise [k0_pay28, k0_pay34, k0_pay6, GB]
  all_goals rfl

set_option maxHeartbeats 2000000 in
theorem aN2  (r : Fin 32) (l : Fin 256) : (k0_pay35 (F := Ideal) s1) (ix2 r l) = s1 (ix2 r l) := by
  pointwise [k0_pay35, GB]
  all_goals rfl

set_option maxHeartbeats 2000000 in
theorem aM1  (r : Fin 32) (l : Fin 256) : (k0_pay24 (F := Ideal) (k0_pay19 (F := Ideal) (k0_pay6 (F := Ideal) x0 x1) w1 w2)) (ix2 r l) = GB x1 w1 r l * GB x1 w2 r l := by
  pointwise [k0_pay19, k0_pay24, k0_pay6, GB]
  all_goals rfl

set_option maxHeartbeats 2000000 in
theorem aN1  (r : Fin 32) (l : Fin 256) : (k0_pay25 (F := Ideal) s1) (ix2 r l) = s1 (ix2 r l) := by
  pointwise [k0_pay25, GB]
  all_goals rfl

set_option maxHeartbeats 2000000 in
theorem aM0  (r : Fin 32) (l : Fin 256) : (k0_pay15 (F := Ideal) (k0_pay9 (F := Ideal) x0 x1 w1 w2)) (ix2 r l) = GB x1 w1 r l * GB x1 w2 r l := by
  pointwise [k0_pay15, k0_pay6, k0_pay9, GB]
  all_goals rfl

set_option maxHeartbeats 2000000 in
theorem aN0  (r : Fin 32) (l : Fin 256) : (k0_pay16 (F := Ideal) s1) (ix2 r l) = s1 (ix2 r l) := by
  pointwise [k0_pay16, GB]
  all_goals rfl

end Cert.Kernel3Ideal.Conv

end
-- ==== Proof.ConvTile.lean ====
/- The gated short convolution's blocks at one grid point, read at an index over the extended reals. -/
module

public import proofs.«01_k».proof.Proof.ConvPure

@[expose] public section

set_option maxRecDepth 16384

noncomputable section

namespace Cert.Kernel3Ideal.Conv

open Idealize.ShloMosaic Idealize.ShloMosaic.TcCoe Idealize.SL.Sem
open Idealize.ShloMosaic.Pipeline (Dat)
open Cert.Kernel3Ideal Cert.Kernel3Ideal.Gen Cert.Spec

variable (a0 : FVec Ideal S520x1024 .f32) (x0 : FVec Ideal S512x2048 .bf16) (x1 : FVec Ideal S32x2048 .bf16) (x2 : FVec Ideal S32x2048 .f32) (x3 : FVec Ideal S2048x3072 .bf16) (x4 : FVec Ideal S3x1024 .f32)

theorem pick {R : ℕ} (x : Shape.Idx ⟨2, ![R, 256]⟩) {D : ℕ} (r : Fin R) (p : ℕ) (d : Fin D) (h0 : r.val = (x 0).val) (h1 : d.val = p + (x 1).val) :
    ∃ l : Fin 256, x = ix2 r l ∧ d.val = p + l.val :=
  ⟨x 1, (eq_ix2 x).trans (congrArg (fun a : Fin R => ix2 a (x 1)) (Fin.ext h0.symm)), h1⟩
theorem pick3 (x : Shape.Idx ⟨3, ![1, 8, 256]⟩) (j : Fin 8) (p : ℕ) (d : Fin 1024) (h0 : j.val = (x 1).val) (h1 : d.val = p + (x 2).val) :
    ∃ l : Fin 256, x = ix3 (0 : Fin 1) j l ∧ d.val = p + l.val :=
  ⟨x 2, (eq_ix3 x).trans (congrArg₂ (fun (a : Fin 1) (b : Fin 8) => ix3 a b (x 2)) (Subsingleton.elim _ _) (Fin.ext h0.symm)), h1⟩

theorem aL6_0  (r : Fin 512) (l : Fin 256) (d : Fin 1024) (hd : d.val = 0 + l.val) :
    ald6_0 (F := Ideal) x0 x1 x3 (ix2 r l) = ext (fun _ _ => 0) (UB x0 x3) (6 + r.val) (by omega) d :=
  (cl _ 6 0 _ r l (⟨6 + r.val, by omega⟩ : Fin 520) d rfl hd).trans
    (scr0 _ _ (⟨6 + r.val, by omega⟩ : Fin 520) d l hd _ _ (fun j => h65 j d) (fun r => (aU0 x0 x1 _ _ r l).trans (ul x0 x3 _ _ _ _ r l d (by omega) (by omega))))

theorem aL7_0  (r : Fin 512) (l : Fin 256) (d : Fin 1024) (hd : d.val = 0 + l.val) :
    ald7_0 (F := Ideal) x0 x1 x3 (ix2 r l) = ext (fun _ _ => 0) (UB x0 x3) (7 + r.val) (by omega) d :=
  (cl _ 7 0 _ r l (⟨7 + r.val, by omega⟩ : Fin 520) d rfl hd).trans
    (scr0 _ _ (⟨7 + r.val, by omega⟩ : Fin 520) d l hd _ _ (fun j => h65 j d) (fun r => (aU0 x0 x1 _ _ r l).trans (ul x0 x3 _ _ _ _ r l d (by omega) (by omega))))

theorem aL6_1  (r : Fin 512) (l : Fin 256) (d : Fin 1024) (hd : d.val = 256 + l.val) :
    ald6_256 (F := Ideal) x0 x1 x3 (ix2 r l) = ext (fun _ _ => 0) (UB x0 x3) (6 + r.val) (by omega) d :=
  (cl _ 6 256 _ r l (⟨6 + r.val, by omega⟩ : Fin 520) d rfl hd).trans
    (scr1 _ _ _ (⟨6 + r.val, by omega⟩ : Fin 520) d l hd _ _ (fun j => h65 j d) (fun r => (aU1 x0 x1 _ _ r l).trans (ul x0 x3 _ _ _ _ r l d (by omega) (by omega))))

theorem aL7_1  (r : Fin 512) (l : Fin 256) (d : Fin 1024) (hd : d.val = 256 + l.val) :
    ald7_256 (F := Ideal) x0 x1 x3 (ix2 r l) = ext (fun _ _ => 0) (UB x0 x3) (7 + r.val) (by omega) d :=
  (cl _ 7 256 _ r l (⟨7 + r.val, by omega⟩ : Fin 520) d rfl hd).trans
    (scr1 _ _ _ (⟨7 + r.val, by omega⟩ : Fin 520) d l hd _ _ (fun j => h65 j d) (fun r => (aU1 x0 x1 _ _ r l).trans (ul x0 x3 _ _ _ _ r l d (by omega) (by omega))))

theorem aL6_2  (r : Fin 512) (l : Fin 256) (d : Fin 1024) (hd : d.val = 512 + l.val) :
    ald6_512 (F := Ideal) x0 x1 x3 (ix2 r l) = ext (fun _ _ => 0) (UB x0 x3) (6 + r.val) (by omega) d :=
  (cl _ 6 512 _ r l (⟨6 + r.val, by omega⟩ : Fin 520) d rfl hd).trans
    (scr2 _ _ _ _ (⟨6 + r.val, by omega⟩ : Fin 520) d l hd _ _ (fun j => h65 j d) (fun r => (aU2 x0 x1 _ _ r l).trans (ul x0 x3 _ _ _ _ r l d (by omega) (by omega))))

theorem aL7_2  (r : Fin 512) (l : Fin 256) (d : Fin 1024) (hd : d.val = 512 + l.val) :
    ald7_512 (F := Ideal) x0 x1 x3 (ix2 r l) = ext (fun _ _ => 0) (UB x0 x3) (7 + r.val) (by omega) d :=
  (cl _ 7 512 _ r l (⟨7 + r.val, by omega⟩ : Fin 520) d rfl hd).trans
    (scr2 _ _ _ _ (⟨7 + r.val, by omega⟩ : Fin 520) d l hd _ _ (fun j => h65 j d) (fun r => (aU2 x0 x1 _ _ r l).trans (ul x0 x3 _ _ _ _ r l d (by omega) (by omega))))

theorem aL6_3  (r : Fin 512) (l : Fin 256) (d : Fin 1024) (hd : d.val = 768 + l.val) :
    ald6_768 (F := Ideal) x0 x1 x3 (ix2 r l) = ext (fun _ _ => 0) (UB x0 x3) (6 + r.val) (by omega) d :=
  (cl _ 6 768 _ r l (⟨6 + r.val, by omega⟩ : Fin 520) d rfl hd).trans
    (scr3 _ _ _ _ _ (⟨6 + r.val, by omega⟩ : Fin 520) d l hd _ _ (fun j => h65 j d) (fun r => (aU3 x0 x1 _ _ r l).trans (ul x0 x3 _ _ _ _ r l d (by omega) (by omega))))

theorem aL7_3  (r : Fin 512) (l : Fin 256) (d : Fin 1024) (hd : d.val = 768 + l.val) :
    ald7_768 (F := Ideal) x0 x1 x3 (ix2 r l) = ext (fun _ _ => 0) (UB x0 x3) (7 + r.val) (by omega) d :=
  (cl _ 7 768 _ r l (⟨7 + r.val, by omega⟩ : Fin 520) d rfl hd).trans
    (scr3 _ _ _ _ _ (⟨7 + r.val, by omega⟩ : Fin 520) d l hd _ _ (fun j => h65 j d) (fun r => (aU3 x0 x1 _ _ r l).trans (ul x0 x3 _ _ _ _ r l d (by omega) (by omega))))

theorem ao15_apply  (n : Fin 520) (r : Fin 512) (hn : n.val = 8 + r.val) (d : Fin 1024) :
    ao15 (F := Ideal) x0 x1 x3 (ix2 n d) = UB x0 x3 r d :=
  scrU _ _ _ _ _ n r hn d (UB x0 x3)
    (fun l hd => (aU0 x0 x1 _ _ r l).trans (ul x0 x3 _ _ _ _ r l d (by omega) (by omega)))
    (fun l hd => (aU1 x0 x1 _ _ r l).trans (ul x0 x3 _ _ _ _ r l d (by omega) (by omega)))
    (fun l hd => (aU2 x0 x1 _ _ r l).trans (ul x0 x3 _ _ _ _ r l d (by omega) (by omega)))
    (fun l hd => (aU3 x0 x1 _ _ r l).trans (ul x0 x3 _ _ _ _ r l d (by omega) (by omega)))

set_option maxHeartbeats 4000000 in
theorem ao8_apply  (r : Fin 512) (d : Fin 1024) : ao8 (F := Ideal) x0 x1 x3 x4 (ix2 r d)
    = GB x0 x3 r (⟨d.val, by omega⟩ : Fin 3072) * (x4 (ix2 (0 : Fin 3) d) * ext (fun _ _ => 0) (UB x0 x3) (6 + r.val) (by omega) d
        + x4 (ix2 (1 : Fin 3) d) * ext (fun _ _ => 0) (UB x0 x3) (7 + r.val) (by omega) d + x4 (ix2 (2 : Fin 3) d) * UB x0 x3 r d) := by
  unfold ao8
  canon_tiles x h
  case piece0 =>
    obtain ⟨l, rfl, hd⟩ := pick x r 768 d h0 h1
    exact (aC3 x0 x1 x4 _ _ _ _ _ r l).trans (comb _ _ _ _ _ _ _ _ _ _ _ _ _ _ (gl x0 x3 _ _ r l _ (by simp only; omega)) (congrArg (fun d => x4 (ix2 (0 : Fin 3) d)) (Fin.ext hd.symm)) (aL6_3 _ _ _ r l d hd) (congrArg (fun d => x4 (ix2 (1 : Fin 3) d)) (Fin.ext hd.symm)) (aL7_3 _ _ _ r l d hd) (congrArg (fun d => x4 (ix2 (2 : Fin 3) d)) (Fin.ext hd.symm)) (ul x0 x3 _ _ _ _ r l d (by omega) (by omega)))
  case piece1 =>
    obtain ⟨l, rfl, hd⟩ := pick x r 512 d h0 h1
    exact (aC2 x0 x1 x4 _ _ _ _ _ r l).trans (comb _ _ _ _ _ _ _ _ _ _ _ _ _ _ (gl x0 x3 _ _ r l _ (by simp only; omega)) (congrArg (fun d => x4 (ix2 (0 : Fin 3) d)) (Fin.ext hd.symm)) (aL6_2 _ _ _ r l d hd) (congrArg (fun d => x4 (ix2 (1 : Fin 3) d)) (Fin.ext hd.symm)) (aL7_2 _ _ _ r l d hd) (congrArg (fun d => x4 (ix2 (2 : Fin 3) d)) (Fin.ext hd.symm)) (ul x0 x3 _ _ _ _ r l d (by omega) (by omega)))
  case piece2 =>
    obtain ⟨l, rfl, hd⟩ := pick x r 256 d h0 h1
    exact (aC1 x0 x1 x4 _ _ _ _ _ r l).trans (comb _ _ _ _ _ _ _ _ _ _ _ _ _ _ (gl x0 x3 _ _ r l _ (by simp only; omega)) (congrArg (fun d => x4 (ix2 (0 : Fin 3) d)) (Fin.ext hd.symm)) (aL6_1 _ _ _ r l d hd) (congrArg (fun d => x4 (ix2 (1 : Fin 3) d)) (Fin.ext hd.symm)) (aL7_1 _ _ _ r l d hd) (congrArg (fun d => x4 (ix2 (2 : Fin 3) d)) (Fin.ext hd.symm)) (ul x0 x3 _ _ _ _ r l d (by omega) (by omega)))
  case piece3 =>
    obtain ⟨l, rfl, hd⟩ := pick x r 0 d h0 (h1.trans (Nat.zero_add _).symm)
    exact (aC0 x0 x1 x4 _ _ _ _ _ r l).trans (comb _ _ _ _ _ _ _ _ _ _ _ _ _ _ (gl x0 x3 _ _ r l _ (by simp only; omega)) (congrArg (fun d => x4 (ix2 (0 : Fin 3) d)) (Fin.ext hd.symm)) (aL6_0 _ _ _ r l d hd) (congrArg (fun d => x4 (ix2 (1 : Fin 3) d)) (Fin.ext hd.symm)) (aL7_0 _ _ _ r l d hd) (congrArg (fun d => x4 (ix2 (2 : Fin 3) d)) (Fin.ext hd.symm)) (ul x0 x3 _ _ _ _ r l d (by omega) (by omega)))

set_option maxHeartbeats 4000000 in
theorem ao9_apply  (j : Fin 8) (d : Fin 1024) : ao9 (F := Ideal) x0 x1 x3 (ix3 (0 : Fin 1) j d) = UB x0 x3 (⟨504 + j.val, by omega⟩ : Fin 512) d := by
  unfold ao9
  canon_tiles x h
  case piece0 =>
    obtain ⟨l, rfl, hd⟩ := pick3 x j 768 d h1 h2
    exact (aS3 x0 x1 _ _ j l).trans (ul x0 x3 _ _ _ _ _ l d (by omega) (by omega))
  case piece1 =>
    obtain ⟨l, rfl, hd⟩ := pick3 x j 512 d h1 h2
    exact (aS2 x0 x1 _ _ j l).trans (ul x0 x3 _ _ _ _ _ l d (by omega) (by omega))
  case piece2 =>
    obtain ⟨l, rfl, hd⟩ := pick3 x j 256 d h1 h2
    exact (aS1 x0 x1 _ _ j l).trans (ul x0 x3 _ _ _ _ _ l d (by omega) (by omega))
  case piece3 =>
    obtain ⟨l, rfl, hd⟩ := pick3 x j 0 d h1 (h2.trans (Nat.zero_add _).symm)
    exact (aS0 x0 x1 _ _ j l).trans (ul x0 x3 _ _ _ _ _ l d (by omega) (by omega))

theorem bL6_0  (r : Fin 512) (l : Fin 256) (d : Fin 1024) (hd : d.val = 0 + l.val) :
    bld6_0 (F := Ideal) x0 x3 (ix2 r l) = ext (fun _ _ => 0) (UB x0 x3) (6 + r.val) (by omega) d :=
  (cl _ 6 0 _ r l (⟨6 + r.val, by omega⟩ : Fin 520) d rfl hd).trans
    (scr0 _ _ (⟨6 + r.val, by omega⟩ : Fin 520) d l hd _ _ (fun j => h65 j d) (fun r => (bU0 x0 _ _ r l).trans (ul x0 x3 _ _ _ _ r l d (by omega) (by omega))))

theorem bL7_0  (r : Fin 512) (l : Fin 256) (d : Fin 1024) (hd : d.val = 0 + l.val) :
    bld7_0 (F := Ideal) x0 x3 (ix2 r l) = ext (fun _ _ => 0) (UB x0 x3) (7 + r.val) (by omega) d :=
  (cl _ 7 0 _ r l (⟨7 + r.val, by omega⟩ : Fin 520) d rfl hd).trans
    (scr0 _ _ (⟨7 + r.val, by omega⟩ : Fin 520) d l hd _ _ (fun j => h65 j d) (fun r => (bU0 x0 _ _ r l).trans (ul x0 x3 _ _ _ _ r l d (by omega) (by omega))))

theorem bL6_1  (r : Fin 512) (l : Fin 256) (d : Fin 1024) (hd : d.val = 256 + l.val) :
    bld6_256 (F := Ideal) x0 x3 (ix2 r l) = ext (fun _ _ => 0) (UB x0 x3) (6 + r.val) (by omega) d :=
  (cl _ 6 256 _ r l (⟨6 + r.val, by omega⟩ : Fin 520) d rfl hd).trans
    (scr1 _ _ _ (⟨6 + r.val, by omega⟩ : Fin 520) d l hd _ _ (fun j => h65 j d) (fun r => (bU1 x0 _ _ r l).trans (ul x0 x3 _ _ _ _ r l d (by omega) (by omega))))

theorem bL7_1  (r : Fin 512) (l : Fin 256) (d : Fin 1024) (hd : d.val = 256 + l.val) :
    bld7_256 (F := Ideal) x0 x3 (ix2 r l) = ext (fun _ _ => 0) (UB x0 x3) (7 + r.val) (by omega) d :=
  (cl _ 7 256 _ r l (⟨7 + r.val, by omega⟩ : Fin 520) d rfl hd).trans
    (scr1 _ _ _ (⟨7 + r.val, by omega⟩ : Fin 520) d l hd _ _ (fun j => h65 j d) (fun r => (bU1 x0 _ _ r l).trans (ul x0 x3 _ _ _ _ r l d (by omega) (by omega))))

theorem bL6_2  (r : Fin 512) (l : Fin 256) (d : Fin 1024) (hd : d.val = 512 + l.val) :
    bld6_512 (F := Ideal) x0 x3 (ix2 r l) = ext (fun _ _ => 0) (UB x0 x3) (6 + r.val) (by omega) d :=
  (cl _ 6 512 _ r l (⟨6 + r.val, by omega⟩ : Fin 520) d rfl hd).trans
    (scr2 _ _ _ _ (⟨6 + r.val, by omega⟩ : Fin 520) d l hd _ _ (fun j => h65 j d) (fun r => (bU2 x0 _ _ r l).trans (ul x0 x3 _ _ _ _ r l d (by omega) (by omega))))

theorem bL7_2  (r : Fin 512) (l : Fin 256) (d : Fin 1024) (hd : d.val = 512 + l.val) :
    bld7_512 (F := Ideal) x0 x3 (ix2 r l) = ext (fun _ _ => 0) (UB x0 x3) (7 + r.val) (by omega) d :=
  (cl _ 7 512 _ r l (⟨7 + r.val, by omega⟩ : Fin 520) d rfl hd).trans
    (scr2 _ _ _ _ (⟨7 + r.val, by omega⟩ : Fin 520) d l hd _ _ (fun j => h65 j d) (fun r => (bU2 x0 _ _ r l).trans (ul x0 x3 _ _ _ _ r l d (by omega) (by omega))))

theorem bL6_3  (r : Fin 512) (l : Fin 256) (d : Fin 1024) (hd : d.val = 768 + l.val) :
    bld6_768 (F := Ideal) x0 x3 (ix2 r l) = ext (fun _ _ => 0) (UB x0 x3) (6 + r.val) (by omega) d :=
  (cl _ 6 768 _ r l (⟨6 + r.val, by omega⟩ : Fin 520) d rfl hd).trans
    (scr3 _ _ _ _ _ (⟨6 + r.val, by omega⟩ : Fin 520) d l hd _ _ (fun j => h65 j d) (fun r => (bU3 x0 _ _ r l).trans (ul x0 x3 _ _ _ _ r l d (by omega) (by omega))))

theorem bL7_3  (r : Fin 512) (l : Fin 256) (d : Fin 1024) (hd : d.val = 768 + l.val) :
    bld7_768 (F := Ideal) x0 x3 (ix2 r l) = ext (fun _ _ => 0) (UB x0 x3) (7 + r.val) (by omega) d :=
  (cl _ 7 768 _ r l (⟨7 + r.val, by omega⟩ : Fin 520) d rfl hd).trans
    (scr3 _ _ _ _ _ (⟨7 + r.val, by omega⟩ : Fin 520) d l hd _ _ (fun j => h65 j d) (fun r => (bU3 x0 _ _ r l).trans (ul x0 x3 _ _ _ _ r l d (by omega) (by omega))))

theorem bo15_apply  (n : Fin 520) (r : Fin 512) (hn : n.val = 8 + r.val) (d : Fin 1024) :
    bo15 (F := Ideal) x0 x3 (ix2 n d) = UB x0 x3 r d :=
  scrU _ _ _ _ _ n r hn d (UB x0 x3)
    (fun l hd => (bU0 x0 _ _ r l).trans (ul x0 x3 _ _ _ _ r l d (by omega) (by omega)))
    (fun l hd => (bU1 x0 _ _ r l).trans (ul x0 x3 _ _ _ _ r l d (by omega) (by omega)))
    (fun l hd => (bU2 x0 _ _ r l).trans (ul x0 x3 _ _ _ _ r l d (by omega) (by omega)))
    (fun l hd => (bU3 x0 _ _ r l).trans (ul x0 x3 _ _ _ _ r l d (by omega) (by omega)))

set_option maxHeartbeats 4000000 in
theorem bo8_apply  (r : Fin 512) (d : Fin 1024) : bo8 (F := Ideal) x0 x3 x4 (ix2 r d)
    = GB x0 x3 r (⟨d.val, by omega⟩ : Fin 3072) * (x4 (ix2 (0 : Fin 3) d) * ext (fun _ _ => 0) (UB x0 x3) (6 + r.val) (by omega) d
        + x4 (ix2 (1 : Fin 3) d) * ext (fun _ _ => 0) (UB x0 x3) (7 + r.val) (by omega) d + x4 (ix2 (2 : Fin 3) d) * UB x0 x3 r d) := by
  unfold bo8
  canon_tiles x h
  case piece0 =>
    obtain ⟨l, rfl, hd⟩ := pick x r 768 d h0 h1
    exact (bC3 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (bL6_3 _ _ r l d hd) (congrArg (fun d => x4 (ix2 (1 : Fin 3) d)) (Fin.ext hd.symm)) (bL7_3 _ _ r l d hd) (congrArg (fun d => x4 (ix2 (2 : Fin 3) d)) (Fin.ext hd.symm)) (ul x0 x3 _ _ _ _ r l d (by omega) (by omega)))
  case piece1 =>
    obtain ⟨l, rfl, hd⟩ := pick x r 512 d h0 h1
    exact (bC2 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (bL6_2 _ _ r l d hd) (congrArg (fun d => x4 (ix2 (1 : Fin 3) d)) (Fin.ext hd.symm)) (bL7_2 _ _ r l d hd) (congrArg (fun d => x4 (ix2 (2 : Fin 3) d)) (Fin.ext hd.symm)) (ul x0 x3 _ _ _ _ r l d (by omega) (by omega)))
  case piece2 =>
    obtain ⟨l, rfl, hd⟩ := pick x r 256 d h0 h1
    exact (bC1 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (bL6_1 _ _ r l d hd) (congrArg (fun d => x4 (ix2 (1 : Fin 3) d)) (Fin.ext hd.symm)) (bL7_1 _ _ r l d hd) (congrArg (fun d => x4 (ix2 (2 : Fin 3) d)) (Fin.ext hd.symm)) (ul x0 x3 _ _ _ _ r l d (by omega) (by omega)))
  case piece3 =>
    obtain ⟨l, rfl, hd⟩ := pick x r 0 d h0 (h1.trans (Nat.zero_add _).symm)
    exact (bC0 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (bL6_0 _ _ r l d hd) (congrArg (fun d => x4 (ix2 (1 : Fin 3) d)) (Fin.ext hd.symm)) (bL7_0 _ _ r l d hd) (congrArg (fun d => x4 (ix2 (2 : Fin 3) d)) (Fin.ext hd.symm)) (ul x0 x3 _ _ _ _ r l d (by omega) (by omega)))

set_option maxHeartbeats 4000000 in
theorem bo9_apply  (j : Fin 8) (d : Fin 1024) : bo9 (F := Ideal) x0 x3 (ix3 (0 : Fin 1) j d) = UB x0 x3 (⟨504 + j.val, by omega⟩ : Fin 512) d := by
  unfold bo9
  canon_tiles x h
  case piece0 =>
    obtain ⟨l, rfl, hd⟩ := pick3 x j 768 d h1 h2
    exact (bS3 x0 _ _ j l).trans (ul x0 x3 _ _ _ _ _ l d (by omega) (by omega))
  case piece1 =>
    obtain ⟨l, rfl, hd⟩ := pick3 x j 512 d h1 h2
    exact (bS2 x0 _ _ j l).trans (ul x0 x3 _ _ _ _ _ l d (by omega) (by omega))
  case piece2 =>
    obtain ⟨l, rfl, hd⟩ := pick3 x j 256 d h1 h2
    exact (bS1 x0 _ _ j l).trans (ul x0 x3 _ _ _ _ _ l d (by omega) (by omega))
  case piece3 =>
    obtain ⟨l, rfl, hd⟩ := pick3 x j 0 d h1 (h2.trans (Nat.zero_add _).symm)
    exact (bS0 x0 _ _ j l).trans (ul x0 x3 _ _ _ _ _ l d (by omega) (by omega))

theorem cL6_0  (r : Fin 512) (l : Fin 256) (d : Fin 1024) (hd : d.val = 0 + l.val) :
    cld6_0 (F := Ideal) a0 x0 x3 (ix2 r l) = ext (fun j d => a0 (ix2 (⟨512 + j.val, by omega⟩ : Fin 520) d)) (UB x0 x3) (6 + r.val) (by omega) d :=
  (cl _ 6 0 _ r l (⟨6 + r.val, by omega⟩ : Fin 520) d rfl hd).trans
    (scr0 _ _ (⟨6 + r.val, by omega⟩ : Fin 520) d l hd _ _ (fun j => (h1 _ j d).trans (hl a0 _ j d)) (fun r => (cU0 x0 _ _ r l).trans (ul x0 x3 _ _ _ _ r l d (by omega) (by omega))))

theorem cL7_0  (r : Fin 512) (l : Fin 256) (d : Fin 1024) (hd : d.val = 0 + l.val) :
    cld7_0 (F := Ideal) a0 x0 x3 (ix2 r l) = ext (fun j d => a0 (ix2 (⟨512 + j.val, by omega⟩ : Fin 520) d)) (UB x0 x3) (7 + r.val) (by omega) d :=
  (cl _ 7 0 _ r l (⟨7 + r.val, by omega⟩ : Fin 520) d rfl hd).trans
    (scr0 _ _ (⟨7 + r.val, by omega⟩ : Fin 520) d l hd _ _ (fun j => (h1 _ j d).trans (hl a0 _ j d)) (fun r => (cU0 x0 _ _ r l).trans (ul x0 x3 _ _ _ _ r l d (by omega) (by omega))))

theorem cL6_1  (r : Fin 512) (l : Fin 256) (d : Fin 1024) (hd : d.val = 256 + l.val) :
    cld6_256 (F := Ideal) a0 x0 x3 (ix2 r l) = ext (fun j d => a0 (ix2 (⟨512 + j.val, by omega⟩ : Fin 520) d)) (UB x0 x3) (6 + r.val) (by omega) d :=
  (cl _ 6 256 _ r l (⟨6 + r.val, by omega⟩ : Fin 520) d rfl hd).trans
    (scr1 _ _ _ (⟨6 + r.val, by omega⟩ : Fin 520) d l hd _ _ (fun j => (h1 _ j d).trans (hl a0 _ j d)) (fun r => (cU1 x0 _ _ r l).trans (ul x0 x3 _ _ _ _ r l d (by omega) (by omega))))

theorem cL7_1  (r : Fin 512) (l : Fin 256) (d : Fin 1024) (hd : d.val = 256 + l.val) :
    cld7_256 (F := Ideal) a0 x0 x3 (ix2 r l) = ext (fun j d => a0 (ix2 (⟨512 + j.val, by omega⟩ : Fin 520) d)) (UB x0 x3) (7 + r.val) (by omega) d :=
  (cl _ 7 256 _ r l (⟨7 + r.val, by omega⟩ : Fin 520) d rfl hd).trans
    (scr1 _ _ _ (⟨7 + r.val, by omega⟩ : Fin 520) d l hd _ _ (fun j => (h1 _ j d).trans (hl a0 _ j d)) (fun r => (cU1 x0 _ _ r l).trans (ul x0 x3 _ _ _ _ r l d (by omega) (by omega))))

theorem cL6_2  (r : Fin 512) (l : Fin 256) (d : Fin 1024) (hd : d.val = 512 + l.val) :
    cld6_512 (F := Ideal) a0 x0 x3 (ix2 r l) = ext (fun j d => a0 (ix2 (⟨512 + j.val, by omega⟩ : Fin 520) d)) (UB x0 x3) (6 + r.val) (by omega) d :=
  (cl _ 6 512 _ r l (⟨6 + r.val, by omega⟩ : Fin 520) d rfl hd).trans
    (scr2 _ _ _ _ (⟨6 + r.val, by omega⟩ : Fin 520) d l hd _ _ (fun j => (h1 _ j d).trans (hl a0 _ j d)) (fun r => (cU2 x0 _ _ r l).trans (ul x0 x3 _ _ _ _ r l d (by omega) (by omega))))

theorem cL7_2  (r : Fin 512) (l : Fin 256) (d : Fin 1024) (hd : d.val = 512 + l.val) :
    cld7_512 (F := Ideal) a0 x0 x3 (ix2 r l) = ext (fun j d => a0 (ix2 (⟨512 + j.val, by omega⟩ : Fin 520) d)) (UB x0 x3) (7 + r.val) (by omega) d :=
  (cl _ 7 512 _ r l (⟨7 + r.val, by omega⟩ : Fin 520) d rfl hd).trans
    (scr2 _ _ _ _ (⟨7 + r.val, by omega⟩ : Fin 520) d l hd _ _ (fun j => (h1 _ j d).trans (hl a0 _ j d)) (fun r => (cU2 x0 _ _ r l).trans (ul x0 x3 _ _ _ _ r l d (by omega) (by omega))))

theorem cL6_3  (r : Fin 512) (l : Fin 256) (d : Fin 1024) (hd : d.val = 768 + l.val) :
    cld6_768 (F := Ideal) a0 x0 x3 (ix2 r l) = ext (fun j d => a0 (ix2 (⟨512 + j.val, by omega⟩ : Fin 520) d)) (UB x0 x3) (6 + r.val) (by omega) d :=
  (cl _ 6 768 _ r l (⟨6 + r.val, by omega⟩ : Fin 520) d rfl hd).trans
    (scr3 _ _ _ _ _ (⟨6 + r.val, by omega⟩ : Fin 520) d l hd _ _ (fun j => (h1 _ j d).trans (hl a0 _ j d)) (fun r => (cU3 x0 _ _ r l).trans (ul x0 x3 _ _ _ _ r l d (by omega) (by omega))))

theorem cL7_3  (r : Fin 512) (l : Fin 256) (d : Fin 1024) (hd : d.val = 768 + l.val) :
    cld7_768 (F := Ideal) a0 x0 x3 (ix2 r l) = ext (fun j d => a0 (ix2 (⟨512 + j.val, by omega⟩ : Fin 520) d)) (UB x0 x3) (7 + r.val) (by omega) d :=
  (cl _ 7 768 _ r l (⟨7 + r.val, by omega⟩ : Fin 520) d rfl hd).trans
    (scr3 _ _ _ _ _ (⟨7 + r.val, by omega⟩ : Fin 520) d l hd _ _ (fun j => (h1 _ j d).trans (hl a0 _ j d)) (fun r => (cU3 x0 _ _ r l).trans (ul x0 x3 _ _ _ _ r l d (by omega) (by omega))))

theorem co15_apply  (n : Fin 520) (r : Fin 512) (hn : n.val = 8 + r.val) (d : Fin 1024) :
    co15 (F := Ideal) a0 x0 x3 (ix2 n d) = UB x0 x3 r d :=
  scrU _ _ _ _ _ n r hn d (UB x0 x3)
    (fun l hd => (cU0 x0 _ _ r l).trans (ul x0 x3 _ _ _ _ r l d (by omega) (by omega)))
    (fun l hd => (cU1 x0 _ _ r l).trans (ul x0 x3 _ _ _ _ r l d (by omega) (by omega)))
    (fun l hd => (cU2 x0 _ _ r l).trans (ul x0 x3 _ _ _ _ r l d (by omega) (by omega)))
    (fun l hd => (cU3 x0 _ _ r l).trans (ul x0 x3 _ _ _ _ r l d (by omega) (by omega)))

set_option maxHeartbeats 4000000 in
theorem co8_apply  (r : Fin 512) (d : Fin 1024) : co8 (F := Ideal) a0 x0 x3 x4 (ix2 r d)
    = GB x0 x3 r (⟨d.val, by omega⟩ : Fin 3072) * (x4 (ix2 (0 : Fin 3) d) * ext (fun j d => a0 (ix2 (⟨512 + j.val, by omega⟩ : Fin 520) d)) (UB x0 x3) (6 + r.val) (by omega) d
        + x4 (ix2 (1 : Fin 3) d) * ext (fun j d => a0 (ix2 (⟨512 + j.val, by omega⟩ : Fin 520) d)) (UB x0 x3) (7 + r.val) (by omega) d + x4 (ix2 (2 : Fin 3) d) * UB x0 x3 r d) := by
  unfold co8
  canon_tiles x h
  case piece0 =>
    obtain ⟨l, rfl, hd⟩ := pick x r 768 d h0 h1
    exact (cC3 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (cL6_3 _ _ _ r l d hd) (congrArg (fun d => x4 (ix2 (1 : Fin 3) d)) (Fin.ext hd.symm)) (cL7_3 _ _ _ r l d hd) (congrArg (fun d => x4 (ix2 (2 : Fin 3) d)) (Fin.ext hd.symm)) (ul x0 x3 _ _ _ _ r l d (by omega) (by omega)))
  case piece1 =>
    obtain ⟨l, rfl, hd⟩ := pick x r 512 d h0 h1
    exact (cC2 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (cL6_2 _ _ _ r l d hd) (congrArg (fun d => x4 (ix2 (1 : Fin 3) d)) (Fin.ext hd.symm)) (cL7_2 _ _ _ r l d hd) (congrArg (fun d => x4 (ix2 (2 : Fin 3) d)) (Fin.ext hd.symm)) (ul x0 x3 _ _ _ _ r l d (by omega) (by omega)))
  case piece2 =>
    obtain ⟨l, rfl, hd⟩ := pick x r 256 d h0 h1
    exact (cC1 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (cL6_1 _ _ _ r l d hd) (congrArg (fun d => x4 (ix2 (1 : Fin 3) d)) (Fin.ext hd.symm)) (cL7_1 _ _ _ r l d hd) (congrArg (fun d => x4 (ix2 (2 : Fin 3) d)) (Fin.ext hd.symm)) (ul x0 x3 _ _ _ _ r l d (by omega) (by omega)))
  case piece3 =>
    obtain ⟨l, rfl, hd⟩ := pick x r 0 d h0 (h1.trans (Nat.zero_add _).symm)
    exact (cC0 x0 x4 _ _ _ _ _ r l).trans (comb _ _ _ _ _ _ _ _ _ _ _ _ _ _ (gl x0 x3 _ _ r l _ (by simp only; omega)) (congrArg (fun d => x4 (ix2 (0 : Fin 3) d)) (Fin.ext hd.symm)) (cL6_0 _ _ _ r l d hd) (congrArg (fun d => x4 (ix2 (1 : Fin 3) d)) (Fin.ext hd.symm)) (cL7_0 _ _ _ r l d hd) (congrArg (fun d => x4 (ix2 (2 : Fin 3) d)) (Fin.ext hd.symm)) (ul x0 x3 _ _ _ _ r l d (by omega) (by omega)))

set_option maxHeartbeats 4000000 in
theorem co9_apply  (j : Fin 8) (d : Fin 1024) : co9 (F := Ideal) x0 x3 (ix3 (0 : Fin 1) j d) = UB x0 x3 (⟨504 + j.val, by omega⟩ : Fin 512) d := by
  unfold co9
  canon_tiles x h
  case piece0 =>
    obtain ⟨l, rfl, hd⟩ := pick3 x j 768 d h1 h2
    exact (cS3 x0 _ _ j l).trans (ul x0 x3 _ _ _ _ _ l d (by omega) (by omega))
  case piece1 =>
    obtain ⟨l, rfl, hd⟩ := pick3 x j 512 d h1 h2
    exact (cS2 x0 _ _ j l).trans (ul x0 x3 _ _ _ _ _ l d (by omega) (by omega))
  case piece2 =>
    obtain ⟨l, rfl, hd⟩ := pick3 x j 256 d h1 h2
    exact (cS1 x0 _ _ j l).trans (ul x0 x3 _ _ _ _ _ l d (by omega) (by omega))
  case piece3 =>
    obtain ⟨l, rfl, hd⟩ := pick3 x j 0 d h1 (h2.trans (Nat.zero_add _).symm)
    exact (cS0 x0 _ _ j l).trans (ul x0 x3 _ _ _ _ _ l d (by omega) (by omega))

set_option maxHeartbeats 4000000 in
theorem ao10_apply  (r : Fin 32) (d : Fin 1024) : ao10 (F := Ideal) x0 x1 x2 x3 x4 (ix2 r d)
    = GB x1 x3 r (⟨d.val, by omega⟩ : Fin 3072) * (x4 (ix2 (0 : Fin 3) d) * x2 (ix2 r (⟨d.val, by omega⟩ : Fin 2048))
        + x4 (ix2 (1 : Fin 3) d) * x2 (ix2 r (⟨1024 + d.val, by omega⟩ : Fin 2048)) + x4 (ix2 (2 : Fin 3) d) * UB x1 x3 r d) := by
  unfold ao10
  canon_tiles x h
  case piece0 =>
    obtain ⟨l, rfl, hd⟩ := pick x r 768 d h0 h1
    exact (aK3 x0 x1 x4 _ _ _ _ _ r l).trans (comb _ _ _ _ _ _ _ _ _ _ _ _ _ _ (gl x1 x3 _ _ r l _ (by simp only; omega)) (congrArg (fun d => x4 (ix2 (0 : Fin 3) d)) (Fin.ext hd.symm)) (sl x2 _ _ r l _ (by simp only; omega)) (congrArg (fun d => x4 (ix2 (1 : Fin 3) d)) (Fin.ext hd.symm)) (sl x2 _ _ r l _ (by simp only; omega)) (congrArg (fun d => x4 (ix2 (2 : Fin 3) d)) (Fin.ext hd.symm)) (ul x1 x3 _ _ _ _ r l d (by omega) (by omega)))
  case piece1 =>
    obtain ⟨l, rfl, hd⟩ := pick x r 512 d h0 h1
    exact (aK2 x0 x1 x4 _ _ _ _ _ r l).trans (comb _ _ _ _ _ _ _ _ _ _ _ _ _ _ (gl x1 x3 _ _ r l _ (by simp only; omega)) (congrArg (fun d => x4 (ix2 (0 : Fin 3) d)) (Fin.ext hd.symm)) (sl x2 _ _ r l _ (by simp only; omega)) (congrArg (fun d => x4 (ix2 (1 : Fin 3) d)) (Fin.ext hd.symm)) (sl x2 _ _ r l _ (by simp only; omega)) (congrArg (fun d => x4 (ix2 (2 : Fin 3) d)) (Fin.ext hd.symm)) (ul x1 x3 _ _ _ _ r l d (by omega) (by omega)))
  case piece2 =>
    obtain ⟨l, rfl, hd⟩ := pick x r 256 d h0 h1
    exact (aK1 x0 x1 x4 _ _ _ _ _ r l).trans (comb _ _ _ _ _ _ _ _ _ _ _ _ _ _ (gl x1 x3 _ _ r l _ (by simp only; omega)) (congrArg (fun d => x4 (ix2 (0 : Fin 3) d)) (Fin.ext hd.symm)) (sl x2 _ _ r l _ (by simp only; omega)) (congrArg (fun d => x4 (ix2 (1 : Fin 3) d)) (Fin.ext hd.symm)) (sl x2 _ _ r l _ (by simp only; omega)) (congrArg (fun d => x4 (ix2 (2 : Fin 3) d)) (Fin.ext hd.symm)) (ul x1 x3 _ _ _ _ r l d (by omega) (by omega)))
  case piece3 =>
    obtain ⟨l, rfl, hd⟩ := pick x r 0 d h0 (h1.trans (Nat.zero_add _).symm)
    exact (aK0 x0 x1 x4 _ _ _ _ _ r l).trans (comb _ _ _ _ _ _ _ _ _ _ _ _ _ _ (gl x1 x3 _ _ r l _ (by simp only; omega)) (congrArg (fun d => x4 (ix2 (0 : Fin 3) d)) (Fin.ext hd.symm)) (sl x2 _ _ r l _ (by simp only; omega)) (congrArg (fun d => x4 (ix2 (1 : Fin 3) d)) (Fin.ext hd.symm)) (sl x2 _ _ r l _ (by simp only; omega)) (congrArg (fun d => x4 (ix2 (2 : Fin 3) d)) (Fin.ext hd.symm)) (ul x1 x3 _ _ _ _ r l d (by omega) (by omega)))

/-- The two rows the stream keeps for the next token. -/
abbrev NB (x1 : FVec Ideal S32x2048 .bf16) (x2 : FVec Ideal S32x2048 .f32) (x3 : FVec Ideal S2048x3072 .bf16) (r : Fin 32) (e : Fin 2048) : EReal :=
  if h : e.val < 1024 then x2 (ix2 r (⟨1024 + e.val, by omega⟩ : Fin 2048)) else UB x1 x3 r (⟨e.val - 1024, by omega⟩ : Fin 1024)

set_option maxHeartbeats 4000000 in
theorem ao11_apply  (r : Fin 32) (e : Fin 2048) : ao11 (F := Ideal) x0 x1 x2 x3 (ix2 r e) = NB x1 x2 x3 r e := by
  unfold ao11
  canon_tiles x h
  case piece0 =>
    obtain ⟨l, rfl, hd⟩ := pick x r 1792 e h0 h1
    refine Eq.trans ?_ (dif_neg (by omega : ¬ e.val < 1024)).symm
    exact (aM3 x0 x1 _ _ r l).trans (ul x1 x3 _ _ _ _ r l _ (by simp only; omega) (by simp only; omega))
  case piece1 =>
    obtain ⟨l, rfl, hd⟩ := pick x r 768 e h0 h1
    refine Eq.trans ?_ (dif_pos (by omega : e.val < 1024)).symm
    exact (aN3 _ r l).trans (sl x2 _ _ r l _ (by simp only; omega))
  case piece2 =>
    obtain ⟨l, rfl, hd⟩ := pick x r 1536 e h0 h1
    refine Eq.trans ?_ (dif_neg (by omega : ¬ e.val < 1024)).symm
    exact (aM2 x0 x1 _ _ r l).trans (ul x1 x3 _ _ _ _ r l _ (by simp only; omega) (by simp only; omega))
  case piece3 =>
    obtain ⟨l, rfl, hd⟩ := pick x r 512 e h0 h1
    refine Eq.trans ?_ (dif_pos (by omega : e.val < 1024)).symm
    exact (aN2 _ r l).trans (sl x2 _ _ r l _ (by simp only; omega))
  case piece4 =>
    obtain ⟨l, rfl, hd⟩ := pick x r 1280 e h0 h1
    refine Eq.trans ?_ (dif_neg (by omega : ¬ e.val < 1024)).symm
    exact (aM1 x0 x1 _ _ r l).trans (ul x1 x3 _ _ _ _ r l _ (by simp only; omega) (by simp only; omega))
  case piece5 =>
    obtain ⟨l, rfl, hd⟩ := pick x r 256 e h0 h1
    refine Eq.trans ?_ (dif_pos (by omega : e.val < 1024)).symm
    exact (aN1 _ r l).trans (sl x2 _ _ r l _ (by simp only; omega))
  case piece6 =>
    obtain ⟨l, rfl, hd⟩ := pick x r 1024 e h0 h1
    refine Eq.trans ?_ (dif_neg (by omega : ¬ e.val < 1024)).symm
    exact (aM0 x0 x1 _ _ r l).trans (ul x1 x3 _ _ _ _ r l _ (by simp only; omega) (by simp only; omega))
  case piece7 =>
    obtain ⟨l, rfl, hd⟩ := pick x r 0 e h0 (h1.trans (Nat.zero_add _).symm)
    refine Eq.trans ?_ (dif_pos (by omega : e.val < 1024)).symm
    exact (aN0 _ r l).trans (sl x2 _ _ r l _ (by simp only; omega))

end Cert.Kernel3Ideal.Conv

end
-- ==== Proof.ConvValue.lean ====
/- The gated short convolution's four result arrays over the extended reals. -/
module

public import proofs.«01_k».proof.Proof.ConvRun
public import proofs.«01_k».proof.Proof.ConvTile

@[expose] public section

set_option maxRecDepth 16384

noncomputable section

namespace Cert.Kernel3Ideal.Conv

open Idealize.ShloMosaic Idealize.ShloMosaic.TcCoe Idealize.SL.Sem
open Idealize.ShloMosaic.Pipeline (Dat)
open Cert.Kernel3Ideal Cert.Kernel3Ideal.Gen Cert.Spec

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0] ∧ win0_8.index t = ![t.val, 0] ∧ win0_9.index t = ![t.val / 8, 0, 0] ∧ win0_10.index t = ![0, 0] ∧ win0_11.index t = ![0, 0] :=
  (by decide +kernel : ∀ t : Fin grid0.N, _)
theorem nlt (t : Fin cfg0.N) : t.val < 16 := lt_of_lt_of_eq t.isLt (show cfg0.N = 16 from N_0)

theorem castW (x : FVec Ideal S1x3x1024 .f32) (h : S1x3x1024.ShapeCasts S3x1024) (j : Fin 3) (d : Fin 1024) :
    shapeCast S3x1024 x h (ix2 j d) = x (ix3 (0 : Fin 1) j d) := by
  pointwise
theorem castT (x : FVec Ideal S1x32x2x1024 .f32) (h : S1x32x2x1024.ShapeCasts S32x2x1024) (h' : S32x2x1024.ShapeCasts S32x2048) (r : Fin 32) (e : Fin 2048) :
    shapeCast S32x2048 (shapeCast S32x2x1024 x h) h' (ix2 r e) = x (ix4 (0 : Fin 1) r (⟨e.val / 1024, by omega⟩ : Fin 2) (⟨e.val % 1024, by omega⟩ : Fin 1024)) := by
  pointwise

/-- The arrays the kernel reads. -/
abbrev HH (c : Dev nD) : FVec Ideal S8192x2048 .bf16 := m ((c : Thread nD τ).loc main_arg0)
abbrev HT (c : Dev nD) : FVec Ideal S32x2048 .bf16 := m ((c : Thread nD τ).loc main_arg1)
abbrev ST (c : Dev nD) : FVec Ideal S1x32x2x1024 .f32 := m ((c : Thread nD τ).loc main_arg2)
abbrev WW (c : Dev nD) : FVec Ideal S2048x3072 .bf16 := m ((c : Thread nD τ).loc main_arg3)
abbrev CW (c : Dev nD) : FVec Ideal S1x3x1024 .f32 := m ((c : Thread nD τ).loc main_arg4)

abbrev F8 (c : Dev nD) : FVec Ideal S8192x1024 .bf16 := fun i => FC (HH m c) (WW m c) (CW m c) (i 0) (i 1)
abbrev F9 (c : Dev nD) : FVec Ideal S2x8x1024 .f32 := fun i => UB (HH m c) (WW m c)
  (⟨4096 * (show Fin 2 from i 0).val + 4088 + (show Fin 8 from i 1).val, by omega⟩ : Fin 8192) (i 2)
abbrev F10 (c : Dev nD) : FVec Ideal S32x1024 .bf16 := fun i => FT (HT m c) (ST m c) (WW m c) (CW m c) (i 0) (i 1)
abbrev F11 (c : Dev nD) : FVec Ideal S32x2048 .f32 := fun i => FK (HT m c) (ST m c) (WW m c) (i 0) (i 1)

set_option maxHeartbeats 1000000 in
theorem iblk0 (c : Dev nD) (t : Fin cfg0.N) (r : Fin 512) (k : Fin 2048) (R : Fin 8192) (hR : R.val = 512 * t.val + r.val) :
    (show FVec Ideal S512x2048 .bf16 from iblk m c 0 t) (ix2 r k) = HH m c (ix2 R k) := by
  have e0 : V m c main_arg0 = HH m c := by entry_read; rfl
  have e2 : (show FVec Ideal S512x2048 .bf16 from iblk m c 0 t) (ix2 r k) = (show FVec Ideal S8192x2048 .bf16 from V m c main_arg0) (ix2 R k) := by
    blk_ext [iblk, idx t]
  rw [e2, e0]

set_option maxHeartbeats 1000000 in
theorem iblk1 (c : Dev nD) (t : Fin cfg0.N) (r : Fin 32) (k : Fin 2048) :
    (show FVec Ideal S32x2048 .bf16 from iblk m c 1 t) (ix2 r k) = HT m c (ix2 r k) := by
  have e0 : V m c main_arg1 = HT m c := by entry_read; rfl
  have e2 : (show FVec Ideal S32x2048 .bf16 from iblk m c 1 t) (ix2 r k) = (show FVec Ideal S32x2048 .bf16 from V m c main_arg1) (ix2 r k) := by
    blk_ext [iblk, idx t]
  rw [e2, e0]

set_option maxHeartbeats 1000000 in
theorem iblk2 (c : Dev nD) (t : Fin cfg0.N) (r : Fin 32) (e : Fin 2048) :
    (show FVec Ideal S32x2048 .f32 from iblk m c 2 t) (ix2 r e) = ST m c (ix4 (0 : Fin 1) r (⟨e.val / 1024, by omega⟩ : Fin 2) (⟨e.val % 1024, by omega⟩ : Fin 1024)) := by
  have e0 : V m c main_v1 = shapeCast S32x2048 (shapeCast S32x2x1024 (m ((c : Thread nD τ).loc main_arg2)) shapeCasts_S1x32x2x1024_S32x2x1024) shapeCasts_S32x2x1024_S32x2048 := by entry_read; rfl
  have e2 : (show FVec Ideal S32x2048 .f32 from iblk m c 2 t) (ix2 r e) = (show FVec Ideal S32x2048 .f32 from V m c main_v1) (ix2 r e) := by
    blk_ext [iblk, idx t]
  rw [e2, e0]
  exact castT _ _ _ r e

set_option maxHeartbeats 1000000 in
theorem iblk3 (c : Dev nD) (t : Fin cfg0.N) (k : Fin 2048) (e : Fin 3072) :
    (show FVec Ideal S2048x3072 .bf16 from iblk m c 3 t) (ix2 k e) = WW m c (ix2 k e) := by
  have e0 : V m c main_arg3 = WW m c := by entry_read; rfl
  have e2 : (show FVec Ideal S2048x3072 .bf16 from iblk m c 3 t) (ix2 k e) = (show FVec Ideal S2048x3072 .bf16 from V m c main_arg3) (ix2 k e) := by
    blk_ext [iblk, idx t]
  rw [e2, e0]

set_option maxHeartbeats 1000000 in
theorem iblk4 (c : Dev nD) (t : Fin cfg0.N) (j : Fin 3) (d : Fin 1024) :
    (show FVec Ideal S3x1024 .f32 from iblk m c 4 t) (ix2 j d) = CW m c (ix3 (0 : Fin 1) j d) := by
  have e0 : V m c main_v2 = shapeCast S3x1024 (m ((c : Thread nD τ).loc main_arg4)) shapeCasts_S1x3x1024_S3x1024 := by entry_read; rfl
  have e2 : (show FVec Ideal S3x1024 .f32 from iblk m c 4 t) (ix2 j d) = (show FVec Ideal S3x1024 .f32 from V m c main_v2) (ix2 j d) := by
    blk_ext [iblk, idx t]
  rw [e2, e0]
  exact castW _ _ j d

theorem gP (c : Dev nD) (t : Fin cfg0.N) (r : Fin 512) (R : Fin 8192) (hR : R.val = 512 * t.val + r.val) (e : Fin 3072) :
    GB (R := 512) (iblk m c 0 t) (E := 3072) (iblk m c 3 t) r e = GB (HH m c) (WW m c) R e :=
  Finset.sum_congr rfl fun k _ => congrArg₂ (· * ·) (iblk0 m c t r k R hR) (iblk3 m c t k e)
theorem gS (c : Dev nD) (t : Fin cfg0.N) (r : Fin 32) (e : Fin 3072) :
    GB (R := 32) (iblk m c 1 t) (E := 3072) (iblk m c 3 t) r e = GB (HT m c) (WW m c) r e :=
  Finset.sum_congr rfl fun k _ => congrArg₂ (· * ·) (iblk1 m c t r k) (iblk3 m c t k e)
theorem uP (c : Dev nD) (t : Fin cfg0.N) (r : Fin 512) (R : Fin 8192) (hR : R.val = 512 * t.val + r.val) (d : Fin 1024) :
    UB (R := 512) (iblk m c 0 t) (iblk m c 3 t) r d = UB (HH m c) (WW m c) R d :=
  congrArg₂ (· * ·) (gP m c t r R hR _) (gP m c t r R hR _)
theorem uS (c : Dev nD) (t : Fin cfg0.N) (r : Fin 32) (d : Fin 1024) :
    UB (R := 32) (iblk m c 1 t) (iblk m c 3 t) r d = UB (HT m c) (WW m c) r d :=
  congrArg₂ (· * ·) (gS m c t r _) (gS m c t r _)

/-- After a grid point the scratch holds that tile's products from its ninth row on, whichever way the point went. -/
theorem sc_row (c : Dev nD) (t : Fin cfg0.N) (n : Fin 520) (r : Fin 512) (hn : n.val = 8 + r.val) (d : Fin 1024) (R : Fin 8192) (hR : R.val = 512 * t.val + r.val) :
    sc m c t.val t.isLt (ix2 n d) = UB (HH m c) (WW m c) R d := by
  by_cases h : t.val = 0
  · rw [sc_A m c t h]
    exact (ao15_apply _ _ _ n r hn d).trans (uP m c t r R hR d)
  · by_cases h8 : t.val % 8 = 0
    · rw [sc_B m c t h h8]
      exact (bo15_apply _ _ n r hn d).trans (uP m c t r R hR d)
    · rw [sc_C m c t h8]
      exact (co15_apply _ _ _ n r hn d).trans (uP m c t r R hR d)

/-- A tile that opens a sequence sees zeros above it, -/
theorem prv_open (c : Dev nD) (t : Fin cfg0.N) (h8 : t.val % 8 = 0) (r : Fin 512) (R : Fin 8192) (hR : R.val = 512 * t.val + r.val) (o j : ℕ) (ho : o + j = 8) (hn) (d : Fin 1024) :
    ext (fun _ _ => 0) (UB (R := 512) (iblk m c 0 t) (iblk m c 3 t)) (o + r.val) hn d = prv (HH m c) (WW m c) j R d := by
  unfold ext prv
  by_cases h : o + r.val < 8
  · exact (dif_pos h).trans (if_pos (by omega)).symm
  · refine (dif_neg h).trans (Eq.trans ?_ (if_neg (by omega)).symm)
    exact uP m c t _ _ (by simp only; omega) d
/-- and any other tile the last rows of the tile above it. -/
theorem prv_cont (c : Dev nD) (t : Fin cfg0.N) (h8 : ¬t.val % 8 = 0) (r : Fin 512) (R : Fin 8192) (hR : R.val = 512 * t.val + r.val) (o j : ℕ) (ho : o + j = 8) (hn) (d : Fin 1024) :
    ext (fun j d => scp m c t (ix2 (⟨512 + j.val, by omega⟩ : Fin 520) d)) (UB (R := 512) (iblk m c 0 t) (iblk m c 3 t)) (o + r.val) hn d = prv (HH m c) (WW m c) j R d := by
  unfold ext prv
  refine Eq.trans ?_ (if_neg (by omega)).symm
  by_cases h : o + r.val < 8
  · refine (dif_pos h).trans ?_
    exact sc_row m c ⟨t.val - 1, Nat.lt_of_le_of_lt (Nat.sub_le _ _) t.isLt⟩ _ (⟨504 + (o + r.val), by omega⟩ : Fin 512) (by simp only; omega) d _ (by simp only; omega)
  · refine (dif_neg h).trans ?_
    exact uP m c t _ _ (by simp only; omega) d

theorem point8 (c : Dev nD) (t : Fin cfg0.N) (r : Fin 512) (d : Fin 1024) (R : Fin 8192) (hR : R.val = 512 * t.val + r.val) :
    tv8 m c t (ix2 r d) = F8 m c (ix2 R d) := by
  by_cases h : t.val = 0
  · rw [tv8_A m c t h]
    exact (ao8_apply _ _ _ _ r d).trans (comb _ _ _ _ _ _ _ _ _ _ _ _ _ _ (gP m c t r R hR _) (iblk4 m c t _ d) (prv_open m c t (by omega) r R hR 6 2 rfl _ d)
      (iblk4 m c t _ d) (prv_open m c t (by omega) r R hR 7 1 rfl _ d) (iblk4 m c t _ d) (uP m c t r R hR d))
  · by_cases h8 : t.val % 8 = 0
    · rw [tv8_B m c t h h8]
      exact (bo8_apply _ _ _ r d).trans (comb _ _ _ _ _ _ _ _ _ _ _ _ _ _ (gP m c t r R hR _) (iblk4 m c t _ d) (prv_open m c t h8 r R hR 6 2 rfl _ d)
        (iblk4 m c t _ d) (prv_open m c t h8 r R hR 7 1 rfl _ d) (iblk4 m c t _ d) (uP m c t r R hR d))
    · rw [tv8_C m c t h h8]
      exact (co8_apply _ _ _ _ r d).trans (comb _ _ _ _ _ _ _ _ _ _ _ _ _ _ (gP m c t r R hR _) (iblk4 m c t _ d) (prv_cont m c t h8 r R hR 6 2 rfl _ d)
        (iblk4 m c t _ d) (prv_cont m c t h8 r R hR 7 1 rfl _ d) (iblk4 m c t _ d) (uP m c t r R hR d))
theorem point9 (c : Dev nD) (t : Fin cfg0.N) (h7 : t.val % 8 = 7) (j : Fin 8) (d : Fin 1024) (b : Fin 2) (hb : b.val = t.val / 8) :
    tv9 m c t (ix3 (0 : Fin 1) j d) = F9 m c (ix3 b j d) := by
  have hR : (⟨4096 * b.val + 4088 + j.val, by omega⟩ : Fin 8192).val = 512 * t.val + (⟨504 + j.val, by omega⟩ : Fin 512).val := by
    simp only; omega
  rw [tv9_C m c t (by omega) (by omega)]
  exact (co9_apply _ _ j d).trans (uP m c t _ _ hR d)
theorem point10 (c : Dev nD) (r : Fin 32) (d : Fin 1024) : sv10 m c (ix2 r d) = F10 m c (ix2 r d) := by
  refine (ao10_apply _ _ _ _ _ r d).trans (comb _ _ _ _ _ _ _ _ _ _ _ _ _ _ (gS m c t0 r _) (iblk4 m c t0 _ d) ((iblk2 m c t0 r _).trans (congrArg (ST m c) ?_))
    (iblk4 m c t0 _ d) ((iblk2 m c t0 r _).trans (congrArg (ST m c) ?_)) (iblk4 m c t0 _ d) (uS m c t0 r d))
  · congr 1 <;> apply Fin.ext <;> first | (simp only; omega) | (show d.val / 1024 = 0; omega) | (show d.val % 1024 = d.val; omega)
  · congr 1 <;> apply Fin.ext <;> first | (simp only; omega) | (show (1024 + d.val) / 1024 = 1; omega) | (show (1024 + d.val) % 1024 = d.val; omega)
theorem point11 (c : Dev nD) (r : Fin 32) (e : Fin 2048) : sv11 m c (ix2 r e) = F11 m c (ix2 r e) := by
  refine (ao11_apply _ _ _ _ r e).trans ?_
  show _ = FK (HT m c) (ST m c) (WW m c) r e
  unfold FK NB
  by_cases h : e.val < 1024
  · rw [dif_pos h, dif_pos h]
    refine (iblk2 m c t0 r _).trans (congrArg (ST m c) ?_)
    congr 1 <;> apply Fin.ext <;> first | (simp only; omega) | (show (1024 + e.val) / 1024 = 1; omega) | (show (1024 + e.val) % 1024 = e.val; omega)
  · rw [dif_neg h, dif_neg h]
    exact uS m c t0 r _

theorem final8 (c : Dev nD) : (dats m 0 c).arrAt 8 (cfgs 0).N = F8 m c := by
  refine (dats m 0 c).arrAt_eq_of_covers 8 _ (by decide +kernel) fun t hf y => ?_
  blk_simp
  rw [after_8]
  refine (congrArg (tv8 m c t) (eq_ix2 (show S512x1024.Idx from y))).trans ((point8 m c t _ _ ⟨512 * t.val + ((show S512x1024.Idx from y) 0).val, ?_⟩ rfl).trans (congrArg (F8 m c) ?_))
  · have := nlt t; have h2 : ((show S512x1024.Idx from y) 0).val < 512 := ((show S512x1024.Idx from y) 0).isLt; omega
  · blk_ext [idx t]

theorem final9 (c : Dev nD) : (dats m 0 c).arrAt 9 (cfgs 0).N = F9 m c := by
  refine (dats m 0 c).arrAt_eq_of_covers 9 _ (by decide +kernel) fun t hf y => ?_
  have h7 := (flush0_9 t).mp hf
  blk_simp
  rw [after_9]
  have hy : (show S1x8x1024.Idx from y) = ix3 (0 : Fin 1) ((show S1x8x1024.Idx from y) 1) ((show S1x8x1024.Idx from y) 2) :=
    (eq_ix3 (show S1x8x1024.Idx from y)).trans (congrArg (fun a : Fin 1 => ix3 a ((show S1x8x1024.Idx from y) 1) ((show S1x8x1024.Idx from y) 2)) (Subsingleton.elim _ _))
  refine (congrArg (tv9 m c t) hy).trans ((point9 m c t h7 _ _ ⟨t.val / 8, by have := nlt t; omega⟩ rfl).trans (congrArg (F9 m c) ?_))
  have h2 : ((show S1x8x1024.Idx from y) 0).val < 1 := ((show S1x8x1024.Idx from y) 0).isLt
  blk_ext [idx t]

theorem final10 (c : Dev nD) : (dats m 0 c).arrAt 10 (cfgs 0).N = F10 m c := by
  refine (dats m 0 c).arrAt_eq_of_covers 10 _ (by decide +kernel) fun t hf y => ?_
  blk_simp
  rw [after_10]
  refine (congrArg (sv10 m c) (eq_ix2 (show S32x1024.Idx from y))).trans ((point10 m c _ _).trans (congrArg (F10 m c) ?_))
  blk_ext [idx t]

theorem final11 (c : Dev nD) : (dats m 0 c).arrAt 11 (cfgs 0).N = F11 m c := by
  refine (dats m 0 c).arrAt_eq_of_covers 11 _ (by decide +kernel) fun t hf y => ?_
  blk_simp
  rw [after_11]
  refine (congrArg (sv11 m c) (eq_ix2 (show S32x2048.Idx from y))).trans ((point11 m c _ _).trans (congrArg (F11 m c) ?_))
  blk_ext [idx t]

end Cert.Kernel3Ideal.Conv

end
-- ==== Proof.ConvRef.lean ====
/- The convolution reference's results, read at an index over the extended reals. -/
module

public import proofs.«01_k».proof.Proof.ConvSpec
public import proofs.«01_k».proof.Proof.Gen.Reference3Ideal.Run

@[expose] public section

set_option maxRecDepth 16384

noncomputable section

namespace Cert.Reference3Ideal.Conv

open Idealize.ShloMosaic Idealize.ShloMosaic.TcCoe Idealize.SL.Sem
open Idealize.ShloMosaic.Pipeline (Dat)
open Cert.Reference3Ideal Cert.Reference3Ideal.Gen Cert.Spec

/-- The prefill rows' product with the weights. -/
def zP (h : FVec Ideal S8192x2048 .bf16) (w : FVec Ideal S2048x3072 .bf16) : FVec Ideal S8192x3072 .f32 := (Host.dotGeneral dot_S8192x2048_S2048x3072_S8192x3072_1_0_0_1_n_n none (extf .f32 h bitsLt_bf16_f32) (extf .f32 w bitsLt_bf16_f32))
theorem zP_apply (h : FVec Ideal S8192x2048 .bf16) (w : FVec Ideal S2048x3072 .bf16) (r : Fin 8192) (e : Fin 3072) : zP h w (ix2 r e) = GB h w r e := by
  pointwise [zP, GB]
/-- The tokens' product with the weights. -/
def zS (hs : FVec Ideal S32x2048 .bf16) (w : FVec Ideal S2048x3072 .bf16) : FVec Ideal S32x3072 .f32 := (Host.dotGeneral dot_S32x2048_S2048x3072_S32x3072_1_0_0_1_n_n none (extf .f32 hs bitsLt_bf16_f32) (extf .f32 w bitsLt_bf16_f32))
theorem zS_apply (hs : FVec Ideal S32x2048 .bf16) (w : FVec Ideal S2048x3072 .bf16) (r : Fin 32) (e : Fin 3072) : zS hs w (ix2 r e) = GB hs w r e := by
  pointwise [zS, GB]
/-- What the prefill's convolution runs over. -/
def uP (z : FVec Ideal S8192x3072 .f32) : FVec Ideal S2x4096x1024 .f32 := (mulf (extractStridedSlice S2x4096x1024 ![0, 0, 1024] (shapeCast _ z shapeCasts_S8192x3072_S2x4096x3072) slices_S2x4096x3072_S2x4096x1024_0_0_1024) (extractStridedSlice S2x4096x1024 ![0, 0, 2048] (shapeCast _ z shapeCasts_S8192x3072_S2x4096x3072) slices_S2x4096x3072_S2x4096x1024_0_0_2048))
theorem uP_apply (z : FVec Ideal S8192x3072 .f32) (b : Fin 2) (s : Fin 4096) (d : Fin 1024) : uP z (ix3 b s d) = z (ix2 (⟨b.val * 4096 + s.val, by omega⟩ : Fin 8192) (⟨1024 + d.val, by omega⟩ : Fin 3072)) * z (ix2 (⟨b.val * 4096 + s.val, by omega⟩ : Fin 8192) (⟨2048 + d.val, by omega⟩ : Fin 3072)) := by
  pointwise [uP]
/-- What the tokens' convolution runs over. -/
def uS (z : FVec Ideal S32x3072 .f32) : FVec Ideal S32x1x1024 .f32 := (mulf (extractStridedSlice S32x1x1024 ![0, 0, 1024] (shapeCast _ z shapeCasts_S32x3072_S32x1x3072) slices_S32x1x3072_S32x1x1024_0_0_1024) (extractStridedSlice S32x1x1024 ![0, 0, 2048] (shapeCast _ z shapeCasts_S32x3072_S32x1x3072) slices_S32x1x3072_S32x1x1024_0_0_2048))
theorem uS_apply (z : FVec Ideal S32x3072 .f32) (r : Fin 32) (d : Fin 1024) : uS z (ix3 r (0 : Fin 1) d) = z (ix2 r (⟨1024 + d.val, by omega⟩ : Fin 3072)) * z (ix2 r (⟨2048 + d.val, by omega⟩ : Fin 3072)) := by
  pointwise [uS]
/-- A sequence under two rows of zeros. -/
def pd (u : FVec Ideal S2x4096x1024 .f32) (b : Fin 2) (n : ℕ) (hn : n < 4098) (d : Fin 1024) : EReal := if h : n < 2 then 0 else u (ix3 b (⟨n - 2, by omega⟩ : Fin 4096) d)
/-- The prefill's first result over its parts. -/
def rC (z : FVec Ideal S8192x3072 .f32) (cw : FVec Ideal S1x3x1024 .f32) (u : FVec Ideal S2x4096x1024 .f32) : FVec Ideal S8192x1024 .bf16 := truncf .bf16 (shapeCast _ (mulf (extractStridedSlice S2x4096x1024 ![0, 0, 0] (shapeCast _ z shapeCasts_S8192x3072_S2x4096x3072) slices_S2x4096x3072_S2x4096x1024_0_0_0) (addf (addf (mulf (broadcastInDim S2x4096x1024 ![0, 1, 2] bcast_S1x1x1024_S2x4096x1024_0_1_2 (broadcastInDim S1x1x1024 ![2] bcast_S1024_S1x1x1024_2 (shapeCast _ (extractStridedSlice S1x1024 ![0, 0] (shapeCast _ cw shapeCasts_S1x3x1024_S3x1024) slices_S3x1024_S1x1024_0_0) shapeCasts_S1x1024_S1024))) (extractStridedSlice S2x4096x1024 ![0, 0, 0] (concatenate S2x4098x1024 1 [⟨S2x2x1024, (broadcastInDim S2x2x1024 ![] bcast_S_S2x2x1024 (constant S_ .f32 0x00000000#32))⟩, ⟨S2x4096x1024, u⟩] concatenates_S2x2x1024_S2x4096x1024_S2x4098x1024_d1) slices_S2x4098x1024_S2x4096x1024_0_0_0)) (mulf (broadcastInDim S2x4096x1024 ![0, 1, 2] bcast_S1x1x1024_S2x4096x1024_0_1_2 (broadcastInDim S1x1x1024 ![2] bcast_S1024_S1x1x1024_2 (shapeCast _ (extractStridedSlice S1x1024 ![1, 0] (shapeCast _ cw shapeCasts_S1x3x1024_S3x1024) slices_S3x1024_S1x1024_1_0) shapeCasts_S1x1024_S1024))) (extractStridedSlice S2x4096x1024 ![0, 1, 0] (concatenate S2x4098x1024 1 [⟨S2x2x1024, (broadcastInDim S2x2x1024 ![] bcast_S_S2x2x1024 (constant S_ .f32 0x00000000#32))⟩, ⟨S2x4096x1024, u⟩] concatenates_S2x2x1024_S2x4096x1024_S2x4098x1024_d1) slices_S2x4098x1024_S2x4096x1024_0_1_0))) (mulf (broadcastInDim S2x4096x1024 ![0, 1, 2] bcast_S1x1x1024_S2x4096x1024_0_1_2 (broadcastInDim S1x1x1024 ![2] bcast_S1024_S1x1x1024_2 (shapeCast _ (extractStridedSlice S1x1024 ![2, 0] (shapeCast _ cw shapeCasts_S1x3x1024_S3x1024) slices_S3x1024_S1x1024_2_0) shapeCasts_S1x1024_S1024))) (extractStridedSlice S2x4096x1024 ![0, 2, 0] (concatenate S2x4098x1024 1 [⟨S2x2x1024, (broadcastInDim S2x2x1024 ![] bcast_S_S2x2x1024 (constant S_ .f32 0x00000000#32))⟩, ⟨S2x4096x1024, u⟩] concatenates_S2x2x1024_S2x4096x1024_S2x4098x1024_d1) slices_S2x4098x1024_S2x4096x1024_0_2_0)))) shapeCasts_S2x4096x1024_S8192x1024) bitsLt_bf16_f32
set_option maxHeartbeats 4000000 in
theorem rC_apply (z : FVec Ideal S8192x3072 .f32) (cw : FVec Ideal S1x3x1024 .f32) (u : FVec Ideal S2x4096x1024 .f32) (r : Fin 8192) (d : Fin 1024) : rC z cw u (ix2 r d) = z (ix2 r (⟨d.val, by omega⟩ : Fin 3072)) * (cw (ix3 (0 : Fin 1) (0 : Fin 3) d) * pd u (⟨r.val / 4096, by omega⟩ : Fin 2) (r.val % 4096) (by omega) d
    + cw (ix3 (0 : Fin 1) (1 : Fin 3) d) * pd u (⟨r.val / 4096, by omega⟩ : Fin 2) (1 + r.val % 4096) (by omega) d + cw (ix3 (0 : Fin 1) (2 : Fin 3) d) * pd u (⟨r.val / 4096, by omega⟩ : Fin 2) (2 + r.val % 4096) (by omega) d) := by
  pointwise [rC, pd]
  all_goals rfl
/-- The prefill's last rows. -/
def rL (u : FVec Ideal S2x4096x1024 .f32) : FVec Ideal S2x8x1024 .f32 := extractStridedSlice S2x8x1024 ![0, 4088, 0] u slices_S2x4096x1024_S2x8x1024_0_4088_0
theorem rL_apply (u : FVec Ideal S2x4096x1024 .f32) (b : Fin 2) (j : Fin 8) (d : Fin 1024) : rL u (ix3 b j d) = u (ix3 b (⟨4088 + j.val, by omega⟩ : Fin 4096) d) := by
  pointwise [rL]
/-- The tokens' first result over its parts. -/
def rT (z : FVec Ideal S32x3072 .f32) (st : FVec Ideal S1x32x2x1024 .f32) (cw : FVec Ideal S1x3x1024 .f32) (u : FVec Ideal S32x1x1024 .f32) : FVec Ideal S32x1024 .bf16 := truncf .bf16 (shapeCast _ (mulf (extractStridedSlice S32x1x1024 ![0, 0, 0] (shapeCast _ z shapeCasts_S32x3072_S32x1x3072) slices_S32x1x3072_S32x1x1024_0_0_0) (addf (addf (mulf (broadcastInDim S32x1x1024 ![0, 1, 2] bcast_S1x1x1024_S32x1x1024_0_1_2 (broadcastInDim S1x1x1024 ![2] bcast_S1024_S1x1x1024_2 (shapeCast _ (extractStridedSlice S1x1024 ![0, 0] (shapeCast _ cw shapeCasts_S1x3x1024_S3x1024) slices_S3x1024_S1x1024_0_0) shapeCasts_S1x1024_S1024))) (extractStridedSlice S32x1x1024 ![0, 0, 0] (concatenate S32x3x1024 1 [⟨S32x2x1024, (shapeCast _ st shapeCasts_S1x32x2x1024_S32x2x1024)⟩, ⟨S32x1x1024, u⟩] concatenates_S32x2x1024_S32x1x1024_S32x3x1024_d1) slices_S32x3x1024_S32x1x1024_0_0_0)) (mulf (broadcastInDim S32x1x1024 ![0, 1, 2] bcast_S1x1x1024_S32x1x1024_0_1_2 (broadcastInDim S1x1x1024 ![2] bcast_S1024_S1x1x1024_2 (shapeCast _ (extractStridedSlice S1x1024 ![1, 0] (shapeCast _ cw shapeCasts_S1x3x1024_S3x1024) slices_S3x1024_S1x1024_1_0) shapeCasts_S1x1024_S1024))) (extractStridedSlice S32x1x1024 ![0, 1, 0] (concatenate S32x3x1024 1 [⟨S32x2x1024, (shapeCast _ st shapeCasts_S1x32x2x1024_S32x2x1024)⟩, ⟨S32x1x1024, u⟩] concatenates_S32x2x1024_S32x1x1024_S32x3x1024_d1) slices_S32x3x1024_S32x1x1024_0_1_0))) (mulf (broadcastInDim S32x1x1024 ![0, 1, 2] bcast_S1x1x1024_S32x1x1024_0_1_2 (broadcastInDim S1x1x1024 ![2] bcast_S1024_S1x1x1024_2 (shapeCast _ (extractStridedSlice S1x1024 ![2, 0] (shapeCast _ cw shapeCasts_S1x3x1024_S3x1024) slices_S3x1024_S1x1024_2_0) shapeCasts_S1x1024_S1024))) (extractStridedSlice S32x1x1024 ![0, 2, 0] (concatenate S32x3x1024 1 [⟨S32x2x1024, (shapeCast _ st shapeCasts_S1x32x2x1024_S32x2x1024)⟩, ⟨S32x1x1024, u⟩] concatenates_S32x2x1024_S32x1x1024_S32x3x1024_d1) slices_S32x3x1024_S32x1x1024_0_2_0)))) shapeCasts_S32x1x1024_S32x1024) bitsLt_bf16_f32
set_option maxHeartbeats 4000000 in
theorem rT_apply (z : FVec Ideal S32x3072 .f32) (st : FVec Ideal S1x32x2x1024 .f32) (cw : FVec Ideal S1x3x1024 .f32) (u : FVec Ideal S32x1x1024 .f32) (r : Fin 32) (d : Fin 1024) : rT z st cw u (ix2 r d) = z (ix2 r (⟨d.val, by omega⟩ : Fin 3072)) * (cw (ix3 (0 : Fin 1) (0 : Fin 3) d) * st (ix4 (0 : Fin 1) r (0 : Fin 2) d)
    + cw (ix3 (0 : Fin 1) (1 : Fin 3) d) * st (ix4 (0 : Fin 1) r (1 : Fin 2) d) + cw (ix3 (0 : Fin 1) (2 : Fin 3) d) * u (ix3 r (0 : Fin 1) d)) := by
  pointwise [rT]
  all_goals rfl
/-- The rows kept for the next token, over their parts. -/
def rK (st : FVec Ideal S1x32x2x1024 .f32) (u : FVec Ideal S32x1x1024 .f32) : FVec Ideal S32x2048 .f32 := shapeCast _ (extractStridedSlice S32x2x1024 ![0, 1, 0] (concatenate S32x3x1024 1 [⟨S32x2x1024, (shapeCast _ st shapeCasts_S1x32x2x1024_S32x2x1024)⟩, ⟨S32x1x1024, u⟩] concatenates_S32x2x1024_S32x1x1024_S32x3x1024_d1) slices_S32x3x1024_S32x2x1024_0_1_0) shapeCasts_S32x2x1024_S32x2048
set_option maxHeartbeats 4000000 in
theorem rK_apply (st : FVec Ideal S1x32x2x1024 .f32) (u : FVec Ideal S32x1x1024 .f32) (r : Fin 32) (e : Fin 2048) : rK st u (ix2 r e) = if h : e.val < 1024 then st (ix4 (0 : Fin 1) r (1 : Fin 2) (⟨e.val, h⟩ : Fin 1024)) else u (ix3 r (0 : Fin 1) (⟨e.val - 1024, by omega⟩ : Fin 1024)) := by
  pointwise [rK]
  by_cases h : e.val < 1024
  · refine (dif_pos (by omega)).trans (Eq.trans ?_ (dif_pos h).symm)
    exact congrArg st (by congr 1 <;> apply Fin.ext <;> first | (simp only; omega) | (show 1 + e.val / 1024 = 1; omega))
  · refine (dif_neg (by omega)).trans (Eq.trans ?_ (dif_neg h).symm)
    exact congrArg u (by congr 1 <;> apply Fin.ext <;> first | (simp only; omega) | (show 1 + e.val / 1024 - 2 = 0; omega))

theorem pd_eq (h : FVec Ideal S8192x2048 .bf16) (w : FVec Ideal S2048x3072 .bf16) (r : Fin 8192) (o j : ℕ) (hj : o + j = 2) (hn) (d : Fin 1024) :
    pd (uP (zP h w)) (⟨r.val / 4096, by omega⟩ : Fin 2) (o + r.val % 4096) hn d = prv h w j r d := by
  unfold pd prv
  by_cases hh : r.val % 4096 < j
  · exact (dif_pos (by omega)).trans (if_pos hh).symm
  · refine (dif_neg (by omega)).trans (Eq.trans ?_ (if_neg hh).symm)
    refine (uP_apply _ _ _ d).trans (congrArg₂ (· * ·) ((zP_apply h w _ _).trans (congrArg (fun r => GB h w r _) (Fin.ext ?_))) ((zP_apply h w _ _).trans (congrArg (fun r => GB h w r _) (Fin.ext ?_))))
    all_goals simp only
    all_goals omega
theorem pd_self (h : FVec Ideal S8192x2048 .bf16) (w : FVec Ideal S2048x3072 .bf16) (r : Fin 8192) (hn) (d : Fin 1024) :
    pd (uP (zP h w)) (⟨r.val / 4096, by omega⟩ : Fin 2) (2 + r.val % 4096) hn d = UB h w r d := by
  unfold pd
  refine (dif_neg (by omega)).trans ?_
  refine (uP_apply _ _ _ d).trans (congrArg₂ (· * ·) ((zP_apply h w _ _).trans (congrArg (fun r => GB h w r _) (Fin.ext ?_))) ((zP_apply h w _ _).trans (congrArg (fun r => GB h w r _) (Fin.ext ?_))))
  all_goals simp only
  all_goals omega

theorem uS_eq (hs : FVec Ideal S32x2048 .bf16) (w : FVec Ideal S2048x3072 .bf16) (r : Fin 32) (d : Fin 1024) : uS (zS hs w) (ix3 r (0 : Fin 1) d) = UB hs w r d :=
  (uS_apply _ r d).trans (congrArg₂ (· * ·) (zS_apply hs w _ _) (zS_apply hs w _ _))
theorem pd0 (u : FVec Ideal S2x4096x1024 .f32) (b : Fin 2) (n n' : ℕ) (hn hn') (d : Fin 1024) (h : n = n') : pd u b n hn d = pd u b n' hn' d := by subst h; rfl
theorem rC_eq (h : FVec Ideal S8192x2048 .bf16) (w : FVec Ideal S2048x3072 .bf16) (cw : FVec Ideal S1x3x1024 .f32) (r : Fin 8192) (d : Fin 1024) : rC (zP h w) cw (uP (zP h w)) (ix2 r d) = FC h w cw r d := by
  refine (rC_apply _ _ _ r d).trans ?_
  rw [zP_apply, pd_self, pd_eq h w r 1 1 rfl, pd0 _ _ _ (0 + r.val % 4096) _ (by omega) _ (Nat.zero_add _).symm, pd_eq h w r 0 2 rfl]
theorem rT_eq (hs : FVec Ideal S32x2048 .bf16) (st : FVec Ideal S1x32x2x1024 .f32) (w : FVec Ideal S2048x3072 .bf16) (cw : FVec Ideal S1x3x1024 .f32) (r : Fin 32) (d : Fin 1024) : rT (zS hs w) st cw (uS (zS hs w)) (ix2 r d) = FT hs st w cw r d := by
  refine (rT_apply _ _ _ _ r d).trans ?_
  rw [zS_apply, uS_eq]
theorem rK_eq (hs : FVec Ideal S32x2048 .bf16) (st : FVec Ideal S1x32x2x1024 .f32) (w : FVec Ideal S2048x3072 .bf16) (r : Fin 32) (e : Fin 2048) : rK st (uS (zS hs w)) (ix2 r e) = FK hs st w r e := by
  refine (rK_apply _ _ r e).trans ?_
  unfold FK
  by_cases h : e.val < 1024
  · rw [dif_pos h, dif_pos h]
  · rw [dif_neg h, dif_neg h]
    exact uS_eq _ _ r _

variable (m : (ℓ : Loc nD τ sig) → Buf (Elt Ideal) ℓ) (c : Dev nD)
def res0 : FVec Ideal S8192x1024 .bf16 := rC (zP (m ((c.tc : Thread nD τ).loc main_arg0)) (m ((c.tc : Thread nD τ).loc main_arg3))) (m ((c.tc : Thread nD τ).loc main_arg4)) (uP (zP (m ((c.tc : Thread nD τ).loc main_arg0)) (m ((c.tc : Thread nD τ).loc main_arg3))))
def res1 : FVec Ideal S2x8x1024 .f32 := rL (uP (zP (m ((c.tc : Thread nD τ).loc main_arg0)) (m ((c.tc : Thread nD τ).loc main_arg3))))
def res2 : FVec Ideal S32x1024 .bf16 := rT (zS (m ((c.tc : Thread nD τ).loc main_arg1)) (m ((c.tc : Thread nD τ).loc main_arg3))) (m ((c.tc : Thread nD τ).loc main_arg2)) (m ((c.tc : Thread nD τ).loc main_arg4)) (uS (zS (m ((c.tc : Thread nD τ).loc main_arg1)) (m ((c.tc : Thread nD τ).loc main_arg3))))
def res3 : FVec Ideal S32x2048 .f32 := rK (m ((c.tc : Thread nD τ).loc main_arg2)) (uS (zS (m ((c.tc : Thread nD τ).loc main_arg1)) (m ((c.tc : Thread nD τ).loc main_arg3))))
theorem res0_apply (r : Fin 8192) (d : Fin 1024) : res0 m c (ix2 r d) = FC (m ((c.tc : Thread nD τ).loc main_arg0)) (m ((c.tc : Thread nD τ).loc main_arg3)) (m ((c.tc : Thread nD τ).loc main_arg4)) r d := rC_eq _ _ _ r d
theorem res1_apply (b : Fin 2) (j : Fin 8) (d : Fin 1024) : res1 m c (ix3 b j d) = UB (m ((c.tc : Thread nD τ).loc main_arg0)) (m ((c.tc : Thread nD τ).loc main_arg3)) (⟨4096 * b.val + 4088 + j.val, by omega⟩ : Fin 8192) d := by
  refine (rL_apply _ b j d).trans ?_
  refine (uP_apply _ _ _ d).trans (congrArg₂ (· * ·) ((zP_apply _ _ _ _).trans (congrArg (fun r => GB _ _ r _) (Fin.ext ?_))) ((zP_apply _ _ _ _).trans (congrArg (fun r => GB _ _ r _) (Fin.ext ?_))))
  all_goals simp only
  all_goals omega
theorem res2_apply (r : Fin 32) (d : Fin 1024) : res2 m c (ix2 r d) = FT (m ((c.tc : Thread nD τ).loc main_arg1)) (m ((c.tc : Thread nD τ).loc main_arg2)) (m ((c.tc : Thread nD τ).loc main_arg3)) (m ((c.tc : Thread nD τ).loc main_arg4)) r d := rT_eq _ _ _ _ r d
theorem res3_apply (r : Fin 32) (e : Fin 2048) : res3 m c (ix2 r e) = FK (m ((c.tc : Thread nD τ).loc main_arg1)) (m ((c.tc : Thread nD τ).loc main_arg2)) (m ((c.tc : Thread nD τ).loc main_arg3)) r e := rK_eq _ _ _ r e

end Cert.Reference3Ideal.Conv

end
-- ==== Proof.ConvClaims.lean ====
/- The claims about the gated short convolution, from its run and the values of its four results. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.ConvValue
public import proofs.«01_k».proof.Proof.ConvRef
public import Idealize.ShloMosaic.Adequacy
public import Idealize.ShloMosaic.Init
public import Idealize.ShloMosaic.Lib.Claim
public import Idealize.ShloMosaic.Lib.Quiescent

@[expose] public section

set_option maxHeartbeats 16000000

noncomputable section

namespace Cert.Proof

open Idealize.ShloMosaic Idealize.ShloMosaic.TcCoe Idealize.SL.Sem

section
variable {F : FTy → Type} [FloatOps F]
open Cert.Kernel3Ideal Cert.Kernel3Ideal.Gen
variable (m : (ℓ : Loc nD τ sig) → Buf (Elt F) ℓ) (ρ : Dev nD → PrngReg)

/-- The kernel's run, its arguments unchanged and the counters at zero. -/
theorem conv_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (Conv.dats m) (Conv.A_eq m) ((θ_run defs _ _).mono (fun _ h => h.1) (Conv.run_main m ρ)))
    ((θ_run defs _ _).mono (fun _ h => h.2) (Conv.run_main m ρ))

end

attribute [local instance] Cert.Kernel3.Gen.facts Cert.Kernel3Ideal.Gen.facts Cert.Reference3Ideal.Gen.facts

/-- The two texts' kernel functions are one function, -/
theorem conv_eq : Cert.Kernel3.cc0_conv (F := Bits) = Cert.Kernel3Ideal.cc0_conv (F := Bits) := rfl

/-- and so are their tables of bodies. -/
theorem conv_defs₀_eq : Cert.Kernel3.defs₀ (F := Bits) = Cert.Kernel3Ideal.defs₀ (F := Bits) := by
  unfold Cert.Kernel3.defs₀ Cert.Kernel3Ideal.defs₀
  refine congrArg Defs.onTc ?_
  funext l x
  fin_cases l
  rfl

theorem conv_defs_eq : Cert.Kernel3.defs (F := Bits) = Cert.Kernel3Ideal.defs (F := Bits) :=
  congrArg (Pipeline.defs _) conv_defs₀_eq

theorem conv_kernel : Cert.quiescent_Kernel3 := fun m ρ _ => by
  rw [conv_defs_eq]
  exact (θ_run Cert.Kernel3Ideal.defs _ _).mono (fun _ h => h) (conv_frame (F := Bits) m ρ)
theorem conv_ideal : Cert.quiescent_Kernel3Ideal := fun m ρ _ => conv_frame (F := Ideal) m ρ
theorem conv_reference : Cert.quiescent_Reference3Ideal := fun m ρ _ =>
  (θ_run Cert.Reference3Ideal.defs _ _).mono (fun r h => ⟨fun c => (h c).2.2.2.2, sem_eq_zero_of_no_sems rfl r.2⟩)
    (Cert.Reference3Ideal.Value.run m ρ)

theorem conv_algebraic : Cert.algebraic_Kernel3Ideal_Reference3Ideal := by
  intro m g m' g' _ hagree
  refine ⟨fun c => (Cert.Kernel3Ideal.Conv.dats m 0 c).arrAt 8 (Cert.Kernel3Ideal.cfgs 0).N,
    fun c => (Cert.Kernel3Ideal.Conv.dats m 0 c).arrAt 9 (Cert.Kernel3Ideal.cfgs 0).N,
    fun c => (Cert.Kernel3Ideal.Conv.dats m 0 c).arrAt 10 (Cert.Kernel3Ideal.cfgs 0).N,
    fun c => (Cert.Kernel3Ideal.Conv.dats m 0 c).arrAt 11 (Cert.Kernel3Ideal.cfgs 0).N, ?_, ?_⟩
  · have h := θ_run_and (Cert.Kernel3Ideal.Conv.run_main m g) (conv_frame m g)
    exact (θ_run Cert.Kernel3Ideal.defs _ _).mono (fun _ h c => ⟨(h.1.1 c).1 8, (h.1.1 c).1 9, (h.1.1 c).1 10, (h.1.1 c).1 11, h.2.1 c⟩) h
  · refine (θ_run Cert.Reference3Ideal.defs _ _).mono (fun _ h c => ⟨?_, ?_, ?_, ?_, (h c).2.2.2.2⟩) (Cert.Reference3Ideal.Value.run m' g')
    · refine (h c).1.trans (Eq.trans ?_ (Cert.Kernel3Ideal.Conv.final8 m c).symm)
      funext i
      refine (congrArg (Cert.Reference3Ideal.Conv.res0 m' c) (eq_ix2 i)).trans ((Cert.Reference3Ideal.Conv.res0_apply m' c (i 0) (i 1)).trans ?_)
      obtain ⟨h0, h1, h2, h3, h4, h5, h6⟩ := hagree c
      rw [h0, h3, h4]
    · refine (h c).2.1.trans (Eq.trans ?_ (Cert.Kernel3Ideal.Conv.final9 m c).symm)
      funext i
      refine (congrArg (Cert.Reference3Ideal.Conv.res1 m' c) (eq_ix3 i)).trans ((Cert.Reference3Ideal.Conv.res1_apply m' c (i 0) (i 1) (i 2)).trans ?_)
      obtain ⟨h0, h1, h2, h3, h4, h5, h6⟩ := hagree c
      rw [h0, h3]
    · refine (h c).2.2.1.trans (Eq.trans ?_ (Cert.Kernel3Ideal.Conv.final10 m c).symm)
      funext i
      refine (congrArg (Cert.Reference3Ideal.Conv.res2 m' c) (eq_ix2 i)).trans ((Cert.Reference3Ideal.Conv.res2_apply m' c (i 0) (i 1)).trans ?_)
      obtain ⟨h0, h1, h2, h3, h4, h5, h6⟩ := hagree c
      rw [h1, h2, h3, h4]
    · refine (h c).2.2.2.1.trans (Eq.trans ?_ (Cert.Kernel3Ideal.Conv.final11 m c).symm)
      funext i
      refine (congrArg (Cert.Reference3Ideal.Conv.res3 m' c) (eq_ix2 i)).trans ((Cert.Reference3Ideal.Conv.res3_apply m' c (i 0) (i 1)).trans ?_)
      obtain ⟨h0, h1, h2, h3, h4, h5, h6⟩ := hagree c
      rw [h1, h2, h3]

end Cert.Proof

end
-- ==== Proof.GatesBody.lean ====
/- What one grid point of the gates kernel does to its buffers: at the first tile, and at a later one. -/
module

public import proofs.«01_k».proof.Proof.Gen.Kernel4Ideal.Skeleton
public import proofs.«01_k».proof.Proof.Gen.Kernel4Ideal.Frame
public import proofs.«01_k».proof.Proof.Whole
public import Idealize.ShloMosaic.Lib.Pipeline.Value

@[expose] public section

set_option maxRecDepth 16384

noncomputable section

namespace Cert.Kernel4Ideal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

open Cert.Whole

set_option maxHeartbeats 4000000 in
/-- The first tile: the sample rows go along. -/
theorem body_A (c : Dev nD) (i : grid0.Coords) (arg1 : Memref sig .tc .vmem S512x2048 .bf16) (harg1 : arg1.IsWhole) (arg2 : Memref sig .tc .vmem S32x2048 .bf16) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S352x2048 .f32) (harg5 : arg5.IsWhole) (arg6 : Memref sig .tc .vmem S128x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S352x2048 .bf16) (harg13 : arg13.IsWhole) (arg14 : Memref sig .tc .vmem S128x2048 .bf16) (harg14 : arg14.IsWhole) (arg15 : Memref sig .tc .vmem S64x2048 .bf16) (harg15 : arg15.IsWhole) (arg16 : Memref sig .tc .vmem S64x2048 .bf16) (harg16 : arg16.IsWhole) (hc1 : k0_cond1 i = 1#1) (hc2 : ¬k0_cond2 i = 1#1)
    (x0 : Vec F S512x2048 .bf16) (x1 : Vec F S32x2048 .bf16) (x2 : Vec F S2048x2048 .bf16) (x3 : Vec F S2048x2048 .bf16) (x4 : Vec F S352x2048 .f32) (x5 : Vec F S128x2048 .f32) (x6 : Vec F S64x2048 .f32) (x7 : Vec F S64x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay7 x0 x1 x2) ∗ owns (c : Thread nD τ) arg10 fullShare (k0_pay10 x0 x1 x3) ∗ owns (c : Thread nD τ) arg11 fullShare (k0_pay8 x0 x1 x2) ∗ owns (c : Thread nD τ) arg12 fullShare (k0_pay11 x0 x1 x3) ∗ owns (c : Thread nD τ) arg13 fullShare (k0_pay1 x4) ∗ owns (c : Thread nD τ) arg14 fullShare (k0_pay2 x5) ∗ owns (c : Thread nD τ) arg15 fullShare (k0_pay3 x6) ∗ owns (c : Thread nD τ) arg16 fullShare (k0_pay4 x7)) -∗ K ⟨⟩))
    ⊢ wp frame (wpE (defs₀ (F := F)) Variants.none c none) E (cc0_gates i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gates_eq_skeleton]; unfold cc0_gates_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S512x2048) _ hz]
  isplitl [H9]
  · iexists _; isplitr; swap; · iexact H9
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S512x2048) _ hz]
  isplitl [H10]
  · iexists _; isplitr; swap; · iexact H10
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S32x2048) _ hz]
  isplitl [H11]
  · iexists _; isplitr; swap; · iexact H11
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S32x2048) _ hz]
  isplitl [H12]
  · iexists _; isplitr; swap; · iexact H12
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S352x2048) _ hz]
  isplitl [H13]
  · iexists _; isplitr; swap; · iexact H13
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S128x2048) _ hz]
  isplitl [H14]
  · iexists _; isplitr; swap; · iexact H14
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S64x2048) _ hz]
  iexists _; isplitr; swap; · iexact H15
  ipureintro
  sl_unfold_words
  rw [whole_writes hz]
  try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S64x2048) _ hz]

set_option maxHeartbeats 4000000 in
/-- A later tile: the sample outputs are left alone. -/
theorem body_B (c : Dev nD) (i : grid0.Coords) (arg1 : Memref sig .tc .vmem S512x2048 .bf16) (harg1 : arg1.IsWhole) (arg2 : Memref sig .tc .vmem S32x2048 .bf16) (harg2 : arg2.IsWhole) (arg3 : Memref sig .tc .vmem S2048x2048 .bf16) (harg3 : arg3.IsWhole) (arg4 : Memref sig .tc .vmem S2048x2048 .bf16) (harg4 : arg4.IsWhole) (arg5 : Memref sig .tc .vmem S352x2048 .f32) (harg5 : arg5.IsWhole) (arg6 : Memref sig .tc .vmem S128x2048 .f32) (harg6 : arg6.IsWhole) (arg7 : Memref sig .tc .vmem S64x2048 .f32) (harg7 : arg7.IsWhole) (arg8 : Memref sig .tc .vmem S64x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S32x2048 .bf16) (harg11 : arg11.IsWhole) (arg12 : Memref sig .tc .vmem S32x2048 .bf16) (harg12 : arg12.IsWhole) (arg13 : Memref sig .tc .vmem S352x2048 .bf16) (harg13 : arg13.IsWhole) (arg14 : Memref sig .tc .vmem S128x2048 .bf16) (harg14 : arg14.IsWhole) (arg15 : Memref sig .tc .vmem S64x2048 .bf16) (harg15 : arg15.IsWhole) (arg16 : Memref sig .tc .vmem S64x2048 .bf16) (harg16 : arg16.IsWhole) (hc1 : ¬k0_cond1 i = 1#1) (hc2 : k0_cond2 i = 1#1)
    (x0 : Vec F S512x2048 .bf16) (x1 : Vec F S32x2048 .bf16) (x2 : Vec F S2048x2048 .bf16) (x3 : Vec F S2048x2048 .bf16) (x4 : Vec F S352x2048 .f32) (x5 : Vec F S128x2048 .f32) (x6 : Vec F S64x2048 .f32) (x7 : Vec F S64x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay12 x0 x2) ∗ owns (c : Thread nD τ) arg10 fullShare (k0_pay13 x0 x3) ∗ owns (c : Thread nD τ) arg13 fullShare (k0_pay1 x4) ∗ owns (c : Thread nD τ) arg14 fullShare (k0_pay2 x5) ∗ owns (c : Thread nD τ) arg15 fullShare (k0_pay3 x6) ∗ owns (c : Thread nD τ) arg16 fullShare (k0_pay4 x7)) -∗ K ⟨⟩))
    ⊢ wp frame (wpE (defs₀ (F := F)) Variants.none c none) E (cc0_gates i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_gates_eq_skeleton]; unfold cc0_gates_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S512x2048) _ hz]
  isplitl [H9]
  · iexists _; isplitr; swap; · iexact H9
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S512x2048) _ hz]
  isplitl [H10]
  · iexists _; isplitr; swap; · iexact H10
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S352x2048) _ hz]
  isplitl [H11]
  · iexists _; isplitr; swap; · iexact H11
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S128x2048) _ hz]
  isplitl [H12]
  · iexists _; isplitr; swap; · iexact H12
    ipureintro
    sl_unfold_words
    rw [whole_writes hz]
    try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S64x2048) _ hz]
  iexists _; isplitr; swap; · iexact H13
  ipureintro
  sl_unfold_words
  rw [whole_writes hz]
  try simp only [View.readAt_eq_ld, harg1.read_unread, harg2.read_unread, harg3.read_unread, harg4.read_unread, harg5.read_unread, harg6.read_unread, harg7.read_unread, harg8.read_unread, View.ld_unit_zero (S := S512x2048) hz, View.ld_unit_zero (S := S32x2048) hz, View.ld_unit_zero (S := S2048x2048) hz, View.ld_unit_zero (S := S352x2048) hz, View.ld_unit_zero (S := S128x2048) hz, View.ld_unit_zero (S := S64x2048) hz, View.readCov_unit_zero (S := S64x2048) _ hz]

end Cert.Kernel4Ideal.Gates

end
-- ==== Proof.GatesRun.lean ====
/- The run of the gates kernel: what each output's buffer holds after each grid point, and the whole program's run from that. -/
module

public import proofs.«01_k».proof.Proof.GatesBody
public import Idealize.ShloMosaic.Lib.Pipeline.TableIdle

@[expose] public section

set_option maxRecDepth 16384

noncomputable section

namespace Cert.Kernel4Ideal.Gates

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond1 : ∀ t : Fin cfg0.N, k0_cond1 (grid0.coords t) = 1#1 ↔ t.val = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val = 0)

theorem hcond2 : ∀ t : Fin cfg0.N, k0_cond2 (grid0.coords t) = 1#1 ↔ ¬t.val = 0 :=
  (fun t => by
    have ht : t.val < 16 := Nat.lt_of_lt_of_eq t.isLt N_0
    have e0 : (grid0.coords t 0).val = t.val / 1 % 16 := Pipeline.Grid.coords_val t 0 (by decide) rfl
    simp only [k0_cond2, e0]
    word_cmp
   : ∀ t : Fin grid0.N, k0_cond2 (grid0.coords t) = 1#1 ↔ ¬t.val = 0)

/-- A tile's own outputs are stored at every point. -/
theorem live (t : Fin cfg0.N) : (!(k0_cond1 (grid0.coords t) == 1#1) && !(k0_cond2 (grid0.coords t) == 1#1)) = false := by
  by_cases h : t.val = 0
  · rw [(hcond1 t).mpr h]; rfl
  · rw [(hcond2 t).mpr h, Bool.and_comm]; rfl

theorem idle10 (t : Fin cfg0.N) (h : ¬t.val = 0) : cfg0.idle 10 (grid0.coords t) = true := by
  have := fun h' => h ((hcond1 t).mp h')
  show (!decide _ : Bool) = true
  simpa using this
theorem live10 (t : Fin cfg0.N) (h : t.val = 0) : cfg0.idle 10 (grid0.coords t) = false := by
  have := (hcond1 t).mpr h
  show (!decide _ : Bool) = false
  simpa using this
theorem fresh10 : cfg0.fresh 10 15 = false := by decide +kernel

theorem idle11 (t : Fin cfg0.N) (h : ¬t.val = 0) : cfg0.idle 11 (grid0.coords t) = true := by
  have := fun h' => h ((hcond1 t).mp h')
  show (!decide _ : Bool) = true
  simpa using this
theorem live11 (t : Fin cfg0.N) (h : t.val = 0) : cfg0.idle 11 (grid0.coords t) = false := by
  have := (hcond1 t).mpr h
  show (!decide _ : Bool) = false
  simpa using this
theorem fresh11 : cfg0.fresh 11 15 = false := by decide +kernel

/-- The first point. -/
abbrev t0 : Fin cfg0.N := ⟨0, lt_of_lt_of_eq (by decide : 0 < 16) N_0.symm⟩

def tv8 (c : Dev nD) (t : Fin cfg0.N) : Vec F S512x2048 .bf16 := if t.val = 0 then k0_pay7 (iblk m c 0 t) (iblk m c 1 t) (iblk m c 2 t) else k0_pay12 (iblk m c 0 t) (iblk m c 2 t)
theorem tv8_A (c : Dev nD) (t : Fin cfg0.N) (h : t.val = 0) : tv8 m c t = k0_pay7 (iblk m c 0 t) (iblk m c 1 t) (iblk m c 2 t) := if_pos h
theorem tv8_B (c : Dev nD) (t : Fin cfg0.N) (h : ¬t.val = 0) : tv8 m c t = k0_pay12 (iblk m c 0 t) (iblk m c 2 t) := if_neg h
def tv9 (c : Dev nD) (t : Fin cfg0.N) : Vec F S512x2048 .bf16 := if t.val = 0 then k0_pay10 (iblk m c 0 t) (iblk m c 1 t) (iblk m c 3 t) else k0_pay13 (iblk m c 0 t) (iblk m c 3 t)
theorem tv9_A (c : Dev nD) (t : Fin cfg0.N) (h : t.val = 0) : tv9 m c t = k0_pay10 (iblk m c 0 t) (iblk m c 1 t) (iblk m c 3 t) := if_pos h
theorem tv9_B (c : Dev nD) (t : Fin cfg0.N) (h : ¬t.val = 0) : tv9 m c t = k0_pay13 (iblk m c 0 t) (iblk m c 3 t) := if_neg h
def sv10 (c : Dev nD) : Vec F S32x2048 .bf16 := k0_pay8 (iblk m c 0 t0) (iblk m c 1 t0) (iblk m c 2 t0)
theorem sv10_eq (c : Dev nD) (t : Fin cfg0.N) (h : t.val = 0) : sv10 m c = k0_pay8 (iblk m c 0 t) (iblk m c 1 t) (iblk m c 2 t) := by
  obtain rfl : t = t0 := Fin.ext h
  rfl
def sv11 (c : Dev nD) : Vec F S32x2048 .bf16 := k0_pay11 (iblk m c 0 t0) (iblk m c 1 t0) (iblk m c 3 t0)
theorem sv11_eq (c : Dev nD) (t : Fin cfg0.N) (h : t.val = 0) : sv11 m c = k0_pay11 (iblk m c 0 t) (iblk m c 1 t) (iblk m c 3 t) := by
  obtain rfl : t = t0 := Fin.ext h
  rfl
def dv12 (c : Dev nD) (t : Fin cfg0.N) : Vec F S352x2048 .bf16 := k0_pay1 (iblk m c 4 t)
theorem dv12_eq (c : Dev nD) (t : Fin cfg0.N) : dv12 m c t = k0_pay1 (iblk m c 4 t) := rfl
def dv13 (c : Dev nD) (t : Fin cfg0.N) : Vec F S128x2048 .bf16 := k0_pay2 (iblk m c 5 t)
theorem dv13_eq (c : Dev nD) (t : Fin cfg0.N) : dv13 m c t = k0_pay2 (iblk m c 5 t) := rfl
def dv14 (c : Dev nD) (t : Fin cfg0.N) : Vec F S64x2048 .bf16 := k0_pay3 (iblk m c 6 t)
theorem dv14_eq (c : Dev nD) (t : Fin cfg0.N) : dv14 m c t = k0_pay3 (iblk m c 6 t) := rfl
def dv15 (c : Dev nD) (t : Fin cfg0.N) : Vec F S64x2048 .bf16 := k0_pay4 (iblk m c 7 t)
theorem dv15_eq (c : Dev nD) (t : Fin cfg0.N) : dv15 m c t = k0_pay4 (iblk m c 7 t) := rfl

/-- The proof data: inputs at their blocks, the outputs at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => tv8 m c t
    | ⟨9, _⟩ => tv9 m c t
    | ⟨10, _⟩ => sv10 m c
    | ⟨11, _⟩ => sv11 m c
    | ⟨12, _⟩ => dv12 m c t
    | ⟨13, _⟩ => dv13 m c t
    | ⟨14, _⟩ => dv14 m c t
    | ⟨15, _⟩ => dv15 m c t
    | ⟨n + 16, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = tv8 m c t := by dsimp only [dats]
theorem after_9 (c : Dev nD) (t : Fin cfg0.N) : (dats m 0 c).after 9 t = tv9 m c t := by dsimp only [dats]
theorem after_10 (c : Dev nD) (t : Fin cfg0.N) : (dats m 0 c).after 10 t = sv10 m c := by dsimp only [dats]
theorem after_11 (c : Dev nD) (t : Fin cfg0.N) : (dats m 0 c).after 11 t = sv11 m c := by dsimp only [dats]
theorem after_12 (c : Dev nD) (t : Fin cfg0.N) : (dats m 0 c).after 12 t = dv12 m c t := by dsimp only [dats]
theorem after_13 (c : Dev nD) (t : Fin cfg0.N) : (dats m 0 c).after 13 t = dv13 m c t := by dsimp only [dats]
theorem after_14 (c : Dev nD) (t : Fin cfg0.N) : (dats m 0 c).after 14 t = dv14 m c t := by dsimp only [dats]
theorem after_15 (c : Dev nD) (t : Fin cfg0.N) : (dats m 0 c).after 15 t = dv15 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem leaves_0 (c : Dev nD) (t : Fin cfg0.N) :
    (dats m 0 c).leavesExact 0 t = owns (c : Thread nD τ) (win0_0.stage (cfg0.slots t 0)) fullShare (iblk m c 0 t) := by
  rw [← after_0 m c t]
theorem leaves_1 (c : Dev nD) (t : Fin cfg0.N) :
    (dats m 0 c).leavesExact 1 t = owns (c : Thread nD τ) (win0_1.stage (cfg0.slots t 1)) fullShare (iblk m c 1 t) := by
  rw [← after_1 m c t]
theorem leaves_2 (c : Dev nD) (t : Fin cfg0.N) :
    (dats m 0 c).leavesExact 2 t = owns (c : Thread nD τ) (win0_2.stage (cfg0.slots t 2)) fullShare (iblk m c 2 t) := by
  rw [← after_2 m c t]
theorem leaves_3 (c : Dev nD) (t : Fin cfg0.N) :
    (dats m 0 c).leavesExact 3 t = owns (c : Thread nD τ) (win0_3.stage (cfg0.slots t 3)) fullShare (iblk m c 3 t) := by
  rw [← after_3 m c t]
theorem leaves_4 (c : Dev nD) (t : Fin cfg0.N) :
    (dats m 0 c).leavesExact 4 t = owns (c : Thread nD τ) (win0_4.stage (cfg0.slots t 4)) fullShare (iblk m c 4 t) := by
  rw [← after_4 m c t]
theorem leaves_5 (c : Dev nD) (t : Fin cfg0.N) :
    (dats m 0 c).leavesExact 5 t = owns (c : Thread nD τ) (win0_5.stage (cfg0.slots t 5)) fullShare (iblk m c 5 t) := by
  rw [← after_5 m c t]
theorem leaves_6 (c : Dev nD) (t : Fin cfg0.N) :
    (dats m 0 c).leavesExact 6 t = owns (c : Thread nD τ) (win0_6.stage (cfg0.slots t 6)) fullShare (iblk m c 6 t) := by
  rw [← after_6 m c t]
theorem leaves_7 (c : Dev nD) (t : Fin cfg0.N) :
    (dats m 0 c).leavesExact 7 t = owns (c : Thread nD τ) (win0_7.stage (cfg0.slots t 7)) fullShare (iblk m c 7 t) := by
  rw [← after_7 m c t]
theorem leaves_12 (c : Dev nD) (t : Fin cfg0.N) :
    (dats m 0 c).leavesExact 12 t = owns (c : Thread nD τ) (win0_12.stage (cfg0.slots t 12)) fullShare (dv12 m c t) := by
  rw [← after_12 m c t]
theorem leaves_13 (c : Dev nD) (t : Fin cfg0.N) :
    (dats m 0 c).leavesExact 13 t = owns (c : Thread nD τ) (win0_13.stage (cfg0.slots t 13)) fullShare (dv13 m c t) := by
  rw [← after_13 m c t]
theorem leaves_14 (c : Dev nD) (t : Fin cfg0.N) :
    (dats m 0 c).leavesExact 14 t = owns (c : Thread nD τ) (win0_14.stage (cfg0.slots t 14)) fullShare (dv14 m c t) := by
  rw [← after_14 m c t]
theorem leaves_15 (c : Dev nD) (t : Fin cfg0.N) :
    (dats m 0 c).leavesExact 15 t = owns (c : Thread nD τ) (win0_15.stage (cfg0.slots t 15)) fullShare (dv15 m c t) := by
  rw [← after_15 m c t]
theorem leaves_8 (c : Dev nD) (t : Fin cfg0.N) :
    (dats m 0 c).leavesExact 8 t = owns (c : Thread nD τ) (win0_8.stage (cfg0.slots t 8)) fullShare (tv8 m c t) := by
  rw [← after_8 m c t]; unfold Dat.leavesExact; rw [show cfg0.idle 8 (cfg0.grid.coords t) = false from live t]
theorem leaves_9 (c : Dev nD) (t : Fin cfg0.N) :
    (dats m 0 c).leavesExact 9 t = owns (c : Thread nD τ) (win0_9.stage (cfg0.slots t 9)) fullShare (tv9 m c t) := by
  rw [← after_9 m c t]; unfold Dat.leavesExact; rw [show cfg0.idle 9 (cfg0.grid.coords t) = false from live t]
theorem leaves_10 (c : Dev nD) (t : Fin cfg0.N) (h : t.val = 0) :
    (dats m 0 c).leavesExact 10 t = owns (c : Thread nD τ) (win0_10.stage (cfg0.slots t 10)) fullShare (sv10 m c) := by
  rw [← after_10 m c t]; unfold Dat.leavesExact; rw [show cfg0.idle 10 (cfg0.grid.coords t) = false from live10 t h]
theorem before_10_last (c : Dev nD) (t : Fin cfg0.N) (h : t.val = 15) (d) : (dats m 0 c).before 10 t d = sv10 m c := by
  refine (Dat.before_out_traj (dats m 0 c) 10 rfl (fun _ _ => rfl) (fun t _ _ _ => by rw [after_10, after_10]) t.val t rfl d).trans ?_
  rw [if_neg (by rw [h, fresh10]; exact Bool.false_ne_true)]; exact after_10 m c _
theorem leaves_10_idle (c : Dev nD) (t : Fin cfg0.N) (h : ¬t.val = 0) :
    iprop(∃ d, owns (c : Thread nD τ) (win0_10.stage (cfg0.slots t 10)) fullShare ((dats m 0 c).before 10 t d)) ⊢ (dats m 0 c).leavesExact 10 t := by
  have hN : t.val < 16 := lt_of_lt_of_eq t.isLt (show cfg0.N = 16 from N_0)
  by_cases hl : t.val = 15
  · iintro ⟨%d, H⟩
    rw [before_10_last m c t hl d, ← after_10 m c t]
    unfold Dat.leavesExact
    rw [show cfg0.idle 10 (cfg0.grid.coords t) = true from idle10 t h, (flush0_10 t).mpr (by omega)]
    iexact H
  · rw [Dat.leavesExact_idle (dats m 0 c) 10 t (idle10 t h) (Bool.eq_false_iff.mpr fun hf => hl (by have := (flush0_10 t).mp hf; omega))]
theorem leaves_11 (c : Dev nD) (t : Fin cfg0.N) (h : t.val = 0) :
    (dats m 0 c).leavesExact 11 t = owns (c : Thread nD τ) (win0_11.stage (cfg0.slots t 11)) fullShare (sv11 m c) := by
  rw [← after_11 m c t]; unfold Dat.leavesExact; rw [show cfg0.idle 11 (cfg0.grid.coords t) = false from live11 t h]
theorem before_11_last (c : Dev nD) (t : Fin cfg0.N) (h : t.val = 15) (d) : (dats m 0 c).before 11 t d = sv11 m c := by
  refine (Dat.before_out_traj (dats m 0 c) 11 rfl (fun _ _ => rfl) (fun t _ _ _ => by rw [after_11, after_11]) t.val t rfl d).trans ?_
  rw [if_neg (by rw [h, fresh11]; exact Bool.false_ne_true)]; exact after_11 m c _
theorem leaves_11_idle (c : Dev nD) (t : Fin cfg0.N) (h : ¬t.val = 0) :
    iprop(∃ d, owns (c : Thread nD τ) (win0_11.stage (cfg0.slots t 11)) fullShare ((dats m 0 c).before 11 t d)) ⊢ (dats m 0 c).leavesExact 11 t := by
  have hN : t.val < 16 := lt_of_lt_of_eq t.isLt (show cfg0.N = 16 from N_0)
  by_cases hl : t.val = 15
  · iintro ⟨%d, H⟩
    rw [before_11_last m c t hl d, ← after_11 m c t]
    unfold Dat.leavesExact
    rw [show cfg0.idle 11 (cfg0.grid.coords t) = true from idle11 t h, (flush0_11 t).mpr (by omega)]
    iexact H
  · rw [Dat.leavesExact_idle (dats m 0 c) 11 t (idle11 t h) (Bool.eq_false_iff.mpr fun hf => hl (by have := (flush0_11 t).mp hf; omega))]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  simp only [leaves_0, leaves_1, leaves_2, leaves_3, leaves_4, leaves_5, leaves_6, leaves_7, leaves_8, leaves_9, leaves_12, leaves_13, leaves_14, leaves_15]
  have hN : t.val < 16 := lt_of_lt_of_eq t.isLt (show cfg0.N = 16 from N_0)
  by_cases h0 : t.val = 0
  · rw [leaves_10 m c t h0, sv10_eq m c t h0]
    rw [leaves_11 m c t h0, sv11_eq m c t h0]
    rw [tv8_A m c t h0]
    rw [tv9_A m c t h0]
    rw [dv12_eq m c t]
    rw [dv13_eq m c t]
    rw [dv14_eq m c t]
    rw [dv15_eq m c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14, H15⟩
    iapply (body_A c (grid0.coords t) _ _ _ _ _ _ _ _ _ _ _ _ _ _ _ _ _ _ _ _ _ _ _ _ _ _ _ _ _ _ _ _ ((hcond1 t).mpr h0) (fun h => absurd h0 ((hcond2 t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · icases H8 with ⟨%d8, H8⟩; iexists _; iexact H8
    isplitl [H9]; · icases H9 with ⟨%d9, H9⟩; iexists _; iexact H9
    isplitl [H10]; · icases H10 with ⟨%d10, H10⟩; iexists _; iexact H10
    isplitl [H11]; · icases H11 with ⟨%d11, H11⟩; iexists _; iexact H11
    isplitl [H12]; · icases H12 with ⟨%d12, H12⟩; iexists _; iexact H12
    isplitl [H13]; · icases H13 with ⟨%d13, H13⟩; iexists _; iexact H13
    isplitl [H14]; · icases H14 with ⟨%d14, H14⟩; iexists _; iexact H14
    isplitl [H15]; · icases H15 with ⟨%d15, H15⟩; iexists _; iexact H15
    iintro ⟨H0, H1, H2, H3, H4, H5, H6, H7, H8, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · rw [tv8_B m c t h0]
    rw [tv9_B m c t h0]
    rw [dv12_eq m c t]
    rw [dv13_eq m c t]
    rw [dv14_eq m c t]
    rw [dv15_eq m c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14, H15⟩
    iapply (body_B c (grid0.coords t) _ _ _ _ _ _ _ _ _ _ _ _ _ _ _ _ _ _ _ _ _ _ _ _ _ _ _ _ _ _ _ _ (fun h => absurd ((hcond1 t).mp h) h0) ((hcond2 t).mpr h0) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · icases H8 with ⟨%d8, H8⟩; iexists _; iexact H8
    isplitl [H9]; · icases H9 with ⟨%d9, H9⟩; iexists _; iexact H9
    isplitl [H12]; · icases H12 with ⟨%d12, H12⟩; iexists _; iexact H12
    isplitl [H13]; · icases H13 with ⟨%d13, H13⟩; iexists _; iexact H13
    isplitl [H14]; · icases H14 with ⟨%d14, H14⟩; iexists _; iexact H14
    isplitl [H15]; · icases H15 with ⟨%d15, H15⟩; iexists _; iexact H15
    iintro ⟨H0, H1, H2, H3, H4, H5, H6, H7, H8, H9, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves_10_idle m c t h0); iexact H10
    isplitl [H11]; · iapply (leaves_11_idle m c t h0); iexact H11
    isplitl [H12]; · iexact H12
    isplitl [H13]; · iexact H13
    isplitl [H14]; · iexact H14
    iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run -/

set_option backward.isDefEq.respectTransparency.types false in
/-- The whole program's run: every array of the kernel ends as the proof data says, the counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel4Ideal.Gates

end
-- ==== Proof.MixSpec.lean ====
/- The mixer's gates, its merge and the norm after it in closed form over the extended reals, row by row. -/
module

public import proofs.«01_k».proof.Proof.Spec

@[expose] public section

noncomputable section

namespace Cert.Spec

open Idealize.ShloMosaic

/-- A gate's entry: the row's product with the column, through the logistic function. -/
def gate {K : ℕ} (h w : Fin K → EReal) : EReal := Ideal.logistic (∑ k, h k * w k)

/-- The mixer's result, a row at column `d`: the residual and the output product of the two gated branches. -/
def merge (x : Fin 2048 → EReal) (o c : Fin 1024 → EReal) (ga gc : Fin 2048 → EReal) (wa wc : Fin 1024 → Fin 2048 → EReal)
    (wo : Fin 2048 → Fin 2048 → EReal) (d : Fin 2048) : EReal :=
  x d + ∑ j : Fin 2048, (ga j * (∑ k, o k * wa k j) + gc j * ∑ k, c k * wc k j) * wo j d

end Cert.Spec

end
-- ==== Proof.GatesPure.lean ====
/- The gates kernel's stored values, read at an index over the extended reals. -/
module

public import proofs.«01_k».proof.Proof.MixSpec
public import proofs.«01_k».proof.Proof.Gen.Kernel4Ideal.Skeleton

@[expose] public section

set_option maxRecDepth 16384

noncomputable section

namespace Cert.Kernel4Ideal.Gates

open Idealize.ShloMosaic Idealize.ShloMosaic.TcCoe Idealize.SL.Sem
open Idealize.ShloMosaic.Pipeline (Dat)
open Cert.Kernel4Ideal Cert.Kernel4Ideal.Gen Cert.Spec

variable (h : FVec Ideal S512x2048 .bf16) (hs : FVec Ideal S32x2048 .bf16) (w : FVec Ideal S2048x2048 .bf16)

theorem pay7_apply (r : Fin 512) (d : Fin 2048) : k0_pay7 (F := Ideal) h hs w (ix2 r d) = gate (fun k => h (ix2 r k)) (fun k => w (ix2 k d)) := by
  pointwise [k0_pay7, k0_pay6, k0_pay5, gate]
theorem pay10_apply (r : Fin 512) (d : Fin 2048) : k0_pay10 (F := Ideal) h hs w (ix2 r d) = gate (fun k => h (ix2 r k)) (fun k => w (ix2 k d)) := by
  pointwise [k0_pay10, k0_pay9, k0_pay5, gate]
theorem pay8_apply (r : Fin 32) (d : Fin 2048) : k0_pay8 (F := Ideal) h hs w (ix2 r d) = gate (fun k => hs (ix2 r k)) (fun k => w (ix2 k d)) := by
  pointwise [k0_pay8, k0_pay6, k0_pay5, gate]
theorem pay11_apply (r : Fin 32) (d : Fin 2048) : k0_pay11 (F := Ideal) h hs w (ix2 r d) = gate (fun k => hs (ix2 r k)) (fun k => w (ix2 k d)) := by
  pointwise [k0_pay11, k0_pay9, k0_pay5, gate]
theorem pay12_apply (r : Fin 512) (d : Fin 2048) : k0_pay12 (F := Ideal) h w (ix2 r d) = gate (fun k => h (ix2 r k)) (fun k => w (ix2 k d)) := by
  pointwise [k0_pay12, gate]
theorem pay13_apply (r : Fin 512) (d : Fin 2048) : k0_pay13 (F := Ideal) h w (ix2 r d) = gate (fun k => h (ix2 r k)) (fun k => w (ix2 k d)) := by
  pointwise [k0_pay13, gate]

end Cert.Kernel4Ideal.Gates

end
-- ==== Proof.GatesValue.lean ====
/- The gates kernel's four result arrays over the extended reals. -/
module

public import proofs.«01_k».proof.Proof.GatesRun
public import proofs.«01_k».proof.Proof.GatesPure

@[expose] public section

set_option maxRecDepth 16384

noncomputable section

namespace Cert.Kernel4Ideal.Gates

open Idealize.ShloMosaic Idealize.ShloMosaic.TcCoe Idealize.SL.Sem
open Idealize.ShloMosaic.Pipeline (Dat)
open Cert.Kernel4Ideal Cert.Kernel4Ideal.Gen Cert.Spec

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_8.index t = ![t.val, 0] ∧ win0_9.index t = ![t.val, 0] ∧ win0_10.index t = ![0, 0] ∧ win0_11.index t = ![0, 0] :=
  (by decide +kernel : ∀ t : Fin grid0.N, _)

theorem nlt (t : Fin cfg0.N) : t.val < 16 := lt_of_lt_of_eq t.isLt (show cfg0.N = 16 from N_0)

/-- The gate of every row. -/
abbrev REF {R : ℕ} (h : FVec Ideal ⟨2, ![R, 2048]⟩ .bf16) (w : FVec Ideal S2048x2048 .bf16) : FVec Ideal ⟨2, ![R, 2048]⟩ .bf16 := fun i =>
  gate (fun k => h (ix2 (i 0) k)) (fun k => w (ix2 k (i 1)))

theorem iblk0 (c : Dev nD) (t : Fin cfg0.N) (r : Fin 512) (k : Fin 2048) (R : Fin 8192) (hR : R.val = 512 * t.val + r.val) :
    (show FVec Ideal S512x2048 .bf16 from iblk m c 0 t) (ix2 r k) = m ((c : Thread nD τ).loc main_arg0) (ix2 R k) := by
  blk_ext [iblk, V, idx t]
theorem iblk1 (c : Dev nD) (t : Fin cfg0.N) (r : Fin 32) (k : Fin 2048) :
    (show FVec Ideal S32x2048 .bf16 from iblk m c 1 t) (ix2 r k) = m ((c : Thread nD τ).loc main_arg1) (ix2 r k) := by
  blk_ext [iblk, V, idx t]
theorem iblk2 (c : Dev nD) (t : Fin cfg0.N) (r k : Fin 2048) :
    (show FVec Ideal S2048x2048 .bf16 from iblk m c 2 t) (ix2 r k) = m ((c : Thread nD τ).loc main_arg2) (ix2 r k) := by
  blk_ext [iblk, V, idx t]
theorem iblk3 (c : Dev nD) (t : Fin cfg0.N) (r k : Fin 2048) :
    (show FVec Ideal S2048x2048 .bf16 from iblk m c 3 t) (ix2 r k) = m ((c : Thread nD τ).loc main_arg3) (ix2 r k) := by
  blk_ext [iblk, V, idx t]

theorem point8 (c : Dev nD) (t : Fin cfg0.N) (r : Fin 512) (d : Fin 2048) (R : Fin 8192) (hR : R.val = 512 * t.val + r.val) :
    tv8 m c t (ix2 r d) = REF (m ((c : Thread nD τ).loc main_arg0)) (m ((c : Thread nD τ).loc main_arg2)) (ix2 R d) := by
  by_cases h0 : t.val = 0
  · rw [tv8_A m c t h0]
    exact (pay7_apply _ _ _ r d).trans (congrArg₂ gate (funext fun k => iblk0 m c t r k R hR) (funext fun k => iblk2 m c t k d))
  · rw [tv8_B m c t h0]
    exact (pay12_apply _ _ r d).trans (congrArg₂ gate (funext fun k => iblk0 m c t r k R hR) (funext fun k => iblk2 m c t k d))
theorem final8 (c : Dev nD) : (dats m 0 c).arrAt 8 (cfgs 0).N
    = REF (m ((c : Thread nD τ).loc main_arg0)) (m ((c : Thread nD τ).loc main_arg2)) := by
  refine (dats m 0 c).arrAt_eq_of_covers 8 _ (by decide +kernel) fun t hf y => ?_
  blk_simp
  rw [after_8]
  refine (congrArg (tv8 m c t) (eq_ix2 (show S512x2048.Idx from y))).trans ((point8 m c t _ _ ⟨512 * t.val + ((show S512x2048.Idx from y) 0).val, ?_⟩ rfl).trans (congrArg _ ?_))
  · have := nlt t; have h2 : ((show S512x2048.Idx from y) 0).val < 512 := ((show S512x2048.Idx from y) 0).isLt; omega
  · blk_ext [idx t]

theorem point9 (c : Dev nD) (t : Fin cfg0.N) (r : Fin 512) (d : Fin 2048) (R : Fin 8192) (hR : R.val = 512 * t.val + r.val) :
    tv9 m c t (ix2 r d) = REF (m ((c : Thread nD τ).loc main_arg0)) (m ((c : Thread nD τ).loc main_arg3)) (ix2 R d) := by
  by_cases h0 : t.val = 0
  · rw [tv9_A m c t h0]
    exact (pay10_apply _ _ _ r d).trans (congrArg₂ gate (funext fun k => iblk0 m c t r k R hR) (funext fun k => iblk3 m c t k d))
  · rw [tv9_B m c t h0]
    exact (pay13_apply _ _ r d).trans (congrArg₂ gate (funext fun k => iblk0 m c t r k R hR) (funext fun k => iblk3 m c t k d))
theorem final9 (c : Dev nD) : (dats m 0 c).arrAt 9 (cfgs 0).N
    = REF (m ((c : Thread nD τ).loc main_arg0)) (m ((c : Thread nD τ).loc main_arg3)) := by
  refine (dats m 0 c).arrAt_eq_of_covers 9 _ (by decide +kernel) fun t hf y => ?_
  blk_simp
  rw [after_9]
  refine (congrArg (tv9 m c t) (eq_ix2 (show S512x2048.Idx from y))).trans ((point9 m c t _ _ ⟨512 * t.val + ((show S512x2048.Idx from y) 0).val, ?_⟩ rfl).trans (congrArg _ ?_))
  · have := nlt t; have h2 : ((show S512x2048.Idx from y) 0).val < 512 := ((show S512x2048.Idx from y) 0).isLt; omega
  · blk_ext [idx t]

theorem point10 (c : Dev nD) (r : Fin 32) (d : Fin 2048) :
    sv10 m c (ix2 r d) = REF (m ((c : Thread nD τ).loc main_arg1)) (m ((c : Thread nD τ).loc main_arg2)) (ix2 r d) :=
  (pay8_apply _ _ _ r d).trans (congrArg₂ gate (funext fun k => iblk1 m c t0 r k) (funext fun k => iblk2 m c t0 k d))
theorem final10 (c : Dev nD) : (dats m 0 c).arrAt 10 (cfgs 0).N
    = REF (m ((c : Thread nD τ).loc main_arg1)) (m ((c : Thread nD τ).loc main_arg2)) := by
  refine (dats m 0 c).arrAt_eq_of_covers 10 _ (by decide +kernel) fun t hf y => ?_
  blk_simp
  rw [after_10]
  refine (congrArg (sv10 m c) (eq_ix2 (show S32x2048.Idx from y))).trans ((point10 m c _ _).trans (congrArg _ ?_))
  blk_ext [idx t]

theorem point11 (c : Dev nD) (r : Fin 32) (d : Fin 2048) :
    sv11 m c (ix2 r d) = REF (m ((c : Thread nD τ).loc main_arg1)) (m ((c : Thread nD τ).loc main_arg3)) (ix2 r d) :=
  (pay11_apply _ _ _ r d).trans (congrArg₂ gate (funext fun k => iblk1 m c t0 r k) (funext fun k => iblk3 m c t0 k d))
theorem final11 (c : Dev nD) : (dats m 0 c).arrAt 11 (cfgs 0).N
    = REF (m ((c : Thread nD τ).loc main_arg1)) (m ((c : Thread nD τ).loc main_arg3)) := by
  refine (dats m 0 c).arrAt_eq_of_covers 11 _ (by decide +kernel) fun t hf y => ?_
  blk_simp
  rw [after_11]
  refine (congrArg (sv11 m c) (eq_ix2 (show S32x2048.Idx from y))).trans ((point11 m c _ _).trans (congrArg _ ?_))
  blk_ext [idx t]

end Cert.Kernel4Ideal.Gates

end
-- ==== Proof.GatesRef.lean ====
/- The gates reference's results, read at an index over the extended reals. -/
module

public import proofs.«01_k».proof.Proof.MixSpec
public import proofs.«01_k».proof.Proof.Gen.Reference4Ideal.Run

@[expose] public section

set_option maxRecDepth 16384

noncomputable section

namespace Cert.Reference4Ideal.Gates

open Idealize.ShloMosaic Idealize.ShloMosaic.TcCoe Idealize.SL.Sem
open Idealize.ShloMosaic.Pipeline (Dat)
open Cert.Reference4Ideal Cert.Reference4Ideal.Gen Cert.Spec

variable (m : (ℓ : Loc nD τ sig) → Buf (Elt Ideal) ℓ)

def res0 (c : Dev nD) : FVec Ideal S8192x2048 .bf16 := truncf .bf16 (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 (m ((c.tc : Thread nD τ).loc main_arg0)) bitsLt_bf16_f32) (extf .f32 (m ((c.tc : Thread nD τ).loc main_arg2)) bitsLt_bf16_f32)))))) bitsLt_bf16_f32
set_option maxHeartbeats 4000000 in
theorem res0_apply (c : Dev nD) (r : Fin 8192) (d : Fin 2048) :
    res0 m c (ix2 r d) = gate (fun k => m ((c : Thread nD τ).loc main_arg0) (ix2 r k)) (fun k => m ((c : Thread nD τ).loc main_arg2) (ix2 k d)) := by
  unfold res0
  pointwise [gate]
  all_goals rfl
def res1 (c : Dev nD) : FVec Ideal S8192x2048 .bf16 := truncf .bf16 (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (extf .f32 (m ((c.tc : Thread nD τ).loc main_arg0)) bitsLt_bf16_f32) (extf .f32 (m ((c.tc : Thread nD τ).loc main_arg3)) bitsLt_bf16_f32)))))) bitsLt_bf16_f32
set_option maxHeartbeats 4000000 in
theorem res1_apply (c : Dev nD) (r : Fin 8192) (d : Fin 2048) :
    res1 m c (ix2 r d) = gate (fun k => m ((c : Thread nD τ).loc main_arg0) (ix2 r k)) (fun k => m ((c : Thread nD τ).loc main_arg3) (ix2 k d)) := by
  unfold res1
  pointwise [gate]
  all_goals rfl
def res2 (c : Dev nD) : FVec Ideal S32x2048 .bf16 := truncf .bf16 (Host.divf (broadcastInDim S32x2048 ![] bcast_S_S32x2048 (constant S_ .f32 0x3F800000#32)) (addf (broadcastInDim S32x2048 ![] bcast_S_S32x2048 (constant S_ .f32 0x3F800000#32)) (Host.exp (Host.negf (Host.dotGeneral dot_S32x2048_S2048x2048_S32x2048_1_0_0_1_n_n none (extf .f32 (m ((c.tc : Thread nD τ).loc main_arg1)) bitsLt_bf16_f32) (extf .f32 (m ((c.tc : Thread nD τ).loc main_arg2)) bitsLt_bf16_f32)))))) bitsLt_bf16_f32
set_option maxHeartbeats 4000000 in
theorem res2_apply (c : Dev nD) (r : Fin 32) (d : Fin 2048) :
    res2 m c (ix2 r d) = gate (fun k => m ((c : Thread nD τ).loc main_arg1) (ix2 r k)) (fun k => m ((c : Thread nD τ).loc main_arg2) (ix2 k d)) := by
  unfold res2
  pointwise [gate]
  all_goals rfl
def res3 (c : Dev nD) : FVec Ideal S32x2048 .bf16 := truncf .bf16 (Host.divf (broadcastInDim S32x2048 ![] bcast_S_S32x2048 (constant S_ .f32 0x3F800000#32)) (addf (broadcastInDim S32x2048 ![] bcast_S_S32x2048 (constant S_ .f32 0x3F800000#32)) (Host.exp (Host.negf (Host.dotGeneral dot_S32x2048_S2048x2048_S32x2048_1_0_0_1_n_n none (extf .f32 (m ((c.tc : Thread nD τ).loc main_arg1)) bitsLt_bf16_f32) (extf .f32 (m ((c.tc : Thread nD τ).loc main_arg3)) bitsLt_bf16_f32)))))) bitsLt_bf16_f32
set_option maxHeartbeats 4000000 in
theorem res3_apply (c : Dev nD) (r : Fin 32) (d : Fin 2048) :
    res3 m c (ix2 r d) = gate (fun k => m ((c : Thread nD τ).loc main_arg1) (ix2 r k)) (fun k => m ((c : Thread nD τ).loc main_arg3) (ix2 k d)) := by
  unfold res3
  pointwise [gate]
  all_goals rfl

end Cert.Reference4Ideal.Gates

end
-- ==== Proof.GatesClaims.lean ====
/- The claims about the gates kernel, from its run and the values of its four results. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.GatesValue
public import proofs.«01_k».proof.Proof.GatesRef
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

section
variable {F : FTy → Type} [FloatOps F]
open Cert.Kernel4Ideal Cert.Kernel4Ideal.Gen
variable (m : (ℓ : Loc nD τ sig) → Buf (Elt F) ℓ) (ρ : Dev nD → PrngReg)

/-- The kernel's run, its arguments unchanged and the counters at zero. -/
theorem gates_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (Gates.dats m) (Gates.A_eq m) ((θ_run defs _ _).mono (fun _ h => h.1) (Gates.run_main m ρ)))
    ((θ_run defs _ _).mono (fun _ h => h.2) (Gates.run_main m ρ))

end

attribute [local instance] Cert.Kernel4.Gen.facts Cert.Kernel4Ideal.Gen.facts Cert.Reference4Ideal.Gen.facts

/-- The two texts' kernel functions are one function, -/
theorem gates_eq : Cert.Kernel4.cc0_gates (F := Bits) = Cert.Kernel4Ideal.cc0_gates (F := Bits) := rfl

set_option maxHeartbeats 4000000 in
/-- and so are their tables of bodies. -/
theorem gates_defs₀_eq : Cert.Kernel4.defs₀ (F := Bits) = Cert.Kernel4Ideal.defs₀ (F := Bits) := by
  unfold Cert.Kernel4.defs₀ Cert.Kernel4Ideal.defs₀
  refine congrArg Defs.onTc ?_
  funext l x
  fin_cases l
  rfl

theorem gates_defs_eq : Cert.Kernel4.defs (F := Bits) = Cert.Kernel4Ideal.defs (F := Bits) :=
  congrArg (Pipeline.defs _) gates_defs₀_eq

theorem gates_kernel : Cert.quiescent_Kernel4 := fun m ρ _ => by
  rw [gates_defs_eq]
  exact (θ_run Cert.Kernel4Ideal.defs _ _).mono (fun _ h => h) (gates_frame (F := Bits) m ρ)
theorem gates_ideal : Cert.quiescent_Kernel4Ideal := fun m ρ _ => gates_frame (F := Ideal) m ρ
theorem gates_reference : Cert.quiescent_Reference4Ideal := fun m ρ _ =>
  (θ_run Cert.Reference4Ideal.defs _ _).mono (fun r h => ⟨fun c => (h c).2.2.2.2, sem_eq_zero_of_no_sems rfl r.2⟩)
    (Cert.Reference4Ideal.Value.run m ρ)

theorem gates_algebraic : Cert.algebraic_Kernel4Ideal_Reference4Ideal := by
  intro m g m' g' _ hagree
  refine ⟨fun c => (Cert.Kernel4Ideal.Gates.dats m 0 c).arrAt 8 (Cert.Kernel4Ideal.cfgs 0).N,
    fun c => (Cert.Kernel4Ideal.Gates.dats m 0 c).arrAt 9 (Cert.Kernel4Ideal.cfgs 0).N,
    fun c => (Cert.Kernel4Ideal.Gates.dats m 0 c).arrAt 10 (Cert.Kernel4Ideal.cfgs 0).N,
    fun c => (Cert.Kernel4Ideal.Gates.dats m 0 c).arrAt 11 (Cert.Kernel4Ideal.cfgs 0).N, ?_, ?_⟩
  · have h := θ_run_and (Cert.Kernel4Ideal.Gates.run_main m g) (gates_frame m g)
    exact (θ_run Cert.Kernel4Ideal.defs _ _).mono (fun _ h c => ⟨(h.1.1 c).1 8, (h.1.1 c).1 9, (h.1.1 c).1 10, (h.1.1 c).1 11, h.2.1 c⟩) h
  · refine (θ_run Cert.Reference4Ideal.defs _ _).mono (fun _ h c => ⟨?_, ?_, ?_, ?_, (h c).2.2.2.2⟩) (Cert.Reference4Ideal.Value.run m' g')
    · refine (h c).1.trans (Eq.trans ?_ (Cert.Kernel4Ideal.Gates.final8 m c).symm)
      funext i
      refine (congrArg (Cert.Reference4Ideal.Gates.res0 m' c) (eq_ix2 i)).trans ((Cert.Reference4Ideal.Gates.res0_apply m' c (i 0) (i 1)).trans ?_)
      obtain ⟨h0, h1, h2, h3, h4, h5, h6, h7⟩ := hagree c
      rw [h0, h2]
    · refine (h c).2.1.trans (Eq.trans ?_ (Cert.Kernel4Ideal.Gates.final9 m c).symm)
      funext i
      refine (congrArg (Cert.Reference4Ideal.Gates.res1 m' c) (eq_ix2 i)).trans ((Cert.Reference4Ideal.Gates.res1_apply m' c (i 0) (i 1)).trans ?_)
      obtain ⟨h0, h1, h2, h3, h4, h5, h6, h7⟩ := hagree c
      rw [h0, h3]
    · refine (h c).2.2.1.trans (Eq.trans ?_ (Cert.Kernel4Ideal.Gates.final10 m c).symm)
      funext i
      refine (congrArg (Cert.Reference4Ideal.Gates.res2 m' c) (eq_ix2 i)).trans ((Cert.Reference4Ideal.Gates.res2_apply m' c (i 0) (i 1)).trans ?_)
      obtain ⟨h0, h1, h2, h3, h4, h5, h6, h7⟩ := hagree c
      rw [h1, h2]
    · refine (h c).2.2.2.1.trans (Eq.trans ?_ (Cert.Kernel4Ideal.Gates.final11 m c).symm)
      funext i
      refine (congrArg (Cert.Reference4Ideal.Gates.res3 m' c) (eq_ix2 i)).trans ((Cert.Reference4Ideal.Gates.res3_apply m' c (i 0) (i 1)).trans ?_)
      obtain ⟨h0, h1, h2, h3, h4, h5, h6, h7⟩ := hagree c
      rw [h1, h3]

end Cert.Proof

end
-- ==== Proof.MergeBody.lean ====
/- What one grid point of the merge kernel does to its buffers: at the first tile, and at a later one. -/
module

public import proofs.«01_k».proof.Proof.Gen.Kernel5Ideal.Skeleton
public import proofs.«01_k».proof.Proof.Gen.Kernel5Ideal.Frame
public import proofs.«01_k».proof.Proof.Whole
public import Idealize.ShloMosaic.Lib.Pipeline.Value

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

open Cert.Whole

set_option maxHeartbeats 4000000 in
/-- The first tile: the sample rows go along. -/
theorem body_A (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S32x1024 .bf16) (harg6 : arg6.IsWhole) (arg7 : Memref sig .tc .vmem S32x1024 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S256x2048 .f32) (harg15 : arg15.IsWhole) (arg16 : Memref sig .tc .vmem S256x2048 .bf16) (harg16 : arg16.IsWhole) (arg17 : Memref sig .tc .vmem S32x2048 .f32) (harg17 : arg17.IsWhole) (arg18 : Memref sig .tc .vmem S32x2048 .bf16) (harg18 : arg18.IsWhole) (hc1 : k0_cond1 i = 1#1) (hc2 : ¬k0_cond2 i = 1#1)
    (x0 : Vec F S256x1024 .bf16) (x1 : Vec F S256x1024 .bf16) (x2 : Vec F S256x2048 .bf16) (x3 : Vec F S256x2048 .bf16) (x4 : Vec F S256x2048 .f32) (x5 : Vec F S32x1024 .bf16) (x6 : Vec F S32x1024 .bf16) (x7 : Vec F S32x2048 .bf16) (x8 : Vec F S32x2048 .bf16) (x9 : Vec F S32x2048 .f32) (x10 : Vec F S1024x2048 .bf16) (x11 : Vec F S1024x2048 .bf16) (x12 : Vec F S2048x2048 .bf16) (x13 : Vec F S1x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (k0_pay2 (k0_pay6 x0 x5 x10 x1 x6 x11 x2 x7 x3 x8 x4 x9 x12)) ∗ owns (c : Thread nD τ) arg16 fullShare (k0_pay3 (k0_pay6 x0 x5 x10 x1 x6 x11 x2 x7 x3 x8 x4 x9 x12) x13) ∗ owns (c : Thread nD τ) arg17 fullShare (k0_pay4 (k0_pay6 x0 x5 x10 x1 x6 x11 x2 x7 x3 x8 x4 x9 x12)) ∗ owns (c : Thread nD τ) arg18 fullShare (k0_pay5 (k0_pay6 x0 x5 x10 x1 x6 x11 x2 x7 x3 x8 x4 x9 x12) x13)) -∗ K ⟨⟩))
    ⊢ wp frame (wpE (defs₀ (F := F)) Variants.none c none) E (cc0_merge_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_out_eq_skeleton]; unfold cc0_merge_out_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; swap; · iexact H14
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x1024) hz, View.ld_unit_zero (S := S256x2048) hz, View.ld_unit_zero (S := S32x1024) hz, View.ld_unit_zero (S := S32x2048) hz, View.ld_unit_zero (S := S1024x2048) hz, View.ld_unit_zero (S := S2048x2048) hz, View.ld_unit_zero (S := S1x2048) hz, View.readCov_unit_zero (S := S256x2048) _ hz]
  isplitl [H15]
  · iexists _; isplitr; swap; · iexact H15
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x1024) hz, View.ld_unit_zero (S := S256x2048) hz, View.ld_unit_zero (S := S32x1024) hz, View.ld_unit_zero (S := S32x2048) hz, View.ld_unit_zero (S := S1024x2048) hz, View.ld_unit_zero (S := S2048x2048) hz, View.ld_unit_zero (S := S1x2048) hz, View.readCov_unit_zero (S := S256x2048) _ hz]
  isplitl [H16]
  · iexists _; isplitr; swap; · iexact H16
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x1024) hz, View.ld_unit_zero (S := S256x2048) hz, View.ld_unit_zero (S := S32x1024) hz, View.ld_unit_zero (S := S32x2048) hz, View.ld_unit_zero (S := S1024x2048) hz, View.ld_unit_zero (S := S2048x2048) hz, View.ld_unit_zero (S := S1x2048) hz, View.readCov_unit_zero (S := S32x2048) _ hz]
  iexists _; isplitr; swap; · iexact H17
  ipureintro
  sl_unfold_words
  rw [whole_writes hz]
  try simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x1024) hz, View.ld_unit_zero (S := S256x2048) hz, View.ld_unit_zero (S := S32x1024) hz, View.ld_unit_zero (S := S32x2048) hz, View.ld_unit_zero (S := S1024x2048) hz, View.ld_unit_zero (S := S2048x2048) hz, View.ld_unit_zero (S := S1x2048) hz, View.readCov_unit_zero (S := S32x2048) _ hz]

set_option maxHeartbeats 4000000 in
/-- A later tile: the sample outputs are left alone. -/
theorem body_B (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S32x1024 .bf16) (harg6 : arg6.IsWhole) (arg7 : Memref sig .tc .vmem S32x1024 .bf16) (harg7 : arg7.IsWhole) (arg8 : Memref sig .tc .vmem S32x2048 .bf16) (harg8 : arg8.IsWhole) (arg9 : Memref sig .tc .vmem S32x2048 .bf16) (harg9 : arg9.IsWhole) (arg10 : Memref sig .tc .vmem S32x2048 .f32) (harg10 : arg10.IsWhole) (arg11 : Memref sig .tc .vmem S1024x2048 .bf16) (harg11 : arg11.IsWhole) (arg12 : Memref sig .tc .vmem S1024x2048 .bf16) (harg12 : arg12.IsWhole) (arg13 : Memref sig .tc .vmem S2048x2048 .bf16) (harg13 : arg13.IsWhole) (arg14 : Memref sig .tc .vmem S1x2048 .f32) (harg14 : arg14.IsWhole) (arg15 : Memref sig .tc .vmem S256x2048 .f32) (harg15 : arg15.IsWhole) (arg16 : Memref sig .tc .vmem S256x2048 .bf16) (harg16 : arg16.IsWhole) (arg17 : Memref sig .tc .vmem S32x2048 .f32) (harg17 : arg17.IsWhole) (arg18 : Memref sig .tc .vmem S32x2048 .bf16) (harg18 : arg18.IsWhole) (hc1 : ¬k0_cond1 i = 1#1) (hc2 : k0_cond2 i = 1#1)
    (x0 : Vec F S256x1024 .bf16) (x1 : Vec F S256x1024 .bf16) (x2 : Vec F S256x2048 .bf16) (x3 : Vec F S256x2048 .bf16) (x4 : Vec F S256x2048 .f32) (x5 : Vec F S32x1024 .bf16) (x6 : Vec F S32x1024 .bf16) (x7 : Vec F S32x2048 .bf16) (x8 : Vec F S32x2048 .bf16) (x9 : Vec F S32x2048 .f32) (x10 : Vec F S1024x2048 .bf16) (x11 : Vec F S1024x2048 .bf16) (x12 : Vec F S2048x2048 .bf16) (x13 : Vec F S1x2048 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (k0_pay7 x0 x10 x1 x11 x2 x3 x4 x12) ∗ owns (c : Thread nD τ) arg16 fullShare (k0_pay8 x0 x10 x1 x11 x2 x3 x4 x12 x13)) -∗ K ⟨⟩))
    ⊢ wp frame (wpE (defs₀ (F := F)) Variants.none c none) E (cc0_merge_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_out_eq_skeleton]; unfold cc0_merge_out_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; swap; · iexact H14
    ipureintro
    sl_unfold_words
    rw [whole_writes hz]
    try simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x1024) hz, View.ld_unit_zero (S := S256x2048) hz, View.ld_unit_zero (S := S32x1024) hz, View.ld_unit_zero (S := S32x2048) hz, View.ld_unit_zero (S := S1024x2048) hz, View.ld_unit_zero (S := S2048x2048) hz, View.ld_unit_zero (S := S1x2048) hz, View.readCov_unit_zero (S := S256x2048) _ hz]
  iexists _; isplitr; swap; · iexact H15
  ipureintro
  sl_unfold_words
  rw [whole_writes hz]
  try simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S256x1024) hz, View.ld_unit_zero (S := S256x2048) hz, View.ld_unit_zero (S := S32x1024) hz, View.ld_unit_zero (S := S32x2048) hz, View.ld_unit_zero (S := S1024x2048) hz, View.ld_unit_zero (S := S2048x2048) hz, View.ld_unit_zero (S := S1x2048) hz, View.readCov_unit_zero (S := S256x2048) _ hz]

end Cert.Kernel5Ideal.Merge

end
-- ==== Proof.MergeRun.lean ====
/- The run of the merge kernel: what each output's buffer holds after each grid point, and the whole program's run from that. -/
module

public import proofs.«01_k».proof.Proof.MergeBody
public import Idealize.ShloMosaic.Lib.Pipeline.TableIdle

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hcond1 : ∀ t : Fin cfg0.N, k0_cond1 (grid0.coords t) = 1#1 ↔ t.val = 0 :=
  (fun t => by
    have ht : t.val < 32 := Nat.lt_of_lt_of_eq t.isLt N_0
    have e0 : (grid0.coords t 0).val = t.val / 1 % 32 := Pipeline.Grid.coords_val t 0 (by decide) rfl
    simp only [k0_cond1, e0]
    word_cmp
   : ∀ t : Fin grid0.N, k0_cond1 (grid0.coords t) = 1#1 ↔ t.val = 0)

theorem hcond2 : ∀ t : Fin cfg0.N, k0_cond2 (grid0.coords t) = 1#1 ↔ ¬t.val = 0 :=
  (fun t => by
    have ht : t.val < 32 := Nat.lt_of_lt_of_eq t.isLt N_0
    have e0 : (grid0.coords t 0).val = t.val / 1 % 32 := Pipeline.Grid.coords_val t 0 (by decide) rfl
    simp only [k0_cond2, e0]
    word_cmp
   : ∀ t : Fin grid0.N, k0_cond2 (grid0.coords t) = 1#1 ↔ ¬t.val = 0)

/-- A tile's own outputs are stored at every point. -/
theorem live (t : Fin cfg0.N) : (!(k0_cond1 (grid0.coords t) == 1#1) && !(k0_cond2 (grid0.coords t) == 1#1)) = false := by
  by_cases h : t.val = 0
  · rw [(hcond1 t).mpr h]; rfl
  · rw [(hcond2 t).mpr h, Bool.and_comm]; rfl

theorem idle16 (t : Fin cfg0.N) (h : ¬t.val = 0) : cfg0.idle 16 (grid0.coords t) = true := by
  have := fun h' => h ((hcond1 t).mp h')
  show (!decide _ : Bool) = true
  simpa using this
theorem live16 (t : Fin cfg0.N) (h : t.val = 0) : cfg0.idle 16 (grid0.coords t) = false := by
  have := (hcond1 t).mpr h
  show (!decide _ : Bool) = false
  simpa using this
theorem fresh16 : cfg0.fresh 16 31 = false := by decide +kernel

theorem idle17 (t : Fin cfg0.N) (h : ¬t.val = 0) : cfg0.idle 17 (grid0.coords t) = true := by
  have := fun h' => h ((hcond1 t).mp h')
  show (!decide _ : Bool) = true
  simpa using this
theorem live17 (t : Fin cfg0.N) (h : t.val = 0) : cfg0.idle 17 (grid0.coords t) = false := by
  have := (hcond1 t).mpr h
  show (!decide _ : Bool) = false
  simpa using this
theorem fresh17 : cfg0.fresh 17 31 = false := by decide +kernel

/-- The first point. -/
abbrev t0 : Fin cfg0.N := ⟨0, lt_of_lt_of_eq (by decide : 0 < 32) N_0.symm⟩

def tv14 (c : Dev nD) (t : Fin cfg0.N) : Vec F S256x2048 .f32 := if t.val = 0 then k0_pay2 (k0_pay6 (iblk m c 0 t) (iblk m c 5 t) (iblk m c 10 t) (iblk m c 1 t) (iblk m c 6 t) (iblk m c 11 t) (iblk m c 2 t) (iblk m c 7 t) (iblk m c 3 t) (iblk m c 8 t) (iblk m c 4 t) (iblk m c 9 t) (iblk m c 12 t)) else k0_pay7 (iblk m c 0 t) (iblk m c 10 t) (iblk m c 1 t) (iblk m c 11 t) (iblk m c 2 t) (iblk m c 3 t) (iblk m c 4 t) (iblk m c 12 t)
theorem tv14_A (c : Dev nD) (t : Fin cfg0.N) (h : t.val = 0) : tv14 m c t = k0_pay2 (k0_pay6 (iblk m c 0 t) (iblk m c 5 t) (iblk m c 10 t) (iblk m c 1 t) (iblk m c 6 t) (iblk m c 11 t) (iblk m c 2 t) (iblk m c 7 t) (iblk m c 3 t) (iblk m c 8 t) (iblk m c 4 t) (iblk m c 9 t) (iblk m c 12 t)) := if_pos h
theorem tv14_B (c : Dev nD) (t : Fin cfg0.N) (h : ¬t.val = 0) : tv14 m c t = k0_pay7 (iblk m c 0 t) (iblk m c 10 t) (iblk m c 1 t) (iblk m c 11 t) (iblk m c 2 t) (iblk m c 3 t) (iblk m c 4 t) (iblk m c 12 t) := if_neg h
def tv15 (c : Dev nD) (t : Fin cfg0.N) : Vec F S256x2048 .bf16 := if t.val = 0 then k0_pay3 (k0_pay6 (iblk m c 0 t) (iblk m c 5 t) (iblk m c 10 t) (iblk m c 1 t) (iblk m c 6 t) (iblk m c 11 t) (iblk m c 2 t) (iblk m c 7 t) (iblk m c 3 t) (iblk m c 8 t) (iblk m c 4 t) (iblk m c 9 t) (iblk m c 12 t)) (iblk m c 13 t) else k0_pay8 (iblk m c 0 t) (iblk m c 10 t) (iblk m c 1 t) (iblk m c 11 t) (iblk m c 2 t) (iblk m c 3 t) (iblk m c 4 t) (iblk m c 12 t) (iblk m c 13 t)
theorem tv15_A (c : Dev nD) (t : Fin cfg0.N) (h : t.val = 0) : tv15 m c t = k0_pay3 (k0_pay6 (iblk m c 0 t) (iblk m c 5 t) (iblk m c 10 t) (iblk m c 1 t) (iblk m c 6 t) (iblk m c 11 t) (iblk m c 2 t) (iblk m c 7 t) (iblk m c 3 t) (iblk m c 8 t) (iblk m c 4 t) (iblk m c 9 t) (iblk m c 12 t)) (iblk m c 13 t) := if_pos h
theorem tv15_B (c : Dev nD) (t : Fin cfg0.N) (h : ¬t.val = 0) : tv15 m c t = k0_pay8 (iblk m c 0 t) (iblk m c 10 t) (iblk m c 1 t) (iblk m c 11 t) (iblk m c 2 t) (iblk m c 3 t) (iblk m c 4 t) (iblk m c 12 t) (iblk m c 13 t) := if_neg h
def sv16 (c : Dev nD) : Vec F S32x2048 .f32 := k0_pay4 (k0_pay6 (iblk m c 0 t0) (iblk m c 5 t0) (iblk m c 10 t0) (iblk m c 1 t0) (iblk m c 6 t0) (iblk m c 11 t0) (iblk m c 2 t0) (iblk m c 7 t0) (iblk m c 3 t0) (iblk m c 8 t0) (iblk m c 4 t0) (iblk m c 9 t0) (iblk m c 12 t0))
theorem sv16_eq (c : Dev nD) (t : Fin cfg0.N) (h : t.val = 0) : sv16 m c = k0_pay4 (k0_pay6 (iblk m c 0 t) (iblk m c 5 t) (iblk m c 10 t) (iblk m c 1 t) (iblk m c 6 t) (iblk m c 11 t) (iblk m c 2 t) (iblk m c 7 t) (iblk m c 3 t) (iblk m c 8 t) (iblk m c 4 t) (iblk m c 9 t) (iblk m c 12 t)) := by
  obtain rfl : t = t0 := Fin.ext h
  rfl
def sv17 (c : Dev nD) : Vec F S32x2048 .bf16 := k0_pay5 (k0_pay6 (iblk m c 0 t0) (iblk m c 5 t0) (iblk m c 10 t0) (iblk m c 1 t0) (iblk m c 6 t0) (iblk m c 11 t0) (iblk m c 2 t0) (iblk m c 7 t0) (iblk m c 3 t0) (iblk m c 8 t0) (iblk m c 4 t0) (iblk m c 9 t0) (iblk m c 12 t0)) (iblk m c 13 t0)
theorem sv17_eq (c : Dev nD) (t : Fin cfg0.N) (h : t.val = 0) : sv17 m c = k0_pay5 (k0_pay6 (iblk m c 0 t) (iblk m c 5 t) (iblk m c 10 t) (iblk m c 1 t) (iblk m c 6 t) (iblk m c 11 t) (iblk m c 2 t) (iblk m c 7 t) (iblk m c 3 t) (iblk m c 8 t) (iblk m c 4 t) (iblk m c 9 t) (iblk m c 12 t)) (iblk m c 13 t) := by
  obtain rfl : t = t0 := Fin.ext h
  rfl

/-- The proof data: inputs at their blocks, the outputs at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => tv14 m c t
    | ⟨15, _⟩ => tv15 m c t
    | ⟨16, _⟩ => sv16 m c
    | ⟨17, _⟩ => sv17 m c
    | ⟨n + 18, h⟩ => absurd h (Nat.not_lt.mpr (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = tv14 m c t := by dsimp only [dats]
theorem after_15 (c : Dev nD) (t : Fin cfg0.N) : (dats m 0 c).after 15 t = tv15 m c t := by dsimp only [dats]
theorem after_16 (c : Dev nD) (t : Fin cfg0.N) : (dats m 0 c).after 16 t = sv16 m c := by dsimp only [dats]
theorem after_17 (c : Dev nD) (t : Fin cfg0.N) : (dats m 0 c).after 17 t = sv17 m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem leaves_0 (c : Dev nD) (t : Fin cfg0.N) :
    (dats m 0 c).leavesExact 0 t = owns (c : Thread nD τ) (win0_0.stage (cfg0.slots t 0)) fullShare (iblk m c 0 t) := by
  rw [← after_0 m c t]
theorem leaves_1 (c : Dev nD) (t : Fin cfg0.N) :
    (dats m 0 c).leavesExact 1 t = owns (c : Thread nD τ) (win0_1.stage (cfg0.slots t 1)) fullShare (iblk m c 1 t) := by
  rw [← after_1 m c t]
theorem leaves_2 (c : Dev nD) (t : Fin cfg0.N) :
    (dats m 0 c).leavesExact 2 t = owns (c : Thread nD τ) (win0_2.stage (cfg0.slots t 2)) fullShare (iblk m c 2 t) := by
  rw [← after_2 m c t]
theorem leaves_3 (c : Dev nD) (t : Fin cfg0.N) :
    (dats m 0 c).leavesExact 3 t = owns (c : Thread nD τ) (win0_3.stage (cfg0.slots t 3)) fullShare (iblk m c 3 t) := by
  rw [← after_3 m c t]
theorem leaves_4 (c : Dev nD) (t : Fin cfg0.N) :
    (dats m 0 c).leavesExact 4 t = owns (c : Thread nD τ) (win0_4.stage (cfg0.slots t 4)) fullShare (iblk m c 4 t) := by
  rw [← after_4 m c t]
theorem leaves_5 (c : Dev nD) (t : Fin cfg0.N) :
    (dats m 0 c).leavesExact 5 t = owns (c : Thread nD τ) (win0_5.stage (cfg0.slots t 5)) fullShare (iblk m c 5 t) := by
  rw [← after_5 m c t]
theorem leaves_6 (c : Dev nD) (t : Fin cfg0.N) :
    (dats m 0 c).leavesExact 6 t = owns (c : Thread nD τ) (win0_6.stage (cfg0.slots t 6)) fullShare (iblk m c 6 t) := by
  rw [← after_6 m c t]
theorem leaves_7 (c : Dev nD) (t : Fin cfg0.N) :
    (dats m 0 c).leavesExact 7 t = owns (c : Thread nD τ) (win0_7.stage (cfg0.slots t 7)) fullShare (iblk m c 7 t) := by
  rw [← after_7 m c t]
theorem leaves_8 (c : Dev nD) (t : Fin cfg0.N) :
    (dats m 0 c).leavesExact 8 t = owns (c : Thread nD τ) (win0_8.stage (cfg0.slots t 8)) fullShare (iblk m c 8 t) := by
  rw [← after_8 m c t]
theorem leaves_9 (c : Dev nD) (t : Fin cfg0.N) :
    (dats m 0 c).leavesExact 9 t = owns (c : Thread nD τ) (win0_9.stage (cfg0.slots t 9)) fullShare (iblk m c 9 t) := by
  rw [← after_9 m c t]
theorem leaves_10 (c : Dev nD) (t : Fin cfg0.N) :
    (dats m 0 c).leavesExact 10 t = owns (c : Thread nD τ) (win0_10.stage (cfg0.slots t 10)) fullShare (iblk m c 10 t) := by
  rw [← after_10 m c t]
theorem leaves_11 (c : Dev nD) (t : Fin cfg0.N) :
    (dats m 0 c).leavesExact 11 t = owns (c : Thread nD τ) (win0_11.stage (cfg0.slots t 11)) fullShare (iblk m c 11 t) := by
  rw [← after_11 m c t]
theorem leaves_12 (c : Dev nD) (t : Fin cfg0.N) :
    (dats m 0 c).leavesExact 12 t = owns (c : Thread nD τ) (win0_12.stage (cfg0.slots t 12)) fullShare (iblk m c 12 t) := by
  rw [← after_12 m c t]
theorem leaves_13 (c : Dev nD) (t : Fin cfg0.N) :
    (dats m 0 c).leavesExact 13 t = owns (c : Thread nD τ) (win0_13.stage (cfg0.slots t 13)) fullShare (iblk m c 13 t) := by
  rw [← after_13 m c t]
theorem leaves_14 (c : Dev nD) (t : Fin cfg0.N) :
    (dats m 0 c).leavesExact 14 t = owns (c : Thread nD τ) (win0_14.stage (cfg0.slots t 14)) fullShare (tv14 m c t) := by
  rw [← after_14 m c t]; unfold Dat.leavesExact; rw [show cfg0.idle 14 (cfg0.grid.coords t) = false from live t]
theorem leaves_15 (c : Dev nD) (t : Fin cfg0.N) :
    (dats m 0 c).leavesExact 15 t = owns (c : Thread nD τ) (win0_15.stage (cfg0.slots t 15)) fullShare (tv15 m c t) := by
  rw [← after_15 m c t]; unfold Dat.leavesExact; rw [show cfg0.idle 15 (cfg0.grid.coords t) = false from live t]
theorem leaves_16 (c : Dev nD) (t : Fin cfg0.N) (h : t.val = 0) :
    (dats m 0 c).leavesExact 16 t = owns (c : Thread nD τ) (win0_16.stage (cfg0.slots t 16)) fullShare (sv16 m c) := by
  rw [← after_16 m c t]; unfold Dat.leavesExact; rw [show cfg0.idle 16 (cfg0.grid.coords t) = false from live16 t h]
theorem before_16_last (c : Dev nD) (t : Fin cfg0.N) (h : t.val = 31) (d) : (dats m 0 c).before 16 t d = sv16 m c := by
  refine (Dat.before_out_traj (dats m 0 c) 16 rfl (fun _ _ => rfl) (fun t _ _ _ => by rw [after_16, after_16]) t.val t rfl d).trans ?_
  rw [if_neg (by rw [h, fresh16]; exact Bool.false_ne_true)]; exact after_16 m c _
theorem leaves_16_idle (c : Dev nD) (t : Fin cfg0.N) (h : ¬t.val = 0) :
    iprop(∃ d, owns (c : Thread nD τ) (win0_16.stage (cfg0.slots t 16)) fullShare ((dats m 0 c).before 16 t d)) ⊢ (dats m 0 c).leavesExact 16 t := by
  have hN : t.val < 32 := lt_of_lt_of_eq t.isLt (show cfg0.N = 32 from N_0)
  by_cases hl : t.val = 31
  · iintro ⟨%d, H⟩
    rw [before_16_last m c t hl d, ← after_16 m c t]
    unfold Dat.leavesExact
    rw [show cfg0.idle 16 (cfg0.grid.coords t) = true from idle16 t h, (flush0_16 t).mpr (by omega)]
    iexact H
  · rw [Dat.leavesExact_idle (dats m 0 c) 16 t (idle16 t h) (Bool.eq_false_iff.mpr fun hf => hl (by have := (flush0_16 t).mp hf; omega))]
theorem leaves_17 (c : Dev nD) (t : Fin cfg0.N) (h : t.val = 0) :
    (dats m 0 c).leavesExact 17 t = owns (c : Thread nD τ) (win0_17.stage (cfg0.slots t 17)) fullShare (sv17 m c) := by
  rw [← after_17 m c t]; unfold Dat.leavesExact; rw [show cfg0.idle 17 (cfg0.grid.coords t) = false from live17 t h]
theorem before_17_last (c : Dev nD) (t : Fin cfg0.N) (h : t.val = 31) (d) : (dats m 0 c).before 17 t d = sv17 m c := by
  refine (Dat.before_out_traj (dats m 0 c) 17 rfl (fun _ _ => rfl) (fun t _ _ _ => by rw [after_17, after_17]) t.val t rfl d).trans ?_
  rw [if_neg (by rw [h, fresh17]; exact Bool.false_ne_true)]; exact after_17 m c _
theorem leaves_17_idle (c : Dev nD) (t : Fin cfg0.N) (h : ¬t.val = 0) :
    iprop(∃ d, owns (c : Thread nD τ) (win0_17.stage (cfg0.slots t 17)) fullShare ((dats m 0 c).before 17 t d)) ⊢ (dats m 0 c).leavesExact 17 t := by
  have hN : t.val < 32 := lt_of_lt_of_eq t.isLt (show cfg0.N = 32 from N_0)
  by_cases hl : t.val = 31
  · iintro ⟨%d, H⟩
    rw [before_17_last m c t hl d, ← after_17 m c t]
    unfold Dat.leavesExact
    rw [show cfg0.idle 17 (cfg0.grid.coords t) = true from idle17 t h, (flush0_17 t).mpr (by omega)]
    iexact H
  · rw [Dat.leavesExact_idle (dats m 0 c) 17 t (idle17 t h) (Bool.eq_false_iff.mpr fun hf => hl (by have := (flush0_17 t).mp hf; omega))]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl]
  simp only [leaves_0, leaves_1, leaves_2, leaves_3, leaves_4, leaves_5, leaves_6, leaves_7, leaves_8, leaves_9, leaves_10, leaves_11, leaves_12, leaves_13, leaves_14, leaves_15]
  have hN : t.val < 32 := lt_of_lt_of_eq t.isLt (show cfg0.N = 32 from N_0)
  by_cases h0 : t.val = 0
  · rw [leaves_16 m c t h0, sv16_eq m c t h0]
    rw [leaves_17 m c t h0, sv17_eq m c t h0]
    rw [tv14_A m c t h0]
    rw [tv15_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17⟩
    iapply (body_A c (grid0.coords t) _ _ _ _ _ _ _ _ _ _ _ _ _ _ _ _ _ _ _ _ _ _ _ _ _ _ _ _ _ _ _ _ _ _ _ _ ((hcond1 t).mpr h0) (fun h => absurd h0 ((hcond2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · icases H14 with ⟨%d14, H14⟩; iexists _; iexact H14
    isplitl [H15]; · icases H15 with ⟨%d15, H15⟩; iexists _; iexact H15
    isplitl [H16]; · icases H16 with ⟨%d16, H16⟩; iexists _; iexact H16
    isplitl [H17]; · icases H17 with ⟨%d17, H17⟩; iexists _; iexact H17
    iintro ⟨H0, H1, H2, H3, H4, H5, H6, H7, H8, H9, H10, H11, H12, H13, H14, H15, H16, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · rw [tv14_B m c t h0]
    rw [tv15_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17⟩
    iapply (body_B c (grid0.coords t) _ _ _ _ _ _ _ _ _ _ _ _ _ _ _ _ _ _ _ _ _ _ _ _ _ _ _ _ _ _ _ _ _ _ _ _ (fun h => absurd ((hcond1 t).mp h) h0) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · icases H14 with ⟨%d14, H14⟩; iexists _; iexact H14
    isplitl [H15]; · icases H15 with ⟨%d15, H15⟩; iexists _; iexact H15
    iintro ⟨H0, H1, H2, H3, H4, H5, H6, H7, H8, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iapply (leaves_16_idle m c t h0); iexact H16
    iapply (leaves_17_idle m c t h0); iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run -/

set_option backward.isDefEq.respectTransparency.types false in
/-- The whole program's run: every array of the kernel ends as the proof data says, the counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel5Ideal.Merge

end
-- ==== Proof.MergePure.lean ====
/- The merge kernel's stored values, read at an index over the extended reals. -/
module

public import proofs.«01_k».proof.Proof.MixSpec
public import proofs.«01_k».proof.Proof.Gen.Kernel5Ideal.Skeleton

@[expose] public section

set_option maxRecDepth 16384

noncomputable section

namespace Cert.Kernel5Ideal.Merge

open Idealize.ShloMosaic Idealize.ShloMosaic.TcCoe Idealize.SL.Sem
open Idealize.ShloMosaic.Pipeline (Dat)
open Cert.Kernel5Ideal Cert.Kernel5Ideal.Gen Cert.Spec

variable (o c : FVec Ideal S256x1024 .bf16) (ga gc : FVec Ideal S256x2048 .bf16) (x : FVec Ideal S256x2048 .f32)
  (os cs : FVec Ideal S32x1024 .bf16) (gas gcs : FVec Ideal S32x2048 .bf16) (xs : FVec Ideal S32x2048 .f32)
  (wa wc : FVec Ideal S1024x2048 .bf16) (wo : FVec Ideal S2048x2048 .bf16) (g : FVec Ideal S1x2048 .f32)

/-- The mixer's result at a row of blocks. -/
abbrev M {R : ℕ} (x : FVec Ideal ⟨2, ![R, 2048]⟩ .f32) (o c : FVec Ideal ⟨2, ![R, 1024]⟩ .bf16) (ga gc : FVec Ideal ⟨2, ![R, 2048]⟩ .bf16)
    (wa wc : FVec Ideal S1024x2048 .bf16) (wo : FVec Ideal S2048x2048 .bf16) (r : Fin R) : Fin 2048 → EReal :=
  merge (fun k => x (ix2 r k)) (fun k => o (ix2 r k)) (fun k => c (ix2 r k)) (fun k => ga (ix2 r k)) (fun k => gc (ix2 r k))
    (fun k j => wa (ix2 k j)) (fun k j => wc (ix2 k j)) (fun k j => wo (ix2 k j))
/-- The norm of a row, the constants as the programs write them. -/
abbrev NRM (r g : Fin 2048 → EReal) (d : Fin 2048) : EReal := rmsn (Ideal.ofBits .f32 0x45000000#32) (Ideal.ofBits .f32 0x3727C5AC#32) r g d

set_option maxHeartbeats 2000000 in
theorem pay2_apply (r : Fin 256) (d : Fin 2048) : k0_pay2 (F := Ideal) (k0_pay6 (F := Ideal) o os wa c cs wc ga gas gc gcs x xs wo) (ix2 r d) = M x o c ga gc wa wc wo r d := by
  pointwise [k0_pay2, k0_pay6, merge, rmsn]
set_option maxHeartbeats 2000000 in
theorem pay3_apply (r : Fin 256) (d : Fin 2048) : k0_pay3 (F := Ideal) (k0_pay6 (F := Ideal) o os wa c cs wc ga gas gc gcs x xs wo) g (ix2 r d) = NRM (M x o c ga gc wa wc wo r) (fun k => g (ix2 0 k)) d := by
  pointwise [k0_pay3, k0_pay1, k0_pay6, merge, rmsn]
set_option maxHeartbeats 2000000 in
theorem pay4_apply (r : Fin 32) (d : Fin 2048) : k0_pay4 (F := Ideal) (k0_pay6 (F := Ideal) o os wa c cs wc ga gas gc gcs x xs wo) (ix2 r d) = M xs os cs gas gcs wa wc wo r d := by
  pointwise [k0_pay4, k0_pay6, merge, rmsn]
set_option maxHeartbeats 2000000 in
theorem pay5_apply (r : Fin 32) (d : Fin 2048) : k0_pay5 (F := Ideal) (k0_pay6 (F := Ideal) o os wa c cs wc ga gas gc gcs x xs wo) g (ix2 r d) = NRM (M xs os cs gas gcs wa wc wo r) (fun k => g (ix2 0 k)) d := by
  pointwise [k0_pay5, k0_pay1, k0_pay6, merge, rmsn]
set_option maxHeartbeats 2000000 in
theorem pay7_apply (r : Fin 256) (d : Fin 2048) : k0_pay7 (F := Ideal) o wa c wc ga gc x wo (ix2 r d) = M x o c ga gc wa wc wo r d := by
  pointwise [k0_pay7, merge]
set_option maxHeartbeats 2000000 in
theorem pay8_apply (r : Fin 256) (d : Fin 2048) : k0_pay8 (F := Ideal) o wa c wc ga gc x wo g (ix2 r d) = NRM (M x o c ga gc wa wc wo r) (fun k => g (ix2 0 k)) d := by
  pointwise [k0_pay8, k0_pay7, merge, rmsn]

end Cert.Kernel5Ideal.Merge

end
-- ==== Proof.MergeValue.lean ====
/- The merge kernel's four result arrays over the extended reals. -/
module

public import proofs.«01_k».proof.Proof.MergeRun
public import proofs.«01_k».proof.Proof.MergePure

@[expose] public section

set_option maxRecDepth 16384

noncomputable section

namespace Cert.Kernel5Ideal.Merge

open Idealize.ShloMosaic Idealize.ShloMosaic.TcCoe Idealize.SL.Sem
open Idealize.ShloMosaic.Pipeline (Dat)
open Cert.Kernel5Ideal Cert.Kernel5Ideal.Gen Cert.Spec

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![t.val, 0] ∧ win0_15.index t = ![t.val, 0] ∧ win0_16.index t = ![0, 0] ∧ win0_17.index t = ![0, 0] :=
  (by decide +kernel : ∀ t : Fin grid0.N, _)

theorem nlt (t : Fin cfg0.N) : t.val < 32 := lt_of_lt_of_eq t.isLt (show cfg0.N = 32 from N_0)

/-- The mixer's result, prompt rows, -/
abbrev RP (c : Dev nD) (r : Fin 8192) : Fin 2048 → EReal := merge (fun k => (m ((c : Thread nD τ).loc main_arg4) (ix3 (⟨r.val / 4096, by omega⟩ : Fin 2) (⟨r.val % 4096, by omega⟩ : Fin 4096) k))) (fun k => (m ((c : Thread nD τ).loc main_arg0) (ix2 r k))) (fun k => (m ((c : Thread nD τ).loc main_arg1) (ix2 r k))) (fun k => (m ((c : Thread nD τ).loc main_arg2) (ix2 r k))) (fun k => (m ((c : Thread nD τ).loc main_arg3) (ix2 r k))) (fun k j => (m ((c : Thread nD τ).loc main_arg10) (ix2 k j))) (fun k j => (m ((c : Thread nD τ).loc main_arg11) (ix2 k j))) (fun k j => (m ((c : Thread nD τ).loc main_arg12) (ix2 k j)))
/-- and sample rows. -/
abbrev RS (c : Dev nD) (r : Fin 32) : Fin 2048 → EReal := merge (fun k => (m ((c : Thread nD τ).loc main_arg9) (ix3 r 0 k))) (fun k => (m ((c : Thread nD τ).loc main_arg5) (ix2 r k))) (fun k => (m ((c : Thread nD τ).loc main_arg6) (ix2 r k))) (fun k => (m ((c : Thread nD τ).loc main_arg7) (ix2 r k))) (fun k => (m ((c : Thread nD τ).loc main_arg8) (ix2 r k))) (fun k j => (m ((c : Thread nD τ).loc main_arg10) (ix2 k j))) (fun k j => (m ((c : Thread nD τ).loc main_arg11) (ix2 k j))) (fun k j => (m ((c : Thread nD τ).loc main_arg12) (ix2 k j)))
abbrev G (c : Dev nD) : Fin 2048 → EReal := fun k => (m ((c : Thread nD τ).loc main_arg13) (ix2 0 k))

theorem iblk0 (c : Dev nD) (t : Fin cfg0.N) (r : Fin 256) (k : Fin 1024) (R : Fin 8192) (hR : R.val = 256 * t.val + r.val) :
    (show FVec Ideal S256x1024 .bf16 from iblk m c 0 t) (ix2 r k) = m ((c : Thread nD τ).loc main_arg0) (ix2 R k) := by
  blk_ext [iblk, V, idx t]
theorem iblk1 (c : Dev nD) (t : Fin cfg0.N) (r : Fin 256) (k : Fin 1024) (R : Fin 8192) (hR : R.val = 256 * t.val + r.val) :
    (show FVec Ideal S256x1024 .bf16 from iblk m c 1 t) (ix2 r k) = m ((c : Thread nD τ).loc main_arg1) (ix2 R k) := by
  blk_ext [iblk, V, idx t]
theorem iblk2 (c : Dev nD) (t : Fin cfg0.N) (r : Fin 256) (k : Fin 2048) (R : Fin 8192) (hR : R.val = 256 * t.val + r.val) :
    (show FVec Ideal S256x2048 .bf16 from iblk m c 2 t) (ix2 r k) = m ((c : Thread nD τ).loc main_arg2) (ix2 R k) := by
  blk_ext [iblk, V, idx t]
theorem iblk3 (c : Dev nD) (t : Fin cfg0.N) (r : Fin 256) (k : Fin 2048) (R : Fin 8192) (hR : R.val = 256 * t.val + r.val) :
    (show FVec Ideal S256x2048 .bf16 from iblk m c 3 t) (ix2 r k) = m ((c : Thread nD τ).loc main_arg3) (ix2 R k) := by
  blk_ext [iblk, V, idx t]
theorem iblk5 (c : Dev nD) (t : Fin cfg0.N) (r : Fin 32) (k : Fin 1024) :
    (show FVec Ideal S32x1024 .bf16 from iblk m c 5 t) (ix2 r k) = m ((c : Thread nD τ).loc main_arg5) (ix2 r k) := by
  blk_ext [iblk, V, idx t]
theorem iblk6 (c : Dev nD) (t : Fin cfg0.N) (r : Fin 32) (k : Fin 1024) :
    (show FVec Ideal S32x1024 .bf16 from iblk m c 6 t) (ix2 r k) = m ((c : Thread nD τ).loc main_arg6) (ix2 r k) := by
  blk_ext [iblk, V, idx t]
theorem iblk7 (c : Dev nD) (t : Fin cfg0.N) (r : Fin 32) (k : Fin 2048) :
    (show FVec Ideal S32x2048 .bf16 from iblk m c 7 t) (ix2 r k) = m ((c : Thread nD τ).loc main_arg7) (ix2 r k) := by
  blk_ext [iblk, V, idx t]
theorem iblk8 (c : Dev nD) (t : Fin cfg0.N) (r : Fin 32) (k : Fin 2048) :
    (show FVec Ideal S32x2048 .bf16 from iblk m c 8 t) (ix2 r k) = m ((c : Thread nD τ).loc main_arg8) (ix2 r k) := by
  blk_ext [iblk, V, idx t]
theorem iblk10 (c : Dev nD) (t : Fin cfg0.N) (r : Fin 1024) (k : Fin 2048) :
    (show FVec Ideal S1024x2048 .bf16 from iblk m c 10 t) (ix2 r k) = m ((c : Thread nD τ).loc main_arg10) (ix2 r k) := by
  blk_ext [iblk, V, idx t]
theorem iblk11 (c : Dev nD) (t : Fin cfg0.N) (r : Fin 1024) (k : Fin 2048) :
    (show FVec Ideal S1024x2048 .bf16 from iblk m c 11 t) (ix2 r k) = m ((c : Thread nD τ).loc main_arg11) (ix2 r k) := by
  blk_ext [iblk, V, idx t]
theorem iblk12 (c : Dev nD) (t : Fin cfg0.N) (r : Fin 2048) (k : Fin 2048) :
    (show FVec Ideal S2048x2048 .bf16 from iblk m c 12 t) (ix2 r k) = m ((c : Thread nD τ).loc main_arg12) (ix2 r k) := by
  blk_ext [iblk, V, idx t]
theorem castP (x : FVec Ideal S2x4096x2048 .f32) (h : S2x4096x2048.ShapeCasts S8192x2048) (R : Fin 8192) (k : Fin 2048) :
    shapeCast S8192x2048 x h (ix2 R k) = x (ix3 (⟨R.val / 4096, by omega⟩ : Fin 2) (⟨R.val % 4096, by omega⟩ : Fin 4096) k) := by
  pointwise
theorem castS (x : FVec Ideal S32x1x2048 .f32) (h : S32x1x2048.ShapeCasts S32x2048) (R : Fin 32) (k : Fin 2048) :
    shapeCast S32x2048 x h (ix2 R k) = x (ix3 R 0 k) := by
  pointwise

set_option maxHeartbeats 1000000 in
theorem iblk4 (c : Dev nD) (t : Fin cfg0.N) (r : Fin 256) (k : Fin 2048) (R : Fin 8192) (hR : R.val = 256 * t.val + r.val) :
    (show FVec Ideal S256x2048 .f32 from iblk m c 4 t) (ix2 r k)
      = m ((c : Thread nD τ).loc main_arg4) (ix3 (⟨R.val / 4096, by omega⟩ : Fin 2) (⟨R.val % 4096, by omega⟩ : Fin 4096) k) := by
  have e : V m c main_v0 = shapeCast S8192x2048 (m ((c : Thread nD τ).loc main_arg4)) shapeCasts_S2x4096x2048_S8192x2048 := by entry_read; rfl
  have e2 : (show FVec Ideal S256x2048 .f32 from iblk m c 4 t) (ix2 r k) = (show FVec Ideal S8192x2048 .f32 from V m c main_v0) (ix2 R k) := by
    blk_ext [iblk, idx t]
  rw [e2, e]
  exact castP _ _ R k
theorem iblk9 (c : Dev nD) (t : Fin cfg0.N) (r : Fin 32) (k : Fin 2048) :
    (show FVec Ideal S32x2048 .f32 from iblk m c 9 t) (ix2 r k) = m ((c : Thread nD τ).loc main_arg9) (ix3 r 0 k) := by
  have e : V m c main_v1 = shapeCast S32x2048 (m ((c : Thread nD τ).loc main_arg9)) shapeCasts_S32x1x2048_S32x2048 := by entry_read; rfl
  have e2 : (show FVec Ideal S32x2048 .f32 from iblk m c 9 t) (ix2 r k) = (show FVec Ideal S32x2048 .f32 from V m c main_v1) (ix2 r k) := by
    blk_ext [iblk, idx t]
  rw [e2, e]
  exact castS _ _ r k
theorem iblk13 (c : Dev nD) (t : Fin cfg0.N) (k : Fin 2048) :
    (show FVec Ideal S1x2048 .f32 from iblk m c 13 t) (ix2 0 k) = m ((c : Thread nD τ).loc main_arg13) (ix2 0 k) := by
  have e : V m c main_v3 = shapeCast S1x2048 (shapeCast S2048 (m ((c : Thread nD τ).loc main_arg13)) shapeCasts_S1x2048_S2048) shapeCasts_S2048_S1x2048 := by entry_read; rfl
  have e2 : (show FVec Ideal S1x2048 .f32 from iblk m c 13 t) (ix2 0 k) = (show FVec Ideal S1x2048 .f32 from V m c main_v3) (ix2 0 k) := by
    blk_ext [iblk, idx t]
  rw [e2, e]
  pointwise

theorem rowP (c : Dev nD) (t : Fin cfg0.N) (r : Fin 256) (R : Fin 8192) (hR : R.val = 256 * t.val + r.val) :
    M (show FVec Ideal S256x2048 .f32 from iblk m c 4 t) (show FVec Ideal S256x1024 .bf16 from iblk m c 0 t) (show FVec Ideal S256x1024 .bf16 from iblk m c 1 t)
      (show FVec Ideal S256x2048 .bf16 from iblk m c 2 t) (show FVec Ideal S256x2048 .bf16 from iblk m c 3 t) (iblk m c 10 t) (iblk m c 11 t) (iblk m c 12 t) r = RP m c R := by
  unfold M RP
  rw [funext fun k => iblk0 m c t r k R hR, funext fun k => iblk1 m c t r k R hR, funext fun k => iblk2 m c t r k R hR,
    funext fun k => iblk3 m c t r k R hR, funext fun k => iblk4 m c t r k R hR,
    show (fun k j => (show FVec Ideal S1024x2048 .bf16 from iblk m c 10 t) (ix2 k j)) = _ from funext fun k => funext fun j => iblk10 m c t k j,
    show (fun k j => (show FVec Ideal S1024x2048 .bf16 from iblk m c 11 t) (ix2 k j)) = _ from funext fun k => funext fun j => iblk11 m c t k j,
    show (fun k j => (show FVec Ideal S2048x2048 .bf16 from iblk m c 12 t) (ix2 k j)) = _ from funext fun k => funext fun j => iblk12 m c t k j]
theorem rowS (c : Dev nD) (t : Fin cfg0.N) (r : Fin 32) :
    M (show FVec Ideal S32x2048 .f32 from iblk m c 9 t) (show FVec Ideal S32x1024 .bf16 from iblk m c 5 t) (show FVec Ideal S32x1024 .bf16 from iblk m c 6 t)
      (show FVec Ideal S32x2048 .bf16 from iblk m c 7 t) (show FVec Ideal S32x2048 .bf16 from iblk m c 8 t) (iblk m c 10 t) (iblk m c 11 t) (iblk m c 12 t) r = RS m c r := by
  unfold M RS
  rw [funext fun k => iblk5 m c t r k, funext fun k => iblk6 m c t r k, funext fun k => iblk7 m c t r k,
    funext fun k => iblk8 m c t r k, funext fun k => iblk9 m c t r k,
    show (fun k j => (show FVec Ideal S1024x2048 .bf16 from iblk m c 10 t) (ix2 k j)) = _ from funext fun k => funext fun j => iblk10 m c t k j,
    show (fun k j => (show FVec Ideal S1024x2048 .bf16 from iblk m c 11 t) (ix2 k j)) = _ from funext fun k => funext fun j => iblk11 m c t k j,
    show (fun k j => (show FVec Ideal S2048x2048 .bf16 from iblk m c 12 t) (ix2 k j)) = _ from funext fun k => funext fun j => iblk12 m c t k j]

abbrev F14 (c : Dev nD) : FVec Ideal S8192x2048 .f32 := fun i => RP m c (i 0) (i 1)
theorem point14 (c : Dev nD) (t : Fin cfg0.N) (r : Fin 256) (d : Fin 2048) (R : Fin 8192) (hR : R.val = 256 * t.val + r.val) :
    tv14 m c t (ix2 r d) = F14 m c (ix2 R d) := by
  by_cases h0 : t.val = 0
  · rw [tv14_A m c t h0]
    show _ = RP m c R d
    exact (pay2_apply _ _ _ _ _ _ _ _ _ _ _ _ _ r d).trans (congrFun (rowP m c t r R hR) d)
  · rw [tv14_B m c t h0]
    show _ = RP m c R d
    exact (pay7_apply _ _ _ _ _ _ _ _ r d).trans (congrFun (rowP m c t r R hR) d)
theorem final14 (c : Dev nD) : (dats m 0 c).arrAt 14 (cfgs 0).N = F14 m c := by
  refine (dats m 0 c).arrAt_eq_of_covers 14 _ (by decide +kernel) fun t hf y => ?_
  blk_simp
  rw [after_14]
  refine (congrArg (tv14 m c t) (eq_ix2 (show S256x2048.Idx from y))).trans ((point14 m c t _ _ ⟨256 * t.val + ((show S256x2048.Idx from y) 0).val, ?_⟩ rfl).trans
    (congrArg (F14 m c) ?_))
  · have := nlt t; have h2 : ((show S256x2048.Idx from y) 0).val < 256 := ((show S256x2048.Idx from y) 0).isLt; omega
  · blk_ext [idx t]

abbrev F15 (c : Dev nD) : FVec Ideal S8192x2048 .bf16 := fun i => NRM (RP m c (i 0)) (G m c) (i 1)
theorem point15 (c : Dev nD) (t : Fin cfg0.N) (r : Fin 256) (d : Fin 2048) (R : Fin 8192) (hR : R.val = 256 * t.val + r.val) :
    tv15 m c t (ix2 r d) = F15 m c (ix2 R d) := by
  by_cases h0 : t.val = 0
  · rw [tv15_A m c t h0]
    show _ = NRM (RP m c R) (G m c) d
    exact (pay3_apply _ _ _ _ _ _ _ _ _ _ _ _ _ _ r d).trans (congrArg₂ (fun a b => NRM a b d) (rowP m c t r R hR) (funext fun k => iblk13 m c t k))
  · rw [tv15_B m c t h0]
    show _ = NRM (RP m c R) (G m c) d
    exact (pay8_apply _ _ _ _ _ _ _ _ _ r d).trans (congrArg₂ (fun a b => NRM a b d) (rowP m c t r R hR) (funext fun k => iblk13 m c t k))
theorem final15 (c : Dev nD) : (dats m 0 c).arrAt 15 (cfgs 0).N = F15 m c := by
  refine (dats m 0 c).arrAt_eq_of_covers 15 _ (by decide +kernel) fun t hf y => ?_
  blk_simp
  rw [after_15]
  refine (congrArg (tv15 m c t) (eq_ix2 (show S256x2048.Idx from y))).trans ((point15 m c t _ _ ⟨256 * t.val + ((show S256x2048.Idx from y) 0).val, ?_⟩ rfl).trans
    (congrArg (F15 m c) ?_))
  · have := nlt t; have h2 : ((show S256x2048.Idx from y) 0).val < 256 := ((show S256x2048.Idx from y) 0).isLt; omega
  · blk_ext [idx t]

abbrev F16 (c : Dev nD) : FVec Ideal S32x2048 .f32 := fun i => RS m c (i 0) (i 1)
theorem point16 (c : Dev nD) (r : Fin 32) (d : Fin 2048) : sv16 m c (ix2 r d) = F16 m c (ix2 r d) :=
  (pay4_apply _ _ _ _ _ _ _ _ _ _ _ _ _ r d).trans (congrFun (rowS m c t0 r) d)
theorem final16 (c : Dev nD) : (dats m 0 c).arrAt 16 (cfgs 0).N = F16 m c := by
  refine (dats m 0 c).arrAt_eq_of_covers 16 _ (by decide +kernel) fun t hf y => ?_
  blk_simp
  rw [after_16]
  refine (congrArg (sv16 m c) (eq_ix2 (show S32x2048.Idx from y))).trans ((point16 m c _ _).trans
    (congrArg (F16 m c) ?_))
  blk_ext [idx t]

abbrev F17 (c : Dev nD) : FVec Ideal S32x2048 .bf16 := fun i => NRM (RS m c (i 0)) (G m c) (i 1)
theorem point17 (c : Dev nD) (r : Fin 32) (d : Fin 2048) : sv17 m c (ix2 r d) = F17 m c (ix2 r d) :=
  (pay5_apply _ _ _ _ _ _ _ _ _ _ _ _ _ _ r d).trans (congrArg₂ (fun a b => NRM a b d) (rowS m c t0 r) (funext fun k => iblk13 m c t0 k))
theorem final17 (c : Dev nD) : (dats m 0 c).arrAt 17 (cfgs 0).N = F17 m c := by
  refine (dats m 0 c).arrAt_eq_of_covers 17 _ (by decide +kernel) fun t hf y => ?_
  blk_simp
  rw [after_17]
  refine (congrArg (sv17 m c) (eq_ix2 (show S32x2048.Idx from y))).trans ((point17 m c _ _).trans
    (congrArg (F17 m c) ?_))
  blk_ext [idx t]

end Cert.Kernel5Ideal.Merge

end
-- ==== Proof.MergeRef.lean ====
/- The merge reference's results, read at an index over the extended reals. -/
module

public import proofs.«01_k».proof.Proof.MixSpec
public import proofs.«01_k».proof.Proof.Gen.Reference5Ideal.Run

@[expose] public section

set_option maxRecDepth 16384

noncomputable section

namespace Cert.Reference5Ideal.Merge

open Idealize.ShloMosaic Idealize.ShloMosaic.TcCoe Idealize.SL.Sem
open Idealize.ShloMosaic.Pipeline (Dat)
open Cert.Reference5Ideal Cert.Reference5Ideal.Gen Cert.Spec

variable (m : (ℓ : Loc nD τ sig) → Buf (Elt Ideal) ℓ)

theorem castP (x : FVec Ideal S2x4096x2048 .f32) (h : S2x4096x2048.ShapeCasts S8192x2048) (R : Fin 8192) (k : Fin 2048) :
    shapeCast S8192x2048 x h (ix2 R k) = x (ix3 (⟨R.val / 4096, by omega⟩ : Fin 2) (⟨R.val % 4096, by omega⟩ : Fin 4096) k) := by
  pointwise
theorem castS (x : FVec Ideal S32x1x2048 .f32) (h : S32x1x2048.ShapeCasts S32x2048) (R : Fin 32) (k : Fin 2048) :
    shapeCast S32x2048 x h (ix2 R k) = x (ix3 R 0 k) := by
  pointwise

/-- The merge as the host writes it, `x` the residual. -/
def hm0 (c : Dev nD) (x : FVec Ideal S8192x2048 .f32) : FVec Ideal S8192x2048 .f32 := addf x (Host.dotGeneral dot_S8192x2048_S2048x2048_S8192x2048_1_0_0_1_n_n none (addf (mulf (extf .f32 (m ((c.tc : Thread nD τ).loc main_arg2)) bitsLt_bf16_f32) (Host.dotGeneral dot_S8192x1024_S1024x2048_S8192x2048_1_0_0_1_n_n none (extf .f32 (m ((c.tc : Thread nD τ).loc main_arg0)) bitsLt_bf16_f32) (extf .f32 (m ((c.tc : Thread nD τ).loc main_arg10)) bitsLt_bf16_f32))) (mulf (extf .f32 (m ((c.tc : Thread nD τ).loc main_arg3)) bitsLt_bf16_f32) (Host.dotGeneral dot_S8192x1024_S1024x2048_S8192x2048_1_0_0_1_n_n none (extf .f32 (m ((c.tc : Thread nD τ).loc main_arg1)) bitsLt_bf16_f32) (extf .f32 (m ((c.tc : Thread nD τ).loc main_arg11)) bitsLt_bf16_f32)))) (extf .f32 (m ((c.tc : Thread nD τ).loc main_arg12)) bitsLt_bf16_f32))
set_option maxHeartbeats 4000000 in
theorem hm0_apply (c : Dev nD) (x : FVec Ideal S8192x2048 .f32) (r : Fin 8192) (d : Fin 2048) :
    hm0 m c x (ix2 r d) = merge (fun k => x (ix2 r k)) (fun k => (m ((c : Thread nD τ).loc main_arg0) (ix2 r k))) (fun k => (m ((c : Thread nD τ).loc main_arg1) (ix2 r k))) (fun k => (m ((c : Thread nD τ).loc main_arg2) (ix2 r k))) (fun k => (m ((c : Thread nD τ).loc main_arg3) (ix2 r k))) (fun k j => (m ((c : Thread nD τ).loc main_arg10) (ix2 k j))) (fun k j => (m ((c : Thread nD τ).loc main_arg11) (ix2 k j))) (fun k j => (m ((c : Thread nD τ).loc main_arg12) (ix2 k j))) d := by
  unfold hm0
  pointwise [merge]
  all_goals rfl
def res0 (c : Dev nD) : FVec Ideal S8192x2048 .f32 := hm0 m c (shapeCast _ (m ((c.tc : Thread nD τ).loc main_arg4)) shapeCasts_S2x4096x2048_S8192x2048)
theorem res0_apply (c : Dev nD) (r : Fin 8192) (d : Fin 2048) :
    res0 m c (ix2 r d) = merge (fun k => (m ((c : Thread nD τ).loc main_arg4) (ix3 (⟨r.val / 4096, by omega⟩ : Fin 2) (⟨r.val % 4096, by omega⟩ : Fin 4096) k))) (fun k => (m ((c : Thread nD τ).loc main_arg0) (ix2 r k))) (fun k => (m ((c : Thread nD τ).loc main_arg1) (ix2 r k))) (fun k => (m ((c : Thread nD τ).loc main_arg2) (ix2 r k))) (fun k => (m ((c : Thread nD τ).loc main_arg3) (ix2 r k))) (fun k j => (m ((c : Thread nD τ).loc main_arg10) (ix2 k j))) (fun k j => (m ((c : Thread nD τ).loc main_arg11) (ix2 k j))) (fun k j => (m ((c : Thread nD τ).loc main_arg12) (ix2 k j))) d :=
  (hm0_apply m c _ r d).trans (congrArg (fun f => merge f _ _ _ _ _ _ _ d) (funext fun k => castP _ _ r k))
/-- The norm of the rows of `x` as the host writes it. -/
def hn1 (c : Dev nD) (x : FVec Ideal S8192x2048 .f32) : FVec Ideal S8192x2048 .bf16 := truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ (m ((c.tc : Thread nD τ).loc main_arg13)) shapeCasts_S1x2048_S2048)))) bitsLt_bf16_f32
set_option maxHeartbeats 4000000 in
theorem hn1_apply (c : Dev nD) (x : FVec Ideal S8192x2048 .f32) (r : Fin 8192) (d : Fin 2048) :
    hn1 m c x (ix2 r d) = rmsn (Ideal.ofBits .f32 0x45000000#32) (Ideal.ofBits .f32 0x3727C5AC#32) (fun d => x (ix2 r d)) (fun k => (m ((c : Thread nD τ).loc main_arg13) (ix2 0 k))) d := by
  unfold hn1
  pointwise [rmsn]
def res1 (c : Dev nD) : FVec Ideal S8192x2048 .bf16 := hn1 m c (res0 m c)
theorem res1_apply (c : Dev nD) (r : Fin 8192) (d : Fin 2048) :
    res1 m c (ix2 r d) = rmsn (Ideal.ofBits .f32 0x45000000#32) (Ideal.ofBits .f32 0x3727C5AC#32) (merge (fun k => (m ((c : Thread nD τ).loc main_arg4) (ix3 (⟨r.val / 4096, by omega⟩ : Fin 2) (⟨r.val % 4096, by omega⟩ : Fin 4096) k))) (fun k => (m ((c : Thread nD τ).loc main_arg0) (ix2 r k))) (fun k => (m ((c : Thread nD τ).loc main_arg1) (ix2 r k))) (fun k => (m ((c : Thread nD τ).loc main_arg2) (ix2 r k))) (fun k => (m ((c : Thread nD τ).loc main_arg3) (ix2 r k))) (fun k j => (m ((c : Thread nD τ).loc main_arg10) (ix2 k j))) (fun k j => (m ((c : Thread nD τ).loc main_arg11) (ix2 k j))) (fun k j => (m ((c : Thread nD τ).loc main_arg12) (ix2 k j)))) (fun k => (m ((c : Thread nD τ).loc main_arg13) (ix2 0 k))) d :=
  (hn1_apply m c _ r d).trans (congrArg (fun f => rmsn _ _ f _ d) (funext fun k => res0_apply m c r k))
/-- The merge as the host writes it, `x` the residual. -/
def hm2 (c : Dev nD) (x : FVec Ideal S32x2048 .f32) : FVec Ideal S32x2048 .f32 := addf x (Host.dotGeneral dot_S32x2048_S2048x2048_S32x2048_1_0_0_1_n_n none (addf (mulf (extf .f32 (m ((c.tc : Thread nD τ).loc main_arg7)) bitsLt_bf16_f32) (Host.dotGeneral dot_S32x1024_S1024x2048_S32x2048_1_0_0_1_n_n none (extf .f32 (m ((c.tc : Thread nD τ).loc main_arg5)) bitsLt_bf16_f32) (extf .f32 (m ((c.tc : Thread nD τ).loc main_arg10)) bitsLt_bf16_f32))) (mulf (extf .f32 (m ((c.tc : Thread nD τ).loc main_arg8)) bitsLt_bf16_f32) (Host.dotGeneral dot_S32x1024_S1024x2048_S32x2048_1_0_0_1_n_n none (extf .f32 (m ((c.tc : Thread nD τ).loc main_arg6)) bitsLt_bf16_f32) (extf .f32 (m ((c.tc : Thread nD τ).loc main_arg11)) bitsLt_bf16_f32)))) (extf .f32 (m ((c.tc : Thread nD τ).loc main_arg12)) bitsLt_bf16_f32))
set_option maxHeartbeats 4000000 in
theorem hm2_apply (c : Dev nD) (x : FVec Ideal S32x2048 .f32) (r : Fin 32) (d : Fin 2048) :
    hm2 m c x (ix2 r d) = merge (fun k => x (ix2 r k)) (fun k => (m ((c : Thread nD τ).loc main_arg5) (ix2 r k))) (fun k => (m ((c : Thread nD τ).loc main_arg6) (ix2 r k))) (fun k => (m ((c : Thread nD τ).loc main_arg7) (ix2 r k))) (fun k => (m ((c : Thread nD τ).loc main_arg8) (ix2 r k))) (fun k j => (m ((c : Thread nD τ).loc main_arg10) (ix2 k j))) (fun k j => (m ((c : Thread nD τ).loc main_arg11) (ix2 k j))) (fun k j => (m ((c : Thread nD τ).loc main_arg12) (ix2 k j))) d := by
  unfold hm2
  pointwise [merge]
  all_goals rfl
def res2 (c : Dev nD) : FVec Ideal S32x2048 .f32 := hm2 m c (shapeCast _ (m ((c.tc : Thread nD τ).loc main_arg9)) shapeCasts_S32x1x2048_S32x2048)
theorem res2_apply (c : Dev nD) (r : Fin 32) (d : Fin 2048) :
    res2 m c (ix2 r d) = merge (fun k => (m ((c : Thread nD τ).loc main_arg9) (ix3 r 0 k))) (fun k => (m ((c : Thread nD τ).loc main_arg5) (ix2 r k))) (fun k => (m ((c : Thread nD τ).loc main_arg6) (ix2 r k))) (fun k => (m ((c : Thread nD τ).loc main_arg7) (ix2 r k))) (fun k => (m ((c : Thread nD τ).loc main_arg8) (ix2 r k))) (fun k j => (m ((c : Thread nD τ).loc main_arg10) (ix2 k j))) (fun k j => (m ((c : Thread nD τ).loc main_arg11) (ix2 k j))) (fun k j => (m ((c : Thread nD τ).loc main_arg12) (ix2 k j))) d :=
  (hm2_apply m c _ r d).trans (congrArg (fun f => merge f _ _ _ _ _ _ _ d) (funext fun k => castS _ _ r k))
/-- The norm of the rows of `x` as the host writes it. -/
def hn3 (c : Dev nD) (x : FVec Ideal S32x2048 .f32) : FVec Ideal S32x2048 .bf16 := truncf .bf16 (mulf (mulf x (broadcastInDim S32x2048 ![0, 1] bcast_S32x1_S32x2048_0_1 (Host.rsqrt (addf (Host.divf (broadcastInDim S32x1 ![0] bcast_S32_S32x1_0 (Host.reduceAdd (mulf x x) (constant S_ .f32 0x00000000#32) reducesTo_S32x2048_S32_d1 h_S_)) (broadcastInDim S32x1 ![] bcast_S_S32x1 (constant S_ .f32 0x45000000#32))) (broadcastInDim S32x1 ![] bcast_S_S32x1 (constant S_ .f32 0x3727C5AC#32)))))) (broadcastInDim S32x2048 ![0, 1] bcast_S1x2048_S32x2048_0_1 (broadcastInDim S1x2048 ![1] bcast_S2048_S1x2048_1 (shapeCast _ (m ((c.tc : Thread nD τ).loc main_arg13)) shapeCasts_S1x2048_S2048)))) bitsLt_bf16_f32
set_option maxHeartbeats 4000000 in
theorem hn3_apply (c : Dev nD) (x : FVec Ideal S32x2048 .f32) (r : Fin 32) (d : Fin 2048) :
    hn3 m c x (ix2 r d) = rmsn (Ideal.ofBits .f32 0x45000000#32) (Ideal.ofBits .f32 0x3727C5AC#32) (fun d => x (ix2 r d)) (fun k => (m ((c : Thread nD τ).loc main_arg13) (ix2 0 k))) d := by
  unfold hn3
  pointwise [rmsn]
def res3 (c : Dev nD) : FVec Ideal S32x2048 .bf16 := hn3 m c (res2 m c)
theorem res3_apply (c : Dev nD) (r : Fin 32) (d : Fin 2048) :
    res3 m c (ix2 r d) = rmsn (Ideal.ofBits .f32 0x45000000#32) (Ideal.ofBits .f32 0x3727C5AC#32) (merge (fun k => (m ((c : Thread nD τ).loc main_arg9) (ix3 r 0 k))) (fun k => (m ((c : Thread nD τ).loc main_arg5) (ix2 r k))) (fun k => (m ((c : Thread nD τ).loc main_arg6) (ix2 r k))) (fun k => (m ((c : Thread nD τ).loc main_arg7) (ix2 r k))) (fun k => (m ((c : Thread nD τ).loc main_arg8) (ix2 r k))) (fun k j => (m ((c : Thread nD τ).loc main_arg10) (ix2 k j))) (fun k j => (m ((c : Thread nD τ).loc main_arg11) (ix2 k j))) (fun k j => (m ((c : Thread nD τ).loc main_arg12) (ix2 k j)))) (fun k => (m ((c : Thread nD τ).loc main_arg13) (ix2 0 k))) d :=
  (hn3_apply m c _ r d).trans (congrArg (fun f => rmsn _ _ f _ d) (funext fun k => res2_apply m c r k))

end Cert.Reference5Ideal.Merge

end
-- ==== Proof.MergeClaims.lean ====
/- The claims about the merge kernel, from its run and the values of its four results. -/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.MergeValue
public import proofs.«01_k».proof.Proof.MergeRef
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

section
variable {F : FTy → Type} [FloatOps F]
open Cert.Kernel5Ideal Cert.Kernel5Ideal.Gen
variable (m : (ℓ : Loc nD τ sig) → Buf (Elt F) ℓ) (ρ : Dev nD → PrngReg)

/-- The kernel's run, its arguments unchanged and the counters at zero. -/
theorem merge_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (Merge.dats m) (Merge.A_eq m) ((θ_run defs _ _).mono (fun _ h => h.1) (Merge.run_main m ρ)))
    ((θ_run defs _ _).mono (fun _ h => h.2) (Merge.run_main m ρ))

end

attribute [local instance] Cert.Kernel5.Gen.facts Cert.Kernel5Ideal.Gen.facts Cert.Reference5Ideal.Gen.facts

/-- The two texts' kernel functions are one function, -/
theorem merge_eq : Cert.Kernel5.cc0_merge_out (F := Bits) = Cert.Kernel5Ideal.cc0_merge_out (F := Bits) := rfl

set_option maxHeartbeats 4000000 in
/-- and so are their tables of bodies. -/
theorem merge_defs₀_eq : Cert.Kernel5.defs₀ (F := Bits) = Cert.Kernel5Ideal.defs₀ (F := Bits) := by
  unfold Cert.Kernel5.defs₀ Cert.Kernel5Ideal.defs₀
  refine congrArg Defs.onTc ?_
  funext l x
  fin_cases l
  rfl

theorem merge_defs_eq : Cert.Kernel5.defs (F := Bits) = Cert.Kernel5Ideal.defs (F := Bits) :=
  congrArg (Pipeline.defs _) merge_defs₀_eq

theorem merge_kernel : Cert.quiescent_Kernel5 := fun m ρ _ => by
  rw [merge_defs_eq]
  exact (θ_run Cert.Kernel5Ideal.defs _ _).mono (fun _ h => h) (merge_frame (F := Bits) m ρ)
theorem merge_ideal : Cert.quiescent_Kernel5Ideal := fun m ρ _ => merge_frame (F := Ideal) m ρ
theorem merge_reference : Cert.quiescent_Reference5Ideal := fun m ρ _ =>
  (θ_run Cert.Reference5Ideal.defs _ _).mono (fun r h => ⟨fun c => (h c).2.2.2.2, sem_eq_zero_of_no_sems rfl r.2⟩)
    (Cert.Reference5Ideal.Value.run m ρ)

theorem merge_algebraic : Cert.algebraic_Kernel5Ideal_Reference5Ideal := by
  intro m g m' g' _ hagree
  refine ⟨fun c => (Cert.Kernel5Ideal.Merge.dats m 0 c).arrAt 14 (Cert.Kernel5Ideal.cfgs 0).N,
    fun c => (Cert.Kernel5Ideal.Merge.dats m 0 c).arrAt 15 (Cert.Kernel5Ideal.cfgs 0).N,
    fun c => (Cert.Kernel5Ideal.Merge.dats m 0 c).arrAt 16 (Cert.Kernel5Ideal.cfgs 0).N,
    fun c => (Cert.Kernel5Ideal.Merge.dats m 0 c).arrAt 17 (Cert.Kernel5Ideal.cfgs 0).N, ?_, ?_⟩
  · have h := θ_run_and (Cert.Kernel5Ideal.Merge.run_main m g) (merge_frame m g)
    exact (θ_run Cert.Kernel5Ideal.defs _ _).mono (fun _ h c => ⟨(h.1.1 c).1 14, (h.1.1 c).1 15, (h.1.1 c).1 16, (h.1.1 c).1 17, h.2.1 c⟩) h
  · refine (θ_run Cert.Reference5Ideal.defs _ _).mono (fun _ h c => ⟨?_, ?_, ?_, ?_, (h c).2.2.2.2⟩) (Cert.Reference5Ideal.Value.run m' g')
    · refine (h c).1.trans (Eq.trans ?_ (Cert.Kernel5Ideal.Merge.final14 m c).symm)
      funext i
      refine (congrArg (Cert.Reference5Ideal.Merge.res0 m' c) (eq_ix2 i)).trans ((Cert.Reference5Ideal.Merge.res0_apply m' c (i 0) (i 1)).trans ?_)
      obtain ⟨h0, h1, h2, h3, h4, h5, h6, h7, h8, h9, h10, h11, h12, h13⟩ := hagree c
      rw [h0, h1, h2, h3, h4, h10, h11, h12]
    · refine (h c).2.1.trans (Eq.trans ?_ (Cert.Kernel5Ideal.Merge.final15 m c).symm)
      funext i
      refine (congrArg (Cert.Reference5Ideal.Merge.res1 m' c) (eq_ix2 i)).trans ((Cert.Reference5Ideal.Merge.res1_apply m' c (i 0) (i 1)).trans ?_)
      obtain ⟨h0, h1, h2, h3, h4, h5, h6, h7, h8, h9, h10, h11, h12, h13⟩ := hagree c
      rw [h0, h1, h2, h3, h4, h10, h11, h12, h13]
    · refine (h c).2.2.1.trans (Eq.trans ?_ (Cert.Kernel5Ideal.Merge.final16 m c).symm)
      funext i
      refine (congrArg (Cert.Reference5Ideal.Merge.res2 m' c) (eq_ix2 i)).trans ((Cert.Reference5Ideal.Merge.res2_apply m' c (i 0) (i 1)).trans ?_)
      obtain ⟨h0, h1, h2, h3, h4, h5, h6, h7, h8, h9, h10, h11, h12, h13⟩ := hagree c
      rw [h5, h6, h7, h8, h9, h10, h11, h12]
    · refine (h c).2.2.2.1.trans (Eq.trans ?_ (Cert.Kernel5Ideal.Merge.final17 m c).symm)
      funext i
      refine (congrArg (Cert.Reference5Ideal.Merge.res3 m' c) (eq_ix2 i)).trans ((Cert.Reference5Ideal.Merge.res3_apply m' c (i 0) (i 1)).trans ?_)
      obtain ⟨h0, h1, h2, h3, h4, h5, h6, h7, h8, h9, h10, h11, h12, h13⟩ := hagree c
      rw [h5, h6, h7, h8, h9, h10, h11, h12, h13]

end Cert.Proof

end
-- ==== Proof.lean ====
/- The claims of this directory, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.FfnClaims
public import proofs.«01_k».proof.Proof.QkvClaims
public import proofs.«01_k».proof.Proof.ConvClaims
public import proofs.«01_k».proof.Proof.GatesClaims
public import proofs.«01_k».proof.Proof.MergeClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  ffn_kernel, ffn_ideal, ffn_reference, qkv_kernel, qkv_ideal, qkv_reference, conv_kernel, conv_ideal, conv_reference, gates_kernel, gates_ideal, gates_reference, merge_kernel, merge_ideal, merge_reference,
  trivial, ffn_algebraic, trivial, qkv_algebraic, trivial, conv_algebraic, trivial, gates_algebraic, trivial, merge_algebraic⟩

end Cert.Proof

end
